-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "scale" .f32 0x3DB504F3#32 (((Real.sqrt 128)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x1024x24x128 : Shape := ⟨4, ![2, 1024, 24, 128]⟩
abbrev S24 : Shape := ⟨1, ![24]⟩
abbrev S2x1024x4x128 : Shape := ⟨4, ![2, 1024, 4, 128]⟩
abbrev S4 : Shape := ⟨1, ![4]⟩
abbrev S2x24x1024 : Shape := ⟨3, ![2, 24, 1024]⟩
abbrev S2x19 : Shape := ⟨2, ![2, 19]⟩
abbrev S_ : Shape := ⟨0, ![]⟩
abbrev S2x1 : Shape := ⟨2, ![2, 1]⟩
abbrev S2 : Shape := ⟨1, ![2]⟩
abbrev S2x18 : Shape := ⟨2, ![2, 18]⟩

class Facts : Prop where
  bcast_S_S24 : S_.BroadcastsInDim S24 (![] : Fin 0 → Fin S24.rank)
  reducesTo_S24_S_d0 : S24.ReducesTo [0] S_
  h_S_ : 0 < S_.numel
  slices_S2x19_S2x1_0_0 : S2x19.Slices ![0, 0] S2x1
  shapeCasts_S2x1_S2 : S2x1.ShapeCasts S2
  bcast_S_S2 : S_.BroadcastsInDim S2 (![] : Fin 0 → Fin S2.rank)
  reducesTo_S2_S_d0 : S2.ReducesTo [0] S_
  slices_S2x19_S2x1_0_18 : S2x19.Slices ![0, 18] S2x1
  slices_S2x19_S2x18_0_1 : S2x19.Slices ![0, 1] S2x18
  slices_S2x19_S2x18_0_0 : S2x19.Slices ![0, 0] S2x18
  bcast_S_S2x18 : S_.BroadcastsInDim S2x18 (![] : Fin 0 → Fin S2x18.rank)
  reducesTo_S2x18_S_d0_1 : S2x18.ReducesTo [0, 1] S_

variable [Facts]

def fn_part1 {F : FTy → Type} [FloatOps F] (main_arg10 : IVec S2x19 32) (main_v12 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S2x1 32 := (extractStridedSlice S2x1 ![0, 18] · slices_S2x19_S2x1_0_18) main_arg10
  let main_v19 : IVec S2 32 := shapeCast S2 main_v18 shapeCasts_S2x1_S2
  let main_c_6 : IVec S_ 32 := constantI S_ 32 1024#32
  let main_v20 : IVec S2 32 := broadcastInDim S2 ![] bcast_S_S2 main_c_6
  let main_v21 : IVec S2 1 := cmpi .sge main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v17 main_v22
  let main_v24 : IVec S2x18 32 := (extractStridedSlice S2x18 ![0, 1] · slices_S2x19_S2x18_0_1) main_arg10
  let main_v25 : IVec S2x18 32 := (extractStridedSlice S2x18 ![0, 0] · slices_S2x19_S2x18_0_0) main_arg10
  let main_v26 : IVec S2x18 32 := subi main_v24 main_v25
  let main_v27 : IVec S_ 1 := andi main_v12 main_v23
  let main_c_8 : IVec S_ 32 := constantI S_ 32 0#32
  let main_v28 : IVec S2x18 32 := broadcastInDim S2x18 ![] bcast_S_S2x18 main_c_8
  let main_v29 : IVec S2x18 1 := cmpi .sge main_v26 main_v28
  let main_c_9 : IVec S_ 32 := constantI S_ 32 512#32
  let main_v30 : IVec S2x18 32 := broadcastInDim S2x18 ![] bcast_S_S2x18 main_c_9
  let main_v31 : IVec S2x18 1 := cmpi .sle main_v26 main_v30
  let main_v32 : IVec S2x18 1 := andi main_v29 main_v31
  let main_c_10 : IVec S_ 1 := constantI S_ 1 1#1
  let main_v33 : IVec S_ 1 := (fun x v => Host.reduce IntOp.andi x v reducesTo_S2x18_S_d0_1 h_S_) main_v32 main_c_10
  let main_v34 : IVec S_ 1 := andi main_v27 main_v33
  main_v34

def fn {F : FTy → Type} [FloatOps F] (main_arg0 : FVec F S2x1024x24x128 .fp8e4m3) (main_arg1 : FVec F S24 .f32) (main_arg2 : FVec F S2x1024x4x128 .fp8e4m3) (main_arg3 : FVec F S4 .f32) (main_arg4 : FVec F S2x1024x4x128 .fp8e4m3) (main_arg5 : FVec F S4 .f32) (main_arg6 : FVec F S2x1024x24x128 .bf16) (main_arg7 : FVec F S2x1024x24x128 .fp8e5m2) (main_arg8 : FVec F S24 .f32) (main_arg9 : FVec F S2x24x1024 .f32) (main_arg10 : IVec S2x19 32) : IVec S_ 1 :=
  let main_cst : FVec F S_ .f32 := constant S_ .f32 0x00000000#32
  let main_v0 : FVec F S24 .f32 := broadcastInDim S24 ![] bcast_S_S24 main_cst
  let main_v1 : IVec S24 1 := cmpf .ogt main_arg1 main_v0
  let main_cst_0 : FVec F S_ .f32 := constant S_ .f32 0x7F800000#32
  let main_v2 : FVec F S24 .f32 := broadcastInDim S24 ![] bcast_S_S24 main_cst_0
  let main_v3 : IVec S24 1 := cmpf .olt main_arg1 main_v2
  let main_v4 : IVec S24 1 := andi main_v1 main_v3
  let main_c : IVec S_ 1 := constantI S_ 1 1#1
  let main_v5 : IVec S_ 1 := (fun x v => Host.reduce IntOp.andi x v reducesTo_S24_S_d0 h_S_) main_v4 main_c
  let main_cst_1 : FVec F S_ .f32 := constant S_ .f32 0x00000000#32
  let main_v6 : FVec F S24 .f32 := broadcastInDim S24 ![] bcast_S_S24 main_cst_1
  let main_v7 : IVec S24 1 := cmpf .ogt main_arg8 main_v6
  let main_cst_2 : FVec F S_ .f32 := constant S_ .f32 0x7F800000#32
  let main_v8 : FVec F S24 .f32 := broadcastInDim S24 ![] bcast_S_S24 main_cst_2
  let main_v9 : IVec S24 1 := cmpf .olt main_arg8 main_v8
  let main_v10 : IVec S24 1 := andi main_v7 main_v9
  let main_c_3 : IVec S_ 1 := constantI S_ 1 1#1
  let main_v11 : IVec S_ 1 := (fun x v => Host.reduce IntOp.andi x v reducesTo_S24_S_d0 h_S_) main_v10 main_c_3
  let main_v12 : IVec S_ 1 := andi main_v5 main_v11
  let main_v13 : IVec S2x1 32 := (extractStridedSlice S2x1 ![0, 0] · slices_S2x19_S2x1_0_0) main_arg10
  let main_v14 : IVec S2 32 := shapeCast S2 main_v13 shapeCasts_S2x1_S2
  let main_c_4 : IVec S_ 32 := constantI S_ 32 0#32
  let main_v15 : IVec S2 32 := broadcastInDim S2 ![] bcast_S_S2 main_c_4
  let main_v16 : IVec S2 1 := cmpi .eq main_v14 main_v15
  fn_part1 (F := F) main_arg10 main_v12 main_v16
-- ==== Kernel.lean ====
abbrev S2x1024x24x128 : Shape := ⟨4, ![2, 1024, 24, 128]⟩
abbrev S24 : Shape := ⟨1, ![24]⟩
abbrev S2x1024x4x128 : Shape := ⟨4, ![2, 1024, 4, 128]⟩
abbrev S4 : Shape := ⟨1, ![4]⟩
abbrev S2x24x1024 : Shape := ⟨3, ![2, 24, 1024]⟩
abbrev S2x19 : Shape := ⟨2, ![2, 19]⟩
abbrev S1x128x24x128 : Shape := ⟨4, ![1, 128, 24, 128]⟩
abbrev S1x1024x4x128 : Shape := ⟨4, ![1, 1024, 4, 128]⟩
abbrev S1x24x128 : Shape := ⟨3, ![1, 24, 128]⟩
abbrev S4x8x128x128 : Shape := ⟨4, ![4, 8, 128, 128]⟩
abbrev S5x128x128 : Shape := ⟨3, ![5, 128, 128]⟩
abbrev S1x128x1x128 : Shape := ⟨4, ![1, 128, 1, 128]⟩
abbrev S128x128 : Shape := ⟨2, ![128, 128]⟩
abbrev S1x1x128x128 : Shape := ⟨4, ![1, 1, 128, 128]⟩
abbrev S1x1 : Shape := ⟨2, ![1, 1]⟩
abbrev S1x128 : Shape := ⟨2, ![1, 128]⟩
abbrev S1x128x128 : Shape := ⟨3, ![1, 128, 128]⟩
abbrev S1 : Shape := ⟨1, ![1]⟩
abbrev S128x256 : Shape := ⟨2, ![128, 256]⟩
abbrev S128 : Shape := ⟨1, ![128]⟩
abbrev S1x1x128 : Shape := ⟨3, ![1, 1, 128]⟩
abbrev S1x128x2x128 : Shape := ⟨4, ![1, 128, 2, 128]⟩
abbrev S256x128 : Shape := ⟨2, ![256, 128]⟩
abbrev S256x256 : Shape := ⟨2, ![256, 256]⟩
abbrev S384x128 : Shape := ⟨2, ![384, 128]⟩
abbrev S128x384 : Shape := ⟨2, ![128, 384]⟩
abbrev S384x256 : Shape := ⟨2, ![384, 256]⟩
abbrev S512x128 : Shape := ⟨2, ![512, 128]⟩
abbrev S128x512 : Shape := ⟨2, ![128, 512]⟩
abbrev S512x256 : Shape := ⟨2, ![512, 256]⟩
abbrev S640x128 : Shape := ⟨2, ![640, 128]⟩
abbrev S128x640 : Shape := ⟨2, ![128, 640]⟩
abbrev S640x256 : Shape := ⟨2, ![640, 256]⟩

abbrev nBuf : Space → Nat
  | .hbm => 14
  | .vmem => 24
  | .smem => 5
  | _ => 0

abbrev bufTy : (tb : Table) → Fin (tcTables nBuf tb) → BufTy
  | .hbm, ⟨0, _⟩ => ⟨S2x1024x24x128, .fp8e4m3⟩
  | .hbm, ⟨1, _⟩ => ⟨S24, .f32⟩
  | .hbm, ⟨2, _⟩ => ⟨S2x1024x4x128, .fp8e4m3⟩
  | .hbm, ⟨3, _⟩ => ⟨S4, .f32⟩
  | .hbm, ⟨4, _⟩ => ⟨S2x1024x4x128, .fp8e4m3⟩
  | .hbm, ⟨5, _⟩ => ⟨S4, .f32⟩
  | .hbm, ⟨6, _⟩ => ⟨S2x1024x24x128, .bf16⟩
  | .hbm, ⟨7, _⟩ => ⟨S2x1024x24x128, .fp8e5m2⟩
  | .hbm, ⟨8, _⟩ => ⟨S24, .f32⟩
  | .hbm, ⟨9, _⟩ => ⟨S2x24x1024, .f32⟩
  | .hbm, ⟨10, _⟩ => ⟨S2x19, .i32⟩
  | .hbm, ⟨11, _⟩ => ⟨S2x1024x24x128, .bf16⟩
  | .hbm, ⟨12, _⟩ => ⟨S2x1024x4x128, .bf16⟩
  | .hbm, ⟨13, _⟩ => ⟨S2x1024x4x128, .bf16⟩
  | .local _ .vmem, ⟨0, _⟩ => ⟨S1x128x24x128, .fp8e4m3⟩
  | .local _ .vmem, ⟨1, _⟩ => ⟨S1x128x24x128, .fp8e4m3⟩
  | .local _ .vmem, ⟨2, _⟩ => ⟨S1x1024x4x128, .fp8e4m3⟩
  | .local _ .vmem, ⟨3, _⟩ => ⟨S1x1024x4x128, .fp8e4m3⟩
  | .local _ .vmem, ⟨4, _⟩ => ⟨S1x1024x4x128, .fp8e4m3⟩
  | .local _ .vmem, ⟨5, _⟩ => ⟨S1x1024x4x128, .fp8e4m3⟩
  | .local _ .vmem, ⟨6, _⟩ => ⟨S1x128x24x128, .bf16⟩
  | .local _ .vmem, ⟨7, _⟩ => ⟨S1x128x24x128, .bf16⟩
  | .local _ .vmem, ⟨8, _⟩ => ⟨S1x128x24x128, .fp8e5m2⟩
  | .local _ .vmem, ⟨9, _⟩ => ⟨S1x128x24x128, .fp8e5m2⟩
  | .local _ .vmem, ⟨10, _⟩ => ⟨S1x24x128, .f32⟩
  | .local _ .vmem, ⟨11, _⟩ => ⟨S1x24x128, .f32⟩
  | .local _ .vmem, ⟨12, _⟩ => ⟨S1x128x24x128, .bf16⟩
  | .local _ .vmem, ⟨13, _⟩ => ⟨S1x128x24x128, .bf16⟩
  | .local _ .vmem, ⟨14, _⟩ => ⟨S1x1024x4x128, .bf16⟩
  | .local _ .vmem, ⟨15, _⟩ => ⟨S1x1024x4x128, .bf16⟩
  | .local _ .vmem, ⟨16, _⟩ => ⟨S1x1024x4x128, .bf16⟩
  | .local _ .vmem, ⟨17, _⟩ => ⟨S1x1024x4x128, .bf16⟩
  | .local _ .vmem, ⟨18, _⟩ => ⟨S4x8x128x128, .fp8e4m3⟩
  | .local _ .vmem, ⟨19, _⟩ => ⟨S4x8x128x128, .bf16⟩
  | .local _ .vmem, ⟨20, _⟩ => ⟨S4x8x128x128, .bf16⟩
  | .local _ .vmem, ⟨21, _⟩ => ⟨S4x8x128x128, .f32⟩
  | .local _ .vmem, ⟨22, _⟩ => ⟨S4x8x128x128, .f32⟩
  | .local _ .vmem, ⟨23, _⟩ => ⟨S5x128x128, .f32⟩
  | .local _ .smem, ⟨0, _⟩ => ⟨S2x19, .i32⟩
  | .local _ .smem, ⟨1, _⟩ => ⟨S24, .f32⟩
  | .local _ .smem, ⟨2, _⟩ => ⟨S4, .f32⟩
  | .local _ .smem, ⟨3, _⟩ => ⟨S4, .f32⟩
  | .local _ .smem, ⟨4, _⟩ => ⟨S24, .f32⟩
  | _, _ => ⟨S2x1024x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![2, 8], ![false, false]⟩

def k0_off1 (i : grid0.Coords) : Fin 4 → Nat :=
  let c0 : Index := 0#32
  let arg1 : BitVec 32 := BitVec.ofNat 32 (i 1).val
  let c128_i32 : BitVec 32 := 128#32
  let v0 : BitVec 32 := Scalar.muli arg1 c128_i32
  let v1 : Index := Scalar.indexCast v0
  let c0_0 : Index := 0#32
  let c0_1 : Index := 0#32
  ![0, v1.toNat, 0, 0]
def k0_off2 (i : grid0.Coords) : Fin 4 → Nat :=
  let c0_2 : Index := 0#32
  let arg1 : BitVec 32 := BitVec.ofNat 32 (i 1).val
  let v4 : Index := Scalar.indexCast arg1
  let c0_3 : Index := 0#32
  let c0_4 : Index := 0#32
  ![0, v4.toNat, 0, 0]
def k0_off3 (i : grid0.Coords) : Fin 4 → Nat :=
  let c0_5 : Index := 0#32
  let arg1 : BitVec 32 := BitVec.ofNat 32 (i 1).val
  let c128_i32 : BitVec 32 := 128#32
  let v0 : BitVec 32 := Scalar.muli arg1 c128_i32
  let v8 : Index := Scalar.indexCast v0
  let c1 : Index := 1#32
  let c0_6 : Index := 0#32
  ![0, v8.toNat, 1, 0]
def k0_off4 (i : grid0.Coords) : Fin 4 → Nat :=
  let c1_7 : Index := 1#32
  let arg1 : BitVec 32 := BitVec.ofNat 32 (i 1).val
  let v11 : Index := Scalar.indexCast arg1
  let c0_8 : Index := 0#32
  let c0_9 : Index := 0#32
  ![1, v11.toNat, 0, 0]
def k0_off5 (i : grid0.Coords) : Fin 4 → Nat :=
  let c0_10 : Index := 0#32
  let arg1 : BitVec 32 := BitVec.ofNat 32 (i 1).val
  let c128_i32 : BitVec 32 := 128#32
  let v0 : BitVec 32 := Scalar.muli arg1 c128_i32
  let v15 : Index := Scalar.indexCast v0
  let c2 : Index := 2#32
  let c0_11 : Index := 0#32
  ![0, v15.toNat, 2, 0]
def k0_off6 (i : grid0.Coords) : Fin 4 → Nat :=
  let c2_12 : Index := 2#32
  let arg1 : BitVec 32 := BitVec.ofNat 32 (i 1).val
  let v18 : Index := Scalar.indexCast arg1
  let c0_13 : Index := 0#32
  let c0_14 : Index := 0#32
  ![2, v18.toNat, 0, 0]
def k0_off7 (i : grid0.Coords) : Fin 4 → Nat :=
  let c0_15 : Index := 0#32
  let arg1 : BitVec 32 := BitVec.ofNat 32 (i 1).val
  let c128_i32 : BitVec 32 := 128#32
  let v0 : BitVec 32 := Scalar.muli arg1 c128_i32
  let v22 : Index := Scalar.indexCast v0
  let c3 : Index := 3#32
  let c0_16 : Index := 0#32
  ![0, v22.toNat, 3, 0]
def k0_off8 (i : grid0.Coords) : Fin 4 → Nat :=
  let c3_17 : Index := 3#32
  let arg1 : BitVec 32 := BitVec.ofNat 32 (i 1).val
  let v25 : Index := Scalar.indexCast arg1
  let c0_18 : Index := 0#32
  let c0_19 : Index := 0#32
  ![3, v25.toNat, 0, 0]
def k0_off9 (i : grid0.Coords) : Fin 2 → Nat :=
  let arg0 : BitVec 32 := BitVec.ofNat 32 (i 0).val
  let v139 : Index := Scalar.indexCast arg0
  let c1_100 : Index := 1#32
  ![v139.toNat, 1]
def k0_off10 (i : grid0.Coords) : Fin 2 → Nat :=
  let arg0 : BitVec 32 := BitVec.ofNat 32 (i 0).val
  let v144 : Index := Scalar.indexCast arg0
  let c2_102 : Index := 2#32
  ![v144.toNat, 2]
def k0_off11 (i : grid0.Coords) : Fin 2 → Nat :=
  let arg0 : BitVec 32 := BitVec.ofNat 32 (i 0).val
  let v149 : Index := Scalar.indexCast arg0
  let c3_104 : Index := 3#32
  ![v149.toNat, 3]
def k0_off12 (i : grid0.Coords) : Fin 2 → Nat :=
  let arg0 : BitVec 32 := BitVec.ofNat 32 (i 0).val
  let v154 : Index := Scalar.indexCast arg0
  let c4 : Index := 4#32
  ![v154.toNat, 4]
def k0_off13 (i : grid0.Coords) : Fin 2 → Nat :=
  let arg0 : BitVec 32 := BitVec.ofNat 32 (i 0).val
  let v159 : Index := Scalar.indexCast arg0
  let c5 : Index := 5#32
  ![v159.toNat, 5]
def k0_off14 (i : grid0.Coords) : Fin 2 → Nat :=
  let arg0 : BitVec 32 := BitVec.ofNat 32 (i 0).val
  let v164 : Index := Scalar.indexCast arg0
  let c6 : Index := 6#32
  ![v164.toNat, 6]
def k0_off15 (i : grid0.Coords) : Fin 2 → Nat :=
  let arg0 : BitVec 32 := BitVec.ofNat 32 (i 0).val
  let v169 : Index := Scalar.indexCast arg0
  let c7 : Index := 7#32
  ![v169.toNat, 7]
def k0_off16 (i : grid0.Coords) : Fin 2 → Nat :=
  let arg0 : BitVec 32 := BitVec.ofNat 32 (i 0).val
  let v174 : Index := Scalar.indexCast arg0
  let c8 : Index := 8#32
  ![v174.toNat, 8]
def k0_off17 (i : grid0.Coords) : Fin 2 → Nat :=
  let arg0 : BitVec 32 := BitVec.ofNat 32 (i 0).val
  let v179 : Index := Scalar.indexCast arg0
  let c9 : Index := 9#32
  ![v179.toNat, 9]
def k0_off18 (i : grid0.Coords) : Fin 2 → Nat :=
  let arg0 : BitVec 32 := BitVec.ofNat 32 (i 0).val
  let v184 : Index := Scalar.indexCast arg0
  let c10 : Index := 10#32
  ![v184.toNat, 10]
def k0_off19 (i : grid0.Coords) : Fin 2 → Nat :=
  let arg0 : BitVec 32 := BitVec.ofNat 32 (i 0).val
  let v189 : Index := Scalar.indexCast arg0
  let c11 : Index := 11#32
  ![v189.toNat, 11]
def k0_off20 (i : grid0.Coords) : Fin 2 → Nat :=
  let arg0 : BitVec 32 := BitVec.ofNat 32 (i 0).val
  let v194 : Index := Scalar.indexCast arg0
  let c12 : Index := 12#32
  ![v194.toNat, 12]
def k0_off21 (i : grid0.Coords) : Fin 2 → Nat :=
  let arg0 : BitVec 32 := BitVec.ofNat 32 (i 0).val
  let v199 : Index := Scalar.indexCast arg0
  let c13 : Index := 13#32
  ![v199.toNat, 13]
def k0_off22 (i : grid0.Coords) : Fin 2 → Nat :=
  let arg0 : BitVec 32 := BitVec.ofNat 32 (i 0).val
  let v204 : Index := Scalar.indexCast arg0
  let c14 : Index := 14#32
  ![v204.toNat, 14]
def k0_off23 (i : grid0.Coords) : Fin 2 → Nat :=
  let arg0 : BitVec 32 := BitVec.ofNat 32 (i 0).val
  let v209 : Index := Scalar.indexCast arg0
  let c15 : Index := 15#32
  ![v209.toNat, 15]
def k0_off24 (i : grid0.Coords) : Fin 2 → Nat :=
  let arg0 : BitVec 32 := BitVec.ofNat 32 (i 0).val
  let v214 : Index := Scalar.indexCast arg0
  let c16 : Index := 16#32
  ![v214.toNat, 16]
def k0_off25 (i : grid0.Coords) : Fin 2 → Nat :=
  let arg0 : BitVec 32 := BitVec.ofNat 32 (i 0).val
  let v219 : Index := Scalar.indexCast arg0
  let c17 : Index := 17#32
  ![v219.toNat, 17]
def k0_off26 (i : grid0.Coords) : Fin 2 → Nat :=
  let arg0 : BitVec 32 := BitVec.ofNat 32 (i 0).val
  let v224 : Index := Scalar.indexCast arg0
  let c18 : Index := 18#32
  ![v224.toNat, 18]
def k0_off27 (i : grid0.Coords) : Fin 2 → Nat :=
  let arg0 : BitVec 32 := BitVec.ofNat 32 (i 0).val
  let v255 : Index := Scalar.indexCast arg0
  let c1_132 : Index := 1#32
  ![v255.toNat, 1]
def k0_off28 (i : grid0.Coords) : Fin 2 → Nat :=
  let arg0 : BitVec 32 := BitVec.ofNat 32 (i 0).val
  let v263 : Index := Scalar.indexCast arg0
  let c2_134 : Index := 2#32
  ![v263.toNat, 2]
def k0_off29 (i : grid0.Coords) : Fin 2 → Nat :=
  let arg0 : BitVec 32 := BitVec.ofNat 32 (i 0).val
  let v271 : Index := Scalar.indexCast arg0
  let c3_136 : Index := 3#32
  ![v271.toNat, 3]
def k0_off30 (i : grid0.Coords) : Fin 2 → Nat :=
  let arg0 : BitVec 32 := BitVec.ofNat 32 (i 0).val
  let v279 : Index := Scalar.indexCast arg0
  let c4_138 : Index := 4#32
  ![v279.toNat, 4]
def k0_off31 (i : grid0.Coords) : Fin 2 → Nat :=
  let arg0 : BitVec 32 := BitVec.ofNat 32 (i 0).val
  let v287 : Index := Scalar.indexCast arg0
  let c5_140 : Index := 5#32
  ![v287.toNat, 5]
def k0_off32 (i : grid0.Coords) : Fin 2 → Nat :=
  let arg0 : BitVec 32 := BitVec.ofNat 32 (i 0).val
  let v295 : Index := Scalar.indexCast arg0
  let c6_142 : Index := 6#32
  ![v295.toNat, 6]
def k0_off33 (i : grid0.Coords) : Fin 2 → Nat :=
  let arg0 : BitVec 32 := BitVec.ofNat 32 (i 0).val
  let v303 : Index := Scalar.indexCast arg0
  let c7_144 : Index := 7#32
  ![v303.toNat, 7]
def k0_off34 (i : grid0.Coords) : Fin 2 → Nat :=
  let arg0 : BitVec 32 := BitVec.ofNat 32 (i 0).val
  let v311 : Index := Scalar.indexCast arg0
  let c8_146 : Index := 8#32
  ![v311.toNat, 8]
def k0_off35 (i : grid0.Coords) : Fin 2 → Nat :=
  let arg0 : BitVec 32 := BitVec.ofNat 32 (i 0).val
  let v319 : Index := Scalar.indexCast arg0
  let c9_148 : Index := 9#32
  ![v319.toNat, 9]
def k0_off36 (i : grid0.Coords) : Fin 2 → Nat :=
  let arg0 : BitVec 32 := BitVec.ofNat 32 (i 0).val
  let v327 : Index := Scalar.indexCast arg0
  let c10_150 : Index := 10#32
  ![v327.toNat, 10]
def k0_off37 (i : grid0.Coords) : Fin 2 → Nat :=
  let arg0 : BitVec 32 := BitVec.ofNat 32 (i 0).val
  let v335 : Index := Scalar.indexCast arg0
  let c11_152 : Index := 11#32
  ![v335.toNat, 11]
def k0_off38 (i : grid0.Coords) : Fin 2 → Nat :=
  let arg0 : BitVec 32 := BitVec.ofNat 32 (i 0).val
  let v343 : Index := Scalar.indexCast arg0
  let c12_154 : Index := 12#32
  ![v343.toNat, 12]
def k0_off39 (i : grid0.Coords) : Fin 2 → Nat :=
  let arg0 : BitVec 32 := BitVec.ofNat 32 (i 0).val
  let v351 : Index := Scalar.indexCast arg0
  let c13_156 : Index := 13#32
  ![v351.toNat, 13]
def k0_off40 (i : grid0.Coords) : Fin 2 → Nat :=
  let arg0 : BitVec 32 := BitVec.ofNat 32 (i 0).val
  let v359 : Index := Scalar.indexCast arg0
  let c14_158 : Index := 14#32
  ![v359.toNat, 14]
def k0_off41 (i : grid0.Coords) : Fin 2 → Nat :=
  let arg0 : BitVec 32 := BitVec.ofNat 32 (i 0).val
  let v367 : Index := Scalar.indexCast arg0
  let c15_160 : Index := 15#32
  ![v367.toNat, 15]
def k0_off42 (i : grid0.Coords) : Fin 2 → Nat :=
  let arg0 : BitVec 32 := BitVec.ofNat 32 (i 0).val
  let v375 : Index := Scalar.indexCast arg0
  let c16_162 : Index := 16#32
  ![v375.toNat, 16]
def k0_off43 (i : grid0.Coords) : Fin 2 → Nat :=
  let arg0 : BitVec 32 := BitVec.ofNat 32 (i 0).val
  let v383 : Index := Scalar.indexCast arg0
  let c17_164 : Index := 17#32
  ![v383.toNat, 17]
def k0_off44 (i : grid0.Coords) : Fin 2 → Nat :=
  let arg0 : BitVec 32 := BitVec.ofNat 32 (i 0).val
  let v391 : Index := Scalar.indexCast arg0
  let c18_166 : Index := 18#32
  ![v391.toNat, 18]
def k0_off45 (i : grid0.Coords) : Fin 4 → Nat :=
  let c0_365 : Index := 0#32
  let arg1 : BitVec 32 := BitVec.ofNat 32 (i 1).val
  let c0_i32_129 : BitVec 32 := 0#32
  let v249 : BitVec 32 := Scalar.subi arg1 c0_i32_129
  let c0_i32_364 : BitVec 32 := 0#32
  let v561 : BitVec 32 := Scalar.addi v249 c0_i32_364
  let v562 : Index := Scalar.indexCast v561
  let c0_366 : Index := 0#32
  let c0_367 : Index := 0#32
  ![0, v562.toNat, 0, 0]
def k0_off46 (i : grid0.Coords) : Fin 4 → Nat :=
  let c1_546 : Index := 1#32
  let arg1 : BitVec 32 := BitVec.ofNat 32 (i 1).val
  let c0_i32_129 : BitVec 32 := 0#32
  let v249 : BitVec 32 := Scalar.subi arg1 c0_i32_129
  let c0_i32_545 : BitVec 32 := 0#32
  let v966 : BitVec 32 := Scalar.addi v249 c0_i32_545
  let v967 : Index := Scalar.indexCast v966
  let c0_547 : Index := 0#32
  let c0_548 : Index := 0#32
  ![1, v967.toNat, 0, 0]
def k0_off47 (i : grid0.Coords) : Fin 4 → Nat :=
  let c2_727 : Index := 2#32
  let arg1 : BitVec 32 := BitVec.ofNat 32 (i 1).val
  let c0_i32_129 : BitVec 32 := 0#32
  let v249 : BitVec 32 := Scalar.subi arg1 c0_i32_129
  let c0_i32_726 : BitVec 32 := 0#32
  let v1371 : BitVec 32 := Scalar.addi v249 c0_i32_726
  let v1372 : Index := Scalar.indexCast v1371
  let c0_728 : Index := 0#32
  let c0_729 : Index := 0#32
  ![2, v1372.toNat, 0, 0]
def k0_off48 (i : grid0.Coords) : Fin 4 → Nat :=
  let c3_908 : Index := 3#32
  let arg1 : BitVec 32 := BitVec.ofNat 32 (i 1).val
  let c0_i32_129 : BitVec 32 := 0#32
  let v249 : BitVec 32 := Scalar.subi arg1 c0_i32_129
  let c0_i32_907 : BitVec 32 := 0#32
  let v1776 : BitVec 32 := Scalar.addi v249 c0_i32_907
  let v1777 : Index := Scalar.indexCast v1776
  let c0_909 : Index := 0#32
  let c0_910 : Index := 0#32
  ![3, v1777.toNat, 0, 0]
def k0_off49 (i : grid0.Coords) : Fin 2 → Nat :=
  let arg0 : BitVec 32 := BitVec.ofNat 32 (i 0).val
  let v255 : Index := Scalar.indexCast arg0
  let c1_132 : Index := 1#32
  ![v255.toNat, 1]
def k0_off50 (i : grid0.Coords) : Fin 2 → Nat :=
  let arg0 : BitVec 32 := BitVec.ofNat 32 (i 0).val
  let v263 : Index := Scalar.indexCast arg0
  let c2_134 : Index := 2#32
  ![v263.toNat, 2]
def k0_off51 (i : grid0.Coords) : Fin 2 → Nat :=
  let arg0 : BitVec 32 := BitVec.ofNat 32 (i 0).val
  let v271 : Index := Scalar.indexCast arg0
  let c3_136 : Index := 3#32
  ![v271.toNat, 3]
def k0_off52 (i : grid0.Coords) : Fin 2 → Nat :=
  let arg0 : BitVec 32 := BitVec.ofNat 32 (i 0).val
  let v279 : Index := Scalar.indexCast arg0
  let c4_138 : Index := 4#32
  ![v279.toNat, 4]
def k0_off53 (i : grid0.Coords) : Fin 2 → Nat :=
  let arg0 : BitVec 32 := BitVec.ofNat 32 (i 0).val
  let v287 : Index := Scalar.indexCast arg0
  let c5_140 : Index := 5#32
  ![v287.toNat, 5]
def k0_off54 (i : grid0.Coords) : Fin 2 → Nat :=
  let arg0 : BitVec 32 := BitVec.ofNat 32 (i 0).val
  let v295 : Index := Scalar.indexCast arg0
  let c6_142 : Index := 6#32
  ![v295.toNat, 6]
def k0_off55 (i : grid0.Coords) : Fin 2 → Nat :=
  let arg0 : BitVec 32 := BitVec.ofNat 32 (i 0).val
  let v303 : Index := Scalar.indexCast arg0
  let c7_144 : Index := 7#32
  ![v303.toNat, 7]
def k0_off56 (i : grid0.Coords) : Fin 2 → Nat :=
  let arg0 : BitVec 32 := BitVec.ofNat 32 (i 0).val
  let v311 : Index := Scalar.indexCast arg0
  let c8_146 : Index := 8#32
  ![v311.toNat, 8]
def k0_off57 (i : grid0.Coords) : Fin 2 → Nat :=
  let arg0 : BitVec 32 := BitVec.ofNat 32 (i 0).val
  let v319 : Index := Scalar.indexCast arg0
  let c9_148 : Index := 9#32
  ![v319.toNat, 9]
def k0_off58 (i : grid0.Coords) : Fin 2 → Nat :=
  let arg0 : BitVec 32 := BitVec.ofNat 32 (i 0).val
  let v327 : Index := Scalar.indexCast arg0
  let c10_150 : Index := 10#32
  ![v327.toNat, 10]
def k0_off59 (i : grid0.Coords) : Fin 2 → Nat :=
  let arg0 : BitVec 32 := BitVec.ofNat 32 (i 0).val
  let v335 : Index := Scalar.indexCast arg0
  let c11_152 : Index := 11#32
  ![v335.toNat, 11]
def k0_off60 (i : grid0.Coords) : Fin 2 → Nat :=
  let arg0 : BitVec 32 := BitVec.ofNat 32 (i 0).val
  let v343 : Index := Scalar.indexCast arg0
  let c12_154 : Index := 12#32
  ![v343.toNat, 12]
def k0_off61 (i : grid0.Coords) : Fin 2 → Nat :=
  let arg0 : BitVec 32 := BitVec.ofNat 32 (i 0).val
  let v351 : Index := Scalar.indexCast arg0
  let c13_156 : Index := 13#32
  ![v351.toNat, 13]
def k0_off62 (i : grid0.Coords) : Fin 2 → Nat :=
  let arg0 : BitVec 32 := BitVec.ofNat 32 (i 0).val
  let v359 : Index := Scalar.indexCast arg0
  let c14_158 : Index := 14#32
  ![v359.toNat, 14]
def k0_off63 (i : grid0.Coords) : Fin 2 → Nat :=
  let arg0 : BitVec 32 := BitVec.ofNat 32 (i 0).val
  let v367 : Index := Scalar.indexCast arg0
  let c15_160 : Index := 15#32
  ![v367.toNat, 15]
def k0_off64 (i : grid0.Coords) : Fin 2 → Nat :=
  let arg0 : BitVec 32 := BitVec.ofNat 32 (i 0).val
  let v375 : Index := Scalar.indexCast arg0
  let c16_162 : Index := 16#32
  ![v375.toNat, 16]
def k0_off65 (i : grid0.Coords) : Fin 2 → Nat :=
  let arg0 : BitVec 32 := BitVec.ofNat 32 (i 0).val
  let v383 : Index := Scalar.indexCast arg0
  let c17_164 : Index := 17#32
  ![v383.toNat, 17]
def k0_off66 (i : grid0.Coords) : Fin 2 → Nat :=
  let arg0 : BitVec 32 := BitVec.ofNat 32 (i 0).val
  let v391 : Index := Scalar.indexCast arg0
  let c18_166 : Index := 18#32
  ![v391.toNat, 18]
def k0_off67 (i : grid0.Coords) (c0_i32_371 : BitVec 32) : Fin 4 → Nat :=
  let c0_372 : Index := 0#32
  let arg1 : BitVec 32 := BitVec.ofNat 32 (i 1).val
  let c1_i32_129 : BitVec 32 := 1#32
  let v249 : BitVec 32 := Scalar.subi arg1 c1_i32_129
  let v577 : BitVec 32 := Scalar.addi v249 c0_i32_371
  let v578 : Index := Scalar.indexCast v577
  let c0_373 : Index := 0#32
  let c0_374 : Index := 0#32
  ![0, v578.toNat, 0, 0]
def k0_cond2 (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) : BitVec 1 :=
  let arg1 : BitVec 32 := BitVec.ofNat 32 (i 1).val
  let c1_i32 : BitVec 32 := 1#32
  let v138 : BitVec 32 := Scalar.addi arg1 c1_i32
  let c0_i32_101 : BitVec 32 := 0#32
  let c128_i32_99 : BitVec 32 := 128#32
  let v137 : BitVec 32 := Scalar.muli arg1 c128_i32_99
  let v141 : BitVec 1 := Scalar.cmpi .sle v140 v137
  let c0_i32 : BitVec 32 := 0#32
  let v142 : BitVec 32 := Scalar.select v141 v140 c0_i32
  let v143 : BitVec 32 := Scalar.maxsi c0_i32_101 v142
  let v146 : BitVec 1 := Scalar.cmpi .sle v145 v137
  let c0_i32_103 : BitVec 32 := 0#32
  let v147 : BitVec 32 := Scalar.select v146 v145 c0_i32_103
  let v148 : BitVec 32 := Scalar.maxsi v143 v147
  let v151 : BitVec 1 := Scalar.cmpi .sle v150 v137
  let c0_i32_105 : BitVec 32 := 0#32
  let v152 : BitVec 32 := Scalar.select v151 v150 c0_i32_105
  let v153 : BitVec 32 := Scalar.maxsi v148 v152
  let v156 : BitVec 1 := Scalar.cmpi .sle v155 v137
  let c0_i32_106 : BitVec 32 := 0#32
  let v157 : BitVec 32 := Scalar.select v156 v155 c0_i32_106
  let v158 : BitVec 32 := Scalar.maxsi v153 v157
  let v161 : BitVec 1 := Scalar.cmpi .sle v160 v137
  let c0_i32_107 : BitVec 32 := 0#32
  let v162 : BitVec 32 := Scalar.select v161 v160 c0_i32_107
  let v163 : BitVec 32 := Scalar.maxsi v158 v162
  let v166 : BitVec 1 := Scalar.cmpi .sle v165 v137
  let c0_i32_108 : BitVec 32 := 0#32
  let v167 : BitVec 32 := Scalar.select v166 v165 c0_i32_108
  let v168 : BitVec 32 := Scalar.maxsi v163 v167
  let v171 : BitVec 1 := Scalar.cmpi .sle v170 v137
  let c0_i32_109 : BitVec 32 := 0#32
  let v172 : BitVec 32 := Scalar.select v171 v170 c0_i32_109
  let v173 : BitVec 32 := Scalar.maxsi v168 v172
  let v176 : BitVec 1 := Scalar.cmpi .sle v175 v137
  let c0_i32_110 : BitVec 32 := 0#32
  let v177 : BitVec 32 := Scalar.select v176 v175 c0_i32_110
  let v178 : BitVec 32 := Scalar.maxsi v173 v177
  let v181 : BitVec 1 := Scalar.cmpi .sle v180 v137
  let c0_i32_111 : BitVec 32 := 0#32
  let v182 : BitVec 32 := Scalar.select v181 v180 c0_i32_111
  let v183 : BitVec 32 := Scalar.maxsi v178 v182
  let v186 : BitVec 1 := Scalar.cmpi .sle v185 v137
  let c0_i32_112 : BitVec 32 := 0#32
  let v187 : BitVec 32 := Scalar.select v186 v185 c0_i32_112
  let v188 : BitVec 32 := Scalar.maxsi v183 v187
  let v191 : BitVec 1 := Scalar.cmpi .sle v190 v137
  let c0_i32_113 : BitVec 32 := 0#32
  let v192 : BitVec 32 := Scalar.select v191 v190 c0_i32_113
  let v193 : BitVec 32 := Scalar.maxsi v188 v192
  let v196 : BitVec 1 := Scalar.cmpi .sle v195 v137
  let c0_i32_114 : BitVec 32 := 0#32
  let v197 : BitVec 32 := Scalar.select v196 v195 c0_i32_114
  let v198 : BitVec 32 := Scalar.maxsi v193 v197
  let v201 : BitVec 1 := Scalar.cmpi .sle v200 v137
  let c0_i32_115 : BitVec 32 := 0#32
  let v202 : BitVec 32 := Scalar.select v201 v200 c0_i32_115
  let v203 : BitVec 32 := Scalar.maxsi v198 v202
  let v206 : BitVec 1 := Scalar.cmpi .sle v205 v137
  let c0_i32_116 : BitVec 32 := 0#32
  let v207 : BitVec 32 := Scalar.select v206 v205 c0_i32_116
  let v208 : BitVec 32 := Scalar.maxsi v203 v207
  let v211 : BitVec 1 := Scalar.cmpi .sle v210 v137
  let c0_i32_117 : BitVec 32 := 0#32
  let v212 : BitVec 32 := Scalar.select v211 v210 c0_i32_117
  let v213 : BitVec 32 := Scalar.maxsi v208 v212
  let v216 : BitVec 1 := Scalar.cmpi .sle v215 v137
  let c0_i32_118 : BitVec 32 := 0#32
  let v217 : BitVec 32 := Scalar.select v216 v215 c0_i32_118
  let v218 : BitVec 32 := Scalar.maxsi v213 v217
  let v221 : BitVec 1 := Scalar.cmpi .sle v220 v137
  let c0_i32_119 : BitVec 32 := 0#32
  let v222 : BitVec 32 := Scalar.select v221 v220 c0_i32_119
  let v223 : BitVec 32 := Scalar.maxsi v218 v222
  let v226 : BitVec 1 := Scalar.cmpi .sle v225 v137
  let c0_i32_120 : BitVec 32 := 0#32
  let v227 : BitVec 32 := Scalar.select v226 v225 c0_i32_120
  let v228 : BitVec 32 := Scalar.maxsi v223 v227
  let c7_i32 : BitVec 32 := 7#32
  let v229 : BitVec 32 := Scalar.shrui v228 c7_i32
  let v230 : BitVec 32 := Scalar.subi v138 v229
  let c2_i32 : BitVec 32 := 2#32
  let v234 : BitVec 1 := Scalar.cmpi .eq v230 c2_i32
  let v235 : BitVec 32 := Scalar.extui v234
  let c0_i32_123 : BitVec 32 := 0#32
  let v236 : BitVec 1 := Scalar.cmpi .ne v235 c0_i32_123
  v236

def k0_off68 (i : grid0.Coords) (c0_i32_596 : BitVec 32) : Fin 4 → Nat :=
  let c1_597 : Index := 1#32
  let arg1 : BitVec 32 := BitVec.ofNat 32 (i 1).val
  let c1_i32_129 : BitVec 32 := 1#32
  let v249 : BitVec 32 := Scalar.subi arg1 c1_i32_129
  let v1139 : BitVec 32 := Scalar.addi v249 c0_i32_596
  let v1140 : Index := Scalar.indexCast v1139
  let c0_598 : Index := 0#32
  let c0_599 : Index := 0#32
  ![1, v1140.toNat, 0, 0]
def k0_off69 (i : grid0.Coords) (c0_i32_821 : BitVec 32) : Fin 4 → Nat :=
  let c2_822 : Index := 2#32
  let arg1 : BitVec 32 := BitVec.ofNat 32 (i 1).val
  let c1_i32_129 : BitVec 32 := 1#32
  let v249 : BitVec 32 := Scalar.subi arg1 c1_i32_129
  let v1701 : BitVec 32 := Scalar.addi v249 c0_i32_821
  let v1702 : Index := Scalar.indexCast v1701
  let c0_823 : Index := 0#32
  let c0_824 : Index := 0#32
  ![2, v1702.toNat, 0, 0]
def k0_off70 (i : grid0.Coords) (c0_i32_1046 : BitVec 32) : Fin 4 → Nat :=
  let c3_1047 : Index := 3#32
  let arg1 : BitVec 32 := BitVec.ofNat 32 (i 1).val
  let c1_i32_129 : BitVec 32 := 1#32
  let v249 : BitVec 32 := Scalar.subi arg1 c1_i32_129
  let v2263 : BitVec 32 := Scalar.addi v249 c0_i32_1046
  let v2264 : Index := Scalar.indexCast v2263
  let c0_1048 : Index := 0#32
  let c0_1049 : Index := 0#32
  ![3, v2264.toNat, 0, 0]
def k0_off71 (i : grid0.Coords) : Fin 2 → Nat :=
  let arg0 : BitVec 32 := BitVec.ofNat 32 (i 0).val
  let v255 : Index := Scalar.indexCast arg0
  let c1_132 : Index := 1#32
  ![v255.toNat, 1]
def k0_off72 (i : grid0.Coords) : Fin 2 → Nat :=
  let arg0 : BitVec 32 := BitVec.ofNat 32 (i 0).val
  let v263 : Index := Scalar.indexCast arg0
  let c2_134 : Index := 2#32
  ![v263.toNat, 2]
def k0_off73 (i : grid0.Coords) : Fin 2 → Nat :=
  let arg0 : BitVec 32 := BitVec.ofNat 32 (i 0).val
  let v271 : Index := Scalar.indexCast arg0
  let c3_136 : Index := 3#32
  ![v271.toNat, 3]
def k0_off74 (i : grid0.Coords) : Fin 2 → Nat :=
  let arg0 : BitVec 32 := BitVec.ofNat 32 (i 0).val
  let v279 : Index := Scalar.indexCast arg0
  let c4_138 : Index := 4#32
  ![v279.toNat, 4]
def k0_off75 (i : grid0.Coords) : Fin 2 → Nat :=
  let arg0 : BitVec 32 := BitVec.ofNat 32 (i 0).val
  let v287 : Index := Scalar.indexCast arg0
  let c5_140 : Index := 5#32
  ![v287.toNat, 5]
def k0_off76 (i : grid0.Coords) : Fin 2 → Nat :=
  let arg0 : BitVec 32 := BitVec.ofNat 32 (i 0).val
  let v295 : Index := Scalar.indexCast arg0
  let c6_142 : Index := 6#32
  ![v295.toNat, 6]
def k0_off77 (i : grid0.Coords) : Fin 2 → Nat :=
  let arg0 : BitVec 32 := BitVec.ofNat 32 (i 0).val
  let v303 : Index := Scalar.indexCast arg0
  let c7_144 : Index := 7#32
  ![v303.toNat, 7]
def k0_off78 (i : grid0.Coords) : Fin 2 → Nat :=
  let arg0 : BitVec 32 := BitVec.ofNat 32 (i 0).val
  let v311 : Index := Scalar.indexCast arg0
  let c8_146 : Index := 8#32
  ![v311.toNat, 8]
def k0_off79 (i : grid0.Coords) : Fin 2 → Nat :=
  let arg0 : BitVec 32 := BitVec.ofNat 32 (i 0).val
  let v319 : Index := Scalar.indexCast arg0
  let c9_148 : Index := 9#32
  ![v319.toNat, 9]
def k0_off80 (i : grid0.Coords) : Fin 2 → Nat :=
  let arg0 : BitVec 32 := BitVec.ofNat 32 (i 0).val
  let v327 : Index := Scalar.indexCast arg0
  let c10_150 : Index := 10#32
  ![v327.toNat, 10]
def k0_off81 (i : grid0.Coords) : Fin 2 → Nat :=
  let arg0 : BitVec 32 := BitVec.ofNat 32 (i 0).val
  let v335 : Index := Scalar.indexCast arg0
  let c11_152 : Index := 11#32
  ![v335.toNat, 11]
def k0_off82 (i : grid0.Coords) : Fin 2 → Nat :=
  let arg0 : BitVec 32 := BitVec.ofNat 32 (i 0).val
  let v343 : Index := Scalar.indexCast arg0
  let c12_154 : Index := 12#32
  ![v343.toNat, 12]
def k0_off83 (i : grid0.Coords) : Fin 2 → Nat :=
  let arg0 : BitVec 32 := BitVec.ofNat 32 (i 0).val
  let v351 : Index := Scalar.indexCast arg0
  let c13_156 : Index := 13#32
  ![v351.toNat, 13]
def k0_off84 (i : grid0.Coords) : Fin 2 → Nat :=
  let arg0 : BitVec 32 := BitVec.ofNat 32 (i 0).val
  let v359 : Index := Scalar.indexCast arg0
  let c14_158 : Index := 14#32
  ![v359.toNat, 14]
def k0_off85 (i : grid0.Coords) : Fin 2 → Nat :=
  let arg0 : BitVec 32 := BitVec.ofNat 32 (i 0).val
  let v367 : Index := Scalar.indexCast arg0
  let c15_160 : Index := 15#32
  ![v367.toNat, 15]
def k0_off86 (i : grid0.Coords) : Fin 2 → Nat :=
  let arg0 : BitVec 32 := BitVec.ofNat 32 (i 0).val
  let v375 : Index := Scalar.indexCast arg0
  let c16_162 : Index := 16#32
  ![v375.toNat, 16]
def k0_off87 (i : grid0.Coords) : Fin 2 → Nat :=
  let arg0 : BitVec 32 := BitVec.ofNat 32 (i 0).val
  let v383 : Index := Scalar.indexCast arg0
  let c17_164 : Index := 17#32
  ![v383.toNat, 17]
def k0_off88 (i : grid0.Coords) : Fin 2 → Nat :=
  let arg0 : BitVec 32 := BitVec.ofNat 32 (i 0).val
  let v391 : Index := Scalar.indexCast arg0
  let c18_166 : Index := 18#32
  ![v391.toNat, 18]
def k0_off89 (i : grid0.Coords) (c0_i32_378 : BitVec 32) : Fin 4 → Nat :=
  let c0_379 : Index := 0#32
  let arg1 : BitVec 32 := BitVec.ofNat 32 (i 1).val
  let c2_i32_129 : BitVec 32 := 2#32
  let v249 : BitVec 32 := Scalar.subi arg1 c2_i32_129
  let v593 : BitVec 32 := Scalar.addi v249 c0_i32_378
  let v594 : Index := Scalar.indexCast v593
  let c0_380 : Index := 0#32
  let c0_381 : Index := 0#32
  ![0, v594.toNat, 0, 0]
def k0_cond3 (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) : BitVec 1 :=
  let arg1 : BitVec 32 := BitVec.ofNat 32 (i 1).val
  let c1_i32 : BitVec 32 := 1#32
  let v138 : BitVec 32 := Scalar.addi arg1 c1_i32
  let c0_i32_101 : BitVec 32 := 0#32
  let c128_i32_99 : BitVec 32 := 128#32
  let v137 : BitVec 32 := Scalar.muli arg1 c128_i32_99
  let v141 : BitVec 1 := Scalar.cmpi .sle v140 v137
  let c0_i32 : BitVec 32 := 0#32
  let v142 : BitVec 32 := Scalar.select v141 v140 c0_i32
  let v143 : BitVec 32 := Scalar.maxsi c0_i32_101 v142
  let v146 : BitVec 1 := Scalar.cmpi .sle v145 v137
  let c0_i32_103 : BitVec 32 := 0#32
  let v147 : BitVec 32 := Scalar.select v146 v145 c0_i32_103
  let v148 : BitVec 32 := Scalar.maxsi v143 v147
  let v151 : BitVec 1 := Scalar.cmpi .sle v150 v137
  let c0_i32_105 : BitVec 32 := 0#32
  let v152 : BitVec 32 := Scalar.select v151 v150 c0_i32_105
  let v153 : BitVec 32 := Scalar.maxsi v148 v152
  let v156 : BitVec 1 := Scalar.cmpi .sle v155 v137
  let c0_i32_106 : BitVec 32 := 0#32
  let v157 : BitVec 32 := Scalar.select v156 v155 c0_i32_106
  let v158 : BitVec 32 := Scalar.maxsi v153 v157
  let v161 : BitVec 1 := Scalar.cmpi .sle v160 v137
  let c0_i32_107 : BitVec 32 := 0#32
  let v162 : BitVec 32 := Scalar.select v161 v160 c0_i32_107
  let v163 : BitVec 32 := Scalar.maxsi v158 v162
  let v166 : BitVec 1 := Scalar.cmpi .sle v165 v137
  let c0_i32_108 : BitVec 32 := 0#32
  let v167 : BitVec 32 := Scalar.select v166 v165 c0_i32_108
  let v168 : BitVec 32 := Scalar.maxsi v163 v167
  let v171 : BitVec 1 := Scalar.cmpi .sle v170 v137
  let c0_i32_109 : BitVec 32 := 0#32
  let v172 : BitVec 32 := Scalar.select v171 v170 c0_i32_109
  let v173 : BitVec 32 := Scalar.maxsi v168 v172
  let v176 : BitVec 1 := Scalar.cmpi .sle v175 v137
  let c0_i32_110 : BitVec 32 := 0#32
  let v177 : BitVec 32 := Scalar.select v176 v175 c0_i32_110
  let v178 : BitVec 32 := Scalar.maxsi v173 v177
  let v181 : BitVec 1 := Scalar.cmpi .sle v180 v137
  let c0_i32_111 : BitVec 32 := 0#32
  let v182 : BitVec 32 := Scalar.select v181 v180 c0_i32_111
  let v183 : BitVec 32 := Scalar.maxsi v178 v182
  let v186 : BitVec 1 := Scalar.cmpi .sle v185 v137
  let c0_i32_112 : BitVec 32 := 0#32
  let v187 : BitVec 32 := Scalar.select v186 v185 c0_i32_112
  let v188 : BitVec 32 := Scalar.maxsi v183 v187
  let v191 : BitVec 1 := Scalar.cmpi .sle v190 v137
  let c0_i32_113 : BitVec 32 := 0#32
  let v192 : BitVec 32 := Scalar.select v191 v190 c0_i32_113
  let v193 : BitVec 32 := Scalar.maxsi v188 v192
  let v196 : BitVec 1 := Scalar.cmpi .sle v195 v137
  let c0_i32_114 : BitVec 32 := 0#32
  let v197 : BitVec 32 := Scalar.select v196 v195 c0_i32_114
  let v198 : BitVec 32 := Scalar.maxsi v193 v197
  let v201 : BitVec 1 := Scalar.cmpi .sle v200 v137
  let c0_i32_115 : BitVec 32 := 0#32
  let v202 : BitVec 32 := Scalar.select v201 v200 c0_i32_115
  let v203 : BitVec 32 := Scalar.maxsi v198 v202
  let v206 : BitVec 1 := Scalar.cmpi .sle v205 v137
  let c0_i32_116 : BitVec 32 := 0#32
  let v207 : BitVec 32 := Scalar.select v206 v205 c0_i32_116
  let v208 : BitVec 32 := Scalar.maxsi v203 v207
  let v211 : BitVec 1 := Scalar.cmpi .sle v210 v137
  let c0_i32_117 : BitVec 32 := 0#32
  let v212 : BitVec 32 := Scalar.select v211 v210 c0_i32_117
  let v213 : BitVec 32 := Scalar.maxsi v208 v212
  let v216 : BitVec 1 := Scalar.cmpi .sle v215 v137
  let c0_i32_118 : BitVec 32 := 0#32
  let v217 : BitVec 32 := Scalar.select v216 v215 c0_i32_118
  let v218 : BitVec 32 := Scalar.maxsi v213 v217
  let v221 : BitVec 1 := Scalar.cmpi .sle v220 v137
  let c0_i32_119 : BitVec 32 := 0#32
  let v222 : BitVec 32 := Scalar.select v221 v220 c0_i32_119
  let v223 : BitVec 32 := Scalar.maxsi v218 v222
  let v226 : BitVec 1 := Scalar.cmpi .sle v225 v137
  let c0_i32_120 : BitVec 32 := 0#32
  let v227 : BitVec 32 := Scalar.select v226 v225 c0_i32_120
  let v228 : BitVec 32 := Scalar.maxsi v223 v227
  let c7_i32 : BitVec 32 := 7#32
  let v229 : BitVec 32 := Scalar.shrui v228 c7_i32
  let v230 : BitVec 32 := Scalar.subi v138 v229
  let c3_i32 : BitVec 32 := 3#32
  let v237 : BitVec 1 := Scalar.cmpi .eq v230 c3_i32
  let v238 : BitVec 32 := Scalar.extui v237
  let c0_i32_124 : BitVec 32 := 0#32
  let v239 : BitVec 1 := Scalar.cmpi .ne v238 c0_i32_124
  v239

def k0_off90 (i : grid0.Coords) (c0_i32_647 : BitVec 32) : Fin 4 → Nat :=
  let c1_648 : Index := 1#32
  let arg1 : BitVec 32 := BitVec.ofNat 32 (i 1).val
  let c2_i32_129 : BitVec 32 := 2#32
  let v249 : BitVec 32 := Scalar.subi arg1 c2_i32_129
  let v1295 : BitVec 32 := Scalar.addi v249 c0_i32_647
  let v1296 : Index := Scalar.indexCast v1295
  let c0_649 : Index := 0#32
  let c0_650 : Index := 0#32
  ![1, v1296.toNat, 0, 0]
def k0_off91 (i : grid0.Coords) (c0_i32_916 : BitVec 32) : Fin 4 → Nat :=
  let c2_917 : Index := 2#32
  let arg1 : BitVec 32 := BitVec.ofNat 32 (i 1).val
  let c2_i32_129 : BitVec 32 := 2#32
  let v249 : BitVec 32 := Scalar.subi arg1 c2_i32_129
  let v1997 : BitVec 32 := Scalar.addi v249 c0_i32_916
  let v1998 : Index := Scalar.indexCast v1997
  let c0_918 : Index := 0#32
  let c0_919 : Index := 0#32
  ![2, v1998.toNat, 0, 0]
def k0_off92 (i : grid0.Coords) (c0_i32_1185 : BitVec 32) : Fin 4 → Nat :=
  let c3_1186 : Index := 3#32
  let arg1 : BitVec 32 := BitVec.ofNat 32 (i 1).val
  let c2_i32_129 : BitVec 32 := 2#32
  let v249 : BitVec 32 := Scalar.subi arg1 c2_i32_129
  let v2699 : BitVec 32 := Scalar.addi v249 c0_i32_1185
  let v2700 : Index := Scalar.indexCast v2699
  let c0_1187 : Index := 0#32
  let c0_1188 : Index := 0#32
  ![3, v2700.toNat, 0, 0]
def k0_off93 (i : grid0.Coords) : Fin 2 → Nat :=
  let arg0 : BitVec 32 := BitVec.ofNat 32 (i 0).val
  let v255 : Index := Scalar.indexCast arg0
  let c1_132 : Index := 1#32
  ![v255.toNat, 1]
def k0_off94 (i : grid0.Coords) : Fin 2 → Nat :=
  let arg0 : BitVec 32 := BitVec.ofNat 32 (i 0).val
  let v263 : Index := Scalar.indexCast arg0
  let c2_134 : Index := 2#32
  ![v263.toNat, 2]
def k0_off95 (i : grid0.Coords) : Fin 2 → Nat :=
  let arg0 : BitVec 32 := BitVec.ofNat 32 (i 0).val
  let v271 : Index := Scalar.indexCast arg0
  let c3_136 : Index := 3#32
  ![v271.toNat, 3]
def k0_off96 (i : grid0.Coords) : Fin 2 → Nat :=
  let arg0 : BitVec 32 := BitVec.ofNat 32 (i 0).val
  let v279 : Index := Scalar.indexCast arg0
  let c4_138 : Index := 4#32
  ![v279.toNat, 4]
def k0_off97 (i : grid0.Coords) : Fin 2 → Nat :=
  let arg0 : BitVec 32 := BitVec.ofNat 32 (i 0).val
  let v287 : Index := Scalar.indexCast arg0
  let c5_140 : Index := 5#32
  ![v287.toNat, 5]
def k0_off98 (i : grid0.Coords) : Fin 2 → Nat :=
  let arg0 : BitVec 32 := BitVec.ofNat 32 (i 0).val
  let v295 : Index := Scalar.indexCast arg0
  let c6_142 : Index := 6#32
  ![v295.toNat, 6]
def k0_off99 (i : grid0.Coords) : Fin 2 → Nat :=
  let arg0 : BitVec 32 := BitVec.ofNat 32 (i 0).val
  let v303 : Index := Scalar.indexCast arg0
  let c7_144 : Index := 7#32
  ![v303.toNat, 7]
def k0_off100 (i : grid0.Coords) : Fin 2 → Nat :=
  let arg0 : BitVec 32 := BitVec.ofNat 32 (i 0).val
  let v311 : Index := Scalar.indexCast arg0
  let c8_146 : Index := 8#32
  ![v311.toNat, 8]
def k0_off101 (i : grid0.Coords) : Fin 2 → Nat :=
  let arg0 : BitVec 32 := BitVec.ofNat 32 (i 0).val
  let v319 : Index := Scalar.indexCast arg0
  let c9_148 : Index := 9#32
  ![v319.toNat, 9]
def k0_off102 (i : grid0.Coords) : Fin 2 → Nat :=
  let arg0 : BitVec 32 := BitVec.ofNat 32 (i 0).val
  let v327 : Index := Scalar.indexCast arg0
  let c10_150 : Index := 10#32
  ![v327.toNat, 10]
def k0_off103 (i : grid0.Coords) : Fin 2 → Nat :=
  let arg0 : BitVec 32 := BitVec.ofNat 32 (i 0).val
  let v335 : Index := Scalar.indexCast arg0
  let c11_152 : Index := 11#32
  ![v335.toNat, 11]
def k0_off104 (i : grid0.Coords) : Fin 2 → Nat :=
  let arg0 : BitVec 32 := BitVec.ofNat 32 (i 0).val
  let v343 : Index := Scalar.indexCast arg0
  let c12_154 : Index := 12#32
  ![v343.toNat, 12]
def k0_off105 (i : grid0.Coords) : Fin 2 → Nat :=
  let arg0 : BitVec 32 := BitVec.ofNat 32 (i 0).val
  let v351 : Index := Scalar.indexCast arg0
  let c13_156 : Index := 13#32
  ![v351.toNat, 13]
def k0_off106 (i : grid0.Coords) : Fin 2 → Nat :=
  let arg0 : BitVec 32 := BitVec.ofNat 32 (i 0).val
  let v359 : Index := Scalar.indexCast arg0
  let c14_158 : Index := 14#32
  ![v359.toNat, 14]
def k0_off107 (i : grid0.Coords) : Fin 2 → Nat :=
  let arg0 : BitVec 32 := BitVec.ofNat 32 (i 0).val
  let v367 : Index := Scalar.indexCast arg0
  let c15_160 : Index := 15#32
  ![v367.toNat, 15]
def k0_off108 (i : grid0.Coords) : Fin 2 → Nat :=
  let arg0 : BitVec 32 := BitVec.ofNat 32 (i 0).val
  let v375 : Index := Scalar.indexCast arg0
  let c16_162 : Index := 16#32
  ![v375.toNat, 16]
def k0_off109 (i : grid0.Coords) : Fin 2 → Nat :=
  let arg0 : BitVec 32 := BitVec.ofNat 32 (i 0).val
  let v383 : Index := Scalar.indexCast arg0
  let c17_164 : Index := 17#32
  ![v383.toNat, 17]
def k0_off110 (i : grid0.Coords) : Fin 2 → Nat :=
  let arg0 : BitVec 32 := BitVec.ofNat 32 (i 0).val
  let v391 : Index := Scalar.indexCast arg0
  let c18_166 : Index := 18#32
  ![v391.toNat, 18]
def k0_off111 (i : grid0.Coords) (c0_i32_385 : BitVec 32) : Fin 4 → Nat :=
  let c0_386 : Index := 0#32
  let arg1 : BitVec 32 := BitVec.ofNat 32 (i 1).val
  let c3_i32_129 : BitVec 32 := 3#32
  let v249 : BitVec 32 := Scalar.subi arg1 c3_i32_129
  let v609 : BitVec 32 := Scalar.addi v249 c0_i32_385
  let v610 : Index := Scalar.indexCast v609
  let c0_387 : Index := 0#32
  let c0_388 : Index := 0#32
  ![0, v610.toNat, 0, 0]
def k0_cond4 (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) : BitVec 1 :=
  let arg1 : BitVec 32 := BitVec.ofNat 32 (i 1).val
  let c1_i32 : BitVec 32 := 1#32
  let v138 : BitVec 32 := Scalar.addi arg1 c1_i32
  let c0_i32_101 : BitVec 32 := 0#32
  let c128_i32_99 : BitVec 32 := 128#32
  let v137 : BitVec 32 := Scalar.muli arg1 c128_i32_99
  let v141 : BitVec 1 := Scalar.cmpi .sle v140 v137
  let c0_i32 : BitVec 32 := 0#32
  let v142 : BitVec 32 := Scalar.select v141 v140 c0_i32
  let v143 : BitVec 32 := Scalar.maxsi c0_i32_101 v142
  let v146 : BitVec 1 := Scalar.cmpi .sle v145 v137
  let c0_i32_103 : BitVec 32 := 0#32
  let v147 : BitVec 32 := Scalar.select v146 v145 c0_i32_103
  let v148 : BitVec 32 := Scalar.maxsi v143 v147
  let v151 : BitVec 1 := Scalar.cmpi .sle v150 v137
  let c0_i32_105 : BitVec 32 := 0#32
  let v152 : BitVec 32 := Scalar.select v151 v150 c0_i32_105
  let v153 : BitVec 32 := Scalar.maxsi v148 v152
  let v156 : BitVec 1 := Scalar.cmpi .sle v155 v137
  let c0_i32_106 : BitVec 32 := 0#32
  let v157 : BitVec 32 := Scalar.select v156 v155 c0_i32_106
  let v158 : BitVec 32 := Scalar.maxsi v153 v157
  let v161 : BitVec 1 := Scalar.cmpi .sle v160 v137
  let c0_i32_107 : BitVec 32 := 0#32
  let v162 : BitVec 32 := Scalar.select v161 v160 c0_i32_107
  let v163 : BitVec 32 := Scalar.maxsi v158 v162
  let v166 : BitVec 1 := Scalar.cmpi .sle v165 v137
  let c0_i32_108 : BitVec 32 := 0#32
  let v167 : BitVec 32 := Scalar.select v166 v165 c0_i32_108
  let v168 : BitVec 32 := Scalar.maxsi v163 v167
  let v171 : BitVec 1 := Scalar.cmpi .sle v170 v137
  let c0_i32_109 : BitVec 32 := 0#32
  let v172 : BitVec 32 := Scalar.select v171 v170 c0_i32_109
  let v173 : BitVec 32 := Scalar.maxsi v168 v172
  let v176 : BitVec 1 := Scalar.cmpi .sle v175 v137
  let c0_i32_110 : BitVec 32 := 0#32
  let v177 : BitVec 32 := Scalar.select v176 v175 c0_i32_110
  let v178 : BitVec 32 := Scalar.maxsi v173 v177
  let v181 : BitVec 1 := Scalar.cmpi .sle v180 v137
  let c0_i32_111 : BitVec 32 := 0#32
  let v182 : BitVec 32 := Scalar.select v181 v180 c0_i32_111
  let v183 : BitVec 32 := Scalar.maxsi v178 v182
  let v186 : BitVec 1 := Scalar.cmpi .sle v185 v137
  let c0_i32_112 : BitVec 32 := 0#32
  let v187 : BitVec 32 := Scalar.select v186 v185 c0_i32_112
  let v188 : BitVec 32 := Scalar.maxsi v183 v187
  let v191 : BitVec 1 := Scalar.cmpi .sle v190 v137
  let c0_i32_113 : BitVec 32 := 0#32
  let v192 : BitVec 32 := Scalar.select v191 v190 c0_i32_113
  let v193 : BitVec 32 := Scalar.maxsi v188 v192
  let v196 : BitVec 1 := Scalar.cmpi .sle v195 v137
  let c0_i32_114 : BitVec 32 := 0#32
  let v197 : BitVec 32 := Scalar.select v196 v195 c0_i32_114
  let v198 : BitVec 32 := Scalar.maxsi v193 v197
  let v201 : BitVec 1 := Scalar.cmpi .sle v200 v137
  let c0_i32_115 : BitVec 32 := 0#32
  let v202 : BitVec 32 := Scalar.select v201 v200 c0_i32_115
  let v203 : BitVec 32 := Scalar.maxsi v198 v202
  let v206 : BitVec 1 := Scalar.cmpi .sle v205 v137
  let c0_i32_116 : BitVec 32 := 0#32
  let v207 : BitVec 32 := Scalar.select v206 v205 c0_i32_116
  let v208 : BitVec 32 := Scalar.maxsi v203 v207
  let v211 : BitVec 1 := Scalar.cmpi .sle v210 v137
  let c0_i32_117 : BitVec 32 := 0#32
  let v212 : BitVec 32 := Scalar.select v211 v210 c0_i32_117
  let v213 : BitVec 32 := Scalar.maxsi v208 v212
  let v216 : BitVec 1 := Scalar.cmpi .sle v215 v137
  let c0_i32_118 : BitVec 32 := 0#32
  let v217 : BitVec 32 := Scalar.select v216 v215 c0_i32_118
  let v218 : BitVec 32 := Scalar.maxsi v213 v217
  let v221 : BitVec 1 := Scalar.cmpi .sle v220 v137
  let c0_i32_119 : BitVec 32 := 0#32
  let v222 : BitVec 32 := Scalar.select v221 v220 c0_i32_119
  let v223 : BitVec 32 := Scalar.maxsi v218 v222
  let v226 : BitVec 1 := Scalar.cmpi .sle v225 v137
  let c0_i32_120 : BitVec 32 := 0#32
  let v227 : BitVec 32 := Scalar.select v226 v225 c0_i32_120
  let v228 : BitVec 32 := Scalar.maxsi v223 v227
  let c7_i32 : BitVec 32 := 7#32
  let v229 : BitVec 32 := Scalar.shrui v228 c7_i32
  let v230 : BitVec 32 := Scalar.subi v138 v229
  let c4_i32 : BitVec 32 := 4#32
  let v240 : BitVec 1 := Scalar.cmpi .eq v230 c4_i32
  let v241 : BitVec 32 := Scalar.extui v240
  let c0_i32_125 : BitVec 32 := 0#32
  let v242 : BitVec 1 := Scalar.cmpi .ne v241 c0_i32_125
  v242

def k0_off112 (i : grid0.Coords) (c0_i32_698 : BitVec 32) : Fin 4 → Nat :=
  let c1_699 : Index := 1#32
  let arg1 : BitVec 32 := BitVec.ofNat 32 (i 1).val
  let c3_i32_129 : BitVec 32 := 3#32
  let v249 : BitVec 32 := Scalar.subi arg1 c3_i32_129
  let v1451 : BitVec 32 := Scalar.addi v249 c0_i32_698
  let v1452 : Index := Scalar.indexCast v1451
  let c0_700 : Index := 0#32
  let c0_701 : Index := 0#32
  ![1, v1452.toNat, 0, 0]
def k0_off113 (i : grid0.Coords) (c0_i32_1011 : BitVec 32) : Fin 4 → Nat :=
  let c2_1012 : Index := 2#32
  let arg1 : BitVec 32 := BitVec.ofNat 32 (i 1).val
  let c3_i32_129 : BitVec 32 := 3#32
  let v249 : BitVec 32 := Scalar.subi arg1 c3_i32_129
  let v2293 : BitVec 32 := Scalar.addi v249 c0_i32_1011
  let v2294 : Index := Scalar.indexCast v2293
  let c0_1013 : Index := 0#32
  let c0_1014 : Index := 0#32
  ![2, v2294.toNat, 0, 0]
def k0_off114 (i : grid0.Coords) (c0_i32_1324 : BitVec 32) : Fin 4 → Nat :=
  let c3_1325 : Index := 3#32
  let arg1 : BitVec 32 := BitVec.ofNat 32 (i 1).val
  let c3_i32_129 : BitVec 32 := 3#32
  let v249 : BitVec 32 := Scalar.subi arg1 c3_i32_129
  let v3135 : BitVec 32 := Scalar.addi v249 c0_i32_1324
  let v3136 : Index := Scalar.indexCast v3135
  let c0_1326 : Index := 0#32
  let c0_1327 : Index := 0#32
  ![3, v3136.toNat, 0, 0]
def k0_off115 (i : grid0.Coords) : Fin 2 → Nat :=
  let arg0 : BitVec 32 := BitVec.ofNat 32 (i 0).val
  let v255 : Index := Scalar.indexCast arg0
  let c1_132 : Index := 1#32
  ![v255.toNat, 1]
def k0_off116 (i : grid0.Coords) : Fin 2 → Nat :=
  let arg0 : BitVec 32 := BitVec.ofNat 32 (i 0).val
  let v263 : Index := Scalar.indexCast arg0
  let c2_134 : Index := 2#32
  ![v263.toNat, 2]
def k0_off117 (i : grid0.Coords) : Fin 2 → Nat :=
  let arg0 : BitVec 32 := BitVec.ofNat 32 (i 0).val
  let v271 : Index := Scalar.indexCast arg0
  let c3_136 : Index := 3#32
  ![v271.toNat, 3]
def k0_off118 (i : grid0.Coords) : Fin 2 → Nat :=
  let arg0 : BitVec 32 := BitVec.ofNat 32 (i 0).val
  let v279 : Index := Scalar.indexCast arg0
  let c4_138 : Index := 4#32
  ![v279.toNat, 4]
def k0_off119 (i : grid0.Coords) : Fin 2 → Nat :=
  let arg0 : BitVec 32 := BitVec.ofNat 32 (i 0).val
  let v287 : Index := Scalar.indexCast arg0
  let c5_140 : Index := 5#32
  ![v287.toNat, 5]
def k0_off120 (i : grid0.Coords) : Fin 2 → Nat :=
  let arg0 : BitVec 32 := BitVec.ofNat 32 (i 0).val
  let v295 : Index := Scalar.indexCast arg0
  let c6_142 : Index := 6#32
  ![v295.toNat, 6]
def k0_off121 (i : grid0.Coords) : Fin 2 → Nat :=
  let arg0 : BitVec 32 := BitVec.ofNat 32 (i 0).val
  let v303 : Index := Scalar.indexCast arg0
  let c7_144 : Index := 7#32
  ![v303.toNat, 7]
def k0_off122 (i : grid0.Coords) : Fin 2 → Nat :=
  let arg0 : BitVec 32 := BitVec.ofNat 32 (i 0).val
  let v311 : Index := Scalar.indexCast arg0
  let c8_146 : Index := 8#32
  ![v311.toNat, 8]
def k0_off123 (i : grid0.Coords) : Fin 2 → Nat :=
  let arg0 : BitVec 32 := BitVec.ofNat 32 (i 0).val
  let v319 : Index := Scalar.indexCast arg0
  let c9_148 : Index := 9#32
  ![v319.toNat, 9]
def k0_off124 (i : grid0.Coords) : Fin 2 → Nat :=
  let arg0 : BitVec 32 := BitVec.ofNat 32 (i 0).val
  let v327 : Index := Scalar.indexCast arg0
  let c10_150 : Index := 10#32
  ![v327.toNat, 10]
def k0_off125 (i : grid0.Coords) : Fin 2 → Nat :=
  let arg0 : BitVec 32 := BitVec.ofNat 32 (i 0).val
  let v335 : Index := Scalar.indexCast arg0
  let c11_152 : Index := 11#32
  ![v335.toNat, 11]
def k0_off126 (i : grid0.Coords) : Fin 2 → Nat :=
  let arg0 : BitVec 32 := BitVec.ofNat 32 (i 0).val
  let v343 : Index := Scalar.indexCast arg0
  let c12_154 : Index := 12#32
  ![v343.toNat, 12]
def k0_off127 (i : grid0.Coords) : Fin 2 → Nat :=
  let arg0 : BitVec 32 := BitVec.ofNat 32 (i 0).val
  let v351 : Index := Scalar.indexCast arg0
  let c13_156 : Index := 13#32
  ![v351.toNat, 13]
def k0_off128 (i : grid0.Coords) : Fin 2 → Nat :=
  let arg0 : BitVec 32 := BitVec.ofNat 32 (i 0).val
  let v359 : Index := Scalar.indexCast arg0
  let c14_158 : Index := 14#32
  ![v359.toNat, 14]
def k0_off129 (i : grid0.Coords) : Fin 2 → Nat :=
  let arg0 : BitVec 32 := BitVec.ofNat 32 (i 0).val
  let v367 : Index := Scalar.indexCast arg0
  let c15_160 : Index := 15#32
  ![v367.toNat, 15]
def k0_off130 (i : grid0.Coords) : Fin 2 → Nat :=
  let arg0 : BitVec 32 := BitVec.ofNat 32 (i 0).val
  let v375 : Index := Scalar.indexCast arg0
  let c16_162 : Index := 16#32
  ![v375.toNat, 16]
def k0_off131 (i : grid0.Coords) : Fin 2 → Nat :=
  let arg0 : BitVec 32 := BitVec.ofNat 32 (i 0).val
  let v383 : Index := Scalar.indexCast arg0
  let c17_164 : Index := 17#32
  ![v383.toNat, 17]
def k0_off132 (i : grid0.Coords) : Fin 2 → Nat :=
  let arg0 : BitVec 32 := BitVec.ofNat 32 (i 0).val
  let v391 : Index := Scalar.indexCast arg0
  let c18_166 : Index := 18#32
  ![v391.toNat, 18]
def k0_off133 (i : grid0.Coords) (c0_i32_392 : BitVec 32) : Fin 4 → Nat :=
  let c0_393 : Index := 0#32
  let arg1 : BitVec 32 := BitVec.ofNat 32 (i 1).val
  let c4_i32_129 : BitVec 32 := 4#32
  let v249 : BitVec 32 := Scalar.subi arg1 c4_i32_129
  let v625 : BitVec 32 := Scalar.addi v249 c0_i32_392
  let v626 : Index := Scalar.indexCast v625
  let c0_394 : Index := 0#32
  let c0_395 : Index := 0#32
  ![0, v626.toNat, 0, 0]
def k0_cond5 (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) : BitVec 1 :=
  let arg1 : BitVec 32 := BitVec.ofNat 32 (i 1).val
  let c1_i32 : BitVec 32 := 1#32
  let v138 : BitVec 32 := Scalar.addi arg1 c1_i32
  let c0_i32_101 : BitVec 32 := 0#32
  let c128_i32_99 : BitVec 32 := 128#32
  let v137 : BitVec 32 := Scalar.muli arg1 c128_i32_99
  let v141 : BitVec 1 := Scalar.cmpi .sle v140 v137
  let c0_i32 : BitVec 32 := 0#32
  let v142 : BitVec 32 := Scalar.select v141 v140 c0_i32
  let v143 : BitVec 32 := Scalar.maxsi c0_i32_101 v142
  let v146 : BitVec 1 := Scalar.cmpi .sle v145 v137
  let c0_i32_103 : BitVec 32 := 0#32
  let v147 : BitVec 32 := Scalar.select v146 v145 c0_i32_103
  let v148 : BitVec 32 := Scalar.maxsi v143 v147
  let v151 : BitVec 1 := Scalar.cmpi .sle v150 v137
  let c0_i32_105 : BitVec 32 := 0#32
  let v152 : BitVec 32 := Scalar.select v151 v150 c0_i32_105
  let v153 : BitVec 32 := Scalar.maxsi v148 v152
  let v156 : BitVec 1 := Scalar.cmpi .sle v155 v137
  let c0_i32_106 : BitVec 32 := 0#32
  let v157 : BitVec 32 := Scalar.select v156 v155 c0_i32_106
  let v158 : BitVec 32 := Scalar.maxsi v153 v157
  let v161 : BitVec 1 := Scalar.cmpi .sle v160 v137
  let c0_i32_107 : BitVec 32 := 0#32
  let v162 : BitVec 32 := Scalar.select v161 v160 c0_i32_107
  let v163 : BitVec 32 := Scalar.maxsi v158 v162
  let v166 : BitVec 1 := Scalar.cmpi .sle v165 v137
  let c0_i32_108 : BitVec 32 := 0#32
  let v167 : BitVec 32 := Scalar.select v166 v165 c0_i32_108
  let v168 : BitVec 32 := Scalar.maxsi v163 v167
  let v171 : BitVec 1 := Scalar.cmpi .sle v170 v137
  let c0_i32_109 : BitVec 32 := 0#32
  let v172 : BitVec 32 := Scalar.select v171 v170 c0_i32_109
  let v173 : BitVec 32 := Scalar.maxsi v168 v172
  let v176 : BitVec 1 := Scalar.cmpi .sle v175 v137
  let c0_i32_110 : BitVec 32 := 0#32
  let v177 : BitVec 32 := Scalar.select v176 v175 c0_i32_110
  let v178 : BitVec 32 := Scalar.maxsi v173 v177
  let v181 : BitVec 1 := Scalar.cmpi .sle v180 v137
  let c0_i32_111 : BitVec 32 := 0#32
  let v182 : BitVec 32 := Scalar.select v181 v180 c0_i32_111
  let v183 : BitVec 32 := Scalar.maxsi v178 v182
  let v186 : BitVec 1 := Scalar.cmpi .sle v185 v137
  let c0_i32_112 : BitVec 32 := 0#32
  let v187 : BitVec 32 := Scalar.select v186 v185 c0_i32_112
  let v188 : BitVec 32 := Scalar.maxsi v183 v187
  let v191 : BitVec 1 := Scalar.cmpi .sle v190 v137
  let c0_i32_113 : BitVec 32 := 0#32
  let v192 : BitVec 32 := Scalar.select v191 v190 c0_i32_113
  let v193 : BitVec 32 := Scalar.maxsi v188 v192
  let v196 : BitVec 1 := Scalar.cmpi .sle v195 v137
  let c0_i32_114 : BitVec 32 := 0#32
  let v197 : BitVec 32 := Scalar.select v196 v195 c0_i32_114
  let v198 : BitVec 32 := Scalar.maxsi v193 v197
  let v201 : BitVec 1 := Scalar.cmpi .sle v200 v137
  let c0_i32_115 : BitVec 32 := 0#32
  let v202 : BitVec 32 := Scalar.select v201 v200 c0_i32_115
  let v203 : BitVec 32 := Scalar.maxsi v198 v202
  let v206 : BitVec 1 := Scalar.cmpi .sle v205 v137
  let c0_i32_116 : BitVec 32 := 0#32
  let v207 : BitVec 32 := Scalar.select v206 v205 c0_i32_116
  let v208 : BitVec 32 := Scalar.maxsi v203 v207
  let v211 : BitVec 1 := Scalar.cmpi .sle v210 v137
  let c0_i32_117 : BitVec 32 := 0#32
  let v212 : BitVec 32 := Scalar.select v211 v210 c0_i32_117
  let v213 : BitVec 32 := Scalar.maxsi v208 v212
  let v216 : BitVec 1 := Scalar.cmpi .sle v215 v137
  let c0_i32_118 : BitVec 32 := 0#32
  let v217 : BitVec 32 := Scalar.select v216 v215 c0_i32_118
  let v218 : BitVec 32 := Scalar.maxsi v213 v217
  let v221 : BitVec 1 := Scalar.cmpi .sle v220 v137
  let c0_i32_119 : BitVec 32 := 0#32
  let v222 : BitVec 32 := Scalar.select v221 v220 c0_i32_119
  let v223 : BitVec 32 := Scalar.maxsi v218 v222
  let v226 : BitVec 1 := Scalar.cmpi .sle v225 v137
  let c0_i32_120 : BitVec 32 := 0#32
  let v227 : BitVec 32 := Scalar.select v226 v225 c0_i32_120
  let v228 : BitVec 32 := Scalar.maxsi v223 v227
  let c7_i32 : BitVec 32 := 7#32
  let v229 : BitVec 32 := Scalar.shrui v228 c7_i32
  let v230 : BitVec 32 := Scalar.subi v138 v229
  let c5_i32 : BitVec 32 := 5#32
  let v243 : BitVec 1 := Scalar.cmpi .eq v230 c5_i32
  let v244 : BitVec 32 := Scalar.extui v243
  let c0_i32_126 : BitVec 32 := 0#32
  let v245 : BitVec 1 := Scalar.cmpi .ne v244 c0_i32_126
  v245

def k0_off134 (i : grid0.Coords) (c0_i32_749 : BitVec 32) : Fin 4 → Nat :=
  let c1_750 : Index := 1#32
  let arg1 : BitVec 32 := BitVec.ofNat 32 (i 1).val
  let c4_i32_129 : BitVec 32 := 4#32
  let v249 : BitVec 32 := Scalar.subi arg1 c4_i32_129
  let v1607 : BitVec 32 := Scalar.addi v249 c0_i32_749
  let v1608 : Index := Scalar.indexCast v1607
  let c0_751 : Index := 0#32
  let c0_752 : Index := 0#32
  ![1, v1608.toNat, 0, 0]
def k0_off135 (i : grid0.Coords) (c0_i32_1106 : BitVec 32) : Fin 4 → Nat :=
  let c2_1107 : Index := 2#32
  let arg1 : BitVec 32 := BitVec.ofNat 32 (i 1).val
  let c4_i32_129 : BitVec 32 := 4#32
  let v249 : BitVec 32 := Scalar.subi arg1 c4_i32_129
  let v2589 : BitVec 32 := Scalar.addi v249 c0_i32_1106
  let v2590 : Index := Scalar.indexCast v2589
  let c0_1108 : Index := 0#32
  let c0_1109 : Index := 0#32
  ![2, v2590.toNat, 0, 0]
def k0_off136 (i : grid0.Coords) (c0_i32_1463 : BitVec 32) : Fin 4 → Nat :=
  let c3_1464 : Index := 3#32
  let arg1 : BitVec 32 := BitVec.ofNat 32 (i 1).val
  let c4_i32_129 : BitVec 32 := 4#32
  let v249 : BitVec 32 := Scalar.subi arg1 c4_i32_129
  let v3571 : BitVec 32 := Scalar.addi v249 c0_i32_1463
  let v3572 : Index := Scalar.indexCast v3571
  let c0_1465 : Index := 0#32
  let c0_1466 : Index := 0#32
  ![3, v3572.toNat, 0, 0]

def k0_chk1 (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) : Prop :=
  (∀ (k0_h2 : k0_cond2 i v140 v145 v150 v155 v160 v165 v170 v175 v180 v185 v190 v195 v200 v205 v210 v215 v220 v225 = 1#1), ∀ (r : Fin 2), ∀ a, (k0_off67 i (BitVec.ofNat 32 r.val)) a + S1x1x128x128.size a ≤ S4x8x128x128.size a) ∧
  (∀ (k0_h2 : k0_cond2 i v140 v145 v150 v155 v160 v165 v170 v175 v180 v185 v190 v195 v200 v205 v210 v215 v220 v225 = 1#1), ∀ (r : Fin 2), ∀ a, (k0_off68 i (BitVec.ofNat 32 r.val)) a + S1x1x128x128.size a ≤ S4x8x128x128.size a) ∧
  (∀ (k0_h2 : k0_cond2 i v140 v145 v150 v155 v160 v165 v170 v175 v180 v185 v190 v195 v200 v205 v210 v215 v220 v225 = 1#1), ∀ (r : Fin 2), ∀ a, (k0_off69 i (BitVec.ofNat 32 r.val)) a + S1x1x128x128.size a ≤ S4x8x128x128.size a) ∧
  (∀ (k0_h2 : k0_cond2 i v140 v145 v150 v155 v160 v165 v170 v175 v180 v185 v190 v195 v200 v205 v210 v215 v220 v225 = 1#1), ∀ (r : Fin 2), ∀ a, (k0_off70 i (BitVec.ofNat 32 r.val)) a + S1x1x128x128.size a ≤ S4x8x128x128.size a) ∧
  (∀ (k0_h3 : k0_cond3 i v140 v145 v150 v155 v160 v165 v170 v175 v180 v185 v190 v195 v200 v205 v210 v215 v220 v225 = 1#1), ∀ (r : Fin 3), ∀ a, (k0_off89 i (BitVec.ofNat 32 r.val)) a + S1x1x128x128.size a ≤ S4x8x128x128.size a) ∧
  (∀ (k0_h3 : k0_cond3 i v140 v145 v150 v155 v160 v165 v170 v175 v180 v185 v190 v195 v200 v205 v210 v215 v220 v225 = 1#1), ∀ (r : Fin 3), ∀ a, (k0_off90 i (BitVec.ofNat 32 r.val)) a + S1x1x128x128.size a ≤ S4x8x128x128.size a) ∧
  (∀ (k0_h3 : k0_cond3 i v140 v145 v150 v155 v160 v165 v170 v175 v180 v185 v190 v195 v200 v205 v210 v215 v220 v225 = 1#1), ∀ (r : Fin 3), ∀ a, (k0_off91 i (BitVec.ofNat 32 r.val)) a + S1x1x128x128.size a ≤ S4x8x128x128.size a) ∧
  (∀ (k0_h3 : k0_cond3 i v140 v145 v150 v155 v160 v165 v170 v175 v180 v185 v190 v195 v200 v205 v210 v215 v220 v225 = 1#1), ∀ (r : Fin 3), ∀ a, (k0_off92 i (BitVec.ofNat 32 r.val)) a + S1x1x128x128.size a ≤ S4x8x128x128.size a) ∧
  (∀ (k0_h4 : k0_cond4 i v140 v145 v150 v155 v160 v165 v170 v175 v180 v185 v190 v195 v200 v205 v210 v215 v220 v225 = 1#1), ∀ (r : Fin 4), ∀ a, (k0_off111 i (BitVec.ofNat 32 r.val)) a + S1x1x128x128.size a ≤ S4x8x128x128.size a) ∧
  (∀ (k0_h4 : k0_cond4 i v140 v145 v150 v155 v160 v165 v170 v175 v180 v185 v190 v195 v200 v205 v210 v215 v220 v225 = 1#1), ∀ (r : Fin 4), ∀ a, (k0_off112 i (BitVec.ofNat 32 r.val)) a + S1x1x128x128.size a ≤ S4x8x128x128.size a) ∧
  (∀ (k0_h4 : k0_cond4 i v140 v145 v150 v155 v160 v165 v170 v175 v180 v185 v190 v195 v200 v205 v210 v215 v220 v225 = 1#1), ∀ (r : Fin 4), ∀ a, (k0_off113 i (BitVec.ofNat 32 r.val)) a + S1x1x128x128.size a ≤ S4x8x128x128.size a) ∧
  (∀ (k0_h4 : k0_cond4 i v140 v145 v150 v155 v160 v165 v170 v175 v180 v185 v190 v195 v200 v205 v210 v215 v220 v225 = 1#1), ∀ (r : Fin 4), ∀ a, (k0_off114 i (BitVec.ofNat 32 r.val)) a + S1x1x128x128.size a ≤ S4x8x128x128.size a) ∧
  (∀ (k0_h5 : k0_cond5 i v140 v145 v150 v155 v160 v165 v170 v175 v180 v185 v190 v195 v200 v205 v210 v215 v220 v225 = 1#1), ∀ (r : Fin 5), ∀ a, (k0_off133 i (BitVec.ofNat 32 r.val)) a + S1x1x128x128.size a ≤ S4x8x128x128.size a) ∧
  (∀ (k0_h5 : k0_cond5 i v140 v145 v150 v155 v160 v165 v170 v175 v180 v185 v190 v195 v200 v205 v210 v215 v220 v225 = 1#1), ∀ (r : Fin 5), ∀ a, (k0_off134 i (BitVec.ofNat 32 r.val)) a + S1x1x128x128.size a ≤ S4x8x128x128.size a) ∧
  (∀ (k0_h5 : k0_cond5 i v140 v145 v150 v155 v160 v165 v170 v175 v180 v185 v190 v195 v200 v205 v210 v215 v220 v225 = 1#1), ∀ (r : Fin 5), ∀ a, (k0_off135 i (BitVec.ofNat 32 r.val)) a + S1x1x128x128.size a ≤ S4x8x128x128.size a) ∧
  (∀ (k0_h5 : k0_cond5 i v140 v145 v150 v155 v160 v165 v170 v175 v180 v185 v190 v195 v200 v205 v210 v215 v220 v225 = 1#1), ∀ (r : Fin 5), ∀ a, (k0_off136 i (BitVec.ofNat 32 r.val)) a + S1x1x128x128.size a ≤ S4x8x128x128.size a)
theorem k0_off67_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h2 : k0_cond2 i v140 v145 v150 v155 v160 v165 v170 v175 v180 v185 v190 v195 v200 v205 v210 v215 v220 v225 = 1#1), ∀ (r : Fin 2), ∀ a, (k0_off67 i (BitVec.ofNat 32 r.val)) a + S1x1x128x128.size a ≤ S4x8x128x128.size a := fun i v140 v145 v150 v155 v160 v165 v170 v175 v180 v185 v190 v195 v200 v205 v210 v215 v220 v225 k0_hw1 k0_h2 r => k0_hw1.1 k0_h2 r
theorem k0_off68_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h2 : k0_cond2 i v140 v145 v150 v155 v160 v165 v170 v175 v180 v185 v190 v195 v200 v205 v210 v215 v220 v225 = 1#1), ∀ (r : Fin 2), ∀ a, (k0_off68 i (BitVec.ofNat 32 r.val)) a + S1x1x128x128.size a ≤ S4x8x128x128.size a := fun i v140 v145 v150 v155 v160 v165 v170 v175 v180 v185 v190 v195 v200 v205 v210 v215 v220 v225 k0_hw1 k0_h2 r => k0_hw1.2.1 k0_h2 r
theorem k0_off69_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h2 : k0_cond2 i v140 v145 v150 v155 v160 v165 v170 v175 v180 v185 v190 v195 v200 v205 v210 v215 v220 v225 = 1#1), ∀ (r : Fin 2), ∀ a, (k0_off69 i (BitVec.ofNat 32 r.val)) a + S1x1x128x128.size a ≤ S4x8x128x128.size a := fun i v140 v145 v150 v155 v160 v165 v170 v175 v180 v185 v190 v195 v200 v205 v210 v215 v220 v225 k0_hw1 k0_h2 r => k0_hw1.2.2.1 k0_h2 r
theorem k0_off70_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h2 : k0_cond2 i v140 v145 v150 v155 v160 v165 v170 v175 v180 v185 v190 v195 v200 v205 v210 v215 v220 v225 = 1#1), ∀ (r : Fin 2), ∀ a, (k0_off70 i (BitVec.ofNat 32 r.val)) a + S1x1x128x128.size a ≤ S4x8x128x128.size a := fun i v140 v145 v150 v155 v160 v165 v170 v175 v180 v185 v190 v195 v200 v205 v210 v215 v220 v225 k0_hw1 k0_h2 r => k0_hw1.2.2.2.1 k0_h2 r
theorem k0_off89_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h3 : k0_cond3 i v140 v145 v150 v155 v160 v165 v170 v175 v180 v185 v190 v195 v200 v205 v210 v215 v220 v225 = 1#1), ∀ (r : Fin 3), ∀ a, (k0_off89 i (BitVec.ofNat 32 r.val)) a + S1x1x128x128.size a ≤ S4x8x128x128.size a := fun i v140 v145 v150 v155 v160 v165 v170 v175 v180 v185 v190 v195 v200 v205 v210 v215 v220 v225 k0_hw1 k0_h3 r => k0_hw1.2.2.2.2.1 k0_h3 r
theorem k0_off90_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h3 : k0_cond3 i v140 v145 v150 v155 v160 v165 v170 v175 v180 v185 v190 v195 v200 v205 v210 v215 v220 v225 = 1#1), ∀ (r : Fin 3), ∀ a, (k0_off90 i (BitVec.ofNat 32 r.val)) a + S1x1x128x128.size a ≤ S4x8x128x128.size a := fun i v140 v145 v150 v155 v160 v165 v170 v175 v180 v185 v190 v195 v200 v205 v210 v215 v220 v225 k0_hw1 k0_h3 r => k0_hw1.2.2.2.2.2.1 k0_h3 r
theorem k0_off91_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h3 : k0_cond3 i v140 v145 v150 v155 v160 v165 v170 v175 v180 v185 v190 v195 v200 v205 v210 v215 v220 v225 = 1#1), ∀ (r : Fin 3), ∀ a, (k0_off91 i (BitVec.ofNat 32 r.val)) a + S1x1x128x128.size a ≤ S4x8x128x128.size a := fun i v140 v145 v150 v155 v160 v165 v170 v175 v180 v185 v190 v195 v200 v205 v210 v215 v220 v225 k0_hw1 k0_h3 r => k0_hw1.2.2.2.2.2.2.1 k0_h3 r
theorem k0_off92_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h3 : k0_cond3 i v140 v145 v150 v155 v160 v165 v170 v175 v180 v185 v190 v195 v200 v205 v210 v215 v220 v225 = 1#1), ∀ (r : Fin 3), ∀ a, (k0_off92 i (BitVec.ofNat 32 r.val)) a + S1x1x128x128.size a ≤ S4x8x128x128.size a := fun i v140 v145 v150 v155 v160 v165 v170 v175 v180 v185 v190 v195 v200 v205 v210 v215 v220 v225 k0_hw1 k0_h3 r => k0_hw1.2.2.2.2.2.2.2.1 k0_h3 r
theorem k0_off111_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h4 : k0_cond4 i v140 v145 v150 v155 v160 v165 v170 v175 v180 v185 v190 v195 v200 v205 v210 v215 v220 v225 = 1#1), ∀ (r : Fin 4), ∀ a, (k0_off111 i (BitVec.ofNat 32 r.val)) a + S1x1x128x128.size a ≤ S4x8x128x128.size a := fun i v140 v145 v150 v155 v160 v165 v170 v175 v180 v185 v190 v195 v200 v205 v210 v215 v220 v225 k0_hw1 k0_h4 r => k0_hw1.2.2.2.2.2.2.2.2.1 k0_h4 r
theorem k0_off112_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h4 : k0_cond4 i v140 v145 v150 v155 v160 v165 v170 v175 v180 v185 v190 v195 v200 v205 v210 v215 v220 v225 = 1#1), ∀ (r : Fin 4), ∀ a, (k0_off112 i (BitVec.ofNat 32 r.val)) a + S1x1x128x128.size a ≤ S4x8x128x128.size a := fun i v140 v145 v150 v155 v160 v165 v170 v175 v180 v185 v190 v195 v200 v205 v210 v215 v220 v225 k0_hw1 k0_h4 r => k0_hw1.2.2.2.2.2.2.2.2.2.1 k0_h4 r
theorem k0_off113_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h4 : k0_cond4 i v140 v145 v150 v155 v160 v165 v170 v175 v180 v185 v190 v195 v200 v205 v210 v215 v220 v225 = 1#1), ∀ (r : Fin 4), ∀ a, (k0_off113 i (BitVec.ofNat 32 r.val)) a + S1x1x128x128.size a ≤ S4x8x128x128.size a := fun i v140 v145 v150 v155 v160 v165 v170 v175 v180 v185 v190 v195 v200 v205 v210 v215 v220 v225 k0_hw1 k0_h4 r => k0_hw1.2.2.2.2.2.2.2.2.2.2.1 k0_h4 r
theorem k0_off114_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h4 : k0_cond4 i v140 v145 v150 v155 v160 v165 v170 v175 v180 v185 v190 v195 v200 v205 v210 v215 v220 v225 = 1#1), ∀ (r : Fin 4), ∀ a, (k0_off114 i (BitVec.ofNat 32 r.val)) a + S1x1x128x128.size a ≤ S4x8x128x128.size a := fun i v140 v145 v150 v155 v160 v165 v170 v175 v180 v185 v190 v195 v200 v205 v210 v215 v220 v225 k0_hw1 k0_h4 r => k0_hw1.2.2.2.2.2.2.2.2.2.2.2.1 k0_h4 r
theorem k0_off133_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h5 : k0_cond5 i v140 v145 v150 v155 v160 v165 v170 v175 v180 v185 v190 v195 v200 v205 v210 v215 v220 v225 = 1#1), ∀ (r : Fin 5), ∀ a, (k0_off133 i (BitVec.ofNat 32 r.val)) a + S1x1x128x128.size a ≤ S4x8x128x128.size a := fun i v140 v145 v150 v155 v160 v165 v170 v175 v180 v185 v190 v195 v200 v205 v210 v215 v220 v225 k0_hw1 k0_h5 r => k0_hw1.2.2.2.2.2.2.2.2.2.2.2.2.1 k0_h5 r
theorem k0_off134_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h5 : k0_cond5 i v140 v145 v150 v155 v160 v165 v170 v175 v180 v185 v190 v195 v200 v205 v210 v215 v220 v225 = 1#1), ∀ (r : Fin 5), ∀ a, (k0_off134 i (BitVec.ofNat 32 r.val)) a + S1x1x128x128.size a ≤ S4x8x128x128.size a := fun i v140 v145 v150 v155 v160 v165 v170 v175 v180 v185 v190 v195 v200 v205 v210 v215 v220 v225 k0_hw1 k0_h5 r => k0_hw1.2.2.2.2.2.2.2.2.2.2.2.2.2.1 k0_h5 r
theorem k0_off135_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h5 : k0_cond5 i v140 v145 v150 v155 v160 v165 v170 v175 v180 v185 v190 v195 v200 v205 v210 v215 v220 v225 = 1#1), ∀ (r : Fin 5), ∀ a, (k0_off135 i (BitVec.ofNat 32 r.val)) a + S1x1x128x128.size a ≤ S4x8x128x128.size a := fun i v140 v145 v150 v155 v160 v165 v170 v175 v180 v185 v190 v195 v200 v205 v210 v215 v220 v225 k0_hw1 k0_h5 r => k0_hw1.2.2.2.2.2.2.2.2.2.2.2.2.2.2.1 k0_h5 r
theorem k0_off136_inb : ∀ (i : grid0.Coords) (v140 : BitVec 32) (v145 : BitVec 32) (v150 : BitVec 32) (v155 : BitVec 32) (v160 : BitVec 32) (v165 : BitVec 32) (v170 : BitVec 32) (v175 : BitVec 32) (v180 : BitVec 32) (v185 : BitVec 32) (v190 : BitVec 32) (v195 : BitVec 32) (v200 : BitVec 32) (v205 : BitVec 32) (v210 : BitVec 32) (v215 : BitVec 32) (v220 : BitVec 32) (v225 : BitVec 32) (k0_hw1 : k0_chk1 i v140 v145 v150 v155 v160 v165 v170 v175 v180 v185 v190 v195 v200 v205 v210 v215 v220 v225), ∀ (k0_h5 : k0_cond5 i v140 v145 v150 v155 v160 v165 v170 v175 v180 v185 v190 v195 v200 v205 v210 v215 v220 v225 = 1#1), ∀ (r : Fin 5), ∀ a, (k0_off136 i (BitVec.ofNat 32 r.val)) a + S1x1x128x128.size a ≤ S4x8x128x128.size a := fun i v140 v145 v150 v155 v160 v165 v170 v175 v180 v185 v190 v195 v200 v205 v210 v215 v220 v225 k0_hw1 k0_h5 r => k0_hw1.2.2.2.2.2.2.2.2.2.2.2.2.2.2.2 k0_h5 r

def k0_cond6 (i : grid0.Coords) : BitVec 1 :=
  let arg1 : BitVec 32 := BitVec.ofNat 32 (i 1).val
  let c7_i32_127 : BitVec 32 := 7#32
  let v246 : BitVec 1 := Scalar.cmpi .eq arg1 c7_i32_127
  let v247 : BitVec 32 := Scalar.extui v246
  let c0_i32_128 : BitVec 32 := 0#32
  let v248 : BitVec 1 := Scalar.cmpi .ne v247 c0_i32_128
  v248

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S2x19 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x24x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x4x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x4x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x24x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x24x128 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x24x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x24x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x4x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1024x4x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "log2e" => some (((Real.log 2)⁻¹ : ℝ) : EReal)
  | "scale" => some (((Real.sqrt 128)⁻¹ : ℝ) : EReal)
  | "scale_log2e" => some (((Real.sqrt 128)⁻¹ * (Real.log 2)⁻¹ : ℝ) : EReal)
  | _ => none
-- ==== ReferenceIdeal.lean ====
abbrev S2x1024x24x128 : Shape := ⟨4, ![2, 1024, 24, 128]⟩
abbrev S24 : Shape := ⟨1, ![24]⟩
abbrev S2x1024x4x128 : Shape := ⟨4, ![2, 1024, 4, 128]⟩
abbrev S4 : Shape := ⟨1, ![4]⟩
abbrev S2x24x1024 : Shape := ⟨3, ![2, 24, 1024]⟩
abbrev S2x19 : Shape := ⟨2, ![2, 19]⟩
abbrev S_ : Shape := ⟨0, ![]⟩
abbrev S2x1024x4x6x128 : Shape := ⟨5, ![2, 1024, 4, 6, 128]⟩
abbrev S4x6 : Shape := ⟨2, ![4, 6]⟩
abbrev S4x1 : Shape := ⟨2, ![4, 1]⟩
abbrev S4x6x1x1 : Shape := ⟨4, ![4, 6, 1, 1]⟩
abbrev S2x4x6x1024 : Shape := ⟨4, ![2, 4, 6, 1024]⟩
abbrev S1024 : Shape := ⟨1, ![1024]⟩
abbrev S2x18 : Shape := ⟨2, ![2, 18]⟩
abbrev S2x18x1 : Shape := ⟨3, ![2, 18, 1]⟩
abbrev S1x1x1024 : Shape := ⟨3, ![1, 1, 1024]⟩
abbrev S2x18x1024 : Shape := ⟨3, ![2, 18, 1024]⟩
abbrev S2x1024 : Shape := ⟨2, ![2, 1024]⟩
abbrev S2x1024x1 : Shape := ⟨3, ![2, 1024, 1]⟩
abbrev S2x1x1024 : Shape := ⟨3, ![2, 1, 1024]⟩
abbrev S2x1024x1024 : Shape := ⟨3, ![2, 1024, 1024]⟩
abbrev S1x1024x1 : Shape := ⟨3, ![1, 1024, 1]⟩
abbrev S1x1024x1024 : Shape := ⟨3, ![1, 1024, 1024]⟩
abbrev S2x1x1x1024x1024 : Shape := ⟨5, ![2, 1, 1, 1024, 1024]⟩
abbrev S4x6x1 : Shape := ⟨3, ![4, 6, 1]⟩
abbrev S1x1x4x6x1 : Shape := ⟨5, ![1, 1, 4, 6, 1]⟩
abbrev S2x4x1024x1024x6 : Shape := ⟨5, ![2, 4, 1024, 1024, 6]⟩
abbrev S2x4x6x1024x1024 : Shape := ⟨5, ![2, 4, 6, 1024, 1024]⟩
abbrev S1x4x6x1x1 : Shape := ⟨5, ![1, 4, 6, 1, 1]⟩
abbrev S2x4x6x1024x1 : Shape := ⟨5, ![2, 4, 6, 1024, 1]⟩
abbrev S2x4x128x6x1024 : Shape := ⟨5, ![2, 4, 128, 6, 1024]⟩
abbrev S1x1x4x1x1 : Shape := ⟨5, ![1, 1, 4, 1, 1]⟩
abbrev S2x4x128x1024 : Shape := ⟨4, ![2, 4, 128, 1024]⟩

abbrev nBuf : Space → Nat
  | .hbm => 116
  | .vmem => 8
  | .smem => 0
  | _ => 0

abbrev bufTy : (tb : Table) → Fin (tcTables nBuf tb) → BufTy
  | .hbm, ⟨0, _⟩ => ⟨S2x1024x24x128, .fp8e4m3⟩
  | .hbm, ⟨1, _⟩ => ⟨S24, .f32⟩
  | .hbm, ⟨2, _⟩ => ⟨S2x1024x4x128, .fp8e4m3⟩
  | .hbm, ⟨3, _⟩ => ⟨S4, .f32⟩
  | .hbm, ⟨4, _⟩ => ⟨S2x1024x4x128, .fp8e4m3⟩
  | .hbm, ⟨5, _⟩ => ⟨S4, .f32⟩
  | .hbm, ⟨6, _⟩ => ⟨S2x1024x24x128, .bf16⟩
  | .hbm, ⟨7, _⟩ => ⟨S2x1024x24x128, .fp8e5m2⟩
  | .hbm, ⟨8, _⟩ => ⟨S24, .f32⟩
  | .hbm, ⟨9, _⟩ => ⟨S2x24x1024, .f32⟩
  | .hbm, ⟨10, _⟩ => ⟨S2x19, .i32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x1024x24x128, .bf16⟩
  | .hbm, ⟨16, _⟩ => ⟨S2x1024x4x128, .bf16⟩
  | .hbm, ⟨17, _⟩ => ⟨S2x1024x4x128, .bf16⟩
  | .hbm, ⟨18, _⟩ => ⟨S2x1024x24x128, .bf16⟩
  | .hbm, ⟨19, _⟩ => ⟨S2x1024x4x6x128, .bf16⟩
  | .hbm, ⟨20, _⟩ => ⟨S2x1024x4x6x128, .bf16⟩
  | .hbm, ⟨21, _⟩ => ⟨S4x6, .f32⟩
  | .hbm, ⟨22, _⟩ => ⟨S4x6, .f32⟩
  | .hbm, ⟨23, _⟩ => ⟨S4x1, .f32⟩
  | .hbm, ⟨24, _⟩ => ⟨S4x6, .f32⟩
  | .hbm, ⟨25, _⟩ => ⟨S4x6, .f32⟩
  | .hbm, ⟨26, _⟩ => ⟨S4x6, .f32⟩
  | .hbm, ⟨27, _⟩ => ⟨S4x6, .f32⟩
  | .hbm, ⟨28, _⟩ => ⟨S4x6x1x1, .f32⟩
  | .hbm, ⟨29, _⟩ => ⟨S4x1, .f32⟩
  | .hbm, ⟨30, _⟩ => ⟨S4x6, .f32⟩
  | .hbm, ⟨31, _⟩ => ⟨S4x6, .f32⟩
  | .hbm, ⟨32, _⟩ => ⟨S4x6x1x1, .f32⟩
  | .hbm, ⟨33, _⟩ => ⟨S2x4x6x1024, .f32⟩
  | .hbm, ⟨34, _⟩ => ⟨S1024, .i32⟩
  | .hbm, ⟨35, _⟩ => ⟨S2x18, .i32⟩
  | .hbm, ⟨36, _⟩ => ⟨S2x18x1, .i32⟩
  | .hbm, ⟨37, _⟩ => ⟨S1x1x1024, .i32⟩
  | .hbm, ⟨38, _⟩ => ⟨S2x18x1024, .i32⟩
  | .hbm, ⟨39, _⟩ => ⟨S2x18x1024, .i32⟩
  | .hbm, ⟨40, _⟩ => ⟨S2x18x1024, .i1⟩
  | .hbm, ⟨41, _⟩ => ⟨S2x18x1024, .i32⟩
  | .hbm, ⟨42, _⟩ => ⟨S_, .i32⟩
  | .hbm, ⟨43, _⟩ => ⟨S2x1024, .i32⟩
  | .hbm, ⟨44, _⟩ => ⟨S2x1024x1, .i32⟩
  | .hbm, ⟨45, _⟩ => ⟨S2x1x1024, .i32⟩
  | .hbm, ⟨46, _⟩ => ⟨S2x1024x1024, .i32⟩
  | .hbm, ⟨47, _⟩ => ⟨S2x1024x1024, .i32⟩
  | .hbm, ⟨48, _⟩ => ⟨S2x1024x1024, .i1⟩
  | .hbm, ⟨49, _⟩ => ⟨S1x1x1024, .i32⟩
  | .hbm, ⟨50, _⟩ => ⟨S1x1024x1, .i32⟩
  | .hbm, ⟨51, _⟩ => ⟨S1x1024x1024, .i32⟩
  | .hbm, ⟨52, _⟩ => ⟨S1x1024x1024, .i32⟩
  | .hbm, ⟨53, _⟩ => ⟨S1x1024x1024, .i1⟩
  | .hbm, ⟨54, _⟩ => ⟨S2x1024x1024, .i1⟩
  | .hbm, ⟨55, _⟩ => ⟨S2x1024x1024, .i1⟩
  | .hbm, ⟨56, _⟩ => ⟨S2x1x1x1024x1024, .i1⟩
  | .hbm, ⟨57, _⟩ => ⟨S2x1024x4x6x128, .f32⟩
  | .hbm, ⟨58, _⟩ => ⟨S4x6x1, .f32⟩
  | .hbm, ⟨59, _⟩ => ⟨S1x1x4x6x1, .f32⟩
  | .hbm, ⟨60, _⟩ => ⟨S2x1024x4x6x128, .f32⟩
  | .hbm, ⟨61, _⟩ => ⟨S2x1024x4x6x128, .f32⟩
  | .hbm, ⟨62, _⟩ => ⟨S2x1024x4x6x128, .bf16⟩
  | .hbm, ⟨63, _⟩ => ⟨S2x1024x4x6x128, .f32⟩
  | .hbm, ⟨64, _⟩ => ⟨S2x4x6x1024, .f32⟩
  | .hbm, ⟨65, _⟩ => ⟨S2x4x1024x1024x6, .f32⟩
  | .hbm, ⟨66, _⟩ => ⟨S2x4x6x1024x1024, .f32⟩
  | .hbm, ⟨67, _⟩ => ⟨S1x4x6x1x1, .f32⟩
  | .hbm, ⟨68, _⟩ => ⟨S2x4x6x1024x1024, .f32⟩
  | .hbm, ⟨69, _⟩ => ⟨S2x4x6x1024x1024, .f32⟩
  | .hbm, ⟨70, _⟩ => ⟨S2x4x6x1024x1, .f32⟩
  | .hbm, ⟨71, _⟩ => ⟨S2x4x6x1024x1024, .f32⟩
  | .hbm, ⟨72, _⟩ => ⟨S2x4x6x1024x1024, .f32⟩
  | .hbm, ⟨73, _⟩ => ⟨S2x4x6x1024x1024, .f32⟩
  | .hbm, ⟨74, _⟩ => ⟨S_, .f32⟩
  | .hbm, ⟨75, _⟩ => ⟨S_, .f32⟩
  | .hbm, ⟨76, _⟩ => ⟨S2x4x6x1024x1024, .i1⟩
  | .hbm, ⟨77, _⟩ => ⟨S2x4x6x1024x1024, .f32⟩
  | .hbm, ⟨78, _⟩ => ⟨S2x4x6x1024x1024, .f32⟩
  | .hbm, ⟨79, _⟩ => ⟨S2x4x1024x1024x6, .f32⟩
  | .hbm, ⟨80, _⟩ => ⟨S2x4x6x1024x1024, .f32⟩
  | .hbm, ⟨81, _⟩ => ⟨S1x4x6x1x1, .f32⟩
  | .hbm, ⟨82, _⟩ => ⟨S2x4x6x1024x1024, .f32⟩
  | .hbm, ⟨83, _⟩ => ⟨S2x4x6x1024x1024, .f32⟩
  | .hbm, ⟨84, _⟩ => ⟨S2x4x6x1024x1, .f32⟩
  | .hbm, ⟨85, _⟩ => ⟨S2x4x6x1024x1024, .f32⟩
  | .hbm, ⟨86, _⟩ => ⟨S2x4x6x1024x1024, .f32⟩
  | .hbm, ⟨87, _⟩ => ⟨S2x4x6x1024x1024, .f32⟩
  | .hbm, ⟨88, _⟩ => ⟨S2x4x6x1024x1024, .bf16⟩
  | .hbm, ⟨89, _⟩ => ⟨S2x4x128x6x1024, .f32⟩
  | .hbm, ⟨90, _⟩ => ⟨S2x1024x4x6x128, .f32⟩
  | .hbm, ⟨91, _⟩ => ⟨S4, .f32⟩
  | .hbm, ⟨92, _⟩ => ⟨S4, .f32⟩
  | .hbm, ⟨93, _⟩ => ⟨S1x1x4x1x1, .f32⟩
  | .hbm, ⟨94, _⟩ => ⟨S2x1024x4x6x128, .f32⟩
  | .hbm, ⟨95, _⟩ => ⟨S2x1024x4x6x128, .f32⟩
  | .hbm, ⟨96, _⟩ => ⟨S4x6x1x1, .f32⟩
  | .hbm, ⟨97, _⟩ => ⟨S1x4x6x1x1, .f32⟩
  | .hbm, ⟨98, _⟩ => ⟨S2x4x6x1024x1024, .f32⟩
  | .hbm, ⟨99, _⟩ => ⟨S2x4x6x1024x1024, .f32⟩
  | .hbm, ⟨100, _⟩ => ⟨S2x4x6x1024x1024, .bf16⟩
  | .hbm, ⟨101, _⟩ => ⟨S2x4x128x1024, .f32⟩
  | .hbm, ⟨102, _⟩ => ⟨S2x1024x4x128, .f32⟩
  | .hbm, ⟨103, _⟩ => ⟨S4x6x1x1, .f32⟩
  | .hbm, ⟨104, _⟩ => ⟨S1x4x6x1x1, .f32⟩
  | .hbm, ⟨105, _⟩ => ⟨S2x4x6x1024x1024, .f32⟩
  | .hbm, ⟨106, _⟩ => ⟨S2x4x6x1024x1024, .f32⟩
  | .hbm, ⟨107, _⟩ => ⟨S2x4x6x1024x1024, .bf16⟩
  | .hbm, ⟨108, _⟩ => ⟨S2x4x128x1024, .f32⟩
  | .hbm, ⟨109, _⟩ => ⟨S2x1024x4x128, .f32⟩
  | .hbm, ⟨110, _⟩ => ⟨S2x1024x4x128, .f32⟩
  | .hbm, ⟨111, _⟩ => ⟨S2x1024x4x128, .f32⟩
  | .hbm, ⟨112, _⟩ => ⟨S2x1024x4x6x128, .bf16⟩
  | .hbm, ⟨113, _⟩ => ⟨S2x1024x24x128, .bf16⟩
  | .hbm, ⟨114, _⟩ => ⟨S2x1024x4x128, .bf16⟩
  | .hbm, ⟨115, _⟩ => ⟨S2x1024x4x128, .bf16⟩
  | .local _ .vmem, ⟨0, _⟩ => ⟨S2x1024x24x128, .fp8e4m3⟩
  | .local _ .vmem, ⟨1, _⟩ => ⟨S2x1024x4x128, .fp8e4m3⟩
  | .local _ .vmem, ⟨2, _⟩ => ⟨S2x1024x4x128, .fp8e4m3⟩
  | .local _ .vmem, ⟨3, _⟩ => ⟨S2x1024x24x128, .fp8e5m2⟩
  | .local _ .vmem, ⟨4, _⟩ => ⟨S2x1024x24x128, .bf16⟩
  | .local _ .vmem, ⟨5, _⟩ => ⟨S2x1024x4x128, .bf16⟩
  | .local _ .vmem, ⟨6, _⟩ => ⟨S2x1024x4x128, .bf16⟩
  | .local _ .vmem, ⟨7, _⟩ => ⟨S2x1024x24x128, .bf16⟩
  | _, _ => ⟨S2x1024x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_1 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x1024x24x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x4x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x4x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x24x128 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x24x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x4x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x4x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x24x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Preserves.lean ====
/-
  The three named constants: each printed f32 literal that the idealized kernel reads as the real number it stands for.
-/
module

public import proofs.«01_k».proof.Defs
public import proofs.«01_k».proof.Proof.Gen.Kernel
public import proofs.«01_k».proof.Proof.Gen.KernelIdeal

@[expose] public section

noncomputable section

namespace Cert.Proof

open Idealize.ShloMosaic

/-- The idealized kernel differs from the printed one in its named constants alone: 1/log 2, 1/√128 · 1/log 2, 1/√128. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "scale_log2e" .f32 0x3E0293EE#32
     (((Real.sqrt 128)⁻¹ * (Real.log 2)⁻¹ : ℝ) : EReal) rfl,
   IdealRules.named_const.statement Cert.KernelIdeal.κ "scale" .f32 0x3DB504F3#32 (((Real.sqrt 128)⁻¹ : ℝ) : EReal) rfl⟩

end Cert.Proof

end
-- ==== Proof.Named.lean ====
/-
  Programs over a fixed family of named buffers. A kernel body that only loads from and stores to a
  finite family of distinct memrefs is a tree of such steps (`NProg`); `toProg` reads the tree as a
  program of the machine, `run` computes what it does to the buffers' contents, and `wp_toProg` says
  that the machine program, holding the buffers at some contents, ends with them at what `run` says.
-/
module

public import Idealize.ShloMosaic.Lib.Memref
public import Idealize.ShloMosaic.Rules.Step
public import Idealize.ShloMosaic.Lib.Tactic

@[expose] public section

noncomputable section

namespace Cert.Named

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- A family of named memrefs of one TensorCore: per name its memory space, shape, element type and memref. -/
structure Fam (sig : RefSig) (N : Type) where
  cs : N → CoreSpace
  sh : N → Shape
  el : N → EltTy
  mem : (b : N) → Memref sig .tc (cs b) (sh b) (el b)

variable {sig : RefSig} {N : Type} (M : Fam sig N) (Val : EltTy → Type)

/-- The contents of every named memref. -/
abbrev Fam.St : Type := (b : N) → (M.sh b).Idx → Val (M.el b)

/-- A tree of loads from and unmasked stores to named memrefs, of checks that hold and of branches, with a value at
    each leaf. -/
inductive NProg (α : Type) : Type where
  | ret (a : α) : NProg α
  | load (b : N) (r : LoadRect (M.sh b)) (hl : (M.mem b).view.LoadsAt r)
      (k : (r.shape.Idx → Val (M.el b)) → NProg α) : NProg α
  | store (b : N) (r : Rect (M.sh b)) (w : r.shape.Idx → Val (M.el b))
      (hx : ((M.mem b).access r).Stores Finset.univ) (k : NProg α) : NProg α
  | chk (p : Prop) (d : Decidable p) (h : p) (k : NProg α) : NProg α
  | br (p : Prop) (d : Decidable p) (a : p → NProg α) (k : NProg α) : NProg α

namespace NProg

variable {M Val} {α β : Type}

/-- Sequencing. -/
def bind : NProg M Val α → (α → NProg M Val β) → NProg M Val β
  | .ret a, f => f a
  | .load b r hl k, f => .load b r hl fun x => (k x).bind f
  | .store b r w hx k, f => .store b r w hx (k.bind f)
  | .chk p d h k, f => .chk p d h (k.bind f)
  | .br p d a k, f => .br p d (fun h => (a h).bind f) (k.bind f)

instance : Monad (NProg M Val) where
  pure := .ret
  bind := .bind

/-- The tree as a machine program. -/
def toProg {nD : Nat} {τ : Topo} {Λ : Labels} : NProg M Val α → Prog (TpuEff nD τ sig Val Λ .tc) α
  | .ret a => .ret a
  | .load b r hl k => .op (.load (M.mem b) r hl) fun x => (k x).toProg
  | .store b r w hx k => .op (.store (M.mem b) r w Finset.univ hx (.inl rfl)) fun _ => k.toProg
  | .chk p d _ k => .op (.assume p d) fun _ => k.toProg
  | .br p d a k => @dite _ p d (fun h => (a h).toProg) (fun _ => k.toProg)

/-- What the tree does to the contents, and its value. -/
def run [DecidableEq N] : NProg M Val α → M.St Val → α × M.St Val
  | .ret a, σ => (a, σ)
  | .load b r _ k, σ => (k fun x => σ b (r.idx x)).run σ
  | .store b r w _ k, σ => k.run (Function.update σ b (r.overlay (σ b) w))
  | .chk _ _ _ k, σ => k.run σ
  | .br p d a k, σ => @dite _ p d (fun h => (a h).run σ) (fun _ => k.run σ)

/-- A branch taken or passed over, then the rest. -/
def brThen (p : Prop) (d : Decidable p) (a : p → NProg M Val PUnit) (k : NProg M Val α) : NProg M Val α :=
  .br p d (fun h => (a h).bind fun _ => k) k

/-- Running a return. -/
@[simp] theorem run_ret [DecidableEq N] (a : α) (σ : M.St Val) : (ret a : NProg M Val α).run σ = (a, σ) := rfl
/-- Running a pure value. -/
@[simp] theorem run_pure [DecidableEq N] (a : α) (σ : M.St Val) : (pure a : NProg M Val α).run σ = (a, σ) := rfl

/-- Running a sequence runs its parts in order. -/
theorem run_bind [DecidableEq N] (p : NProg M Val α) (f : α → NProg M Val β) (σ : M.St Val) :
    (p.bind f).run σ = (f (p.run σ).1).run (p.run σ).2 := by
  induction p generalizing σ with
  | ret a => rfl
  | load b r hl k ih => exact ih _ _
  | store b r w hx k ih => exact ih _
  | chk p d h k ih => exact ih _
  | br p d a k iha ihk =>
    by_cases h : p
    · simp only [bind, run, dif_pos h]; exact iha h σ
    · simp only [bind, run, dif_neg h]; exact ihk σ

/-- Sequencing is associative. -/
theorem bind_assoc' {γ : Type} (p : NProg M Val α) (f : α → NProg M Val β) (g : β → NProg M Val γ) :
    (p.bind f).bind g = p.bind fun z => (f z).bind g := by
  induction p with
  | ret a => rfl
  | load b r hl k ih => exact congrArg (NProg.load b r hl) (funext fun z => ih z)
  | store b r w hx k ih => exact congrArg (NProg.store b r w hx) ih
  | chk p d h k ih => exact congrArg (NProg.chk p d h) ih
  | br p d a k iha ihk => exact congr (congrArg (NProg.br p d) (funext fun h => iha h)) ihk

/-- What follows a branch's rest follows the branch. -/
theorem brThen_bind (p : Prop) (d : Decidable p) (a : p → NProg M Val PUnit) (k : NProg M Val α) (g : α → NProg M Val β) :
    (brThen p d a k).bind g = brThen p d a (k.bind g) :=
  congr (congrArg (NProg.br p d) (funext fun h => bind_assoc' (a h) _ _)) rfl

/-- Reading a sequence as a program reads its parts. -/
theorem toProg_bind {nD : Nat} {τ : Topo} {Λ : Labels} (p : NProg M Val α) (f : α → NProg M Val β) :
    ((p.bind f).toProg : Prog (TpuEff nD τ sig Val Λ .tc) β) = Prog.bind p.toProg fun a => (f a).toProg := by
  induction p with
  | ret a => rfl
  | load b r hl k ih => exact congrArg (Prog.op _) (funext fun x => ih x)
  | store b r w hx k ih => exact congrArg (Prog.op _) (funext fun _ => ih)
  | chk p d h k ih => exact congrArg (Prog.op _) (funext fun _ => ih)
  | br p d a k iha ihk =>
    by_cases h : p
    · simp only [bind, toProg, dif_pos h]; exact iha h
    · simp only [bind, toProg, dif_neg h]; exact ihk

/-- A branch, then the rest: the state after is the rest's from the branch's. -/
theorem run_brThen [DecidableEq N] (p : Prop) (d : Decidable p) (a : p → NProg M Val PUnit) (k : NProg M Val α)
    (σ : M.St Val) :
    (brThen p d a k).run σ = k.run (@dite _ p d (fun h => ((a h).run σ).2) fun _ => σ) := by
  by_cases h : p
  · simp only [brThen, run, dif_pos h, run_bind]
  · simp only [brThen, run, dif_neg h]

/-- Running a sequence runs its parts in order. -/
@[simp] theorem run_bind' [DecidableEq N] (p : NProg M Val α) (f : α → NProg M Val β) (σ : M.St Val) :
    (p >>= f).run σ = (f (p.run σ).1).run (p.run σ).2 := run_bind p f σ

/-- A memref read after an unmasked store through a rectangle of it: the old contents with the rectangle's replaced. -/
theorem read_access_write {sp : Space} {s : Shape} {e : EltTy} (m : Memref sig .tc sp s e) (r : Rect s)
    (f : m.view.ty.Contents Val) (w : r.shape.Idx → Val e) :
    m.view.read Val ((m.access r).write Val f w Finset.univ) = r.overlay (m.view.read Val f) w := by
  funext x
  by_cases hx : x ∈ r.set
  · rw [← Rect.map_emb_univ, Finset.mem_map] at hx
    obtain ⟨j, -, rfl⟩ := hx
    rw [Rect.overlay_emb]
    exact congrFun (View.read_write_univ (v := m.access r) f w) j
  · rw [Rect.overlay_of_not_mem _ _ _ hx]
    show cast _ (View.write _ _ _ _ _ _) = cast _ _
    congr 1
    refine View.write_of_not_mem (v := m.access r) f w Finset.univ ?_
    rw [View.setOn_univ, View.set_slice]
    intro h
    rw [Finset.mem_map] at h
    obtain ⟨y, hy, he⟩ := h
    exact hx (m.view.emb.injective he ▸ hy)

section Wp

variable {nD : Nat} {τ : Topo} {Λ : Labels} {Ix : Type} [DecidableEq Ix] {Name : Type} [DecidableEq Name]
  {U : Type} [URA U] {Lvl : Type} [Preorder Lvl] [DecidableEq N] [Fintype N]

local notation "𝕄" => MT nD τ sig Ix Val Name U Lvl

/-- Core `c` holds every named memref at the contents `σ`. -/
def held (c : Dev nD) (σ : M.St Val) : sProp 𝕄 :=
  bigSep Finset.univ fun b => owns (c : Thread nD τ) (M.mem b) fullShare (σ b)

/-- The named memrefs other than `b`, held at `σ`. -/
def rest (c : Dev nD) (b : N) (σ : M.St Val) : sProp 𝕄 :=
  bigSep (Finset.univ.erase b) fun b => owns (c : Thread nD τ) (M.mem b) fullShare (σ b)

/-- Holding them all is holding one and the rest. -/
theorem held_split (c : Dev nD) (b : N) (σ : M.St Val) :
    (held c σ : sProp 𝕄) = iprop((∃ f, ⌜(M.mem b).view.read Val f = σ b⌝
      ∗ ((M.mem b).view.loc (c : Thread nD τ) ↦[(M.mem b).view.set]{fullShare} f)) ∗ rest c b σ) :=
  bigSep_univ_split b

/-- The rest does not see a change of `b`. -/
theorem rest_update (c : Dev nD) (b : N) (σ : M.St Val) (X : (M.sh b).Idx → Val (M.el b)) :
    (rest c b (Function.update σ b X) : sProp 𝕄) = rest c b σ :=
  bigSep_congr fun b' hb' => by rw [Function.update_of_ne (Finset.ne_of_mem_erase hb')]

variable (defs : Defs nD τ sig Val Λ) (𝒱 : Variants) (c : Dev nD) (bd : Option 𝒱.V) (E : Set Name)

/-- The machine program of a tree, with the memrefs held at `σ`, runs to the tree's value with the memrefs held at
    the contents `run` computes. -/
theorem wp_toProg (p : NProg M Val α) (σ : M.St Val) (Q : α → sProp 𝕄) :
    iprop(held (Ix := Ix) (Name := Name) (U := U) (Lvl := Lvl) (τ := τ) c σ ∗ (held c (p.run σ).2 -∗ Q (p.run σ).1))
      ⊢ wp frame (wpE defs 𝒱 (c : Thread nD τ) bd) E (p.toProg : Prog (TpuEff nD τ sig Val Λ .tc) α) Q := by
  induction p generalizing σ with
  | ret a =>
    show iprop(held (Ix := Ix) (Name := Name) (U := U) (Lvl := Lvl) (τ := τ) c σ ∗ (held c σ -∗ Q a))
      ⊢ wp frame (wpE defs 𝒱 (c : Thread nD τ) bd) E (Prog.ret a) Q
    rw [wp_ret]
    iintro ⟨H, Hk⟩
    imodintro
    iapply Hk; iexact H
  | load b r hl k ih =>
    show iprop(held (Ix := Ix) (Name := Name) (U := U) (Lvl := Lvl) (τ := τ) c σ
        ∗ (held c ((k fun x => σ b (r.idx x)).run σ).2 -∗ Q ((k fun x => σ b (r.idx x)).run σ).1))
      ⊢ wp frame (wpE defs 𝒱 (c : Thread nD τ) bd) E (.op (.load (M.mem b) r hl) fun x => (k x).toProg) Q
    rw [held_split c b σ]
    iintro ⟨⟨⟨%f, %hf, Hb⟩, Hr⟩, Hk⟩
    iapply (wp_load 𝒱 (c : Thread nD τ) bd E (S := (M.mem b).view.set) ((M.mem b).view.setOn_subset_set _)) $$ Hb
    iintro Hb
    have e : (M.mem b).view.readAt Val r f = fun x => σ b (r.idx x) := by rw [← hf]; rfl
    rw [e]
    iapply (ih (fun x => σ b (r.idx x)) σ)
    isplitl [Hb Hr]
    · rw [held_split c b σ]
      isplitl [Hb]
      · iexists f; isplitr; · ipureintro; exact hf
        iexact Hb
      · iexact Hr
    · iexact Hk
  | store b r w hx k ih =>
    show iprop(held (Ix := Ix) (Name := Name) (U := U) (Lvl := Lvl) (τ := τ) c σ
        ∗ (held c (k.run (Function.update σ b (r.overlay (σ b) w))).2 -∗ Q (k.run (Function.update σ b (r.overlay (σ b) w))).1))
      ⊢ wp frame (wpE defs 𝒱 (c : Thread nD τ) bd) E (.op (.store (M.mem b) r w Finset.univ hx (.inl rfl)) fun _ => k.toProg) Q
    rw [held_split c b σ]
    iintro ⟨⟨⟨%f, %hf, Hb⟩, Hr⟩, Hk⟩
    have hS : ((M.mem b).access r).setOn Finset.univ ⊆ (M.mem b).view.set := by
      rw [View.setOn_univ, View.set_slice]; exact Finset.map_subset_map.mpr (Finset.subset_univ _)
    have hstep := wp_store (τ := τ) (nD := nD) (defs := defs) 𝒱 (c : Thread nD τ) bd E (Ix := Ix) (U := U) (Lvl := Lvl) (m := M.mem b) (r := r) (w := w)
      (Mk := Finset.univ) (hx := hx) (hm := .inl rfl) (k := fun _ => k.toProg) (Q := Q) (f := f) (Γ := []) hS
    iapply hstep $$ Hb
    iintro Hb
    iapply (ih (Function.update σ b (r.overlay (σ b) w)))
    isplitl [Hb Hr]
    · rw [held_split c b, rest_update]
      isplitl [Hb]
      · iexists _; isplitr
        swap
        · iexact Hb
        · ipureintro
          rw [Function.update_self, ← hf]
          exact read_access_write (M.mem b) r f w
      · iexact Hr
    · iexact Hk
  | chk p d h k ih =>
    show _ ⊢ wp frame (wpE defs 𝒱 (c : Thread nD τ) bd) E (.op (.assume p d) fun _ => k.toProg) Q
    rw [wp_assume_of 𝒱 (c : Thread nD τ) bd E h]
    exact ih σ
  | br p d a k iha ihk =>
    by_cases h : p
    · simp only [run, toProg, dif_pos h]; exact iha h σ
    · simp only [run, toProg, dif_neg h]; exact ihk σ

end Wp

end NProg

end Cert.Named

end
-- ==== Proof.Struct.lean ====
/-
  The attention-backward body as a structured program over its named buffers: the same loads, stores
  and values as the printed body, with its unrolled copies folded back into loops over heads, key
  tiles and spans.
-/
module

public import proofs.«01_k».proof.Proof.Named
public import Idealize.ShloMosaic.Lib.Pipeline

@[expose] public section

noncomputable section

namespace Cert.Str

open Idealize.ShloMosaic Idealize.ShloMosaic.TcCoe
open Cert.Named

/-! ### Shapes -/

/-- A 128 × 128 tile. -/
abbrev T : Shape := ⟨2, ![128, 128]⟩
/-- A row of 128. -/
abbrev L : Shape := ⟨2, ![1, 128]⟩
/-- Two tiles side by side. -/
abbrev T2 : Shape := ⟨2, ![128, 256]⟩
/-- `m + 1` tiles stacked. -/
abbrev R (m : Nat) : Shape := ⟨2, ![128 * (m + 1), 128]⟩
/-- `m + 1` tiles stacked, two such stacks side by side. -/
abbrev R2 (m : Nat) : Shape := ⟨2, ![128 * (m + 1), 256]⟩
/-- `m + 1` tiles side by side. -/
abbrev C (m : Nat) : Shape := ⟨2, ![128, 128 * (m + 1)]⟩
abbrev V128 : Shape := ⟨1, ![128]⟩
abbrev SCu : Shape := ⟨2, ![2, 19]⟩
abbrev S24 : Shape := ⟨1, ![24]⟩
abbrev S4 : Shape := ⟨1, ![4]⟩
abbrev S1 : Shape := ⟨1, ![1]⟩
abbrev S11 : Shape := ⟨2, ![1, 1]⟩
abbrev SQ : Shape := ⟨4, ![1, 128, 24, 128]⟩
abbrev SK : Shape := ⟨4, ![1, 1024, 4, 128]⟩
abbrev SLse : Shape := ⟨3, ![1, 24, 128]⟩
abbrev STiles : Shape := ⟨4, ![4, 8, 128, 128]⟩
abbrev SBias : Shape := ⟨3, ![5, 128, 128]⟩
abbrev Th : Shape := ⟨4, ![1, 128, 1, 128]⟩
abbrev Th2 : Shape := ⟨4, ![1, 128, 2, 128]⟩
abbrev Tt : Shape := ⟨4, ![1, 1, 128, 128]⟩
abbrev Tb : Shape := ⟨3, ![1, 128, 128]⟩
abbrev L3 : Shape := ⟨3, ![1, 1, 128]⟩

/-! ### The named buffers -/

/-- The buffers of the body: its windows, then its scratch. -/
inductive Nm where
  | cu | qs | ks | vs | dos | q | k | v | o | dO | lse | dq | dk | dv | kn | kt | vn | dkt | dvt | bias
deriving DecidableEq

instance : Fintype Nm where
  elems := {.cu, .qs, .ks, .vs, .dos, .q, .k, .v, .o, .dO, .lse, .dq, .dk, .dv, .kn, .kt, .vn, .dkt, .dvt, .bias}
  complete := by intro x; cases x <;> decide

/-- A buffer's memory space. -/
@[reducible] def Nm.cs : Nm → CoreSpace
  | .cu | .qs | .ks | .vs | .dos => .smem
  | _ => .vmem

/-- A buffer's shape. -/
@[reducible] def Nm.sh : Nm → Shape
  | .cu => SCu
  | .qs | .dos => S24
  | .ks | .vs => S4
  | .q | .o | .dO | .dq => SQ
  | .k | .v | .dk | .dv => SK
  | .lse => SLse
  | .kn | .kt | .vn | .dkt | .dvt => STiles
  | .bias => SBias

/-- A buffer's element type. -/
@[reducible] def Nm.el : Nm → EltTy
  | .cu => .i32
  | .qs | .ks | .vs | .dos | .lse | .dkt | .dvt | .bias => .f32
  | .q | .k | .v | .kn => .fp8e4m3
  | .dO => .fp8e5m2
  | .o | .dq | .dk | .dv | .kt | .vn => .bf16

/-- The memrefs the body is given, as a family. -/
@[reducible] def fam {sig : RefSig} (mem : (b : Nm) → Memref sig .tc b.cs b.sh b.el) : Fam sig Nm :=
  ⟨Nm.cs, Nm.sh, Nm.el, mem⟩

/-! ### Finite loops -/

/-- A value in front of a tuple. -/
def vcons {α : Type} {n : Nat} (a : α) (r : Fin n → α) : Fin (n + 1) → α
  | ⟨0, _⟩ => a
  | ⟨j + 1, h⟩ => r ⟨j, Nat.lt_of_succ_lt_succ h⟩

/-- The entries of a tuple in order. -/
def lst {α : Type} : (n : Nat) → (Fin n → α) → List α
  | 0, _ => []
  | n + 1, f => f 0 :: lst n fun j => f j.succ

/-- A left fold over a tuple. -/
def foldF {α β : Type} (g : β → α → β) : (n : Nat) → β → (Fin n → α) → β
  | 0, b, _ => b
  | n + 1, b, f => foldF g n (g b (f 0)) fun j => f j.succ

section Loop
variable {sig : RefSig} {N : Type} {M : Fam sig N} {Val : EltTy → Type} {α : Type}

/-- A body run once per index, in order, its values collected. -/
def loop : (n : Nat) → (Fin n → NProg M Val α) → NProg M Val (Fin n → α)
  | 0, _ => .ret fun j => j.elim0
  | n + 1, f => do
    let a ← f 0
    let r ← loop n fun j => f j.succ
    .ret (vcons a r)

/-- A body run once per index, in order, for what it does. -/
def each : (n : Nat) → (Fin n → NProg M Val PUnit) → NProg M Val PUnit
  | 0, _ => .ret ⟨⟩
  | n + 1, f => do
    f 0
    each n fun j => f j.succ

end Loop

/-- A mapped list. -/
theorem lst_map {α β : Type} (g : α → β) : ∀ (n : Nat) (f : Fin n → α), (lst n f).map g = lst n fun j => g (f j)
  | 0, _ => rfl
  | n + 1, f => by rw [lst, List.map_cons, lst_map g n]; rfl

/-! ### Shape facts -/

/-- The shapes or widths fit the operation. -/
theorem castTh : Th.ShapeCasts T := by decide
/-- The shapes or widths fit the operation. -/
theorem castThR : T.ShapeCasts Th := by decide
/-- The shapes or widths fit the operation. -/
theorem castTt : Tt.ShapeCasts T := by decide
/-- The shapes or widths fit the operation. -/
theorem castTtR : T.ShapeCasts Tt := by decide
/-- The shapes or widths fit the operation. -/
theorem castTb : Tb.ShapeCasts T := by decide
/-- The shapes or widths fit the operation. -/
theorem castTbR : T.ShapeCasts Tb := by decide
/-- The shapes or widths fit the operation. -/
theorem castL3 : L3.ShapeCasts L := by decide
/-- The shapes or widths fit the operation. -/
theorem castV : V128.ShapeCasts L := by decide
/-- The shapes or widths fit the operation. -/
theorem transT : T.Transposes [1, 0] T := by decide
/-- The shapes or widths fit the operation. -/
theorem bcL : L.Broadcasts T := by decide
/-- The shapes or widths fit the operation. -/
theorem redT : T.Reduces [0] V128 := by decide
/-- The shapes or widths fit the operation. -/
theorem iotaL : L.Iotas .tc 32 [1] := by decide
/-- The shapes or widths fit the operation. -/
theorem iotaT : T.Iotas .tc 32 [0] := by decide
/-- The shapes or widths fit the operation. -/
theorem cat2 : Shape.Concatenates [T, T] T2 1 := by decide
/-- The shapes or widths fit the operation. -/
theorem slT2 (t : Fin 2) : T2.Slices ![0, 128 * t.val] T := by revert t; decide
/-- The shapes or widths fit the operation. -/
theorem slTh2 (t : Fin 2) : Th2.Slices ![0, 0, t.val, 0] Th := by revert t; decide
/-- The shapes or widths fit the operation. -/
theorem lt8 : FTy.bits .fp8e4m3 < FTy.bits .bf16 := by decide
/-- The shapes or widths fit the operation. -/
theorem lt8' : FTy.bits .fp8e5m2 < FTy.bits .bf16 := by decide
/-- The shapes or widths fit the operation. -/
theorem lt16 : FTy.bits .bf16 < FTy.bits .f32 := by decide
/-- The shape has elements. -/
theorem posTh : 0 < Th.numel := by decide
/-- The shape has elements. -/
theorem posTh2 : 0 < Th2.numel := by decide
/-- The shape has elements. -/
theorem posTt : 0 < Tt.numel := by decide
/-- The shape has elements. -/
theorem posTb : 0 < Tb.numel := by decide
/-- The shape has elements. -/
theorem posL3 : 0 < L3.numel := by decide
/-- A one-word shape has one element. -/
theorem one1 : S1.numel = 1 := by decide
/-- A one-word tile has one element. -/
theorem one11 : S11.numel = 1 := by decide

/-- What the shapes of a span of `m + 1` key tiles satisfy. -/
structure SpanOk (m : Nat) : Prop where
  cat0 : m ≠ 0 → Shape.Concatenates (lst (m + 1) fun _ => T) (R m) 0
  cat1 : m ≠ 0 → Shape.Concatenates (lst (m + 1) fun _ => T) (C m) 1
  catP : Shape.Concatenates [R m, R m] (R2 m) 1
  sl : ∀ (j : Fin (m + 1)) (t : Fin 2), (R2 m).Slices ![128 * j.val, 128 * t.val] T
  slC : ∀ j : Fin (m + 1), (C m).Slices ![0, 128 * j.val] T
  dotS : DotDims.WF (R m) T2 (R2 m) [1] [0] [0] [1] [] []
  dotK : DotDims.WF T2 (R2 m) (C m) [1] [1] [0] [0] [] []
  dotQ : DotDims.WF (C m) (R2 m) T2 [1] [0] [0] [1] [] []

/-- The spans' tile counts fit. -/
theorem spanOk : ∀ m : Fin 5, SpanOk m.val := by
  intro m
  match m with
  | 0 => constructor <;> decide
  | 1 => constructor <;> decide
  | 2 => constructor <;> decide
  | 3 => constructor <;> decide
  | 4 => constructor <;> decide

/-- Scores: keys × queries. -/
def dS {m : Nat} (H : SpanOk m) : DotDims (R m) T2 (R2 m) := ⟨[1], [0], [0], [1], [], [], H.dotS⟩
/-- Key gradients: features × keys. -/
def dK {m : Nat} (H : SpanOk m) : DotDims T2 (R2 m) (C m) := ⟨[1], [1], [0], [0], [], [], H.dotK⟩
/-- Query gradients: features × queries. -/
def dQ {m : Nat} (H : SpanOk m) : DotDims (C m) (R2 m) T2 := ⟨[1], [0], [0], [1], [], [], H.dotQ⟩

/-! ### Rectangles -/

/-- The rectangle lies in its buffer. -/
theorem inbHead (h : Fin 24) : ∀ a, (![0, 0, h.val, 0] : Fin 4 → Nat) a + Th.size a ≤ SQ.size a := by
  revert h; decide
/-- The rectangle lies in its buffer. -/
theorem inbPair (p : Fin 12) : ∀ a, (![0, 0, 2 * p.val, 0] : Fin 4 → Nat) a + Th2.size a ≤ SQ.size a := by
  revert p; decide
/-- The rectangle lies in its buffer. -/
theorem inbLse (h : Fin 24) : ∀ a, (![0, h.val, 0] : Fin 3 → Nat) a + L3.size a ≤ SLse.size a := by
  revert h; decide
/-- The rectangle lies in its buffer. -/
theorem inb24 (h : Fin 24) : ∀ a, (![h.val] : Fin 1 → Nat) a + S1.size a ≤ S24.size a := by revert h; decide
/-- The rectangle lies in its buffer. -/
theorem inb4 (g : Fin 4) : ∀ a, (![g.val] : Fin 1 → Nat) a + S1.size a ≤ S4.size a := by revert g; decide
/-- The rectangle lies in its buffer. -/
theorem inbBias (j : Fin 5) : ∀ a, (![j.val, 0, 0] : Fin 3 → Nat) a + Tb.size a ≤ SBias.size a := by
  revert j; decide

/-- One head's rows of a query block. -/
@[reducible] def rHead (h : Fin 24) : Rect SQ := Rect.unit ![0, 0, h.val, 0] Th.size (inbHead h)
/-- Two heads' rows of a query block. -/
@[reducible] def rPair (p : Fin 12) : Rect SQ := Rect.unit ![0, 0, 2 * p.val, 0] Th2.size (inbPair p)
/-- A log sum's row. -/
@[reducible] def rLse (h : Fin 24) : Rect SLse := Rect.unit ![0, h.val, 0] L3.size (inbLse h)
/-- One word of twenty-four. -/
@[reducible] def r24 (h : Fin 24) : Rect S24 := Rect.unit ![h.val] S1.size (inb24 h)
/-- One word of four. -/
@[reducible] def r4 (g : Fin 4) : Rect S4 := Rect.unit ![g.val] S1.size (inb4 g)
/-- A mask tile. -/
@[reducible] def rBias (j : Fin 5) : Rect SBias := Rect.unit ![j.val, 0, 0] Tb.size (inbBias j)

/-- A small index as a word. -/
theorem toNat_lt {n : Nat} (hn : n ≤ 8) (x : Fin n) : (Scalar.indexCast (BitVec.ofNat 32 x.val)).toNat = x.val := by
  have := x.isLt
  show (BitVec.ofNat 32 x.val).toNat = x.val
  rw [BitVec.toNat_ofNat]; omega

/-- The rectangle lies in its buffer. -/
theorem inbCu (x : Fin 2) (c : Fin 18) :
    ∀ a, (![(Scalar.indexCast (BitVec.ofNat 32 x.val)).toNat, c.val + 1] : Fin 2 → Nat) a + S11.size a ≤ SCu.size a := by
  rw [toNat_lt (by omega) x]; revert x c; decide

/-- The word of `cu_seqlens` at batch `x`, document boundary `c + 1`. -/
@[reducible] def rCu (x : Fin 2) (c : Fin 18) : Rect SCu :=
  Rect.unit ![(Scalar.indexCast (BitVec.ofNat 32 x.val)).toNat, c.val + 1] S11.size (inbCu x c)

/-- The rectangle lies in its buffer. -/
theorem inbTile (g : Fin 4) (w : BitVec 32) (hw : w.toNat < 8) :
    ∀ a, (![g.val, (Scalar.indexCast w).toNat, 0, 0] : Fin 4 → Nat) a + Tt.size a ≤ STiles.size a := by
  have : (Scalar.indexCast w).toNat = w.toNat := rfl
  rw [this]
  generalize w.toNat = n at hw
  obtain ⟨g, hg⟩ := g
  intro a
  fin_cases a <;> simp <;> omega

/-- The tile of key group `g` at block `w`. -/
@[reducible] def rTile (g : Fin 4) (w : BitVec 32) (hw : w.toNat < 8) : Rect STiles :=
  Rect.unit ![g.val, (Scalar.indexCast w).toNat, 0, 0] Tt.size (inbTile g w hw)

/-- The rectangle lies in its buffer. -/
theorem inbKey (y : Fin 8) (g : Fin 4) :
    ∀ a, (![0, (Scalar.indexCast (Scalar.muli (BitVec.ofNat 32 y.val) 128#32)).toNat, g.val, 0] : Fin 4 → Nat) a + Th.size a
      ≤ SK.size a := by revert y g; decide +kernel

/-- Key group `g`'s rows of key block `y`. -/
@[reducible] def rKey (y : Fin 8) (g : Fin 4) : Rect SK :=
  Rect.unit ![0, (Scalar.indexCast (Scalar.muli (BitVec.ofNat 32 y.val) 128#32)).toNat, g.val, 0] Th.size (inbKey y g)

/-- The rectangle lies in its buffer. -/
theorem inbOut (j : Fin 8) (g : Fin 4) :
    ∀ a, (![0, 128 * j.val, g.val, 0] : Fin 4 → Nat) a + Th.size a ≤ SK.size a := by revert j g; decide +kernel
/-- The rectangle lies in its buffer. -/
theorem inbOut2 (j : Fin 8) (g : Fin 2) :
    ∀ a, (![0, 128 * j.val, 2 * g.val, 0] : Fin 4 → Nat) a + Th2.size a ≤ SK.size a := by revert j g; decide +kernel
/-- A result's tile. -/
@[reducible] def rOut (j : Fin 8) (g : Fin 4) : Rect SK := Rect.unit ![0, 128 * j.val, g.val, 0] Th.size (inbOut j g)
/-- Two key groups' rows of key block `j`. -/
@[reducible] def rOut2 (j : Fin 8) (g : Fin 2) : Rect SK :=
  Rect.unit ![0, 128 * j.val, 2 * g.val, 0] Th2.size (inbOut2 j g)

/-- The rectangle lies in its buffer. -/
theorem inbAcc (g : Fin 4) (j : Fin 8) :
    ∀ a, (![g.val, j.val, 0, 0] : Fin 4 → Nat) a + Tt.size a ≤ STiles.size a := by revert j g; decide +kernel
/-- An accumulator's tile. -/
@[reducible] def rAcc (g : Fin 4) (j : Fin 8) : Rect STiles := Rect.unit ![g.val, j.val, 0, 0] Tt.size (inbAcc g j)

/-- The rectangle covers whole packed rows. -/
theorem packTile (g : Fin 4) (w : BitVec 32) (hw : w.toNat < 8) (p : Nat) : (rTile g w hw).PackedRows p :=
  .inr ⟨by decide, rfl, .inr ⟨rfl, rfl, rfl, rfl, rfl⟩⟩
/-- The rectangle covers whole packed rows. -/
theorem packPair (p : Fin 12) : (rPair p).PackedRows (EltTy.packing .bf16) := by revert p; decide +kernel
/-- The rectangle covers whole packed rows. -/
theorem packOut2 (j : Fin 8) (g : Fin 2) : (rOut2 j g).PackedRows (EltTy.packing .bf16) := by
  revert j g; decide +kernel

/-! ### Values -/

/-- The constants of the body that stand for reals that are not powers of two. -/
structure Cst (F : FTy → Type) where
  log2e : F .f32
  scale : F .f32
  scaleLog2e : F .f32

section Pure
variable {F : FTy → Type} [FloatOps F]

/-- Tiles stacked. -/
def catRows {φ : FTy} : (m : Nat) → SpanOk m → (Fin (m + 1) → FVec F T φ) → FVec F (R m) φ
  | 0, _, xs => xs 0
  | m + 1, H, xs => concatenate (R (m + 1)) 0 (lst (m + 2) fun j => ⟨T, xs j⟩) (by rw [lst_map]; exact H.cat0 (Nat.succ_ne_zero m))

/-- Tiles side by side. -/
def catCols {φ : FTy} : (m : Nat) → SpanOk m → (Fin (m + 1) → FVec F T φ) → FVec F (C m) φ
  | 0, _, xs => xs 0
  | m + 1, H, xs => concatenate (C (m + 1)) 1 (lst (m + 2) fun j => ⟨T, xs j⟩) (by rw [lst_map]; exact H.cat1 (Nat.succ_ne_zero m))

/-- Two tiles side by side. -/
def pairT {φ : FTy} (a b : FVec F T φ) : FVec F T2 φ := concatenate T2 1 [⟨T, a⟩, ⟨T, b⟩] cat2

/-- Two stacks side by side. -/
def pairR {φ : FTy} {m : Nat} (H : SpanOk m) (a b : FVec F (R m) φ) : FVec F (R2 m) φ :=
  concatenate (R2 m) 1 [⟨R m, a⟩, ⟨R m, b⟩] H.catP

/-- A column tile of a row of tiles; a single tile is itself. -/
def colTile {φ : FTy} : (m : Nat) → SpanOk m → Fin (m + 1) → FVec F (C m) φ → FVec F T φ
  | 0, _, _, x => x
  | m + 1, H, j, x => extractStridedSlice T ![0, 128 * j.val] x (H.slC j)

/-- The positions of query block `y`. -/
def qPos (y : Fin 8) : IVec L 32 :=
  addi (broadcast L (Scalar.muli (BitVec.ofNat 32 y.val) 128#32)) (iota .tc L 32 [1] iotaL)

/-- The start of each query's document: the greatest boundary not after it. -/
def docStart (y : Fin 8) (cu : Fin 18 → BitVec 32) : IVec L 32 :=
  foldF (fun (acc : IVec L 32) (w : BitVec 32) =>
      maxsi acc (select (cmpi .sle (broadcast L w) (qPos y)) (broadcast L w) (broadcast L 0#32))) 18
    (broadcast L 0#32) cu

/-- The first key tile of a span of `m + 1` ending at block `y`. -/
def j0 (m : Nat) (y : Fin 8) : BitVec 32 := Scalar.subi (BitVec.ofNat 32 y.val) (BitVec.ofNat 32 m)

/-- Key tile `j` of the span. -/
def jw (m : Nat) (y : Fin 8) (j : Fin (m + 1)) : BitVec 32 := Scalar.addi (j0 m y) (BitVec.ofNat 32 j.val)

/-- The mask of key tile `j` against the query block, as an additive bias. -/
def biasTile (m : Nat) (y : Fin 8) (cu : Fin 18 → BitVec 32) (j : Fin (m + 1)) : FVec F T .f32 :=
  let kPos : IVec T 32 := addi (broadcast T (Scalar.muli (jw m y j) 128#32)) (iota .tc T 32 [0] iotaT)
  select (andi (cmpi .sge kPos (broadcastTo T (docStart y cu) bcL)) (cmpi .sle kPos (broadcastTo T (qPos y) bcL)))
    (broadcast T (Scalar.ofBits .f32 0x00000000#32)) (broadcast T (Scalar.ofBits .f32 0xFF800000#32))

/-- A scale with zero read as one. -/
def nz (x : F .f32) : F .f32 :=
  Scalar.select (Scalar.cmpf .oeq x (Scalar.ofBits .f32 0x00000000#32)) (Scalar.ofBits .f32 0x3F800000#32) x

end Pure

/-! ### The program -/

section Prog
variable {F : FTy → Type} [FloatOps F] {sig : RefSig} (mem : (b : Nm) → Memref sig .tc b.cs b.sh b.el)

/-- The programs of the body. -/
abbrev P (α : Type) : Type := NProg (fam mem) (Elt F) α

variable {mem}

/-- Load a rectangle. -/
def rd (b : Nm) (r : Rect b.sh) (hl : (mem b).view.LoadsAt r.toLoadRect) :
    P (F := F) mem (r.shape.Idx → Elt F b.el) := .load b r.toLoadRect hl .ret

/-- Load the one word of a rectangle in scalar memory. -/
def rd1 (b : Nm) (r : Rect b.sh) (hl : (mem b).view.LoadsAt r.toLoadRect) (h1 : r.shape.numel = 1) :
    P (F := F) mem (Elt F b.el) :=
  .load b r.toLoadRect hl fun f => .ret (f (Shape.Idx.first (h1.symm ▸ Nat.one_pos)))

/-- Store a rectangle. -/
def wr (b : Nm) (r : Rect b.sh) (w : r.shape.Idx → Elt F b.el) (hx : ((mem b).access r).Stores Finset.univ) :
    P (F := F) mem PUnit := .store b r w hx (.ret ⟨⟩)

/-- Reads a document boundary. -/
def rdCu (x : Fin 2) (c : Fin 18) : P (F := F) mem (BitVec 32) :=
  rd1 .cu (rCu x c) (View.loadsAt_rect (View.loads_smem_one rfl one11)) one11
/-- Reads a query scale. -/
def rdQs (h : Fin 24) : P (F := F) mem (F .f32) := rd1 .qs (r24 h) (View.loadsAt_rect (View.loads_smem_one rfl one1)) one1
/-- Reads an output gradient scale. -/
def rdDos (h : Fin 24) : P (F := F) mem (F .f32) := rd1 .dos (r24 h) (View.loadsAt_rect (View.loads_smem_one rfl one1)) one1
/-- Reads a key scale. -/
def rdKs (g : Fin 4) : P (F := F) mem (F .f32) := rd1 .ks (r4 g) (View.loadsAt_rect (View.loads_smem_one rfl one1)) one1
/-- Reads a value scale. -/
def rdVs (g : Fin 4) : P (F := F) mem (F .f32) := rd1 .vs (r4 g) (View.loadsAt_rect (View.loads_smem_one rfl one1)) one1

/-- A head's tile of the query codes, transposed. -/
def rdQ (h : Fin 24) : P (F := F) mem (FVec F T .fp8e4m3) := do
  let x ← rd .q (rHead h) (View.loadsAt_vmem posTh)
  .ret (transpose T [1, 0] (shapeCast T (s := Th) x castTh) transT)
/-- A head's tile of the output-gradient codes, transposed. -/
def rdDo (h : Fin 24) : P (F := F) mem (FVec F T .fp8e5m2) := do
  let x ← rd .dO (rHead h) (View.loadsAt_vmem posTh)
  .ret (transpose T [1, 0] (shapeCast T (s := Th) x castTh) transT)
/-- A head's tile of the output, transposed. -/
def rdO (h : Fin 24) : P (F := F) mem (FVec F T .f32) := do
  let x ← rd .o (rHead h) (View.loadsAt_vmem posTh)
  .ret (extf .f32 (transpose T [1, 0] (shapeCast T (s := Th) x castTh) transT) lt16)
/-- A head's row of the log-sum-exp. -/
def rdLse (h : Fin 24) : P (F := F) mem (FVec F L .f32) := do
  let x ← rd .lse (rLse h) (View.loadsAt_vmem posL3)
  .ret (shapeCast L (s := L3) x castL3)

/-- Reads a staged key tile. -/
def rdKn (g : Fin 4) (w : BitVec 32) (hw : w.toNat < 8) : P (F := F) mem (FVec F T .fp8e4m3) := do
  let x ← rd .kn (rTile g w hw) (View.loadsAt_vmem posTt)
  .ret (shapeCast T (s := Tt) x castTt)
/-- Reads a staged transposed key tile. -/
def rdKt (g : Fin 4) (w : BitVec 32) (hw : w.toNat < 8) : P (F := F) mem (FVec F T .bf16) := do
  let x ← rd .kt (rTile g w hw) (View.loadsAt_vmem posTt)
  .ret (shapeCast T (s := Tt) x castTt)
/-- Reads a staged value tile. -/
def rdVn (g : Fin 4) (w : BitVec 32) (hw : w.toNat < 8) : P (F := F) mem (FVec F T .bf16) := do
  let x ← rd .vn (rTile g w hw) (View.loadsAt_vmem posTt)
  .ret (shapeCast T (s := Tt) x castTt)
/-- Reads a key gradient accumulator. -/
def rdDkt (g : Fin 4) (w : BitVec 32) (hw : w.toNat < 8) : P (F := F) mem (FVec F T .f32) := do
  let x ← rd .dkt (rTile g w hw) (View.loadsAt_vmem posTt)
  .ret (shapeCast T (s := Tt) x castTt)
/-- Reads a value gradient accumulator. -/
def rdDvt (g : Fin 4) (w : BitVec 32) (hw : w.toNat < 8) : P (F := F) mem (FVec F T .f32) := do
  let x ← rd .dvt (rTile g w hw) (View.loadsAt_vmem posTt)
  .ret (shapeCast T (s := Tt) x castTt)
/-- Reads a mask tile. -/
def rdBias (j : Fin 5) : P (F := F) mem (FVec F T .f32) := do
  let x ← rd .bias (rBias j) (View.loadsAt_vmem posTb)
  .ret (shapeCast T (s := Tb) x castTb)

/-- Every memref is a whole buffer. -/
abbrev Whole (mem : (b : Nm) → Memref sig .tc b.cs b.sh b.el) : Prop := ∀ b, (mem b).IsWhole

variable (W : Whole mem)

/-- Writes a staged key tile. -/
def wrKn (g : Fin 4) (w : BitVec 32) (hw : w.toNat < 8) (x : FVec F T .fp8e4m3) : P (F := F) mem PUnit := do
  let _ ← rdKn g w hw
  wr .kn (rTile g w hw) (shapeCast Tt x castTtR)
    (View.stores_vmem posTt ((W .kn).storeExact_slice rfl _ (packTile g w hw _)) fun _ => rfl)
/-- Writes a staged transposed key tile. -/
def wrKt (g : Fin 4) (w : BitVec 32) (hw : w.toNat < 8) (x : FVec F T .bf16) : P (F := F) mem PUnit := do
  let _ ← rdKt g w hw
  wr .kt (rTile g w hw) (shapeCast Tt x castTtR)
    (View.stores_vmem posTt ((W .kt).storeExact_slice rfl _ (packTile g w hw _)) fun _ => rfl)
/-- Writes a staged value tile. -/
def wrVn (g : Fin 4) (w : BitVec 32) (hw : w.toNat < 8) (x : FVec F T .bf16) : P (F := F) mem PUnit := do
  let _ ← rdVn g w hw
  wr .vn (rTile g w hw) (shapeCast Tt x castTtR)
    (View.stores_vmem posTt ((W .vn).storeExact_slice rfl _ (packTile g w hw _)) fun _ => rfl)
/-- Writes a key gradient accumulator. -/
def wrDkt (g : Fin 4) (w : BitVec 32) (hw : w.toNat < 8) (x : FVec F T .f32) : P (F := F) mem PUnit := do
  let _ ← rdDkt g w hw
  wr .dkt (rTile g w hw) (shapeCast Tt x castTtR) (View.stores_vmem_bits_univ posTt rfl)
/-- Writes a value gradient accumulator. -/
def wrDvt (g : Fin 4) (w : BitVec 32) (hw : w.toNat < 8) (x : FVec F T .f32) : P (F := F) mem PUnit := do
  let _ ← rdDvt g w hw
  wr .dvt (rTile g w hw) (shapeCast Tt x castTtR) (View.stores_vmem_bits_univ posTt rfl)
/-- Writes a mask tile. -/
def wrBias (j : Fin 5) (x : FVec F T .f32) : P (F := F) mem PUnit := do
  let _ ← rdBias j
  wr .bias (rBias j) (shapeCast Tb x castTbR) (View.stores_vmem_bits_univ posTb rfl)

/-- Store one head's query-gradient tile: the pair of heads it shares words with is read and written back. -/
def wrDq (p : Fin 12) (t : Fin 2) (x : FVec F T .bf16) : P (F := F) mem PUnit := do
  let _ ← rd .dq (rHead ⟨2 * p.val + t.val, by omega⟩) (View.loadsAt_vmem posTh)
  let old ← rd .dq (rPair p) (View.loadsAt_vmem posTh2)
  wr .dq (rPair p) (updateSlice (s := Th2) (u := Th) old (shapeCast Th x castThR) ![0, 0, t.val, 0] (slTh2 t))
    (View.stores_vmem posTh2 ((W .dq).storeExact_slice rfl _ (packPair p)) fun _ => rfl)

/-- Store one key group's gradient tile of key block `j`, likewise. -/
def wrDk (j : Fin 8) (g : Fin 4) (x : FVec F T .bf16) : P (F := F) mem PUnit := do
  let _ ← rd .dk (rOut j g) (View.loadsAt_vmem posTh)
  let old ← rd .dk (rOut2 j ⟨g.val / 2, by omega⟩) (View.loadsAt_vmem posTh2)
  wr .dk (rOut2 j ⟨g.val / 2, by omega⟩)
    (updateSlice (s := Th2) (u := Th) old (shapeCast Th x castThR) ![0, 0, g.val % 2, 0] (slTh2 ⟨g.val % 2, by omega⟩))
    (View.stores_vmem posTh2 ((W .dk).storeExact_slice rfl _ (packOut2 j _)) fun _ => rfl)
/-- Writes a value gradient tile. -/
def wrDv (j : Fin 8) (g : Fin 4) (x : FVec F T .bf16) : P (F := F) mem PUnit := do
  let _ ← rd .dv (rOut j g) (View.loadsAt_vmem posTh)
  let old ← rd .dv (rOut2 j ⟨g.val / 2, by omega⟩) (View.loadsAt_vmem posTh2)
  wr .dv (rOut2 j ⟨g.val / 2, by omega⟩)
    (updateSlice (s := Th2) (u := Th) old (shapeCast Th x castThR) ![0, 0, g.val % 2, 0] (slTh2 ⟨g.val % 2, by omega⟩))
    (View.stores_vmem posTh2 ((W .dv).storeExact_slice rfl _ (packOut2 j _)) fun _ => rfl)

/-- One head against the span: its probabilities and score gradients (keys × queries), and the factor its query
    gradient is scaled by. -/
def headBody (K : Cst F) (m : Nat) (hm : m < 5) (H : SpanOk m) (ks vs : F .f32) (h : Fin 24) (t : Fin 2)
    (st dpt : FVec F (R2 m) .f32) (dob : FVec F T2 .bf16) (oT : FVec F T .f32) :
    P (F := F) mem (FVec F (R m) .bf16 × FVec F (R m) .bf16 × FVec F L .f32) := do
  let qsRaw ← rdQs h
  let qs : F .f32 := nz qsRaw
  let dos ← rdDos h
  let delta : FVec F L .f32 := mulf
    (shapeCast L (multiReduction .add [0] V128
      (mulf (extf .f32 (extractStridedSlice T ![0, 128 * t.val] dob (slT2 t)) lt16) oT) 0x00000000#32 redT (.inl rfl) rfl) castV)
    (broadcast L qs)
  let lse ← rdLse h
  let lse2 : FVec F L .f32 := subf (mulf lse (broadcast L K.log2e)) (mulf (log (broadcast L dos)) (broadcast L K.log2e))
  let c2 : F .f32 := Scalar.mulf (Scalar.mulf qs ks) K.scaleLog2e
  let pds ← loop (m + 1) fun j => do
    let b ← rdBias ⟨j.val, by omega⟩
    let p : FVec F T .f32 := exp2 (addf (subf (mulf (extractStridedSlice T ![128 * j.val, 128 * t.val] st (H.sl j t))
      (broadcast T c2)) (broadcastTo T lse2 bcL)) b)
    let ds : FVec F T .f32 := mulf p (subf (mulf (extractStridedSlice T ![128 * j.val, 128 * t.val] dpt (H.sl j t))
      (broadcast T (Scalar.mulf vs qs))) (broadcastTo T delta bcL))
    .ret (truncf .bf16 p lt16, truncf .bf16 ds lt16)
  .ret (catRows m H fun j => (pds j).1, catRows m H fun j => (pds j).2,
    divf (broadcast L (Scalar.mulf ks K.scale)) (broadcast L qs))

/-- One pair of heads against the span: it writes its query gradients and returns its part of the key and value
    gradients. -/
def pairBody (K : Cst F) (m : Nat) (hm : m < 5) (H : SpanOk m) (ks vs : F .f32) (kn : FVec F (R m) .fp8e4m3)
    (vn : FVec F (R m) .bf16) (kt : FVec F (C m) .bf16) (qT : Fin 24 → FVec F T .fp8e4m3)
    (doT : Fin 24 → FVec F T .fp8e5m2) (p : Fin 12) :
    P (F := F) mem (FVec F (C m) .f32 × FVec F (C m) .f32) := do
  let h0 : Fin 24 := ⟨2 * p.val, by omega⟩
  let h1 : Fin 24 := ⟨2 * p.val + 1, by omega⟩
  let q8 : FVec F T2 .fp8e4m3 := pairT (qT h0) (qT h1)
  let dob : FVec F T2 .bf16 := extf .bf16 (pairT (doT h0) (doT h1)) lt8'
  let o0 ← rdO h0
  let o1 ← rdO h1
  let st : FVec F (R2 m) .f32 := matmul (dS H) none kn q8 (constant (R2 m) .f32 0x00000000#32)
  let dpt : FVec F (R2 m) .f32 := matmul (dS H) none vn dob (constant (R2 m) .f32 0x00000000#32)
  let a ← headBody K m hm H ks vs h0 0 st dpt dob o0
  let b ← headBody K m hm H ks vs h1 1 st dpt dob o1
  let pt : FVec F (R2 m) .bf16 := pairR H a.1 b.1
  let dst : FVec F (R2 m) .bf16 := pairR H a.2.1 b.2.1
  let dqt : FVec F T2 .f32 := matmul (dQ H) none kt dst (constant T2 .f32 0x00000000#32)
  wrDq W p 0 (transpose T [1, 0] (truncf .bf16 (mulf (extractStridedSlice T ![0, 128 * (0 : Fin 2).val] dqt (slT2 0))
    (broadcastTo T a.2.2 bcL)) lt16) transT)
  wrDq W p 1 (transpose T [1, 0] (truncf .bf16 (mulf (extractStridedSlice T ![0, 128 * (1 : Fin 2).val] dqt (slT2 1))
    (broadcastTo T b.2.2 bcL)) lt16) transT)
  .ret (matmul (dK H) none (extf .bf16 q8 lt8) dst (constant (C m) .f32 0x00000000#32),
    matmul (dK H) none dob pt (constant (C m) .f32 0x00000000#32))

/-- One key group against the span. -/
def groupBody (K : Cst F) (m : Nat) (hm : m < 5) (H : SpanOk m) (y : Fin 8) (hj : ∀ j, (jw m y j).toNat < 8)
    (qT : Fin 24 → FVec F T .fp8e4m3) (doT : Fin 24 → FVec F T .fp8e5m2) (g : Fin 4) : P (F := F) mem PUnit := do
  let ks ← rdKs g
  let vs ← rdVs g
  let kns ← loop (m + 1) fun j => rdKn g (jw m y j) (hj j)
  let vns ← loop (m + 1) fun j => rdVn g (jw m y j) (hj j)
  let kts ← loop (m + 1) fun j => rdKt g (jw m y j) (hj j)
  let kn := catRows m H kns
  let vn := catRows m H vns
  let kt := catCols m H kts
  let a ← pairBody W K m hm H ks vs kn vn kt qT doT ⟨3 * g.val, by omega⟩
  let b ← pairBody W K m hm H ks vs kn vn kt qT doT ⟨3 * g.val + 1, by omega⟩
  let c ← pairBody W K m hm H ks vs kn vn kt qT doT ⟨3 * g.val + 2, by omega⟩
  let dk : FVec F (C m) .f32 := addf (addf a.1 b.1) c.1
  let dv : FVec F (C m) .f32 := addf (addf a.2 b.2) c.2
  each (m + 1) fun j => do
    let x ← rdDkt g (jw m y j) (hj j)
    wrDkt g (jw m y j) (hj j) (addf x (colTile m H j dk))
    let x' ← rdDvt g (jw m y j) (hj j)
    wrDvt g (jw m y j) (hj j) (addf x' (colTile m H j dv))

/-- The whole of a query block against a span of `m + 1` key tiles. -/
def spanBody (K : Cst F) (m : Nat) (hm : m < 5) (H : SpanOk m) (x : Fin 2) (y : Fin 8)
    (hj : ∀ j, (jw m y j).toNat < 8) : P (F := F) mem PUnit := do
  let cu ← loop 18 fun c => rdCu x c
  each (m + 1) fun j => wrBias ⟨j.val, by omega⟩ (biasTile m y cu j)
  let qd ← loop 24 fun h => do
    let a ← rdQ h
    let b ← rdDo h
    .ret (a, b)
  each 4 fun g => groupBody W K m hm H y hj (fun h => (qd h).1) (fun h => (qd h).2) g

end Prog

end Cert.Str

end
-- ==== Proof.Root.lean ====
/-
  The whole body at a grid point: it stages the point's key and value tiles, clears its accumulators, finds how many
  key tiles the query block sees, runs that span, and at a batch's last block writes the key and value gradients out.
-/
module

public import proofs.«01_k».proof.Proof.Struct

@[expose] public section

noncomputable section

namespace Cert.Str

open Idealize.ShloMosaic Idealize.ShloMosaic.TcCoe
open Cert.Named

/-- The start of the document of the block's first query: the greatest boundary not after it. -/
def start (y : Fin 8) (cu : Fin 18 → BitVec 32) : BitVec 32 :=
  foldF (fun (acc : BitVec 32) (w : BitVec 32) =>
      Scalar.maxsi acc (Scalar.select (Scalar.cmpi .sle w (Scalar.muli (BitVec.ofNat 32 y.val) 128#32)) w 0#32)) 18 0#32 cu

/-- The number of key tiles the block sees. -/
def nSpan (y : Fin 8) (cu : Fin 18 → BitVec 32) : BitVec 32 :=
  Scalar.subi (Scalar.addi (BitVec.ofNat 32 y.val) 1#32) (Scalar.shrui (start y cu) 7#32)

/-- Whether the block sees `m + 1` key tiles. -/
def spanCond (m : Nat) (y : Fin 8) (cu : Fin 18 → BitVec 32) : BitVec 1 :=
  Scalar.cmpi .ne (Scalar.extui (Scalar.cmpi .eq (nSpan y cu) (BitVec.ofNat 32 (m + 1)))) 0#32

/-- Whether the block is a batch's last. -/
def lastCond (y : Fin 8) : BitVec 1 :=
  Scalar.cmpi .ne (Scalar.extui (Scalar.cmpi .eq (BitVec.ofNat 32 y.val) 7#32)) 0#32

/-- A condition word is one exactly when its comparison holds. -/
theorem cond_iff (a b : BitVec 32) :
    Scalar.cmpi .ne (Scalar.extui (Scalar.cmpi .eq a b) : BitVec 32) 0#32 = 1#1 ↔ a = b := by
  by_cases h : a = b
  · subst h
    have : Scalar.cmpi .eq a a = 1#1 := by simp [Scalar.cmpi, IntOp.cmpi]
    rw [this]; simp only [iff_true]; rfl
  · have : Scalar.cmpi .eq a b = 0#1 := by
      show BitVec.ofBool (a == b) = 0#1
      rw [beq_false_of_ne h]; rfl
    rw [this]; simp only [h, iff_false]; decide

/-- A fold keeps what each step keeps. -/
theorem foldF_keep {α β : Type} (g : β → α → β) (p : β → Prop) (hg : ∀ b a, p b → p (g b a)) :
    ∀ (n : Nat) (b : β) (f : Fin n → α), p b → p (foldF g n b f)
  | 0, _, _, h => h
  | n + 1, b, f, h => foldF_keep g p hg n _ _ (hg b (f 0) h)

/-- The step of a running maximum over the boundaries not after `q`. -/
theorem step_le (q acc w : BitVec 32) (hq : q.toNat < 2 ^ 31) (h : acc.toNat ≤ q.toNat) :
    (Scalar.maxsi acc (Scalar.select (Scalar.cmpi .sle w q) w 0#32)).toNat ≤ q.toNat := by
  have hs : Scalar.select (Scalar.cmpi .sle w q) w 0#32 = if w.sle q then w else 0#32 := by
    show (if (BitVec.ofBool (w.sle q)) = 1#1 then w else 0#32) = _
    cases w.sle q <;> rfl
  rw [hs]
  show (if (if w.sle q then w else 0#32).slt acc then acc else (if w.sle q then w else 0#32)).toNat ≤ _
  by_cases h1 : w.sle q
  · rw [if_pos h1]
    split
    · exact h
    · rename_i h2
      rw [BitVec.slt_iff_toInt_lt] at h2
      rw [BitVec.sle_iff_toInt_le] at h1
      rw [BitVec.toInt_eq_toNat_cond] at h1 h2
      rw [BitVec.toInt_eq_toNat_cond] at h1 h2
      split at h1 <;> split at h1 <;> split at h2 <;> omega
  · rw [if_neg h1]
    split
    · exact h
    · exact Nat.zero_le _

/-- A query block's first position. -/
theorem pos0 (y : Fin 8) : (Scalar.muli (BitVec.ofNat 32 y.val) 128#32).toNat = 128 * y.val := by
  revert y; decide

/-- The document of the block's first query starts no later than the block. -/
theorem start_le (y : Fin 8) (cu : Fin 18 → BitVec 32) : (start y cu).toNat ≤ 128 * y.val := by
  rw [← pos0 y]
  refine foldF_keep _ (fun b => b.toNat ≤ _) (fun b a h => step_le _ b a ?_ h) 18 0#32 cu (Nat.zero_le _)
  rw [pos0]; have := y.isLt; omega

/-- The block sees its own tile and those back to its document's start. -/
theorem nSpan_toNat (y : Fin 8) (cu : Fin 18 → BitVec 32) :
    (nSpan y cu).toNat = y.val + 1 - (start y cu).toNat / 128 := by
  have h := start_le y cu
  have hs : (Scalar.shrui (start y cu) 7#32).toNat = (start y cu).toNat / 128 := by
    have e : Scalar.shrui (start y cu) 7#32 = start y cu >>> (7#32) := by
      unfold Scalar.shrui IntOp.shrui
      rw [if_pos (by decide)]
    rw [e]
    simp [BitVec.toNat_ushiftRight, Nat.shiftRight_eq_div_pow]
  show (BitVec.ofNat 32 y.val + 1#32 - Scalar.shrui (start y cu) 7#32).toNat = _
  have := y.isLt
  rw [BitVec.toNat_sub, hs, BitVec.toNat_add, BitVec.toNat_ofNat, BitVec.toNat_ofNat]
  omega

/-- The span's condition in numbers. -/
theorem spanCond_iff (m : Nat) (hm : m < 5) (y : Fin 8) (cu : Fin 18 → BitVec 32) :
    spanCond m y cu = 1#1 ↔ y.val - (start y cu).toNat / 128 = m := by
  have h := start_le y cu
  rw [spanCond, cond_iff, BitVec.toNat_eq, nSpan_toNat, BitVec.toNat_ofNat]
  omega

/-- Key tile `j` of a span that fits. -/
theorem jw_toNat (m : Nat) (y : Fin 8) (h : m ≤ y.val) (j : Fin (m + 1)) : (jw m y j).toNat = y.val - m + j.val := by
  show (BitVec.ofNat 32 y.val - BitVec.ofNat 32 m + BitVec.ofNat 32 j.val).toNat = _
  have := y.isLt
  have := j.isLt
  rw [BitVec.toNat_add, BitVec.toNat_sub, BitVec.toNat_ofNat, BitVec.toNat_ofNat, BitVec.toNat_ofNat]
  omega

/-- A span that is taken does not begin before the first tile. -/
theorem span_le (m : Nat) (hm : m < 5) (y : Fin 8) (cu : Fin 18 → BitVec 32) (h : spanCond m y cu = 1#1) : m ≤ y.val := by
  rw [spanCond_iff m hm] at h; omega

/-- The span's key tiles are tiles of the batch. -/
theorem jw_lt (m : Nat) (hm : m < 5) (y : Fin 8) (cu : Fin 18 → BitVec 32) (h : spanCond m y cu = 1#1) (j : Fin (m + 1)) :
    (jw m y j).toNat < 8 := by
  have := span_le m hm y cu h
  rw [jw_toNat m y this]
  have := j.isLt; have := y.isLt; omega

section Prog
variable {F : FTy → Type} [FloatOps F] {sig : RefSig} {mem : (b : Nm) → Memref sig .tc b.cs b.sh b.el} (W : Whole mem)

/-- Load a key group's rows of the point's block. -/
def rdK (y : Fin 8) (g : Fin 4) : P (F := F) mem (FVec F T .fp8e4m3) := do
  let x ← rd .k (rKey y g) (View.loadsAt_vmem posTh)
  .ret (shapeCast T (s := Th) x castTh)
/-- Reads the block's value rows. -/
def rdV (y : Fin 8) (g : Fin 4) : P (F := F) mem (FVec F T .fp8e4m3) := do
  let x ← rd .v (rKey y g) (View.loadsAt_vmem posTh)
  .ret (shapeCast T (s := Th) x castTh)

/-- A block's number is below eight. -/
theorem tile_lt (y : Fin 8) : (BitVec.ofNat 32 y.val).toNat < 8 := by revert y; decide

/-- Stage the point's key and value tiles. -/
def stageBody (y : Fin 8) : P (F := F) mem PUnit := do
  each 4 fun g => do
    let x ← rdK y g
    wrKn W g (BitVec.ofNat 32 y.val) (tile_lt y) x
  each 4 fun g => do
    let x ← rdK y g
    wrKt W g (BitVec.ofNat 32 y.val) (tile_lt y) (extf .bf16 (transpose T [1, 0] x transT) lt8)
  each 4 fun g => do
    let x ← rdV y g
    wrVn W g (BitVec.ofNat 32 y.val) (tile_lt y) (extf .bf16 x lt8)

/-- Clear the point's accumulator tiles. -/
def clearBody (y : Fin 8) : P (F := F) mem PUnit :=
  each 4 fun g => do
    wrDkt g (BitVec.ofNat 32 y.val) (tile_lt y) (broadcast T (Scalar.ofBits .f32 0x00000000#32))
    wrDvt g (BitVec.ofNat 32 y.val) (tile_lt y) (broadcast T (Scalar.ofBits .f32 0x00000000#32))

/-- An accumulator's tile of key block `j`. -/
def rdAk (j : Fin 8) (g : Fin 4) : P (F := F) mem (FVec F T .f32) := do
  let x ← rd .dkt (rAcc g j) (View.loadsAt_vmem posTt)
  .ret (shapeCast T (s := Tt) x castTt)
/-- Reads a value gradient accumulator at the end. -/
def rdAv (j : Fin 8) (g : Fin 4) : P (F := F) mem (FVec F T .f32) := do
  let x ← rd .dvt (rAcc g j) (View.loadsAt_vmem posTt)
  .ret (shapeCast T (s := Tt) x castTt)

/-- Write the accumulated gradients out. -/
def writeBody (K : Cst F) : P (F := F) mem PUnit := do
  each 8 fun j => each 4 fun g => do
    let x ← rdAk j g
    wrDk W j g (transpose T [1, 0] (truncf .bf16 (mulf x (broadcast T K.scale)) lt16) transT)
  each 8 fun j => each 4 fun g => do
    let x ← rdAv j g
    wrDv W j g (transpose T [1, 0] (truncf .bf16 (mulf x (broadcast T (Scalar.ofBits .f32 0x3F800000#32))) lt16) transT)

/-- Up to the check that the span's tiles are in bounds: the boundaries read. -/
def preBody (Chk : (Fin 18 → BitVec 32) → Prop) (dec : ∀ cu, Decidable (Chk cu)) (hC : ∀ cu, Chk cu) (x : Fin 2) (y : Fin 8) :
    P (F := F) mem (Fin 18 → BitVec 32) := do
  stageBody W y
  clearBody y
  let cu ← loop 18 fun c => rdCu x c
  .chk (Chk cu) (dec cu) (hC cu) (.ret cu)

/-- The span of `m + 1` tiles if the block sees that many, then the rest. -/
def spanThen {α : Type} (K : Cst F) (x : Fin 2) (y : Fin 8) (cu : Fin 18 → BitVec 32) (m : Nat) (hm : m < 5) (H : SpanOk m)
    (k : P (F := F) mem α) : P (F := F) mem α :=
  NProg.brThen (spanCond m y cu = 1#1) inferInstance
    (fun h => spanBody W K m hm H x y (jw_lt m hm y cu h)) k

/-- The first three spans. -/
def midBody {α : Type} (K : Cst F) (x : Fin 2) (y : Fin 8) (cu : Fin 18 → BitVec 32) (a : α) : P (F := F) mem α :=
  spanThen W K x y cu 0 (by omega) (spanOk 0) <|
  spanThen W K x y cu 1 (by omega) (spanOk 1) <|
  spanThen W K x y cu 2 (by omega) (spanOk 2) <| .ret a

/-- The last two spans and the write-out. -/
def postBody (K : Cst F) (x : Fin 2) (y : Fin 8) (cu : Fin 18 → BitVec 32) : P (F := F) mem PUnit :=
  spanThen W K x y cu 3 (by omega) (spanOk 3) <|
  spanThen W K x y cu 4 (by omega) (spanOk 4) <|
  NProg.brThen (lastCond y = 1#1) inferInstance (fun _ => writeBody W K) <| .ret ⟨⟩

/-- The body at a grid point. -/
def body (K : Cst F) (Chk : (Fin 18 → BitVec 32) → Prop) (dec : ∀ cu, Decidable (Chk cu)) (hC : ∀ cu, Chk cu) (x : Fin 2)
    (y : Fin 8) : P (F := F) mem PUnit :=
  (preBody W Chk dec hC x y).bind fun cu => (midBody W K x y cu ⟨⟩).bind fun (_ : PUnit) => postBody W K x y cu

/-- What is kept past the first spans passes on. -/
theorem midBody_bind {α β : Type} (K : Cst F) (x : Fin 2) (y : Fin 8) (cu : Fin 18 → BitVec 32) (a : α)
    (f : α → P (F := F) mem β) :
    (midBody W K x y cu a).bind f = (midBody W K x y cu PUnit.unit).bind fun _ => f a := by
  simp only [midBody, spanThen, NProg.brThen_bind, NProg.bind]

/-- The last stage from what the first spans kept, when that is the boundaries. -/
theorem mid_post {nD : Nat} {τ : Topo} {Λ : Idealize.SL.Sem.Labels} {α : Type} (K : Cst F) (x : Fin 2) (y : Fin 8) (cu : Fin 18 → BitVec 32)
    (a : α) (kp : α → Fin 18 → BitVec 32) (h : kp a = cu) :
    (Idealize.SL.Sem.Prog.bind (midBody W K x y cu a).toProg (fun r => (postBody W K x y (kp r)).toProg)
        : Idealize.SL.Sem.Prog (TpuEff nD τ sig (Elt F) Λ .tc) PUnit)
      = ((midBody W K x y cu PUnit.unit).bind fun (_ : PUnit) => postBody W K x y cu).toProg := by
  rw [← NProg.toProg_bind (midBody W K x y cu a) (fun r => postBody W K x y (kp r)), midBody_bind, h]

end Prog

end Cert.Str

end
-- ==== Proof.Match.lean ====
/-
  The printed body of the kernel is the structured body: the two are the same chain of loads, stores and branches.
-/
module

public import proofs.«01_k».proof.Kernel
public import proofs.«01_k».proof.Proof.Root
public import proofs.«01_k».proof.Proof.Gen.Kernel
public import Idealize.ShloMosaic.Lib.Pipeline.Regions

@[expose] public section

noncomputable section

namespace Cert.Kernel

open Idealize.ShloMosaic Idealize.SL.Sem
open Idealize.ShloMosaic.RefSig (ofTc tcTables tileCredit tileCredit_eq_zero tileCredit_pos)
variable {F : FTy → Type} [FloatOps F] [Facts]
open Facts₀ Facts Cert.Str Cert.Named

/-- The memrefs the body is given, by name. -/
@[reducible] def mems
    (arg2 : Memref sig .tc .smem S2x19 .i32) (arg3 : Memref sig .tc .smem S24 .f32)
    (arg4 : Memref sig .tc .smem S4 .f32) (arg5 : Memref sig .tc .smem S4 .f32)
    (arg6 : Memref sig .tc .smem S24 .f32) (arg7 : Memref sig .tc .vmem S1x128x24x128 .fp8e4m3)
    (arg8 : Memref sig .tc .vmem S1x1024x4x128 .fp8e4m3) (arg9 : Memref sig .tc .vmem S1x1024x4x128 .fp8e4m3)
    (arg10 : Memref sig .tc .vmem S1x128x24x128 .bf16) (arg11 : Memref sig .tc .vmem S1x128x24x128 .fp8e5m2)
    (arg12 : Memref sig .tc .vmem S1x24x128 .f32) (arg13 : Memref sig .tc .vmem S1x128x24x128 .bf16)
    (arg14 : Memref sig .tc .vmem S1x1024x4x128 .bf16) (arg15 : Memref sig .tc .vmem S1x1024x4x128 .bf16)
    (arg16 : Memref sig .tc .vmem S4x8x128x128 .fp8e4m3) (arg17 : Memref sig .tc .vmem S4x8x128x128 .bf16)
    (arg18 : Memref sig .tc .vmem S4x8x128x128 .bf16) (arg19 : Memref sig .tc .vmem S4x8x128x128 .f32)
    (arg20 : Memref sig .tc .vmem S4x8x128x128 .f32) (arg21 : Memref sig .tc .vmem S5x128x128 .f32) :
    (b : Nm) → Memref sig .tc b.cs b.sh b.el
  | .cu => arg2 | .qs => arg3 | .ks => arg4 | .vs => arg5 | .dos => arg6 | .q => arg7 | .k => arg8 | .v => arg9
  | .o => arg10 | .dO => arg11 | .lse => arg12 | .dq => arg13 | .dk => arg14 | .dv => arg15 | .kn => arg16 | .kt => arg17
  | .vn => arg18 | .dkt => arg19 | .dvt => arg20 | .bias => arg21

/-- Whole memrefs, by name. -/
theorem whole
    (arg2 : Memref sig .tc .smem S2x19 .i32) (harg2 : arg2.IsWhole) (arg3 : Memref sig .tc .smem S24 .f32)
    (harg3 : arg3.IsWhole) (arg4 : Memref sig .tc .smem S4 .f32) (harg4 : arg4.IsWhole)
    (arg5 : Memref sig .tc .smem S4 .f32) (harg5 : arg5.IsWhole) (arg6 : Memref sig .tc .smem S24 .f32)
    (harg6 : arg6.IsWhole) (arg7 : Memref sig .tc .vmem S1x128x24x128 .fp8e4m3) (harg7 : arg7.IsWhole)
    (arg8 : Memref sig .tc .vmem S1x1024x4x128 .fp8e4m3) (harg8 : arg8.IsWhole)
    (arg9 : Memref sig .tc .vmem S1x1024x4x128 .fp8e4m3) (harg9 : arg9.IsWhole)
    (arg10 : Memref sig .tc .vmem S1x128x24x128 .bf16) (harg10 : arg10.IsWhole)
    (arg11 : Memref sig .tc .vmem S1x128x24x128 .fp8e5m2) (harg11 : arg11.IsWhole)
    (arg12 : Memref sig .tc .vmem S1x24x128 .f32) (harg12 : arg12.IsWhole)
    (arg13 : Memref sig .tc .vmem S1x128x24x128 .bf16) (harg13 : arg13.IsWhole)
    (arg14 : Memref sig .tc .vmem S1x1024x4x128 .bf16) (harg14 : arg14.IsWhole)
    (arg15 : Memref sig .tc .vmem S1x1024x4x128 .bf16) (harg15 : arg15.IsWhole)
    (arg16 : Memref sig .tc .vmem S4x8x128x128 .fp8e4m3) (harg16 : arg16.IsWhole)
    (arg17 : Memref sig .tc .vmem S4x8x128x128 .bf16) (harg17 : arg17.IsWhole)
    (arg18 : Memref sig .tc .vmem S4x8x128x128 .bf16) (harg18 : arg18.IsWhole)
    (arg19 : Memref sig .tc .vmem S4x8x128x128 .f32) (harg19 : arg19.IsWhole)
    (arg20 : Memref sig .tc .vmem S4x8x128x128 .f32) (harg20 : arg20.IsWhole)
    (arg21 : Memref sig .tc .vmem S5x128x128 .f32) (harg21 : arg21.IsWhole) :
    Whole (mems arg2 arg3 arg4 arg5 arg6 arg7 arg8 arg9 arg10 arg11 arg12 arg13 arg14 arg15 arg16 arg17 arg18 arg19 arg20 arg21)
  | .cu => harg2 | .qs => harg3 | .ks => harg4 | .vs => harg5 | .dos => harg6 | .q => harg7 | .k => harg8 | .v => harg9
  | .o => harg10 | .dO => harg11 | .lse => harg12 | .dq => harg13 | .dk => harg14 | .dv => harg15 | .kn => harg16 | .kt => harg17
  | .vn => harg18 | .dkt => harg19 | .dvt => harg20 | .bias => harg21

/-- The constants of the body. -/
def K : Cst F := ⟨Scalar.ofBits .f32 0x3FB8AA3B#32, Scalar.ofBits .f32 0x3DB504F3#32, Scalar.ofBits .f32 0x3E0293EE#32⟩

/-- The bounds the body checks, of the boundaries it read. -/
@[reducible] def Chk (i : grid0.Coords) (cu : Fin 18 → BitVec 32) : Prop :=
  k0_chk1 i (cu 0) (cu 1) (cu 2) (cu 3) (cu 4) (cu 5) (cu 6) (cu 7) (cu 8) (cu 9) (cu 10) (cu 11) (cu 12) (cu 13) (cu 14) (cu 15) (cu 16) (cu 17)

/-- What the body keeps past its first spans. -/
@[reducible] def Kept (i : grid0.Coords) (F : FTy → Type) (cu : Fin 18 → BitVec 32) : Type :=
  Σ' (v205 : Elt F .i32) (v210 : Elt F .i32) (v215 : Elt F .i32) (v220 : Elt F .i32) (v225 : Elt F .i32) (_ : k0_chk1 i (cu 0) (cu 1) (cu 2) (cu 3) (cu 4) (cu 5) (cu 6) (cu 7) (cu 8) (cu 9) (cu 10) (cu 11) (cu 12) v205 v210 v215 v220 v225) (_ : BitVec 32), BitVec 32

/-- The boundaries as the body keeps them. -/
@[reducible] def keep (i : grid0.Coords) (cu : Fin 18 → BitVec 32) (r : Kept i F cu) : Fin 18 → BitVec 32 :=
  ![cu 0, cu 1, cu 2, cu 3, cu 4, cu 5, cu 6, cu 7, cu 8, cu 9, cu 10, cu 11, cu 12, r.1, r.2.1, r.2.2.1, r.2.2.2.1,
    r.2.2.2.2.1]

set_option maxHeartbeats 4000000 in
/-- The printed body is the structured one, its three stages in sequence. -/
theorem printed (i : grid0.Coords)
    (arg2 : Memref sig .tc .smem S2x19 .i32) (harg2 : arg2.IsWhole) (arg3 : Memref sig .tc .smem S24 .f32)
    (harg3 : arg3.IsWhole) (arg4 : Memref sig .tc .smem S4 .f32) (harg4 : arg4.IsWhole)
    (arg5 : Memref sig .tc .smem S4 .f32) (harg5 : arg5.IsWhole) (arg6 : Memref sig .tc .smem S24 .f32)
    (harg6 : arg6.IsWhole) (arg7 : Memref sig .tc .vmem S1x128x24x128 .fp8e4m3) (harg7 : arg7.IsWhole)
    (arg8 : Memref sig .tc .vmem S1x1024x4x128 .fp8e4m3) (harg8 : arg8.IsWhole)
    (arg9 : Memref sig .tc .vmem S1x1024x4x128 .fp8e4m3) (harg9 : arg9.IsWhole)
    (arg10 : Memref sig .tc .vmem S1x128x24x128 .bf16) (harg10 : arg10.IsWhole)
    (arg11 : Memref sig .tc .vmem S1x128x24x128 .fp8e5m2) (harg11 : arg11.IsWhole)
    (arg12 : Memref sig .tc .vmem S1x24x128 .f32) (harg12 : arg12.IsWhole)
    (arg13 : Memref sig .tc .vmem S1x128x24x128 .bf16) (harg13 : arg13.IsWhole)
    (arg14 : Memref sig .tc .vmem S1x1024x4x128 .bf16) (harg14 : arg14.IsWhole)
    (arg15 : Memref sig .tc .vmem S1x1024x4x128 .bf16) (harg15 : arg15.IsWhole)
    (arg16 : Memref sig .tc .vmem S4x8x128x128 .fp8e4m3) (harg16 : arg16.IsWhole)
    (arg17 : Memref sig .tc .vmem S4x8x128x128 .bf16) (harg17 : arg17.IsWhole)
    (arg18 : Memref sig .tc .vmem S4x8x128x128 .bf16) (harg18 : arg18.IsWhole)
    (arg19 : Memref sig .tc .vmem S4x8x128x128 .f32) (harg19 : arg19.IsWhole)
    (arg20 : Memref sig .tc .vmem S4x8x128x128 .f32) (harg20 : arg20.IsWhole)
    (arg21 : Memref sig .tc .vmem S5x128x128 .f32) (harg21 : arg21.IsWhole)
    (hC : ∀ cu, Chk i cu) :
    cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      = Prog.bind ((preBody (F := F) (whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (Chk i)
            (fun cu => k0_chk1.dec i (cu 0) (cu 1) (cu 2) (cu 3) (cu 4) (cu 5) (cu 6) (cu 7) (cu 8) (cu 9) (cu 10) (cu 11) (cu 12) (cu 13) (cu 14) (cu 15) (cu 16) (cu 17)) hC (i 0) (i 1)).toProg) fun cu =>
          Prog.bind ((midBody (whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K (i 0) (i 1) cu
              (⟨cu 13, cu 14, cu 15, cu 16, cu 17, hC cu, nSpan (i 1) cu, Scalar.extui (Scalar.cmpi .eq (nSpan (i 1) cu) 4#32)⟩ : Kept i F cu)).toProg) fun r =>
            (postBody (whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K (i 0) (i 1) (keep i cu r)).toProg := by
  chain_rfl

end Cert.Kernel

end
-- ==== Proof.Only.lean ====
/-
  Which buffers a program stores to. A buffer that none of its stores names is as it was when the program ends; the body
  stores to its outputs and its scratch only.
-/
module

public import proofs.«01_k».proof.Proof.Root

@[expose] public section

noncomputable section

namespace Cert.Named.NProg

open Idealize.ShloMosaic

variable {sig : RefSig} {N : Type} {M : Fam sig N} {Val : EltTy → Type} {α β : Type}

/-- Every store of the tree is to a name of `S`. -/
inductive Only (S : N → Prop) : {α : Type} → NProg M Val α → Prop where
  | ret {α : Type} (a : α) : Only S (.ret a)
  | load {α : Type} {b r hl} {k : _ → NProg M Val α} (h : ∀ x, Only S (k x)) : Only S (.load b r hl k)
  | store {α : Type} {b r w hx} {k : NProg M Val α} (hb : S b) (h : Only S k) : Only S (.store b r w hx k)
  | chk {α : Type} {p d h} {k : NProg M Val α} (hk : Only S k) : Only S (.chk p d h k)
  | br {α : Type} {p d} {a : p → NProg M Val α} {k : NProg M Val α} (ha : ∀ h, Only S (a h)) (hk : Only S k) :
    Only S (.br p d a k)

variable {S : N → Prop}

/-- A sequence changes what its parts change. -/
theorem only_bind {p : NProg M Val α} {f : α → NProg M Val β} (hp : Only S p) (hf : ∀ a, Only S (f a)) :
    Only S (p.bind f) := by
  induction p with
  | ret a => exact hf a
  | load b r hl k ih => cases hp with | load h => exact .load fun x => ih x (h x)
  | store b r w hx k ih => cases hp with | store hb h => exact .store hb (ih h)
  | chk p d h k ih => cases hp with | chk h => exact .chk (ih h)
  | br p d a k iha ihk => cases hp with | br ha hk => exact .br (fun h => iha h (ha h)) (ihk hk)

/-- A sequence changes what its parts change, as a `do` writes it. -/
theorem only_bind' {p : NProg M Val α} {f : α → NProg M Val β} (hp : Only S p) (hf : ∀ a, Only S (f a)) :
    Only S (p >>= f) := only_bind hp hf

/-- A branch changes what its parts change. -/
theorem only_brThen {p : Prop} {d : Decidable p} {a : p → NProg M Val PUnit} {k : NProg M Val α}
    (ha : ∀ h, Only S (a h)) (hk : Only S k) : Only S (brThen p d a k) :=
  .br (fun h => only_bind (ha h) fun _ => hk) hk

/-- A buffer no store names is as it was. -/
theorem run_only [DecidableEq N] {p : NProg M Val α} (hp : Only S p) (σ : M.St Val) (b : N) (hb : ¬ S b) :
    (p.run σ).2 b = σ b := by
  induction p generalizing σ with
  | ret a => rfl
  | load b' r hl k ih => cases hp with | load h => exact ih _ (h _) σ
  | store b' r w hx k ih =>
    cases hp with | store hs h =>
    refine (ih h _).trans (Function.update_of_ne ?_ _ _)
    rintro rfl; exact hb hs
  | chk p d h k ih => cases hp with | chk h => exact ih h σ
  | br p d a k iha ihk =>
    cases hp with | br ha hk =>
    by_cases h : p
    · simp only [run, dif_pos h]; exact iha h (ha h) σ
    · simp only [run, dif_neg h]; exact ihk hk σ

end Cert.Named.NProg

namespace Cert.Str

open Idealize.ShloMosaic Cert.Named Cert.Named.NProg

section
variable {sig : RefSig} {N : Type} {M : Fam sig N} {Val : EltTy → Type} {α : Type} {S : N → Prop}

/-- A loop changes what its rounds change. -/
theorem only_loop : ∀ (n : Nat) (f : Fin n → NProg M Val α), (∀ j, Only S (f j)) → Only S (loop n f)
  | 0, _, _ => .ret _
  | n + 1, f, h => only_bind' (h 0) fun _ => only_bind' (only_loop n _ fun j => h j.succ) fun _ => .ret _

/-- A loop without results changes what its rounds change. -/
theorem only_each : ∀ (n : Nat) (f : Fin n → NProg M Val PUnit), (∀ j, Only S (f j)) → Only S (each n f)
  | 0, _, _ => .ret _
  | n + 1, f, h => only_bind' (h 0) fun _ => only_each n _ fun j => h j.succ

end

variable {F : FTy → Type} [FloatOps F] {sig : RefSig} {mem : (b : Nm) → Memref sig .tc b.cs b.sh b.el} (W : Whole mem)
variable {S : Nm → Prop}

/-- A read changes nothing. -/
theorem only_rd (b : Nm) (r : Rect b.sh) (hl) : Only S (rd (F := F) (mem := mem) b r hl) := .load fun x => .ret x
/-- A read of one word changes nothing. -/
theorem only_rd1 (b : Nm) (r : Rect b.sh) (hl h1) : Only S (rd1 (F := F) (mem := mem) b r hl h1) := .load fun _ => .ret _
/-- A write changes its buffer only. -/
theorem only_wr (b : Nm) (hb : S b) (r : Rect b.sh) (w hx) : Only S (wr (F := F) (mem := mem) b r w hx) := .store hb (.ret _)

/-- A read with a function applied changes nothing. -/
theorem only_rdT (b : Nm) (r : Rect b.sh) (hl) {α : Type} (f : _ → α) :
    Only S ((rd (F := F) (mem := mem) b r hl) >>= fun x => .ret (f x)) := only_bind' (only_rd _ _ _) fun _ => .ret _

/-- One head's body changes nothing. -/
theorem only_headBody (K : Cst F) (m : Nat) (hm : m < 5) (H : SpanOk m) (ks vs : F .f32) (h : Fin 24) (t : Fin 2) (st dpt dob oT) :
    Only S (headBody (mem := mem) K m hm H ks vs h t st dpt dob oT) :=
  only_bind' (only_rd1 _ _ _ _) fun _ => only_bind' (only_rd1 _ _ _ _) fun _ =>
    only_bind' (only_rdT _ _ _ _) fun _ =>
      only_bind' (only_loop _ _ fun _ => only_bind' (only_rdT _ _ _ _) fun _ => .ret _) fun _ => .ret _

/-- Writing a pair's query gradient tile changes that buffer only. -/
theorem only_wrDq (hS : S .dq) (p : Fin 12) (t : Fin 2) (x) : Only S (wrDq (F := F) W p t x) :=
  only_bind' (only_rd _ _ _) fun _ => only_bind' (only_rd _ _ _) fun _ => only_wr _ hS _ _ _
/-- Writing a key gradient tile changes that buffer only. -/
theorem only_wrDk (hS : S .dk) (j : Fin 8) (g : Fin 4) (x) : Only S (wrDk (F := F) W j g x) :=
  only_bind' (only_rd _ _ _) fun _ => only_bind' (only_rd _ _ _) fun _ => only_wr _ hS _ _ _
/-- Writing a value gradient tile changes that buffer only. -/
theorem only_wrDv (hS : S .dv) (j : Fin 8) (g : Fin 4) (x) : Only S (wrDv (F := F) W j g x) :=
  only_bind' (only_rd _ _ _) fun _ => only_bind' (only_rd _ _ _) fun _ => only_wr _ hS _ _ _

/-- A pair's body changes the query gradients only. -/
theorem only_pairBody (hS : S .dq) (K : Cst F) (m : Nat) (hm : m < 5) (H : SpanOk m) (ks vs kn vn kt qT doT) (p : Fin 12) :
    Only S (pairBody W K m hm H ks vs kn vn kt qT doT p) :=
  only_bind' (only_rdT _ _ _ _) fun _ => only_bind' (only_rdT _ _ _ _) fun _ =>
    only_bind' (only_headBody K m hm H ks vs _ _ _ _ _ _) fun _ => only_bind' (only_headBody K m hm H ks vs _ _ _ _ _ _) fun _ =>
      only_bind' (only_wrDq W hS _ _ _) fun _ => only_bind' (only_wrDq W hS _ _ _) fun _ => .ret _

/-- Writing a staged key tile changes that buffer only. -/
theorem only_wrKn (hS : S .kn) (g w hw x) : Only S (wrKn (F := F) W g w hw x) :=
  only_bind' (only_rdT _ _ _ _) fun _ => only_wr _ hS _ _ _
/-- Writing a staged transposed key tile changes that buffer only. -/
theorem only_wrKt (hS : S .kt) (g w hw x) : Only S (wrKt (F := F) W g w hw x) :=
  only_bind' (only_rdT _ _ _ _) fun _ => only_wr _ hS _ _ _
/-- Writing a staged value tile changes that buffer only. -/
theorem only_wrVn (hS : S .vn) (g w hw x) : Only S (wrVn (F := F) W g w hw x) :=
  only_bind' (only_rdT _ _ _ _) fun _ => only_wr _ hS _ _ _
/-- Writing a key gradient accumulator changes that buffer only. -/
theorem only_wrDkt (hS : S .dkt) (g w hw x) : Only S (wrDkt (F := F) (mem := mem) g w hw x) :=
  only_bind' (only_rdT _ _ _ _) fun _ => only_wr _ hS _ _ _
/-- Writing a value gradient accumulator changes that buffer only. -/
theorem only_wrDvt (hS : S .dvt) (g w hw x) : Only S (wrDvt (F := F) (mem := mem) g w hw x) :=
  only_bind' (only_rdT _ _ _ _) fun _ => only_wr _ hS _ _ _
/-- Writing a mask tile changes that buffer only. -/
theorem only_wrBias (hS : S .bias) (j x) : Only S (wrBias (F := F) (mem := mem) j x) :=
  only_bind' (only_rdT _ _ _ _) fun _ => only_wr _ hS _ _ _

/-- A group's body changes the query gradients and the accumulators only. -/
theorem only_groupBody (h1 : S .dq) (h2 : S .dkt) (h3 : S .dvt) (K : Cst F) (m : Nat) (hm : m < 5) (H : SpanOk m) (y : Fin 8) (hj qT doT)
    (g : Fin 4) : Only S (groupBody W K m hm H y hj qT doT g) :=
  only_bind' (only_rd1 _ _ _ _) fun _ => only_bind' (only_rd1 _ _ _ _) fun _ =>
    only_bind' (only_loop _ _ fun _ => only_rdT _ _ _ _) fun _ => only_bind' (only_loop _ _ fun _ => only_rdT _ _ _ _) fun _ =>
    only_bind' (only_loop _ _ fun _ => only_rdT _ _ _ _) fun _ =>
    only_bind' (only_pairBody W h1 K m hm H _ _ _ _ _ _ _ _) fun _ => only_bind' (only_pairBody W h1 K m hm H _ _ _ _ _ _ _ _) fun _ =>
    only_bind' (only_pairBody W h1 K m hm H _ _ _ _ _ _ _ _) fun _ =>
    only_each _ _ fun _ => only_bind' (only_rdT _ _ _ _) fun _ => only_bind' (only_wrDkt h2 _ _ _ _) fun _ =>
      only_bind' (only_rdT _ _ _ _) fun _ => only_wrDvt h3 _ _ _ _

/-- Reading a boundary changes nothing. -/
theorem only_rdCu (x : Fin 2) (c : Fin 18) : Only S (rdCu (F := F) (mem := mem) x c) := only_rd1 _ _ _ _

/-- A span's body changes the mask, the query gradients and the accumulators only. -/
theorem only_spanBody (h0 : S .bias) (h1 : S .dq) (h2 : S .dkt) (h3 : S .dvt) (K : Cst F) (m : Nat) (hm : m < 5) (H : SpanOk m)
    (x : Fin 2) (y : Fin 8) (hj) : Only S (spanBody W K m hm H x y hj) :=
  only_bind' (only_loop 18 _ fun c => only_rdCu x c) fun cu =>
  only_bind' (only_each (m + 1) _ fun j => only_wrBias h0 _ _) fun _ =>
  only_bind' (only_loop 24 _ fun h => only_bind' (only_rdT _ _ _ _) fun _ => only_bind' (only_rdT _ _ _ _) fun _ => .ret _) fun qd =>
  only_each 4 _ fun g => only_groupBody W h1 h2 h3 K m hm H y hj _ _ g

/-- Staging changes the staged tiles only. -/
theorem only_stageBody (h0 : S .kn) (h1 : S .kt) (h2 : S .vn) (y : Fin 8) : Only S (stageBody (F := F) W y) :=
  only_bind' (only_each 4 _ fun _ => only_bind' (only_rdT _ _ _ _) fun _ => only_wrKn W h0 _ _ _ _) fun _ =>
  only_bind' (only_each 4 _ fun _ => only_bind' (only_rdT _ _ _ _) fun _ => only_wrKt W h1 _ _ _ _) fun _ =>
  only_each 4 _ fun _ => only_bind' (only_rdT _ _ _ _) fun _ => only_wrVn W h2 _ _ _ _

/-- Clearing changes the accumulators only. -/
theorem only_clearBody (h2 : S .dkt) (h3 : S .dvt) (y : Fin 8) : Only S (clearBody (F := F) (mem := mem) y) :=
  only_each 4 _ fun _ => only_bind' (only_wrDkt h2 _ _ _ _) fun _ => only_wrDvt h3 _ _ _ _

/-- The last point's writes change the key and value gradients only. -/
theorem only_writeBody (h2 : S .dk) (h3 : S .dv) (K : Cst F) : Only S (writeBody W K) :=
  only_bind' (only_each 8 _ fun _ => only_each 4 _ fun _ => only_bind' (only_rdT _ _ _ _) fun _ => only_wrDk W h2 _ _ _) fun _ =>
  only_each 8 _ fun _ => only_each 4 _ fun _ => only_bind' (only_rdT _ _ _ _) fun _ => only_wrDv W h3 _ _ _

/-- The outputs and the scratch. -/
def Outs : Nm → Prop
  | .dq | .dk | .dv | .kn | .kt | .vn | .dkt | .dvt | .bias => True
  | _ => False

instance : DecidablePred Outs := fun b => by cases b <;> first | exact isTrue trivial | exact isFalse id

/-- The body stores to its outputs and its scratch only. -/
theorem only_body (K : Cst F) (Chk dec hC) (x : Fin 2) (y : Fin 8) : Only Outs (body W K Chk dec hC x y) := by
  have sp : ∀ (m : Nat) (hm : m < 5) (H : SpanOk m) (hj), Only Outs (spanBody W K m hm H x y hj) := fun m hm H hj =>
    only_spanBody (S := Outs) W trivial trivial trivial trivial K m hm H x y hj
  refine only_bind (only_bind' (only_stageBody (S := Outs) W trivial trivial trivial y) fun _ =>
    only_bind' (only_clearBody (S := Outs) trivial trivial y) fun _ =>
    only_bind' (only_loop 18 _ fun c => only_rdCu x c) fun cu => .chk (.ret cu)) fun cu => only_bind ?_ fun _ => ?_
  · exact only_brThen (fun _ => sp _ _ _ _) (only_brThen (fun _ => sp _ _ _ _) (only_brThen (fun _ => sp _ _ _ _) (.ret _)))
  · exact only_brThen (fun _ => sp _ _ _ _) (only_brThen (fun _ => sp _ _ _ _)
      (only_brThen (fun _ => only_writeBody (S := Outs) W trivial trivial K) (.ret _)))

end Cert.Str

end
-- ==== Proof.Run.lean ====
/-
  The grid run of the kernel, for any invariant of its scratch and any relation of its windows that a point of the grid
  keeps: the printed body is the structured one (`body_eq`), a point's run is the structured body's (`body_ob`), and the
  whole launch follows (`launch`).
-/
module

public import proofs.«01_k».proof.Proof.Match
public import proofs.«01_k».proof.Proof.Only
public import proofs.«01_k».proof.Proof.Gen.Kernel.Frame
public import Idealize.ShloMosaic.Lib.Pipeline.Frame
public import Idealize.ShloMosaic.Lib.Tactic

@[expose] public section

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg BodyObligation)
open Cert.Str Cert.Named
variable {F : FTy → Type} [FloatOps F]

local notation "𝕄" => MT nD τ sig Unit (Elt F) ℕ (UR sig nD τ) ℕ

/-- The tiles of a span that is taken are in bounds, whatever the boundaries are. -/
theorem chk_all (i : grid0.Coords) (cu : Fin 18 → BitVec 32) : Chk i cu :=
  ⟨fun h r => inbTile 0 (jw 1 (i 1) r) (jw_lt 1 (by omega) (i 1) cu h r),
    fun h r => inbTile 1 (jw 1 (i 1) r) (jw_lt 1 (by omega) (i 1) cu h r),
    fun h r => inbTile 2 (jw 1 (i 1) r) (jw_lt 1 (by omega) (i 1) cu h r),
    fun h r => inbTile 3 (jw 1 (i 1) r) (jw_lt 1 (by omega) (i 1) cu h r),
    fun h r => inbTile 0 (jw 2 (i 1) r) (jw_lt 2 (by omega) (i 1) cu h r),
    fun h r => inbTile 1 (jw 2 (i 1) r) (jw_lt 2 (by omega) (i 1) cu h r),
    fun h r => inbTile 2 (jw 2 (i 1) r) (jw_lt 2 (by omega) (i 1) cu h r),
    fun h r => inbTile 3 (jw 2 (i 1) r) (jw_lt 2 (by omega) (i 1) cu h r),
    fun h r => inbTile 0 (jw 3 (i 1) r) (jw_lt 3 (by omega) (i 1) cu h r),
    fun h r => inbTile 1 (jw 3 (i 1) r) (jw_lt 3 (by omega) (i 1) cu h r),
    fun h r => inbTile 2 (jw 3 (i 1) r) (jw_lt 3 (by omega) (i 1) cu h r),
    fun h r => inbTile 3 (jw 3 (i 1) r) (jw_lt 3 (by omega) (i 1) cu h r),
    fun h r => inbTile 0 (jw 4 (i 1) r) (jw_lt 4 (by omega) (i 1) cu h r),
    fun h r => inbTile 1 (jw 4 (i 1) r) (jw_lt 4 (by omega) (i 1) cu h r),
    fun h r => inbTile 2 (jw 4 (i 1) r) (jw_lt 4 (by omega) (i 1) cu h r),
    fun h r => inbTile 3 (jw 4 (i 1) r) (jw_lt 4 (by omega) (i 1) cu h r)⟩

/-- What is kept past the first spans is the boundaries. -/
theorem keep_eq (i : grid0.Coords) (cu : Fin 18 → BitVec 32) (h a b) :
    keep i cu (⟨cu 13, cu 14, cu 15, cu 16, cu 17, h, a, b⟩ : Kept i F cu) = cu := by
  funext j; fin_cases j <;> rfl

/-- The printed body is the structured body. -/
theorem body_eq (i : grid0.Coords)
    (arg2 : Memref sig .tc .smem S2x19 .i32) (harg2 : arg2.IsWhole) (arg3 : Memref sig .tc .smem S24 .f32)
    (harg3 : arg3.IsWhole) (arg4 : Memref sig .tc .smem S4 .f32) (harg4 : arg4.IsWhole)
    (arg5 : Memref sig .tc .smem S4 .f32) (harg5 : arg5.IsWhole) (arg6 : Memref sig .tc .smem S24 .f32)
    (harg6 : arg6.IsWhole) (arg7 : Memref sig .tc .vmem S1x128x24x128 .fp8e4m3) (harg7 : arg7.IsWhole)
    (arg8 : Memref sig .tc .vmem S1x1024x4x128 .fp8e4m3) (harg8 : arg8.IsWhole)
    (arg9 : Memref sig .tc .vmem S1x1024x4x128 .fp8e4m3) (harg9 : arg9.IsWhole)
    (arg10 : Memref sig .tc .vmem S1x128x24x128 .bf16) (harg10 : arg10.IsWhole)
    (arg11 : Memref sig .tc .vmem S1x128x24x128 .fp8e5m2) (harg11 : arg11.IsWhole)
    (arg12 : Memref sig .tc .vmem S1x24x128 .f32) (harg12 : arg12.IsWhole)
    (arg13 : Memref sig .tc .vmem S1x128x24x128 .bf16) (harg13 : arg13.IsWhole)
    (arg14 : Memref sig .tc .vmem S1x1024x4x128 .bf16) (harg14 : arg14.IsWhole)
    (arg15 : Memref sig .tc .vmem S1x1024x4x128 .bf16) (harg15 : arg15.IsWhole)
    (arg16 : Memref sig .tc .vmem S4x8x128x128 .fp8e4m3) (harg16 : arg16.IsWhole)
    (arg17 : Memref sig .tc .vmem S4x8x128x128 .bf16) (harg17 : arg17.IsWhole)
    (arg18 : Memref sig .tc .vmem S4x8x128x128 .bf16) (harg18 : arg18.IsWhole)
    (arg19 : Memref sig .tc .vmem S4x8x128x128 .f32) (harg19 : arg19.IsWhole)
    (arg20 : Memref sig .tc .vmem S4x8x128x128 .f32) (harg20 : arg20.IsWhole)
    (arg21 : Memref sig .tc .vmem S5x128x128 .f32) (harg21 : arg21.IsWhole) :
    cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      = (body (F := F) (whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K (Chk i)
          (fun cu => k0_chk1.dec i (cu 0) (cu 1) (cu 2) (cu 3) (cu 4) (cu 5) (cu 6) (cu 7) (cu 8) (cu 9) (cu 10) (cu 11) (cu 12) (cu 13) (cu 14) (cu 15) (cu 16) (cu 17)) (chk_all i) (i 0) (i 1)).toProg := by
  rw [printed (hC := chk_all i)]
  unfold Cert.Str.body
  rw [NProg.toProg_bind]
  congr 1
  funext cu
  exact mid_post _ K (i 0) (i 1) cu _ (keep i cu) (keep_eq i cu _ _ _)

/-- The memrefs of point `t`. -/
abbrev memsAt (t : Fin cfg0.N) : (b : Nm) → Memref sig .tc b.cs b.sh b.el :=
  mems (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (Memref.whole cc0_scratch0) (Memref.whole cc0_scratch1) (Memref.whole cc0_scratch2) (Memref.whole cc0_scratch3) (Memref.whole cc0_scratch4) (Memref.whole cc0_scratch5)

/-- The body's buffers are whole. -/
theorem wholeAt (t : Fin cfg0.N) : Whole (memsAt t) :=
  whole (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

/-- The structured body at point `t`. -/
def bodyAt (t : Fin cfg0.N) : P (F := F) (memsAt t) PUnit :=
  body (wholeAt t) K (Chk (grid0.coords t)) (fun cu => k0_chk1.dec (grid0.coords t) (cu 0) (cu 1) (cu 2) (cu 3) (cu 4) (cu 5) (cu 6) (cu 7) (cu 8) (cu 9) (cu 10) (cu 11) (cu 12) (cu 13) (cu 14) (cu 15) (cu 16) (cu 17))
    (chk_all (grid0.coords t)) (grid0.coords t 0) (grid0.coords t 1)

/-- The contents of every buffer the body sees. -/
abbrev St (F : FTy → Type) : Type := (b : Nm) → b.sh.Idx → Elt F b.el

/-- The windows' staged blocks and the scratch, as one state. -/
def comb (Y : (w : Fin cfg0.W) → (cfg0.win w).block.Idx → Elt F (cfg0.win w).elt) (σ : St F) : St F
  | .cu => Y 0
  | .qs => Y 1
  | .ks => Y 2
  | .vs => Y 3
  | .dos => Y 4
  | .q => Y 5
  | .k => Y 6
  | .v => Y 7
  | .o => Y 8
  | .dO => Y 9
  | .lse => Y 10
  | .dq => Y 11
  | .dk => Y 12
  | .dv => Y 13
  | .kn => σ .kn
  | .kt => σ .kt
  | .vn => σ .vn
  | .dkt => σ .dkt
  | .dvt => σ .dvt
  | .bias => σ .bias

/-- The windows' part of a state. -/
def wins (σ : St F) : (w : Fin cfg0.W) → (cfg0.win w).block.Idx → Elt F (cfg0.win w).elt
  | 0 => σ .cu
  | 1 => σ .qs
  | 2 => σ .ks
  | 3 => σ .vs
  | 4 => σ .dos
  | 5 => σ .q
  | 6 => σ .k
  | 7 => σ .v
  | 8 => σ .o
  | 9 => σ .dO
  | 10 => σ .lse
  | 11 => σ .dq
  | 12 => σ .dk
  | 13 => σ .dv
  | ⟨_ + 14, h⟩ => absurd h (Nat.not_lt.2 (Nat.le_add_left _ _))

/-- The state after the body at point `t`. -/
abbrev after (t : Fin cfg0.N) (σ : St F) : St F := ((bodyAt t).run σ).2

variable (m : (ℓ : Loc nD τ sig) → Buf (Elt F) ℓ)

/-- The scratch held at a state's contents. -/
def scr (c : Dev nD) (σ : St F) : sProp 𝕄 :=
  iprop(owns (c : Thread nD τ) (Memref.whole cc0_scratch0) fullShare (σ .kn)
      ∗ owns (c : Thread nD τ) (Memref.whole cc0_scratch1) fullShare (σ .kt)
      ∗ owns (c : Thread nD τ) (Memref.whole cc0_scratch2) fullShare (σ .vn)
      ∗ owns (c : Thread nD τ) (Memref.whole cc0_scratch3) fullShare (σ .dkt)
      ∗ owns (c : Thread nD τ) (Memref.whole cc0_scratch4) fullShare (σ .dvt)
      ∗ owns (c : Thread nD τ) (Memref.whole cc0_scratch5) fullShare (σ .bias))

/-- The proof data: `Inv` of the scratch before each point, `Aft` of what a point leaves in a window. -/
def rdat (Inv : Fin (cfg0.N + 1) → St F → Prop)
    (Aft : (w : Fin cfg0.W) → Fin cfg0.N → ((cfg0.win w).block.Idx → Elt F (cfg0.win w).elt) → Prop) (c : Dev nD) :
    RDat τ (Elt F) Unit ℕ (UR sig nD τ) ℕ cfg0 c where
  A w := V m c (Pipeline.arrRef spec0 w)
  after w t Y X := ((cfg0.win w).isOut = false → X = Y) ∧ Aft w t X
  Φ t := iprop((∃ σ, ⌜Inv t σ⌝ ∗ scr c σ) ∗ ∃ r, prngReg c r)
  q _ := fullShare
  owed _ := 0

variable (Inv : Fin (cfg0.N + 1) → St F → Prop)
  (Aft : (w : Fin cfg0.W) → Fin cfg0.N → ((cfg0.win w).block.Idx → Elt F (cfg0.win w).elt) → Prop)

/-- A point of the grid keeps the invariant and the relation. -/
def Keeps (c : Dev nD) : Prop :=
  ∀ (t : Fin cfg0.N) (Y : (w : Fin cfg0.W) → (cfg0.win w).block.Idx → Elt F (cfg0.win w).elt) (σ : St F),
    Inv t.castSucc σ → (∀ w, (rdat m Inv Aft c).Finds w t (Y w)) →
    Inv t.succ (after t (comb Y σ)) ∧ (∀ w, (cfg0.win w).isOut = false → wins (after t (comb Y σ)) w = Y w)
      ∧ ∀ w, Aft w t (wins (after t (comb Y σ)) w)

/-- The body leaves the input windows as they are. -/
theorem inputs_kept (t : Fin cfg0.N) (Y : (w : Fin cfg0.W) → (cfg0.win w).block.Idx → Elt F (cfg0.win w).elt) (σ : St F)
    (w : Fin cfg0.W) (hw : (cfg0.win w).isOut = false) : wins (after t (comb Y σ)) w = Y w := by
  have h := fun b (hb : ¬ Outs b) => NProg.run_only (p := bodyAt (F := F) t) (only_body (wholeAt t) K _ _ _ _ _) (comb Y σ) b hb
  fin_cases w
  · exact h .cu (by decide)
  · exact h .qs (by decide)
  · exact h .ks (by decide)
  · exact h .vs (by decide)
  · exact h .dos (by decide)
  · exact h .q (by decide)
  · exact h .k (by decide)
  · exact h .v (by decide)
  · exact h .o (by decide)
  · exact h .dO (by decide)
  · exact h .lse (by decide)
  all_goals exact absurd hw (by decide)

/-- The windows' staged blocks held at a state's contents. -/
def stg (c : Dev nD) (t : Fin cfg0.N) (σ : St F) : sProp 𝕄 :=
  iprop(owns (c : Thread nD τ) (st0_0 t) fullShare (σ .cu)
      ∗ owns (c : Thread nD τ) (st0_1 t) fullShare (σ .qs)
      ∗ owns (c : Thread nD τ) (st0_2 t) fullShare (σ .ks)
      ∗ owns (c : Thread nD τ) (st0_3 t) fullShare (σ .vs)
      ∗ owns (c : Thread nD τ) (st0_4 t) fullShare (σ .dos)
      ∗ owns (c : Thread nD τ) (st0_5 t) fullShare (σ .q)
      ∗ owns (c : Thread nD τ) (st0_6 t) fullShare (σ .k)
      ∗ owns (c : Thread nD τ) (st0_7 t) fullShare (σ .v)
      ∗ owns (c : Thread nD τ) (st0_8 t) fullShare (σ .o)
      ∗ owns (c : Thread nD τ) (st0_9 t) fullShare (σ .dO)
      ∗ owns (c : Thread nD τ) (st0_10 t) fullShare (σ .lse)
      ∗ owns (c : Thread nD τ) (st0_11 t) fullShare (σ .dq)
      ∗ owns (c : Thread nD τ) (st0_12 t) fullShare (σ .dk)
      ∗ owns (c : Thread nD τ) (st0_13 t) fullShare (σ .dv))

/-- Every buffer held is the windows' and the scratch held. -/
theorem held_iff (c : Dev nD) (t : Fin cfg0.N) (σ : St F) :
    (NProg.held (M := fam (memsAt t)) (Val := Elt F) c σ : sProp 𝕄) ⊣⊢ iprop(stg c t σ ∗ scr c σ) := by
  have e : (NProg.held (M := fam (memsAt t)) (Val := Elt F) c σ : sProp 𝕄)
      = iprop(owns (c : Thread nD τ) (st0_0 t) fullShare (σ .cu)
      ∗ owns (c : Thread nD τ) (st0_1 t) fullShare (σ .qs)
      ∗ owns (c : Thread nD τ) (st0_2 t) fullShare (σ .ks)
      ∗ owns (c : Thread nD τ) (st0_3 t) fullShare (σ .vs)
      ∗ owns (c : Thread nD τ) (st0_4 t) fullShare (σ .dos)
      ∗ owns (c : Thread nD τ) (st0_5 t) fullShare (σ .q)
      ∗ owns (c : Thread nD τ) (st0_6 t) fullShare (σ .k)
      ∗ owns (c : Thread nD τ) (st0_7 t) fullShare (σ .v)
      ∗ owns (c : Thread nD τ) (st0_8 t) fullShare (σ .o)
      ∗ owns (c : Thread nD τ) (st0_9 t) fullShare (σ .dO)
      ∗ owns (c : Thread nD τ) (st0_10 t) fullShare (σ .lse)
      ∗ owns (c : Thread nD τ) (st0_11 t) fullShare (σ .dq)
      ∗ owns (c : Thread nD τ) (st0_12 t) fullShare (σ .dk)
      ∗ owns (c : Thread nD τ) (st0_13 t) fullShare (σ .dv)
      ∗ owns (c : Thread nD τ) (Memref.whole cc0_scratch0) fullShare (σ .kn)
      ∗ owns (c : Thread nD τ) (Memref.whole cc0_scratch1) fullShare (σ .kt)
      ∗ owns (c : Thread nD τ) (Memref.whole cc0_scratch2) fullShare (σ .vn)
      ∗ owns (c : Thread nD τ) (Memref.whole cc0_scratch3) fullShare (σ .dkt)
      ∗ owns (c : Thread nD τ) (Memref.whole cc0_scratch4) fullShare (σ .dvt)
      ∗ owns (c : Thread nD τ) (Memref.whole cc0_scratch5) fullShare (σ .bias)) :=
    bigSep_univ_eq_bigSepL [Nm.cu, Nm.qs, Nm.ks, Nm.vs, Nm.dos, Nm.q, Nm.k, Nm.v, Nm.o, Nm.dO, Nm.lse, Nm.dq, Nm.dk, Nm.dv, Nm.kn, Nm.kt, Nm.vn, Nm.dkt, Nm.dvt, Nm.bias] (by decide) (by decide)
      (fun b => owns (c : Thread nD τ) (memsAt t b) fullShare (σ b))
  rw [e]
  unfold stg scr
  constructor
  · iintro ⟨H0, H1, H2, H3, H4, H5, H6, H7, H8, H9, H10, H11, H12, H13, S0, S1, S2, S3, S4, S5⟩
    isplitl [H0 H1 H2 H3 H4 H5 H6 H7 H8 H9 H10 H11 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [S0]; · iexact S0
    isplitl [S1]; · iexact S1
    isplitl [S2]; · iexact S2
    isplitl [S3]; · iexact S3
    isplitl [S4]; · iexact S4
    iexact S5
  · iintro ⟨⟨H0, H1, H2, H3, H4, H5, H6, H7, H8, H9, H10, H11, H12, H13⟩, S0, S1, S2, S3, S4, S5⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S4]; · iexact S4
    iexact S5

/-- The body obligation. -/
theorem body_ob (c : Dev nD) (hK : Keeps m Inv Aft c) :
    (rdat m Inv Aft c).BodyObligation (defs₀ (F := F)) Variants.none () Set.univ := by
  intro t Y hY
  rw [bigSep_W0, bigSep_W0]
  show iprop(iprop((∃ σ, ⌜Inv t.castSucc σ⌝ ∗ scr c σ) ∗ ∃ r, prngReg c r) ∗ (rdat m Inv Aft c).owesAt () t.castSucc ∗ _)
    ⊢ wp frame (wpE (defs₀ (F := F)) Variants.none c none) Set.univ
      (cc0_attn_bwd (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) fun _ =>
      iprop(iprop((∃ σ, ⌜Inv t.succ σ⌝ ∗ scr c σ) ∗ ∃ r, prngReg c r) ∗ (rdat m Inv Aft c).owesAt () t.castSucc ∗ _)
  rw [body_eq]
  iintro ⟨⟨⟨%σ, %hσ, HS⟩, Hg⟩, HO, HW⟩
  have hk := hK t Y σ hσ hY
  iapply (NProg.wp_toProg (Ix := Unit) (Name := ℕ) (U := UR sig nD τ) (Lvl := ℕ) (nD := nD) (τ := τ) (defs₀ (F := F)) Variants.none c none Set.univ (bodyAt t) (comb Y σ) _)
  isplitl [HS HW]
  · iapply (held_iff c t (comb Y σ)).2
    isplitl [HW]
    · unfold stg; dsimp only [comb]; iexact HW
    · unfold scr; dsimp only [comb]; iexact HS
  iintro H
  ihave H2 := (held_iff c t (after t (comb Y σ))).1 $$ H
  icases H2 with ⟨HW, HS⟩
  isplitl [HS Hg]
  · isplitl [HS]
    · iexists (after t (comb Y σ)); isplitr; · ipureintro; exact hk.1
      iexact HS
    iexact Hg
  isplitl [HO]; · iexact HO
  unfold stg
  icases HW with ⟨H0, H1, H2, H3, H4, H5, H6, H7, H8, H9, H10, H11, H12, H13⟩
  isplitl [H0]
  · iexists (wins (after t (comb Y σ)) 0); isplitr
    · ipureintro; exact ⟨fun h => hk.2.1 0 h, hk.2.2 0⟩
    iexact H0
  isplitl [H1]
  · iexists (wins (after t (comb Y σ)) 1); isplitr
    · ipureintro; exact ⟨fun h => hk.2.1 1 h, hk.2.2 1⟩
    iexact H1
  isplitl [H2]
  · iexists (wins (after t (comb Y σ)) 2); isplitr
    · ipureintro; exact ⟨fun h => hk.2.1 2 h, hk.2.2 2⟩
    iexact H2
  isplitl [H3]
  · iexists (wins (after t (comb Y σ)) 3); isplitr
    · ipureintro; exact ⟨fun h => hk.2.1 3 h, hk.2.2 3⟩
    iexact H3
  isplitl [H4]
  · iexists (wins (after t (comb Y σ)) 4); isplitr
    · ipureintro; exact ⟨fun h => hk.2.1 4 h, hk.2.2 4⟩
    iexact H4
  isplitl [H5]
  · iexists (wins (after t (comb Y σ)) 5); isplitr
    · ipureintro; exact ⟨fun h => hk.2.1 5 h, hk.2.2 5⟩
    iexact H5
  isplitl [H6]
  · iexists (wins (after t (comb Y σ)) 6); isplitr
    · ipureintro; exact ⟨fun h => hk.2.1 6 h, hk.2.2 6⟩
    iexact H6
  isplitl [H7]
  · iexists (wins (after t (comb Y σ)) 7); isplitr
    · ipureintro; exact ⟨fun h => hk.2.1 7 h, hk.2.2 7⟩
    iexact H7
  isplitl [H8]
  · iexists (wins (after t (comb Y σ)) 8); isplitr
    · ipureintro; exact ⟨fun h => hk.2.1 8 h, hk.2.2 8⟩
    iexact H8
  isplitl [H9]
  · iexists (wins (after t (comb Y σ)) 9); isplitr
    · ipureintro; exact ⟨fun h => hk.2.1 9 h, hk.2.2 9⟩
    iexact H9
  isplitl [H10]
  · iexists (wins (after t (comb Y σ)) 10); isplitr
    · ipureintro; exact ⟨fun h => hk.2.1 10 h, hk.2.2 10⟩
    iexact H10
  isplitl [H11]
  · iexists (wins (after t (comb Y σ)) 11); isplitr
    · ipureintro; exact ⟨fun h => hk.2.1 11 h, hk.2.2 11⟩
    iexact H11
  isplitl [H12]
  · iexists (wins (after t (comb Y σ)) 12); isplitr
    · ipureintro; exact ⟨fun h => hk.2.1 12 h, hk.2.2 12⟩
    iexact H12
  iexists (wins (after t (comb Y σ)) 13); isplitr
  · ipureintro; exact ⟨fun h => hk.2.1 13 h, hk.2.2 13⟩
  iexact H13

/-- A state with the given scratch and anything in the windows. -/
def stOf (f0 : (Nm.kn).sh.Idx → Elt F (Nm.kn).el) (f1 : (Nm.kt).sh.Idx → Elt F (Nm.kt).el) (f2 : (Nm.vn).sh.Idx → Elt F (Nm.vn).el) (f3 : (Nm.dkt).sh.Idx → Elt F (Nm.dkt).el) (f4 : (Nm.dvt).sh.Idx → Elt F (Nm.dvt).el) (f5 : (Nm.bias).sh.Idx → Elt F (Nm.bias).el) : St F
  | .kn => f0
  | .kt => f1
  | .vn => f2
  | .dkt => f3
  | .dvt => f4
  | .bias => f5
  | .cu => fun _ => (0#32 : BitVec 32)
  | .qs => fun _ => Scalar.ofBits _ 0
  | .ks => fun _ => Scalar.ofBits _ 0
  | .vs => fun _ => Scalar.ofBits _ 0
  | .dos => fun _ => Scalar.ofBits _ 0
  | .q => fun _ => Scalar.ofBits _ 0
  | .k => fun _ => Scalar.ofBits _ 0
  | .v => fun _ => Scalar.ofBits _ 0
  | .o => fun _ => Scalar.ofBits _ 0
  | .dO => fun _ => Scalar.ofBits _ 0
  | .lse => fun _ => Scalar.ofBits _ 0
  | .dq => fun _ => Scalar.ofBits _ 0
  | .dk => fun _ => Scalar.ofBits _ 0
  | .dv => fun _ => Scalar.ofBits _ 0

/-- The launch: when every point keeps the invariant and the relation, the grid run ends with every array at contents the
    relation allows, the rest unchanged, and every semaphore at zero. -/
theorem launch (g : Dev nD → PrngReg) (hI : ∀ σ, Inv 0 σ) (hK : ∀ c, Keeps m Inv Aft c)
    (Q' : PUnit × MemSt nD τ sig (Elt F) → Prop)
    (hQ : ∀ r, Pipeline.RDat.FramePost cfg0 (rdat m Inv Aft) (V m) r ∧ r.2.sem = (fun _ => 0) → Q' r) :
    θ_run defs (onTc (τ := τ) (main (F := F))) ⟨m, fun _ => 0, g⟩ Q' := by
  refine Pipeline.RDat.θ_run_frame_track cfgs 0 launch0 (defs₀ (F := F)) Variants.none (rdat m Inv Aft) m g main
    (fun c => body_ob m Inv Aft c (hK c)) (fun c w => by unfold RDat.share rdat; split <;> rfl) (fun _ _ => rfl) (V m) (hmain m _) (fun _ _ => rfl) ?_ ?_ Q' hQ
  · intro c
    show iprop(Pipeline.scopedRest spec0 c ∗ ∃ r, prngReg c r) ⊢ iprop((∃ σ, ⌜Inv 0 σ⌝ ∗ scr c σ) ∗ ∃ r, prngReg c r)
    rw [scopedRest0_eq]
    iintro ⟨⟨⟨%f0, S0⟩, ⟨%f1, S1⟩, ⟨%f2, S2⟩, ⟨%f3, S3⟩, ⟨%f4, S4⟩, ⟨%f5, S5⟩⟩, Hg⟩
    isplitl [S0 S1 S2 S3 S4 S5]
    · iexists (stOf f0 f1 f2 f3 f4 f5); isplitr; · ipureintro; exact hI _
      unfold scr
      simp only [owns_whole]
      isplitl [S0]; · iexact S0
      isplitl [S1]; · iexact S1
      isplitl [S2]; · iexact S2
      isplitl [S3]; · iexact S3
      isplitl [S4]; · iexact S4
      iexact S5
    iexact Hg
  · intro c
    show iprop((∃ σ, ⌜Inv (Fin.last _) σ⌝ ∗ scr c σ) ∗ ∃ r, prngReg c r) ⊢ iprop(Pipeline.scopedRest spec0 c ∗ ∃ r, prngReg c r)
    rw [scopedRest0_eq]
    unfold scr
    simp only [owns_whole]
    iintro ⟨⟨%σ, -, S0, S1, S2, S3, S4, S5⟩, Hg⟩
    isplitl [S0 S1 S2 S3 S4 S5]
    · isplitl [S0]; · iexists _; iexact S0
      isplitl [S1]; · iexists _; iexact S1
      isplitl [S2]; · iexists _; iexact S2
      isplitl [S3]; · iexists _; iexact S3
      isplitl [S4]; · iexists _; iexact S4
      iexists _; iexact S5
    iexact Hg

/-- The launch leaves every argument as it found it. -/
theorem args_kept (r : PUnit × MemSt nD τ sig (Elt F)) (h : Pipeline.RDat.FramePost cfg0 (rdat m Inv Aft) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(h.arr_in c 5 rfl).trans (V_main_arg0 m c),
    (h.arr_in c 1 rfl).trans (V_main_arg1 m c),
    (h.arr_in c 6 rfl).trans (V_main_arg2 m c),
    (h.arr_in c 2 rfl).trans (V_main_arg3 m c),
    (h.arr_in c 7 rfl).trans (V_main_arg4 m c),
    (h.arr_in c 3 rfl).trans (V_main_arg5 m c),
    (h.arr_in c 8 rfl).trans (V_main_arg6 m c),
    (h.arr_in c 9 rfl).trans (V_main_arg7 m c),
    (h.arr_in c 4 rfl).trans (V_main_arg8 m c),
    (h.arr_in c 10 rfl).trans (V_main_arg9 m c),
    (h.arr_in c 0 rfl).trans (V_main_arg10 m c)⟩

/-- The frame: the run ends, every argument is as it was, and every semaphore is at zero. -/
theorem framed (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  launch m (fun _ _ => True) (fun _ _ _ => True) g (fun _ => trivial)
    (fun c t Y σ _ _ => ⟨trivial, fun w hw => inputs_kept t Y σ w hw, fun _ => trivial⟩) _
    fun r hr => ⟨fun c => args_kept m _ _ r hr.1 c, hr.2⟩

end Cert.Kernel

end
-- ==== Proof.MatchI.lean ====
/-
  The printed body of the kernel is the structured body: the two are the same chain of loads, stores and branches.
-/
module

public import proofs.«01_k».proof.KernelIdeal
public import proofs.«01_k».proof.Proof.Root
public import proofs.«01_k».proof.Proof.Gen.KernelIdeal
public import Idealize.ShloMosaic.Lib.Pipeline.Regions

@[expose] public section

noncomputable section

namespace Cert.KernelIdeal

open Idealize.ShloMosaic Idealize.SL.Sem
open Idealize.ShloMosaic.RefSig (ofTc tcTables tileCredit tileCredit_eq_zero tileCredit_pos)
variable {F : FTy → Type} [FloatOps F] [Named F] [Facts]
open Facts₀ Facts Cert.Str Cert.Named

/-- The memrefs the body is given, by name. -/
@[reducible] def mems
    (arg2 : Memref sig .tc .smem S2x19 .i32) (arg3 : Memref sig .tc .smem S24 .f32)
    (arg4 : Memref sig .tc .smem S4 .f32) (arg5 : Memref sig .tc .smem S4 .f32)
    (arg6 : Memref sig .tc .smem S24 .f32) (arg7 : Memref sig .tc .vmem S1x128x24x128 .fp8e4m3)
    (arg8 : Memref sig .tc .vmem S1x1024x4x128 .fp8e4m3) (arg9 : Memref sig .tc .vmem S1x1024x4x128 .fp8e4m3)
    (arg10 : Memref sig .tc .vmem S1x128x24x128 .bf16) (arg11 : Memref sig .tc .vmem S1x128x24x128 .fp8e5m2)
    (arg12 : Memref sig .tc .vmem S1x24x128 .f32) (arg13 : Memref sig .tc .vmem S1x128x24x128 .bf16)
    (arg14 : Memref sig .tc .vmem S1x1024x4x128 .bf16) (arg15 : Memref sig .tc .vmem S1x1024x4x128 .bf16)
    (arg16 : Memref sig .tc .vmem S4x8x128x128 .fp8e4m3) (arg17 : Memref sig .tc .vmem S4x8x128x128 .bf16)
    (arg18 : Memref sig .tc .vmem S4x8x128x128 .bf16) (arg19 : Memref sig .tc .vmem S4x8x128x128 .f32)
    (arg20 : Memref sig .tc .vmem S4x8x128x128 .f32) (arg21 : Memref sig .tc .vmem S5x128x128 .f32) :
    (b : Nm) → Memref sig .tc b.cs b.sh b.el
  | .cu => arg2 | .qs => arg3 | .ks => arg4 | .vs => arg5 | .dos => arg6 | .q => arg7 | .k => arg8 | .v => arg9
  | .o => arg10 | .dO => arg11 | .lse => arg12 | .dq => arg13 | .dk => arg14 | .dv => arg15 | .kn => arg16 | .kt => arg17
  | .vn => arg18 | .dkt => arg19 | .dvt => arg20 | .bias => arg21

/-- Whole memrefs, by name. -/
theorem whole
    (arg2 : Memref sig .tc .smem S2x19 .i32) (harg2 : arg2.IsWhole) (arg3 : Memref sig .tc .smem S24 .f32)
    (harg3 : arg3.IsWhole) (arg4 : Memref sig .tc .smem S4 .f32) (harg4 : arg4.IsWhole)
    (arg5 : Memref sig .tc .smem S4 .f32) (harg5 : arg5.IsWhole) (arg6 : Memref sig .tc .smem S24 .f32)
    (harg6 : arg6.IsWhole) (arg7 : Memref sig .tc .vmem S1x128x24x128 .fp8e4m3) (harg7 : arg7.IsWhole)
    (arg8 : Memref sig .tc .vmem S1x1024x4x128 .fp8e4m3) (harg8 : arg8.IsWhole)
    (arg9 : Memref sig .tc .vmem S1x1024x4x128 .fp8e4m3) (harg9 : arg9.IsWhole)
    (arg10 : Memref sig .tc .vmem S1x128x24x128 .bf16) (harg10 : arg10.IsWhole)
    (arg11 : Memref sig .tc .vmem S1x128x24x128 .fp8e5m2) (harg11 : arg11.IsWhole)
    (arg12 : Memref sig .tc .vmem S1x24x128 .f32) (harg12 : arg12.IsWhole)
    (arg13 : Memref sig .tc .vmem S1x128x24x128 .bf16) (harg13 : arg13.IsWhole)
    (arg14 : Memref sig .tc .vmem S1x1024x4x128 .bf16) (harg14 : arg14.IsWhole)
    (arg15 : Memref sig .tc .vmem S1x1024x4x128 .bf16) (harg15 : arg15.IsWhole)
    (arg16 : Memref sig .tc .vmem S4x8x128x128 .fp8e4m3) (harg16 : arg16.IsWhole)
    (arg17 : Memref sig .tc .vmem S4x8x128x128 .bf16) (harg17 : arg17.IsWhole)
    (arg18 : Memref sig .tc .vmem S4x8x128x128 .bf16) (harg18 : arg18.IsWhole)
    (arg19 : Memref sig .tc .vmem S4x8x128x128 .f32) (harg19 : arg19.IsWhole)
    (arg20 : Memref sig .tc .vmem S4x8x128x128 .f32) (harg20 : arg20.IsWhole)
    (arg21 : Memref sig .tc .vmem S5x128x128 .f32) (harg21 : arg21.IsWhole) :
    Whole (mems arg2 arg3 arg4 arg5 arg6 arg7 arg8 arg9 arg10 arg11 arg12 arg13 arg14 arg15 arg16 arg17 arg18 arg19 arg20 arg21)
  | .cu => harg2 | .qs => harg3 | .ks => harg4 | .vs => harg5 | .dos => harg6 | .q => harg7 | .k => harg8 | .v => harg9
  | .o => harg10 | .dO => harg11 | .lse => harg12 | .dq => harg13 | .dk => harg14 | .dv => harg15 | .kn => harg16 | .kt => harg17
  | .vn => harg18 | .dkt => harg19 | .dvt => harg20 | .bias => harg21

/-- The constants of the body. -/
def K : Cst F := ⟨Named.named κ "log2e" 0x3FB8AA3B#32, Named.named κ "scale" 0x3DB504F3#32, Named.named κ "scale_log2e" 0x3E0293EE#32⟩

/-- The bounds the body checks, of the boundaries it read. -/
@[reducible] def Chk (i : grid0.Coords) (cu : Fin 18 → BitVec 32) : Prop :=
  k0_chk1 i (cu 0) (cu 1) (cu 2) (cu 3) (cu 4) (cu 5) (cu 6) (cu 7) (cu 8) (cu 9) (cu 10) (cu 11) (cu 12) (cu 13) (cu 14) (cu 15) (cu 16) (cu 17)

/-- What the body keeps past its first spans. -/
@[reducible] def Kept (i : grid0.Coords) (F : FTy → Type) (cu : Fin 18 → BitVec 32) : Type :=
  Σ' (v205 : Elt F .i32) (v210 : Elt F .i32) (v215 : Elt F .i32) (v220 : Elt F .i32) (v225 : Elt F .i32) (_ : k0_chk1 i (cu 0) (cu 1) (cu 2) (cu 3) (cu 4) (cu 5) (cu 6) (cu 7) (cu 8) (cu 9) (cu 10) (cu 11) (cu 12) v205 v210 v215 v220 v225) (_ : BitVec 32), BitVec 32

/-- The boundaries as the body keeps them. -/
@[reducible] def keep (i : grid0.Coords) (cu : Fin 18 → BitVec 32) (r : Kept i F cu) : Fin 18 → BitVec 32 :=
  ![cu 0, cu 1, cu 2, cu 3, cu 4, cu 5, cu 6, cu 7, cu 8, cu 9, cu 10, cu 11, cu 12, r.1, r.2.1, r.2.2.1, r.2.2.2.1,
    r.2.2.2.2.1]

set_option maxHeartbeats 4000000 in
/-- The printed body is the structured one, its three stages in sequence. -/
theorem printed (i : grid0.Coords)
    (arg2 : Memref sig .tc .smem S2x19 .i32) (harg2 : arg2.IsWhole) (arg3 : Memref sig .tc .smem S24 .f32)
    (harg3 : arg3.IsWhole) (arg4 : Memref sig .tc .smem S4 .f32) (harg4 : arg4.IsWhole)
    (arg5 : Memref sig .tc .smem S4 .f32) (harg5 : arg5.IsWhole) (arg6 : Memref sig .tc .smem S24 .f32)
    (harg6 : arg6.IsWhole) (arg7 : Memref sig .tc .vmem S1x128x24x128 .fp8e4m3) (harg7 : arg7.IsWhole)
    (arg8 : Memref sig .tc .vmem S1x1024x4x128 .fp8e4m3) (harg8 : arg8.IsWhole)
    (arg9 : Memref sig .tc .vmem S1x1024x4x128 .fp8e4m3) (harg9 : arg9.IsWhole)
    (arg10 : Memref sig .tc .vmem S1x128x24x128 .bf16) (harg10 : arg10.IsWhole)
    (arg11 : Memref sig .tc .vmem S1x128x24x128 .fp8e5m2) (harg11 : arg11.IsWhole)
    (arg12 : Memref sig .tc .vmem S1x24x128 .f32) (harg12 : arg12.IsWhole)
    (arg13 : Memref sig .tc .vmem S1x128x24x128 .bf16) (harg13 : arg13.IsWhole)
    (arg14 : Memref sig .tc .vmem S1x1024x4x128 .bf16) (harg14 : arg14.IsWhole)
    (arg15 : Memref sig .tc .vmem S1x1024x4x128 .bf16) (harg15 : arg15.IsWhole)
    (arg16 : Memref sig .tc .vmem S4x8x128x128 .fp8e4m3) (harg16 : arg16.IsWhole)
    (arg17 : Memref sig .tc .vmem S4x8x128x128 .bf16) (harg17 : arg17.IsWhole)
    (arg18 : Memref sig .tc .vmem S4x8x128x128 .bf16) (harg18 : arg18.IsWhole)
    (arg19 : Memref sig .tc .vmem S4x8x128x128 .f32) (harg19 : arg19.IsWhole)
    (arg20 : Memref sig .tc .vmem S4x8x128x128 .f32) (harg20 : arg20.IsWhole)
    (arg21 : Memref sig .tc .vmem S5x128x128 .f32) (harg21 : arg21.IsWhole)
    (hC : ∀ cu, Chk i cu) :
    cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      = Prog.bind ((preBody (F := F) (whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (Chk i)
            (fun cu => k0_chk1.dec i (cu 0) (cu 1) (cu 2) (cu 3) (cu 4) (cu 5) (cu 6) (cu 7) (cu 8) (cu 9) (cu 10) (cu 11) (cu 12) (cu 13) (cu 14) (cu 15) (cu 16) (cu 17)) hC (i 0) (i 1)).toProg) fun cu =>
          Prog.bind ((midBody (whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K (i 0) (i 1) cu
              (⟨cu 13, cu 14, cu 15, cu 16, cu 17, hC cu, nSpan (i 1) cu, Scalar.extui (Scalar.cmpi .eq (nSpan (i 1) cu) 4#32)⟩ : Kept i F cu)).toProg) fun r =>
            (postBody (whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K (i 0) (i 1) (keep i cu r)).toProg := by
  chain_rfl

end Cert.KernelIdeal

end
-- ==== Proof.RunI.lean ====
/-
  The grid run of the kernel, for any invariant of its scratch and any relation of its windows that a point of the grid
  keeps: the printed body is the structured one (`body_eq`), a point's run is the structured body's (`body_ob`), and the
  whole launch follows (`launch`).
-/
module

public import proofs.«01_k».proof.Proof.MatchI
public import proofs.«01_k».proof.Proof.Only
public import proofs.«01_k».proof.Proof.Gen.KernelIdeal.Frame
public import Idealize.ShloMosaic.Lib.Pipeline.Frame
public import Idealize.ShloMosaic.Lib.Tactic

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg BodyObligation)
open Cert.Str Cert.Named
variable {F : FTy → Type} [FloatOps F] [Named F]

local notation "𝕄" => MT nD τ sig Unit (Elt F) ℕ (UR sig nD τ) ℕ

/-- The tiles of a span that is taken are in bounds, whatever the boundaries are. -/
theorem chk_all (i : grid0.Coords) (cu : Fin 18 → BitVec 32) : Chk i cu :=
  ⟨fun h r => inbTile 0 (jw 1 (i 1) r) (jw_lt 1 (by omega) (i 1) cu h r),
    fun h r => inbTile 1 (jw 1 (i 1) r) (jw_lt 1 (by omega) (i 1) cu h r),
    fun h r => inbTile 2 (jw 1 (i 1) r) (jw_lt 1 (by omega) (i 1) cu h r),
    fun h r => inbTile 3 (jw 1 (i 1) r) (jw_lt 1 (by omega) (i 1) cu h r),
    fun h r => inbTile 0 (jw 2 (i 1) r) (jw_lt 2 (by omega) (i 1) cu h r),
    fun h r => inbTile 1 (jw 2 (i 1) r) (jw_lt 2 (by omega) (i 1) cu h r),
    fun h r => inbTile 2 (jw 2 (i 1) r) (jw_lt 2 (by omega) (i 1) cu h r),
    fun h r => inbTile 3 (jw 2 (i 1) r) (jw_lt 2 (by omega) (i 1) cu h r),
    fun h r => inbTile 0 (jw 3 (i 1) r) (jw_lt 3 (by omega) (i 1) cu h r),
    fun h r => inbTile 1 (jw 3 (i 1) r) (jw_lt 3 (by omega) (i 1) cu h r),
    fun h r => inbTile 2 (jw 3 (i 1) r) (jw_lt 3 (by omega) (i 1) cu h r),
    fun h r => inbTile 3 (jw 3 (i 1) r) (jw_lt 3 (by omega) (i 1) cu h r),
    fun h r => inbTile 0 (jw 4 (i 1) r) (jw_lt 4 (by omega) (i 1) cu h r),
    fun h r => inbTile 1 (jw 4 (i 1) r) (jw_lt 4 (by omega) (i 1) cu h r),
    fun h r => inbTile 2 (jw 4 (i 1) r) (jw_lt 4 (by omega) (i 1) cu h r),
    fun h r => inbTile 3 (jw 4 (i 1) r) (jw_lt 4 (by omega) (i 1) cu h r)⟩

/-- What is kept past the first spans is the boundaries. -/
theorem keep_eq (i : grid0.Coords) (cu : Fin 18 → BitVec 32) (h a b) :
    keep i cu (⟨cu 13, cu 14, cu 15, cu 16, cu 17, h, a, b⟩ : Kept i F cu) = cu := by
  funext j; fin_cases j <;> rfl

/-- The printed body is the structured body. -/
theorem body_eq (i : grid0.Coords)
    (arg2 : Memref sig .tc .smem S2x19 .i32) (harg2 : arg2.IsWhole) (arg3 : Memref sig .tc .smem S24 .f32)
    (harg3 : arg3.IsWhole) (arg4 : Memref sig .tc .smem S4 .f32) (harg4 : arg4.IsWhole)
    (arg5 : Memref sig .tc .smem S4 .f32) (harg5 : arg5.IsWhole) (arg6 : Memref sig .tc .smem S24 .f32)
    (harg6 : arg6.IsWhole) (arg7 : Memref sig .tc .vmem S1x128x24x128 .fp8e4m3) (harg7 : arg7.IsWhole)
    (arg8 : Memref sig .tc .vmem S1x1024x4x128 .fp8e4m3) (harg8 : arg8.IsWhole)
    (arg9 : Memref sig .tc .vmem S1x1024x4x128 .fp8e4m3) (harg9 : arg9.IsWhole)
    (arg10 : Memref sig .tc .vmem S1x128x24x128 .bf16) (harg10 : arg10.IsWhole)
    (arg11 : Memref sig .tc .vmem S1x128x24x128 .fp8e5m2) (harg11 : arg11.IsWhole)
    (arg12 : Memref sig .tc .vmem S1x24x128 .f32) (harg12 : arg12.IsWhole)
    (arg13 : Memref sig .tc .vmem S1x128x24x128 .bf16) (harg13 : arg13.IsWhole)
    (arg14 : Memref sig .tc .vmem S1x1024x4x128 .bf16) (harg14 : arg14.IsWhole)
    (arg15 : Memref sig .tc .vmem S1x1024x4x128 .bf16) (harg15 : arg15.IsWhole)
    (arg16 : Memref sig .tc .vmem S4x8x128x128 .fp8e4m3) (harg16 : arg16.IsWhole)
    (arg17 : Memref sig .tc .vmem S4x8x128x128 .bf16) (harg17 : arg17.IsWhole)
    (arg18 : Memref sig .tc .vmem S4x8x128x128 .bf16) (harg18 : arg18.IsWhole)
    (arg19 : Memref sig .tc .vmem S4x8x128x128 .f32) (harg19 : arg19.IsWhole)
    (arg20 : Memref sig .tc .vmem S4x8x128x128 .f32) (harg20 : arg20.IsWhole)
    (arg21 : Memref sig .tc .vmem S5x128x128 .f32) (harg21 : arg21.IsWhole) :
    cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      = (body (F := F) (whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K (Chk i)
          (fun cu => k0_chk1.dec i (cu 0) (cu 1) (cu 2) (cu 3) (cu 4) (cu 5) (cu 6) (cu 7) (cu 8) (cu 9) (cu 10) (cu 11) (cu 12) (cu 13) (cu 14) (cu 15) (cu 16) (cu 17)) (chk_all i) (i 0) (i 1)).toProg := by
  rw [printed (hC := chk_all i)]
  unfold Cert.Str.body
  rw [NProg.toProg_bind]
  congr 1
  funext cu
  exact mid_post _ K (i 0) (i 1) cu _ (keep i cu) (keep_eq i cu _ _ _)

/-- The memrefs of point `t`. -/
abbrev memsAt (t : Fin cfg0.N) : (b : Nm) → Memref sig .tc b.cs b.sh b.el :=
  mems (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (Memref.whole cc0_scratch0) (Memref.whole cc0_scratch1) (Memref.whole cc0_scratch2) (Memref.whole cc0_scratch3) (Memref.whole cc0_scratch4) (Memref.whole cc0_scratch5)

/-- The body's buffers are whole. -/
theorem wholeAt (t : Fin cfg0.N) : Whole (memsAt t) :=
  whole (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

/-- The structured body at point `t`. -/
def bodyAt (t : Fin cfg0.N) : P (F := F) (memsAt t) PUnit :=
  body (wholeAt t) K (Chk (grid0.coords t)) (fun cu => k0_chk1.dec (grid0.coords t) (cu 0) (cu 1) (cu 2) (cu 3) (cu 4) (cu 5) (cu 6) (cu 7) (cu 8) (cu 9) (cu 10) (cu 11) (cu 12) (cu 13) (cu 14) (cu 15) (cu 16) (cu 17))
    (chk_all (grid0.coords t)) (grid0.coords t 0) (grid0.coords t 1)

/-- The contents of every buffer the body sees. -/
abbrev St (F : FTy → Type) : Type := (b : Nm) → b.sh.Idx → Elt F b.el

/-- The windows' staged blocks and the scratch, as one state. -/
def comb (Y : (w : Fin cfg0.W) → (cfg0.win w).block.Idx → Elt F (cfg0.win w).elt) (σ : St F) : St F
  | .cu => Y 0
  | .qs => Y 1
  | .ks => Y 2
  | .vs => Y 3
  | .dos => Y 4
  | .q => Y 5
  | .k => Y 6
  | .v => Y 7
  | .o => Y 8
  | .dO => Y 9
  | .lse => Y 10
  | .dq => Y 11
  | .dk => Y 12
  | .dv => Y 13
  | .kn => σ .kn
  | .kt => σ .kt
  | .vn => σ .vn
  | .dkt => σ .dkt
  | .dvt => σ .dvt
  | .bias => σ .bias

/-- The windows' part of a state. -/
def wins (σ : St F) : (w : Fin cfg0.W) → (cfg0.win w).block.Idx → Elt F (cfg0.win w).elt
  | 0 => σ .cu
  | 1 => σ .qs
  | 2 => σ .ks
  | 3 => σ .vs
  | 4 => σ .dos
  | 5 => σ .q
  | 6 => σ .k
  | 7 => σ .v
  | 8 => σ .o
  | 9 => σ .dO
  | 10 => σ .lse
  | 11 => σ .dq
  | 12 => σ .dk
  | 13 => σ .dv
  | ⟨_ + 14, h⟩ => absurd h (Nat.not_lt.2 (Nat.le_add_left _ _))

/-- The state after the body at point `t`. -/
abbrev after (t : Fin cfg0.N) (σ : St F) : St F := ((bodyAt t).run σ).2

variable (m : (ℓ : Loc nD τ sig) → Buf (Elt F) ℓ)

/-- The scratch held at a state's contents. -/
def scr (c : Dev nD) (σ : St F) : sProp 𝕄 :=
  iprop(owns (c : Thread nD τ) (Memref.whole cc0_scratch0) fullShare (σ .kn)
      ∗ owns (c : Thread nD τ) (Memref.whole cc0_scratch1) fullShare (σ .kt)
      ∗ owns (c : Thread nD τ) (Memref.whole cc0_scratch2) fullShare (σ .vn)
      ∗ owns (c : Thread nD τ) (Memref.whole cc0_scratch3) fullShare (σ .dkt)
      ∗ owns (c : Thread nD τ) (Memref.whole cc0_scratch4) fullShare (σ .dvt)
      ∗ owns (c : Thread nD τ) (Memref.whole cc0_scratch5) fullShare (σ .bias))

/-- The proof data: `Inv` of the scratch before each point, `Aft` of what a point leaves in a window. -/
def rdat (Inv : Fin (cfg0.N + 1) → St F → Prop)
    (Aft : (w : Fin cfg0.W) → Fin cfg0.N → ((cfg0.win w).block.Idx → Elt F (cfg0.win w).elt) → Prop) (c : Dev nD) :
    RDat τ (Elt F) Unit ℕ (UR sig nD τ) ℕ cfg0 c where
  A w := V m c (Pipeline.arrRef spec0 w)
  after w t Y X := ((cfg0.win w).isOut = false → X = Y) ∧ Aft w t X
  Φ t := iprop((∃ σ, ⌜Inv t σ⌝ ∗ scr c σ) ∗ ∃ r, prngReg c r)
  q _ := fullShare
  owed _ := 0

variable (Inv : Fin (cfg0.N + 1) → St F → Prop)
  (Aft : (w : Fin cfg0.W) → Fin cfg0.N → ((cfg0.win w).block.Idx → Elt F (cfg0.win w).elt) → Prop)

/-- A point of the grid keeps the invariant and the relation. -/
def Keeps (c : Dev nD) : Prop :=
  ∀ (t : Fin cfg0.N) (Y : (w : Fin cfg0.W) → (cfg0.win w).block.Idx → Elt F (cfg0.win w).elt) (σ : St F),
    Inv t.castSucc σ → (∀ w, (rdat m Inv Aft c).Finds w t (Y w)) →
    Inv t.succ (after t (comb Y σ)) ∧ (∀ w, (cfg0.win w).isOut = false → wins (after t (comb Y σ)) w = Y w)
      ∧ ∀ w, Aft w t (wins (after t (comb Y σ)) w)

/-- The body leaves the input windows as they are. -/
theorem inputs_kept (t : Fin cfg0.N) (Y : (w : Fin cfg0.W) → (cfg0.win w).block.Idx → Elt F (cfg0.win w).elt) (σ : St F)
    (w : Fin cfg0.W) (hw : (cfg0.win w).isOut = false) : wins (after t (comb Y σ)) w = Y w := by
  have h := fun b (hb : ¬ Outs b) => NProg.run_only (p := bodyAt (F := F) t) (only_body (wholeAt t) K _ _ _ _ _) (comb Y σ) b hb
  fin_cases w
  · exact h .cu (by decide)
  · exact h .qs (by decide)
  · exact h .ks (by decide)
  · exact h .vs (by decide)
  · exact h .dos (by decide)
  · exact h .q (by decide)
  · exact h .k (by decide)
  · exact h .v (by decide)
  · exact h .o (by decide)
  · exact h .dO (by decide)
  · exact h .lse (by decide)
  all_goals exact absurd hw (by decide)

/-- The windows' staged blocks held at a state's contents. -/
def stg (c : Dev nD) (t : Fin cfg0.N) (σ : St F) : sProp 𝕄 :=
  iprop(owns (c : Thread nD τ) (st0_0 t) fullShare (σ .cu)
      ∗ owns (c : Thread nD τ) (st0_1 t) fullShare (σ .qs)
      ∗ owns (c : Thread nD τ) (st0_2 t) fullShare (σ .ks)
      ∗ owns (c : Thread nD τ) (st0_3 t) fullShare (σ .vs)
      ∗ owns (c : Thread nD τ) (st0_4 t) fullShare (σ .dos)
      ∗ owns (c : Thread nD τ) (st0_5 t) fullShare (σ .q)
      ∗ owns (c : Thread nD τ) (st0_6 t) fullShare (σ .k)
      ∗ owns (c : Thread nD τ) (st0_7 t) fullShare (σ .v)
      ∗ owns (c : Thread nD τ) (st0_8 t) fullShare (σ .o)
      ∗ owns (c : Thread nD τ) (st0_9 t) fullShare (σ .dO)
      ∗ owns (c : Thread nD τ) (st0_10 t) fullShare (σ .lse)
      ∗ owns (c : Thread nD τ) (st0_11 t) fullShare (σ .dq)
      ∗ owns (c : Thread nD τ) (st0_12 t) fullShare (σ .dk)
      ∗ owns (c : Thread nD τ) (st0_13 t) fullShare (σ .dv))

/-- Every buffer held is the windows' and the scratch held. -/
theorem held_iff (c : Dev nD) (t : Fin cfg0.N) (σ : St F) :
    (NProg.held (M := fam (memsAt t)) (Val := Elt F) c σ : sProp 𝕄) ⊣⊢ iprop(stg c t σ ∗ scr c σ) := by
  have e : (NProg.held (M := fam (memsAt t)) (Val := Elt F) c σ : sProp 𝕄)
      = iprop(owns (c : Thread nD τ) (st0_0 t) fullShare (σ .cu)
      ∗ owns (c : Thread nD τ) (st0_1 t) fullShare (σ .qs)
      ∗ owns (c : Thread nD τ) (st0_2 t) fullShare (σ .ks)
      ∗ owns (c : Thread nD τ) (st0_3 t) fullShare (σ .vs)
      ∗ owns (c : Thread nD τ) (st0_4 t) fullShare (σ .dos)
      ∗ owns (c : Thread nD τ) (st0_5 t) fullShare (σ .q)
      ∗ owns (c : Thread nD τ) (st0_6 t) fullShare (σ .k)
      ∗ owns (c : Thread nD τ) (st0_7 t) fullShare (σ .v)
      ∗ owns (c : Thread nD τ) (st0_8 t) fullShare (σ .o)
      ∗ owns (c : Thread nD τ) (st0_9 t) fullShare (σ .dO)
      ∗ owns (c : Thread nD τ) (st0_10 t) fullShare (σ .lse)
      ∗ owns (c : Thread nD τ) (st0_11 t) fullShare (σ .dq)
      ∗ owns (c : Thread nD τ) (st0_12 t) fullShare (σ .dk)
      ∗ owns (c : Thread nD τ) (st0_13 t) fullShare (σ .dv)
      ∗ owns (c : Thread nD τ) (Memref.whole cc0_scratch0) fullShare (σ .kn)
      ∗ owns (c : Thread nD τ) (Memref.whole cc0_scratch1) fullShare (σ .kt)
      ∗ owns (c : Thread nD τ) (Memref.whole cc0_scratch2) fullShare (σ .vn)
      ∗ owns (c : Thread nD τ) (Memref.whole cc0_scratch3) fullShare (σ .dkt)
      ∗ owns (c : Thread nD τ) (Memref.whole cc0_scratch4) fullShare (σ .dvt)
      ∗ owns (c : Thread nD τ) (Memref.whole cc0_scratch5) fullShare (σ .bias)) :=
    bigSep_univ_eq_bigSepL [Nm.cu, Nm.qs, Nm.ks, Nm.vs, Nm.dos, Nm.q, Nm.k, Nm.v, Nm.o, Nm.dO, Nm.lse, Nm.dq, Nm.dk, Nm.dv, Nm.kn, Nm.kt, Nm.vn, Nm.dkt, Nm.dvt, Nm.bias] (by decide) (by decide)
      (fun b => owns (c : Thread nD τ) (memsAt t b) fullShare (σ b))
  rw [e]
  unfold stg scr
  constructor
  · iintro ⟨H0, H1, H2, H3, H4, H5, H6, H7, H8, H9, H10, H11, H12, H13, S0, S1, S2, S3, S4, S5⟩
    isplitl [H0 H1 H2 H3 H4 H5 H6 H7 H8 H9 H10 H11 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [S0]; · iexact S0
    isplitl [S1]; · iexact S1
    isplitl [S2]; · iexact S2
    isplitl [S3]; · iexact S3
    isplitl [S4]; · iexact S4
    iexact S5
  · iintro ⟨⟨H0, H1, H2, H3, H4, H5, H6, H7, H8, H9, H10, H11, H12, H13⟩, S0, S1, S2, S3, S4, S5⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S4]; · iexact S4
    iexact S5

/-- The body obligation. -/
theorem body_ob (c : Dev nD) (hK : Keeps m Inv Aft c) :
    (rdat m Inv Aft c).BodyObligation (defs₀ (F := F)) Variants.none () Set.univ := by
  intro t Y hY
  rw [bigSep_W0, bigSep_W0]
  show iprop(iprop((∃ σ, ⌜Inv t.castSucc σ⌝ ∗ scr c σ) ∗ ∃ r, prngReg c r) ∗ (rdat m Inv Aft c).owesAt () t.castSucc ∗ _)
    ⊢ wp frame (wpE (defs₀ (F := F)) Variants.none c none) Set.univ
      (cc0_attn_bwd (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) fun _ =>
      iprop(iprop((∃ σ, ⌜Inv t.succ σ⌝ ∗ scr c σ) ∗ ∃ r, prngReg c r) ∗ (rdat m Inv Aft c).owesAt () t.castSucc ∗ _)
  rw [body_eq]
  iintro ⟨⟨⟨%σ, %hσ, HS⟩, Hg⟩, HO, HW⟩
  have hk := hK t Y σ hσ hY
  iapply (NProg.wp_toProg (Ix := Unit) (Name := ℕ) (U := UR sig nD τ) (Lvl := ℕ) (nD := nD) (τ := τ) (defs₀ (F := F)) Variants.none c none Set.univ (bodyAt t) (comb Y σ) _)
  isplitl [HS HW]
  · iapply (held_iff c t (comb Y σ)).2
    isplitl [HW]
    · unfold stg; dsimp only [comb]; iexact HW
    · unfold scr; dsimp only [comb]; iexact HS
  iintro H
  ihave H2 := (held_iff c t (after t (comb Y σ))).1 $$ H
  icases H2 with ⟨HW, HS⟩
  isplitl [HS Hg]
  · isplitl [HS]
    · iexists (after t (comb Y σ)); isplitr; · ipureintro; exact hk.1
      iexact HS
    iexact Hg
  isplitl [HO]; · iexact HO
  unfold stg
  icases HW with ⟨H0, H1, H2, H3, H4, H5, H6, H7, H8, H9, H10, H11, H12, H13⟩
  isplitl [H0]
  · iexists (wins (after t (comb Y σ)) 0); isplitr
    · ipureintro; exact ⟨fun h => hk.2.1 0 h, hk.2.2 0⟩
    iexact H0
  isplitl [H1]
  · iexists (wins (after t (comb Y σ)) 1); isplitr
    · ipureintro; exact ⟨fun h => hk.2.1 1 h, hk.2.2 1⟩
    iexact H1
  isplitl [H2]
  · iexists (wins (after t (comb Y σ)) 2); isplitr
    · ipureintro; exact ⟨fun h => hk.2.1 2 h, hk.2.2 2⟩
    iexact H2
  isplitl [H3]
  · iexists (wins (after t (comb Y σ)) 3); isplitr
    · ipureintro; exact ⟨fun h => hk.2.1 3 h, hk.2.2 3⟩
    iexact H3
  isplitl [H4]
  · iexists (wins (after t (comb Y σ)) 4); isplitr
    · ipureintro; exact ⟨fun h => hk.2.1 4 h, hk.2.2 4⟩
    iexact H4
  isplitl [H5]
  · iexists (wins (after t (comb Y σ)) 5); isplitr
    · ipureintro; exact ⟨fun h => hk.2.1 5 h, hk.2.2 5⟩
    iexact H5
  isplitl [H6]
  · iexists (wins (after t (comb Y σ)) 6); isplitr
    · ipureintro; exact ⟨fun h => hk.2.1 6 h, hk.2.2 6⟩
    iexact H6
  isplitl [H7]
  · iexists (wins (after t (comb Y σ)) 7); isplitr
    · ipureintro; exact ⟨fun h => hk.2.1 7 h, hk.2.2 7⟩
    iexact H7
  isplitl [H8]
  · iexists (wins (after t (comb Y σ)) 8); isplitr
    · ipureintro; exact ⟨fun h => hk.2.1 8 h, hk.2.2 8⟩
    iexact H8
  isplitl [H9]
  · iexists (wins (after t (comb Y σ)) 9); isplitr
    · ipureintro; exact ⟨fun h => hk.2.1 9 h, hk.2.2 9⟩
    iexact H9
  isplitl [H10]
  · iexists (wins (after t (comb Y σ)) 10); isplitr
    · ipureintro; exact ⟨fun h => hk.2.1 10 h, hk.2.2 10⟩
    iexact H10
  isplitl [H11]
  · iexists (wins (after t (comb Y σ)) 11); isplitr
    · ipureintro; exact ⟨fun h => hk.2.1 11 h, hk.2.2 11⟩
    iexact H11
  isplitl [H12]
  · iexists (wins (after t (comb Y σ)) 12); isplitr
    · ipureintro; exact ⟨fun h => hk.2.1 12 h, hk.2.2 12⟩
    iexact H12
  iexists (wins (after t (comb Y σ)) 13); isplitr
  · ipureintro; exact ⟨fun h => hk.2.1 13 h, hk.2.2 13⟩
  iexact H13

/-- A state with the given scratch and anything in the windows. -/
def stOf (f0 : (Nm.kn).sh.Idx → Elt F (Nm.kn).el) (f1 : (Nm.kt).sh.Idx → Elt F (Nm.kt).el) (f2 : (Nm.vn).sh.Idx → Elt F (Nm.vn).el) (f3 : (Nm.dkt).sh.Idx → Elt F (Nm.dkt).el) (f4 : (Nm.dvt).sh.Idx → Elt F (Nm.dvt).el) (f5 : (Nm.bias).sh.Idx → Elt F (Nm.bias).el) : St F
  | .kn => f0
  | .kt => f1
  | .vn => f2
  | .dkt => f3
  | .dvt => f4
  | .bias => f5
  | .cu => fun _ => (0#32 : BitVec 32)
  | .qs => fun _ => Scalar.ofBits _ 0
  | .ks => fun _ => Scalar.ofBits _ 0
  | .vs => fun _ => Scalar.ofBits _ 0
  | .dos => fun _ => Scalar.ofBits _ 0
  | .q => fun _ => Scalar.ofBits _ 0
  | .k => fun _ => Scalar.ofBits _ 0
  | .v => fun _ => Scalar.ofBits _ 0
  | .o => fun _ => Scalar.ofBits _ 0
  | .dO => fun _ => Scalar.ofBits _ 0
  | .lse => fun _ => Scalar.ofBits _ 0
  | .dq => fun _ => Scalar.ofBits _ 0
  | .dk => fun _ => Scalar.ofBits _ 0
  | .dv => fun _ => Scalar.ofBits _ 0

/-- The launch: when every point keeps the invariant and the relation, the grid run ends with every array at contents the
    relation allows, the rest unchanged, and every semaphore at zero. -/
theorem launch (g : Dev nD → PrngReg) (hI : ∀ σ, Inv 0 σ) (hK : ∀ c, Keeps m Inv Aft c)
    (Q' : PUnit × MemSt nD τ sig (Elt F) → Prop)
    (hQ : ∀ r, Pipeline.RDat.FramePost cfg0 (rdat m Inv Aft) (V m) r ∧ r.2.sem = (fun _ => 0) → Q' r) :
    θ_run defs (onTc (τ := τ) (main (F := F))) ⟨m, fun _ => 0, g⟩ Q' := by
  refine Pipeline.RDat.θ_run_frame_track cfgs 0 launch0 (defs₀ (F := F)) Variants.none (rdat m Inv Aft) m g main
    (fun c => body_ob m Inv Aft c (hK c)) (fun c w => by unfold RDat.share rdat; split <;> rfl) (fun _ _ => rfl) (V m) (hmain m _) (fun _ _ => rfl) ?_ ?_ Q' hQ
  · intro c
    show iprop(Pipeline.scopedRest spec0 c ∗ ∃ r, prngReg c r) ⊢ iprop((∃ σ, ⌜Inv 0 σ⌝ ∗ scr c σ) ∗ ∃ r, prngReg c r)
    rw [scopedRest0_eq]
    iintro ⟨⟨⟨%f0, S0⟩, ⟨%f1, S1⟩, ⟨%f2, S2⟩, ⟨%f3, S3⟩, ⟨%f4, S4⟩, ⟨%f5, S5⟩⟩, Hg⟩
    isplitl [S0 S1 S2 S3 S4 S5]
    · iexists (stOf f0 f1 f2 f3 f4 f5); isplitr; · ipureintro; exact hI _
      unfold scr
      simp only [owns_whole]
      isplitl [S0]; · iexact S0
      isplitl [S1]; · iexact S1
      isplitl [S2]; · iexact S2
      isplitl [S3]; · iexact S3
      isplitl [S4]; · iexact S4
      iexact S5
    iexact Hg
  · intro c
    show iprop((∃ σ, ⌜Inv (Fin.last _) σ⌝ ∗ scr c σ) ∗ ∃ r, prngReg c r) ⊢ iprop(Pipeline.scopedRest spec0 c ∗ ∃ r, prngReg c r)
    rw [scopedRest0_eq]
    unfold scr
    simp only [owns_whole]
    iintro ⟨⟨%σ, -, S0, S1, S2, S3, S4, S5⟩, Hg⟩
    isplitl [S0 S1 S2 S3 S4 S5]
    · isplitl [S0]; · iexists _; iexact S0
      isplitl [S1]; · iexists _; iexact S1
      isplitl [S2]; · iexists _; iexact S2
      isplitl [S3]; · iexists _; iexact S3
      isplitl [S4]; · iexists _; iexact S4
      iexists _; iexact S5
    iexact Hg

/-- The launch leaves every argument as it found it. -/
theorem args_kept (r : PUnit × MemSt nD τ sig (Elt F)) (h : Pipeline.RDat.FramePost cfg0 (rdat m Inv Aft) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(h.arr_in c 5 rfl).trans (V_main_arg0 m c),
    (h.arr_in c 1 rfl).trans (V_main_arg1 m c),
    (h.arr_in c 6 rfl).trans (V_main_arg2 m c),
    (h.arr_in c 2 rfl).trans (V_main_arg3 m c),
    (h.arr_in c 7 rfl).trans (V_main_arg4 m c),
    (h.arr_in c 3 rfl).trans (V_main_arg5 m c),
    (h.arr_in c 8 rfl).trans (V_main_arg6 m c),
    (h.arr_in c 9 rfl).trans (V_main_arg7 m c),
    (h.arr_in c 4 rfl).trans (V_main_arg8 m c),
    (h.arr_in c 10 rfl).trans (V_main_arg9 m c),
    (h.arr_in c 0 rfl).trans (V_main_arg10 m c)⟩

/-- The frame: the run ends, every argument is as it was, and every semaphore is at zero. -/
theorem framed (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  launch m (fun _ _ => True) (fun _ _ _ => True) g (fun _ => trivial)
    (fun c t Y σ _ _ => ⟨trivial, fun w hw => inputs_kept t Y σ w hw, fun _ => trivial⟩) _
    fun r hr => ⟨fun c => args_kept m _ _ r hr.1 c, hr.2⟩

end Cert.KernelIdeal

end
-- ==== Proof.Vec.lean ====
/-
  The vector operations of the body read at an index: stacks and rows of tiles, pairs of heads, slices, transposes,
  shape casts, the three products and the column sum.
-/
module

public import proofs.«01_k».proof.Proof.Struct
public import Idealize.ShloMosaic.Lib.ValueIdx
public import Idealize.ShloMosaic.Lib.Pipeline.Value
public import Idealize.ShloMosaic.Lib.MatmulPlain

@[expose] public section

noncomputable section

namespace Cert.Str

open Idealize.ShloMosaic Idealize.ShloMosaic.ValueIdx
open scoped BigOperators

/-- Row `a` of tile `j` in a stack of `m + 1`. -/
def row {m : Nat} (j : Fin (m + 1)) (a : Fin 128) : Fin (128 * (m + 1)) := ⟨128 * j.val + a.val, by omega⟩
/-- Lane `r` of the pair's head `t`. -/
def lane (t : Fin 2) (r : Fin 128) : Fin 256 := ⟨128 * t.val + r.val, by omega⟩
/-- One of two. -/
def two {α : Type} (t : Fin 2) (a b : α) : α := if t = 0 then a else b

/-- The list of a family. -/
theorem lst_eq_ofFn {α : Type} : ∀ (n : Nat) (f : Fin n → α), lst n f = List.ofFn f
  | 0, _ => by simp [lst]
  | n + 1, f => by rw [lst, List.ofFn_succ, lst_eq_ofFn n]

/-- Concatenations of equal lists are equal. -/
theorem concat_list {α : Type} {t : Shape} (a : Fin t.rank) {l l' : List ((s : Shape) × (s.Idx → α))} (e : l = l')
    (h : Shape.Concatenates (l.map (·.1)) t a) :
    concatenate t a l h = concatenate t a l' (e ▸ h) := by subst e; rfl

section Generic
variable {F : FTy → Type} [FloatOps F] {φ : FTy}

/-- A stack of tiles at a row of one of them. -/
theorem catRows_apply : ∀ (m : Nat) (H : SpanOk m) (xs : Fin (m + 1) → FVec F T φ) (j : Fin (m + 1)) (a c : Fin 128),
    catRows m H xs (ix2 (row j a) c) = xs j (ix2 a c)
  | 0, H, xs, j, a, c => by
    obtain rfl : j = 0 := Fin.ext (by omega)
    refine congrArg (xs 0) (funext fun d => ?_)
    match d with
    | ⟨0, _⟩ => exact Fin.ext (by simp [row])
    | ⟨1, _⟩ => rfl
  | m + 1, H, xs, j, a, c => by
    have hj := j.isLt
    have ha := a.isLt
    unfold catRows; dsimp only
    rw [concat_list 0 (lst_eq_ofFn (m + 2) fun j => (⟨T, xs j⟩ : (s : Shape) × (s.Idx → F φ)))]
    refine concatenate_ofFn_apply (t := R (m + 1)) (s₁ := T) 0 xs _ rfl 128 rfl _ j ?_ _ ?_ ?_
    · show (128 * j.val + a.val) / 128 = j.val; omega
    · show a.val = (128 * j.val + a.val) % 128; omega
    · intro b hb
      match b with
      | ⟨0, _⟩ => exact absurd rfl hb
      | ⟨1, _⟩ => rfl

/-- A row of tiles at a column of one of them. -/
theorem catCols_apply : ∀ (m : Nat) (H : SpanOk m) (xs : Fin (m + 1) → FVec F T φ) (j : Fin (m + 1)) (d a : Fin 128),
    catCols m H xs (ix2 d (row j a)) = xs j (ix2 d a)
  | 0, H, xs, j, d, a => by
    obtain rfl : j = 0 := Fin.ext (by omega)
    refine congrArg (xs 0) (funext fun e => ?_)
    match e with
    | ⟨0, _⟩ => rfl
    | ⟨1, _⟩ => exact Fin.ext (by simp [row])
  | m + 1, H, xs, j, d, a => by
    have hj := j.isLt
    have ha := a.isLt
    unfold catCols; dsimp only
    rw [concat_list 1 (lst_eq_ofFn (m + 2) fun j => (⟨T, xs j⟩ : (s : Shape) × (s.Idx → F φ)))]
    refine concatenate_ofFn_apply (t := C (m + 1)) (s₁ := T) 1 xs _ rfl 128 rfl _ j ?_ _ ?_ ?_
    · show (128 * j.val + a.val) / 128 = j.val; omega
    · show a.val = (128 * j.val + a.val) % 128; omega
    · intro b hb
      match b with
      | ⟨0, _⟩ => rfl
      | ⟨1, _⟩ => exact absurd rfl hb

/-- A pair of tiles at a lane. -/
theorem pairT_apply (x y : FVec F T φ) (d : Fin 128) (t : Fin 2) (r : Fin 128) :
    pairT x y (ix2 d (lane t r)) = two t x y (ix2 d r) := by
  have hr := r.isLt
  fin_cases t
  · refine concatenate_pair_apply_left (t := T2) 1 x y cat2 _ rfl (ix2 d r) fun b => ?_
    match b with
    | ⟨0, _⟩ => rfl
    | ⟨1, _⟩ => show r.val = 128 * 0 + r.val; omega
  · refine concatenate_pair_apply_right (t := T2) 1 x y cat2 _ rfl rfl (ix2 d r) (fun b hb => ?_) ?_
    · match b with
      | ⟨0, _⟩ => rfl
      | ⟨1, _⟩ => exact absurd rfl hb
    · show r.val + 128 = 128 * 1 + r.val; omega

/-- A pair of stacks at a lane. -/
theorem pairR_apply {m : Nat} (H : SpanOk m) (x y : FVec F (R m) φ) (i : Fin (128 * (m + 1))) (t : Fin 2) (r : Fin 128) :
    pairR H x y (ix2 i (lane t r)) = two t x y (ix2 i r) := by
  have hr := r.isLt
  fin_cases t
  · refine concatenate_pair_apply_left (t := R2 m) 1 x y H.catP _ rfl (ix2 i r) fun b => ?_
    match b with
    | ⟨0, _⟩ => rfl
    | ⟨1, _⟩ => show r.val = 128 * 0 + r.val; omega
  · refine concatenate_pair_apply_right (t := R2 m) 1 x y H.catP _ rfl rfl (ix2 i r) (fun b hb => ?_) ?_
    · match b with
      | ⟨0, _⟩ => rfl
      | ⟨1, _⟩ => exact absurd rfl hb
    · show r.val + 128 = 128 * 1 + r.val; omega

/-- A column tile at an index. -/
theorem colTile_apply : ∀ (m : Nat) (H : SpanOk m) (j : Fin (m + 1)) (x : FVec F (C m) φ) (d a : Fin 128),
    colTile m H j x (ix2 d a) = x (ix2 d (row j a))
  | 0, H, j, x, d, a => by
    obtain rfl : j = 0 := Fin.ext (by omega)
    refine congrArg x (funext fun e => ?_)
    match e with
    | ⟨0, _⟩ => rfl
    | ⟨1, _⟩ => exact Fin.ext (by simp [row])
  | m + 1, H, j, x, d, a => by
    refine extractStridedSlice_apply _ x (H.slC j) _ _ fun e => ?_
    match e with
    | ⟨0, _⟩ => show d.val = 0 + d.val; omega
    | ⟨1, _⟩ => rfl

/-- A tile of a pair of stacks at an index. -/
theorem slR2_apply {α : Type} {m : Nat} (x : (R2 m).Idx → α) (j : Fin (m + 1)) (t : Fin 2)
    (h : (R2 m).Slices ![128 * j.val, 128 * t.val] T) (a r : Fin 128) :
    extractStridedSlice T ![128 * j.val, 128 * t.val] x h (ix2 a r) = x (ix2 (row j a) (lane t r)) :=
  extractStridedSlice_apply _ x h _ _ fun e => match e with
    | ⟨0, _⟩ => rfl
    | ⟨1, _⟩ => rfl

/-- A head of a pair of tiles at an index. -/
theorem slT2_apply {α : Type} (x : T2.Idx → α) (t : Fin 2) (h : T2.Slices ![0, 128 * t.val] T) (d r : Fin 128) :
    extractStridedSlice T ![0, 128 * t.val] x h (ix2 d r) = x (ix2 d (lane t r)) :=
  extractStridedSlice_apply _ x h _ _ fun e => match e with
    | ⟨0, _⟩ => by show d.val = 0 + d.val; omega
    | ⟨1, _⟩ => rfl

/-- A transposed tile at an index. -/
theorem trT_apply {α : Type} (x : T.Idx → α) (a b : Fin 128) :
    transpose T [1, 0] x transT (ix2 a b) = x (ix2 b a) :=
  transpose_apply [1, 0] x transT _ _ fun e => match e with
    | ⟨0, _⟩ => rfl
    | ⟨1, _⟩ => rfl

/-- A head's tile of a window as a square, at an index. -/
theorem castTh_apply {α : Type} (x : Th.Idx → α) (a b : Fin 128) :
    shapeCast T (s := Th) x castTh (ix2 a b) = x (ix4 0 a 0 b) :=
  shapeCast_apply x castTh _ _ (by
    rw [Shape.rowMajor_val_four, Shape.rowMajor_val_two]
    show ((0 * 128 + a.val) * 1 + 0) * 128 + b.val = a.val * 128 + b.val; omega)
/-- A square as a head's tile of a window, at an index. -/
theorem castThR_apply {α : Type} (x : T.Idx → α) (z z' : Fin 1) (a b : Fin 128) :
    shapeCast Th (s := T) x castThR (ix4 z a z' b) = x (ix2 a b) :=
  shapeCast_apply x castThR _ _ (by
    obtain rfl : z = 0 := Subsingleton.elim _ _
    obtain rfl : z' = 0 := Subsingleton.elim _ _
    rw [Shape.rowMajor_val_four, Shape.rowMajor_val_two]
    show a.val * 128 + b.val = ((0 * 128 + a.val) * 1 + 0) * 128 + b.val; omega)
/-- A staged tile as a square, at an index. -/
theorem castTt_apply {α : Type} (x : Tt.Idx → α) (a b : Fin 128) :
    shapeCast T (s := Tt) x castTt (ix2 a b) = x (ix4 0 0 a b) :=
  shapeCast_apply x castTt _ _ (by
    rw [Shape.rowMajor_val_four, Shape.rowMajor_val_two]
    show ((0 * 1 + 0) * 128 + a.val) * 128 + b.val = a.val * 128 + b.val; omega)
/-- A square as a staged tile, at an index. -/
theorem castTtR_apply {α : Type} (x : T.Idx → α) (z z' : Fin 1) (a b : Fin 128) :
    shapeCast Tt (s := T) x castTtR (ix4 z z' a b) = x (ix2 a b) :=
  shapeCast_apply x castTtR _ _ (by
    obtain rfl : z = 0 := Subsingleton.elim _ _
    obtain rfl : z' = 0 := Subsingleton.elim _ _
    rw [Shape.rowMajor_val_four, Shape.rowMajor_val_two]
    show a.val * 128 + b.val = ((0 * 1 + 0) * 128 + a.val) * 128 + b.val; omega)
/-- A mask tile as a square, at an index. -/
theorem castTb_apply {α : Type} (x : Tb.Idx → α) (a b : Fin 128) :
    shapeCast T (s := Tb) x castTb (ix2 a b) = x (ix3 0 a b) :=
  shapeCast_apply x castTb _ _ (by
    rw [Shape.rowMajor_val_three, Shape.rowMajor_val_two]
    show (0 * 128 + a.val) * 128 + b.val = a.val * 128 + b.val; omega)
/-- A square as a mask tile, at an index. -/
theorem castTbR_apply {α : Type} (x : T.Idx → α) (z : Fin 1) (a b : Fin 128) :
    shapeCast Tb (s := T) x castTbR (ix3 z a b) = x (ix2 a b) :=
  shapeCast_apply x castTbR _ _ (by
    obtain rfl : z = 0 := Subsingleton.elim _ _
    rw [Shape.rowMajor_val_three, Shape.rowMajor_val_two]
    show a.val * 128 + b.val = (0 * 128 + a.val) * 128 + b.val; omega)
/-- A log sum's row as a line, at an index. -/
theorem castL3_apply {α : Type} (x : L3.Idx → α) (r : Fin 128) :
    shapeCast L (s := L3) x castL3 (ix2 0 r) = x (ix3 0 0 r) :=
  shapeCast_apply x castL3 _ _ (by
    rw [Shape.rowMajor_val_three, Shape.rowMajor_val_two]
    show (0 * 1 + 0) * 128 + r.val = 0 * 128 + r.val; omega)
/-- A vector as a line, at an index. -/
theorem castV_apply {α : Type} (x : V128.Idx → α) (r : Fin 128) :
    shapeCast L (s := V128) x castV (ix2 0 r) = x (ix1 r) :=
  shapeCast_apply x castV _ _ (by
    rw [Shape.rowMajor_val_one, Shape.rowMajor_val_two]
    show r.val = 0 * 128 + r.val; omega)

/-- A row broadcast down a tile. -/
theorem bcL_apply {α : Type} (x : L.Idx → α) (a r : Fin 128) : broadcastTo T x bcL (ix2 a r) = x (ix2 0 r) :=
  broadcastTo_apply x bcL _ _ fun e => match e with
    | ⟨0, _⟩ => rfl
    | ⟨1, _⟩ => rfl

end Generic

/-- A sum over the rows of a stack is over its tiles and their rows. -/
theorem sum_row {m : Nat} (f : Fin (128 * (m + 1)) → EReal) : ∑ i, f i = ∑ j : Fin (m + 1), ∑ a : Fin 128, f (row j a) := by
  rw [← Equiv.sum_comp ((finProdFinEquiv (m := m + 1) (n := 128)).trans (finCongr (by rw [Nat.mul_comm]))), Fintype.sum_prod_type]
  refine Finset.sum_congr rfl fun j _ => Finset.sum_congr rfl fun a _ => congrArg f (Fin.ext ?_)
  show a.val + 128 * j.val = 128 * j.val + a.val; omega

/-- A sum over a pair's lanes is over its heads and their lanes. -/
theorem sum_lane (f : Fin 256 → EReal) : ∑ i, f i = ∑ t : Fin 2, ∑ r : Fin 128, f (lane t r) := by
  rw [← Equiv.sum_comp ((finProdFinEquiv (m := 2) (n := 128)).trans (finCongr (by norm_num))), Fintype.sum_prod_type]
  refine Finset.sum_congr rfl fun j _ => Finset.sum_congr rfl fun a _ => congrArg f (Fin.ext ?_)
  show a.val + 128 * j.val = 128 * j.val + a.val; omega

/-- The zero literal. -/
theorem zero_f32 (s : Shape) (i : s.Idx) : (constant s .f32 0x00000000#32 : FVec Ideal s .f32) i = 0 := Ideal.ofBits_zero_f32

section Dots
variable {m : Nat} (H : SpanOk m) {φ₁ φ₂ : FTy}

/-- Scores at an index. -/
theorem dS_apply (A : FVec Ideal (R m) φ₁) (B : FVec Ideal T2 φ₂) (i : Fin (128 * (m + 1))) (c : Fin 256) :
    matmul (dS H) none A B (constant (R2 m) .f32 0x00000000#32) (ix2 i c) = ∑ k : Fin 128, A (ix2 i k) * B (ix2 k c) :=
  (Ideal.matmul_plain_apply (M := 128 * (m + 1)) (K := 128) (N := 256) none A B _ i c).trans (by rw [zero_f32, zero_add])
/-- Key gradients at an index. -/
theorem dK_apply (A : FVec Ideal T2 φ₁) (B : FVec Ideal (R2 m) φ₂) (d : Fin 128) (i : Fin (128 * (m + 1))) :
    matmul (dK H) none A B (constant (C m) .f32 0x00000000#32) (ix2 d i) = ∑ c : Fin 256, A (ix2 d c) * B (ix2 i c) :=
  (Ideal.matmul_transposedRhs_apply (M := 128) (K := 256) (N := 128 * (m + 1)) none A B _ d i).trans (by rw [zero_f32, zero_add])
/-- Query gradients at an index. -/
theorem dQ_apply (A : FVec Ideal (C m) φ₁) (B : FVec Ideal (R2 m) φ₂) (d : Fin 128) (c : Fin 256) :
    matmul (dQ H) none A B (constant T2 .f32 0x00000000#32) (ix2 d c) = ∑ i : Fin (128 * (m + 1)), A (ix2 d i) * B (ix2 i c) :=
  (Ideal.matmul_plain_apply (M := 128) (K := 128 * (m + 1)) (N := 256) none A B _ d c).trans (by rw [zero_f32, zero_add])

end Dots

/-- The column sum of a tile. -/
theorem colSum_apply (x : FVec Ideal T .f32) (r : Fin 128) :
    shapeCast L (multiReduction .add [0] V128 x 0x00000000#32 redT (.inl rfl) rfl) castV (ix2 0 r) = ∑ d : Fin 128, x (ix2 d r) := by
  refine (castV_apply _ r).trans ((Ideal.multiReduction_add_single (a := 0) x _ redT _ _ (ix1 r)).trans ?_)
  refine Finset.sum_congr rfl fun d _ => congrArg x (funext fun e => ?_)
  match e with
  | ⟨0, _⟩ => rfl
  | ⟨1, _⟩ => rfl

end Cert.Str

end
-- ==== Proof.Acc.lean ====
/-
  What the loads and stores of the body read and leave, at an index: a load's tile is the buffer at the tile's place, and
  a store leaves the buffer as it was except at its tile.
-/
module

public import proofs.«01_k».proof.Proof.Vec
public import proofs.«01_k».proof.Proof.Only

@[expose] public section

noncomputable section

namespace Cert.Str

open Idealize.ShloMosaic Idealize.ShloMosaic.ValueIdx
open Cert.Named
open scoped BigOperators

/-- The contents of every named buffer. -/
abbrev St0 : Type := (b : Nm) → b.sh.Idx → Elt Ideal b.el

/-! ### Stores at an index -/

/-- Storing a tile of a scratch buffer. -/
theorem overlay_tile {α : Type} (g : Fin 4) (w : BitVec 32) (hw : w.toNat < 8) (X : STiles.Idx → α) (x : T.Idx → α)
    (g' : Fin 4) (J : Fin 8) (a d : Fin 128) :
    (rTile g w hw).overlay X (shapeCast Tt (s := T) x castTtR) (ix4 g' J a d)
      = if g' = g ∧ J.val = w.toNat then x (ix2 a d) else X (ix4 g' J a d) := by
  by_cases h : g' = g ∧ J.val = w.toNat
  · rw [if_pos h]
    have e : (ix4 g' J a d : STiles.Idx) = (rTile g w hw).emb (ix4 (0 : Fin 1) (0 : Fin 1) a d) := by
      obtain ⟨rfl, h⟩ := h
      refine funext fun b => ?_
      match b with
      | ⟨0, _⟩ => exact Fin.ext (show g'.val = g'.val + 1 * 0 by omega)
      | ⟨1, _⟩ => exact Fin.ext (show J.val = w.toNat + 1 * 0 by omega)
      | ⟨2, _⟩ => exact Fin.ext (show a.val = 0 + 1 * a.val by omega)
      | ⟨3, _⟩ => exact Fin.ext (show d.val = 0 + 1 * d.val by omega)
    rw [e, Rect.overlay_emb]
    exact castTtR_apply x 0 0 a d
  · rw [if_neg h]
    refine Rect.overlay_of_not_mem _ _ _ fun hm => h ?_
    rw [Rect.mem_set_unit] at hm
    have h0 := hm ⟨0, by decide⟩
    have h1 := hm ⟨1, by decide⟩
    have h0 : g.val ≤ g'.val ∧ g'.val < g.val + 1 := h0
    have h1 : w.toNat ≤ J.val ∧ J.val < w.toNat + 1 := h1
    exact ⟨Fin.ext (by omega), by omega⟩

/-- Storing a tile of the bias. -/
theorem overlay_bias {α : Type} (j : Fin 5) (X : SBias.Idx → α) (x : T.Idx → α) (j' : Fin 5) (a d : Fin 128) :
    (rBias j).overlay X (shapeCast Tb (s := T) x castTbR) (ix3 j' a d)
      = if j' = j then x (ix2 a d) else X (ix3 j' a d) := by
  by_cases h : j' = j
  · rw [if_pos h]
    have e : (ix3 j' a d : SBias.Idx) = (rBias j).emb (ix3 (0 : Fin 1) a d) := by
      obtain rfl := h
      refine funext fun b => ?_
      match b with
      | ⟨0, _⟩ => exact Fin.ext (show j'.val = j'.val + 1 * 0 by omega)
      | ⟨1, _⟩ => exact Fin.ext (show a.val = 0 + 1 * a.val by omega)
      | ⟨2, _⟩ => exact Fin.ext (show d.val = 0 + 1 * d.val by omega)
    rw [e, Rect.overlay_emb]
    exact castTbR_apply x 0 a d
  · rw [if_neg h]
    refine Rect.overlay_of_not_mem _ _ _ fun hm => h ?_
    rw [Rect.mem_set_unit] at hm
    have h0 := hm ⟨0, by decide⟩
    have h0 : j.val ≤ j'.val ∧ j'.val < j.val + 1 := h0
    exact Fin.ext (by omega)

/-- A pair with one of its two heads replaced. -/
theorem updateSlice_pair {α : Type} (old : Th2.Idx → α) (x : T.Idx → α) (t : Fin 2) (a : Fin 128) (u : Fin 2) (d : Fin 128) :
    updateSlice (s := Th2) (u := Th) old (shapeCast Th (s := T) x castThR) ![0, 0, t.val, 0] (slTh2 t) (ix4 (0 : Fin 1) a u d)
      = if u = t then x (ix2 a d) else old (ix4 (0 : Fin 1) a u d) := by
  unfold updateSlice
  by_cases h : u = t
  · rw [if_pos h, dif_pos]
    · refine Eq.trans (congrArg _ (funext fun b => ?_)) (castThR_apply x 0 0 a d)
      subst h
      match b with
      | ⟨0, _⟩ => rfl
      | ⟨1, _⟩ => rfl
      | ⟨2, _⟩ => exact Fin.ext (show u.val - u.val = 0 by omega)
      | ⟨3, _⟩ => rfl
    · subst h
      intro b
      have := a.isLt; have := d.isLt
      match b with
      | ⟨0, _⟩ => exact ⟨Nat.le_refl _, Nat.one_pos⟩
      | ⟨1, _⟩ => exact ⟨Nat.zero_le _, show a.val < 0 + 128 by omega⟩
      | ⟨2, _⟩ => exact ⟨Nat.le_refl _, Nat.lt_succ_self _⟩
      | ⟨3, _⟩ => exact ⟨Nat.zero_le _, show d.val < 0 + 128 by omega⟩
  · rw [if_neg h, dif_neg]
    intro hin
    have h2 : t.val ≤ u.val ∧ u.val < t.val + 1 := hin (2 : Fin 4)
    exact h (Fin.ext (by omega))

/-- Storing one head of the query gradients. -/
theorem overlay_head {α : Type} (p : Fin 12) (t : Fin 2) (X : SQ.Idx → α) (x : T.Idx → α) (r : Fin 128) (h : Fin 24) (d : Fin 128) :
    (rPair p).overlay X (updateSlice (s := Th2) (u := Th) (fun i => X ((rPair p).idx i)) (shapeCast Th (s := T) x castThR)
        ![0, 0, t.val, 0] (slTh2 t)) (ix4 (0 : Fin 1) r h d)
      = if h.val = 2 * p.val + t.val then x (ix2 r d) else X (ix4 (0 : Fin 1) r h d) := by
  by_cases hp : h.val / 2 = p.val
  · have e : (ix4 (0 : Fin 1) r h d : SQ.Idx) = (rPair p).emb (ix4 (0 : Fin 1) r (⟨h.val % 2, by omega⟩ : Fin 2) d) := by
      refine funext fun b => ?_
      match b with
      | ⟨0, _⟩ => rfl
      | ⟨1, _⟩ => exact Fin.ext (show r.val = 0 + 1 * r.val by omega)
      | ⟨2, _⟩ => exact Fin.ext (show h.val = 2 * p.val + 1 * (h.val % 2) by omega)
      | ⟨3, _⟩ => exact Fin.ext (show d.val = 0 + 1 * d.val by omega)
    conv_lhs => rw [e]
    rw [Rect.overlay_emb]
    refine (updateSlice_pair _ x t r _ d).trans ?_
    by_cases ht : h.val % 2 = t.val
    · rw [if_pos (Fin.ext ht), if_pos (by omega)]
    · rw [if_neg (fun hh => ht (congrArg Fin.val hh)), if_neg (by omega)]
      exact congrArg X e.symm
  · rw [if_neg (by have := t.isLt; omega)]
    refine Rect.overlay_of_not_mem _ _ _ fun hm => hp ?_
    rw [Rect.mem_set_unit] at hm
    have h0 : 2 * p.val ≤ h.val ∧ h.val < 2 * p.val + 2 := hm (2 : Fin 4)
    omega

/-- Storing one key group's gradient tile of a key block. -/
theorem overlay_out {α : Type} (J : Fin 8) (g : Fin 4) (X : SK.Idx → α) (x : T.Idx → α) (J' : Fin 8) (a : Fin 128) (g' : Fin 4) (d : Fin 128) :
    (rOut2 J ⟨g.val / 2, by omega⟩).overlay X (updateSlice (s := Th2) (u := Th) (fun i => X ((rOut2 J ⟨g.val / 2, by omega⟩).idx i))
        (shapeCast Th (s := T) x castThR) ![0, 0, g.val % 2, 0] (slTh2 ⟨g.val % 2, by omega⟩))
        (ix4 (0 : Fin 1) (row (m := 7) J' a) g' d)
      = if J' = J ∧ g' = g then x (ix2 a d) else X (ix4 (0 : Fin 1) (row (m := 7) J' a) g' d) := by
  have ha := a.isLt
  by_cases hp : J' = J ∧ g'.val / 2 = g.val / 2
  · obtain ⟨rfl, hp⟩ := hp
    have e : (ix4 (0 : Fin 1) (row (m := 7) J' a) g' d : SK.Idx)
        = (rOut2 J' ⟨g.val / 2, by omega⟩).emb (ix4 (0 : Fin 1) a (⟨g'.val % 2, by omega⟩ : Fin 2) d) := by
      refine funext fun b => ?_
      match b with
      | ⟨0, _⟩ => rfl
      | ⟨1, _⟩ => exact Fin.ext (show 128 * J'.val + a.val = 128 * J'.val + 1 * a.val by omega)
      | ⟨2, _⟩ => exact Fin.ext (show g'.val = 2 * (g.val / 2) + 1 * (g'.val % 2) by omega)
      | ⟨3, _⟩ => exact Fin.ext (show d.val = 0 + 1 * d.val by omega)
    conv_lhs => rw [e]
    rw [Rect.overlay_emb]
    refine (updateSlice_pair _ x ⟨g.val % 2, by omega⟩ a _ d).trans ?_
    by_cases ht : g'.val % 2 = g.val % 2
    · rw [if_pos (Fin.ext ht), if_pos ⟨rfl, Fin.ext (by omega)⟩]
    · rw [if_neg (fun hh => ht (congrArg Fin.val hh)), if_neg (by rintro ⟨-, rfl⟩; exact ht rfl)]
      exact congrArg X e.symm
  · rw [if_neg (by rintro ⟨rfl, rfl⟩; exact hp ⟨rfl, rfl⟩)]
    refine Rect.overlay_of_not_mem _ _ _ fun hm => hp ?_
    rw [Rect.mem_set_unit] at hm
    have h1 : 128 * J.val ≤ 128 * J'.val + a.val ∧ 128 * J'.val + a.val < 128 * J.val + 128 := hm (1 : Fin 4)
    have h2 : 2 * (g.val / 2) ≤ g'.val ∧ g'.val < 2 * (g.val / 2) + 2 := hm (2 : Fin 4)
    exact ⟨Fin.ext (by omega), by omega⟩

section Run
variable {sig : RefSig} {mem : (b : Nm) → Memref sig .tc b.cs b.sh b.el} (W : Whole mem)

/-! ### Loads at an index -/

variable (σ : St0)

/-- Two contents read at places equal on each axis. -/
theorem rd_at {s : Shape} {α : Type} (X : s.Idx → α) (i j : s.Idx) (h : ∀ a, (i a).val = (j a).val) : X i = X j :=
  congrArg X (funext fun a => Fin.ext (h a))

/-- The read of a query scale, at an index. -/
theorem rdQs_val (h : Fin 24) : ((rdQs (F := Ideal) (mem := mem) h).run σ).1 = σ .qs (ix1 h) :=
  rd_at (s := S24) (σ .qs) _ _ fun a => match a with | ⟨0, _⟩ => show h.val + 1 * 0 = h.val by omega
/-- The read of an output gradient scale, at an index. -/
theorem rdDos_val (h : Fin 24) : ((rdDos (F := Ideal) (mem := mem) h).run σ).1 = σ .dos (ix1 h) :=
  rd_at (s := S24) (σ .dos) _ _ fun a => match a with | ⟨0, _⟩ => show h.val + 1 * 0 = h.val by omega
/-- The read of a key scale, at an index. -/
theorem rdKs_val (g : Fin 4) : ((rdKs (F := Ideal) (mem := mem) g).run σ).1 = σ .ks (ix1 g) :=
  rd_at (s := S4) (σ .ks) _ _ fun a => match a with | ⟨0, _⟩ => show g.val + 1 * 0 = g.val by omega
/-- The read of a value scale, at an index. -/
theorem rdVs_val (g : Fin 4) : ((rdVs (F := Ideal) (mem := mem) g).run σ).1 = σ .vs (ix1 g) :=
  rd_at (s := S4) (σ .vs) _ _ fun a => match a with | ⟨0, _⟩ => show g.val + 1 * 0 = g.val by omega
/-- The read of a document boundary, at an index. -/
theorem rdCu_val (x : Fin 2) (c : Fin 18) : ((rdCu (F := Ideal) (mem := mem) x c).run σ).1 = σ .cu (ix2 x c.succ) :=
  rd_at (s := SCu) (σ .cu) _ _ fun a => match a with
    | ⟨0, _⟩ => by
      show (Scalar.indexCast (BitVec.ofNat 32 x.val)).toNat + 1 * 0 = x.val
      rw [toNat_lt (by omega) x]; omega
    | ⟨1, _⟩ => by show c.val + 1 + 1 * 0 = c.val + 1; omega

/-- A head's tile lies at that head's index of its window. -/
theorem head_at {α : Type} (X : SQ.Idx → α) (h : Fin 24) (r d : Fin 128) :
    transpose T [1, 0] (shapeCast T (s := Th) (fun i => X ((rHead h).idx i)) castTh) transT (ix2 d r) = X (ix4 (0 : Fin 1) r h d) := by
  rw [trT_apply, castTh_apply]
  refine rd_at X _ _ fun a => ?_
  match a with
  | ⟨0, _⟩ => rfl
  | ⟨1, _⟩ => show 0 + 1 * r.val = r.val; omega
  | ⟨2, _⟩ => show h.val + 1 * 0 = h.val; omega
  | ⟨3, _⟩ => show 0 + 1 * d.val = d.val; omega

/-- The read of a head's query tile, transposed, at an index. -/
theorem rdQ_val (h : Fin 24) (d r : Fin 128) : ((rdQ (F := Ideal) (mem := mem) h).run σ).1 (ix2 d r) = σ .q (ix4 (0 : Fin 1) r h d) :=
  head_at (σ .q) h r d
/-- The read of a head's output gradient tile, transposed, at an index. -/
theorem rdDo_val (h : Fin 24) (d r : Fin 128) : ((rdDo (F := Ideal) (mem := mem) h).run σ).1 (ix2 d r) = σ .dO (ix4 (0 : Fin 1) r h d) :=
  head_at (σ .dO) h r d
/-- The read of a head's output tile, transposed, at an index. -/
theorem rdO_val (h : Fin 24) (d r : Fin 128) : ((rdO (F := Ideal) (mem := mem) h).run σ).1 (ix2 d r) = σ .o (ix4 (0 : Fin 1) r h d) :=
  head_at (σ .o) h r d
/-- The read of a head's row of log sums, at an index. -/
theorem rdLse_val (h : Fin 24) (r : Fin 128) : ((rdLse (F := Ideal) (mem := mem) h).run σ).1 (ix2 0 r) = σ .lse (ix3 (0 : Fin 1) h r) := by
  refine (castL3_apply (fun i => σ .lse ((rLse h).idx i)) r).trans (rd_at (s := SLse) (σ .lse) _ _ fun a => ?_)
  match a with
  | ⟨0, _⟩ => rfl
  | ⟨1, _⟩ => show h.val + 1 * 0 = h.val; omega
  | ⟨2, _⟩ => show 0 + 1 * r.val = r.val; omega

/-- A staged tile lies at its group's and block's index. -/
theorem tile_at {α : Type} (X : STiles.Idx → α) (g : Fin 4) (w : BitVec 32) (hw : w.toNat < 8) (a d : Fin 128) :
    shapeCast T (s := Tt) (fun i => X ((rTile g w hw).idx i)) castTt (ix2 a d) = X (ix4 g (⟨w.toNat, hw⟩ : Fin 8) a d) := by
  rw [castTt_apply]
  refine rd_at X _ _ fun b => ?_
  match b with
  | ⟨0, _⟩ => show g.val + 1 * 0 = g.val; omega
  | ⟨1, _⟩ => show w.toNat + 1 * 0 = w.toNat; omega
  | ⟨2, _⟩ => show 0 + 1 * a.val = a.val; omega
  | ⟨3, _⟩ => show 0 + 1 * d.val = d.val; omega

variable (g : Fin 4) (w : BitVec 32) (hw : w.toNat < 8) (a d : Fin 128)

/-- The read of a staged key tile, at an index. -/
theorem rdKn_val : ((rdKn (F := Ideal) (mem := mem) g w hw).run σ).1 (ix2 a d) = σ .kn (ix4 g (⟨w.toNat, hw⟩ : Fin 8) a d) :=
  tile_at (σ .kn) g w hw a d
/-- The read of a staged transposed key tile, at an index. -/
theorem rdKt_val : ((rdKt (F := Ideal) (mem := mem) g w hw).run σ).1 (ix2 a d) = σ .kt (ix4 g (⟨w.toNat, hw⟩ : Fin 8) a d) :=
  tile_at (σ .kt) g w hw a d
/-- The read of a staged value tile, at an index. -/
theorem rdVn_val : ((rdVn (F := Ideal) (mem := mem) g w hw).run σ).1 (ix2 a d) = σ .vn (ix4 g (⟨w.toNat, hw⟩ : Fin 8) a d) :=
  tile_at (σ .vn) g w hw a d
/-- The read of a key gradient accumulator, at an index. -/
theorem rdDkt_val : ((rdDkt (F := Ideal) (mem := mem) g w hw).run σ).1 (ix2 a d) = σ .dkt (ix4 g (⟨w.toNat, hw⟩ : Fin 8) a d) :=
  tile_at (σ .dkt) g w hw a d
/-- The read of a value gradient accumulator, at an index. -/
theorem rdDvt_val : ((rdDvt (F := Ideal) (mem := mem) g w hw).run σ).1 (ix2 a d) = σ .dvt (ix4 g (⟨w.toNat, hw⟩ : Fin 8) a d) :=
  tile_at (σ .dvt) g w hw a d

/-- The read of a mask tile, at an index. -/
theorem rdBias_val (j : Fin 5) : ((rdBias (F := Ideal) (mem := mem) j).run σ).1 (ix2 a d) = σ .bias (ix3 j a d) := by
  refine (castTb_apply (fun i => σ .bias ((rBias j).idx i)) a d).trans (rd_at (s := SBias) (σ .bias) _ _ fun b => ?_)
  match b with
  | ⟨0, _⟩ => show j.val + 1 * 0 = j.val; omega
  | ⟨1, _⟩ => show 0 + 1 * a.val = a.val; omega
  | ⟨2, _⟩ => show 0 + 1 * d.val = d.val; omega

/-- An accumulator tile lies at its group's and block's index. -/
theorem acc_at {α : Type} (X : STiles.Idx → α) (J : Fin 8) :
    shapeCast T (s := Tt) (fun i => X ((rAcc g J).idx i)) castTt (ix2 a d) = X (ix4 g J a d) := by
  rw [castTt_apply]
  refine rd_at X _ _ fun b => ?_
  match b with
  | ⟨0, _⟩ => show g.val + 1 * 0 = g.val; omega
  | ⟨1, _⟩ => show J.val + 1 * 0 = J.val; omega
  | ⟨2, _⟩ => show 0 + 1 * a.val = a.val; omega
  | ⟨3, _⟩ => show 0 + 1 * d.val = d.val; omega

/-- The read of a key gradient accumulator at the end, at an index. -/
theorem rdAk_val (J : Fin 8) : ((rdAk (F := Ideal) (mem := mem) J g).run σ).1 (ix2 a d) = σ .dkt (ix4 g J a d) := acc_at g a d (σ .dkt) J
/-- The read of a value gradient accumulator at the end, at an index. -/
theorem rdAv_val (J : Fin 8) : ((rdAv (F := Ideal) (mem := mem) J g).run σ).1 (ix2 a d) = σ .dvt (ix4 g J a d) := acc_at g a d (σ .dvt) J

/-- A block's rows of the keys or values lie at those positions. -/
theorem key_at {α : Type} (X : SK.Idx → α) (y : Fin 8) :
    shapeCast T (s := Th) (fun i => X ((rKey y g).idx i)) castTh (ix2 a d) = X (ix4 (0 : Fin 1) (row (m := 7) y a) g d) := by
  rw [castTh_apply]
  refine rd_at X _ _ fun b => ?_
  match b with
  | ⟨0, _⟩ => rfl
  | ⟨1, _⟩ =>
    show (Scalar.indexCast (Scalar.muli (BitVec.ofNat 32 y.val) 128#32)).toNat + 1 * a.val = 128 * y.val + a.val
    have : (Scalar.indexCast (Scalar.muli (BitVec.ofNat 32 y.val) 128#32)).toNat = 128 * y.val := pos0 y
    omega
  | ⟨2, _⟩ => show g.val + 1 * 0 = g.val; omega
  | ⟨3, _⟩ => show 0 + 1 * d.val = d.val; omega

/-- The read of the block's key rows, at an index. -/
theorem rdK_val (y : Fin 8) : ((rdK (F := Ideal) (mem := mem) y g).run σ).1 (ix2 a d) = σ .k (ix4 (0 : Fin 1) (row (m := 7) y a) g d) :=
  key_at g a d (σ .k) y
/-- The read of the block's value rows, at an index. -/
theorem rdV_val (y : Fin 8) : ((rdV (F := Ideal) (mem := mem) y g).run σ).1 (ix2 a d) = σ .v (ix4 (0 : Fin 1) (row (m := 7) y a) g d) :=
  key_at g a d (σ .v) y

/-! ### Stores at an index -/

variable (g' : Fin 4) (J : Fin 8)

/-- The buffer after the write of a staged key tile, at an index. -/
theorem wrKn_at (x) : ((wrKn (F := Ideal) W g w hw x).run σ).2 .kn (ix4 g' J a d)
    = if g' = g ∧ J.val = w.toNat then x (ix2 a d) else σ .kn (ix4 g' J a d) := by
  have e : ((wrKn (F := Ideal) W g w hw x).run σ).2
      = Function.update σ Nm.kn ((rTile g w hw).overlay (σ .kn) (shapeCast Tt (s := T) x castTtR)) := rfl
  rw [e, Function.update_self]
  exact overlay_tile g w hw (σ .kn) x g' J a d
/-- The buffer after the write of a staged transposed key tile, at an index. -/
theorem wrKt_at (x) : ((wrKt (F := Ideal) W g w hw x).run σ).2 .kt (ix4 g' J a d)
    = if g' = g ∧ J.val = w.toNat then x (ix2 a d) else σ .kt (ix4 g' J a d) := by
  have e : ((wrKt (F := Ideal) W g w hw x).run σ).2
      = Function.update σ Nm.kt ((rTile g w hw).overlay (σ .kt) (shapeCast Tt (s := T) x castTtR)) := rfl
  rw [e, Function.update_self]
  exact overlay_tile g w hw (σ .kt) x g' J a d
/-- The buffer after the write of a staged value tile, at an index. -/
theorem wrVn_at (x) : ((wrVn (F := Ideal) W g w hw x).run σ).2 .vn (ix4 g' J a d)
    = if g' = g ∧ J.val = w.toNat then x (ix2 a d) else σ .vn (ix4 g' J a d) := by
  have e : ((wrVn (F := Ideal) W g w hw x).run σ).2
      = Function.update σ Nm.vn ((rTile g w hw).overlay (σ .vn) (shapeCast Tt (s := T) x castTtR)) := rfl
  rw [e, Function.update_self]
  exact overlay_tile g w hw (σ .vn) x g' J a d
/-- The buffer after the write of a key gradient accumulator, at an index. -/
theorem wrDkt_at (x) : ((wrDkt (F := Ideal) (mem := mem) g w hw x).run σ).2 .dkt (ix4 g' J a d)
    = if g' = g ∧ J.val = w.toNat then x (ix2 a d) else σ .dkt (ix4 g' J a d) := by
  have e : ((wrDkt (F := Ideal) (mem := mem) g w hw x).run σ).2
      = Function.update σ Nm.dkt ((rTile g w hw).overlay (σ .dkt) (shapeCast Tt (s := T) x castTtR)) := rfl
  rw [e, Function.update_self]
  exact overlay_tile g w hw (σ .dkt) x g' J a d
/-- The buffer after the write of a value gradient accumulator, at an index. -/
theorem wrDvt_at (x) : ((wrDvt (F := Ideal) (mem := mem) g w hw x).run σ).2 .dvt (ix4 g' J a d)
    = if g' = g ∧ J.val = w.toNat then x (ix2 a d) else σ .dvt (ix4 g' J a d) := by
  have e : ((wrDvt (F := Ideal) (mem := mem) g w hw x).run σ).2
      = Function.update σ Nm.dvt ((rTile g w hw).overlay (σ .dvt) (shapeCast Tt (s := T) x castTtR)) := rfl
  rw [e, Function.update_self]
  exact overlay_tile g w hw (σ .dvt) x g' J a d
/-- The buffer after the write of a mask tile, at an index. -/
theorem wrBias_at (j j' : Fin 5) (x) : ((wrBias (F := Ideal) (mem := mem) j x).run σ).2 .bias (ix3 j' a d)
    = if j' = j then x (ix2 a d) else σ .bias (ix3 j' a d) := by
  have e : ((wrBias (F := Ideal) (mem := mem) j x).run σ).2
      = Function.update σ Nm.bias ((rBias j).overlay (σ .bias) (shapeCast Tb (s := T) x castTbR)) := rfl
  rw [e, Function.update_self]
  exact overlay_bias j (σ .bias) x j' a d
/-- The buffer after the write of a pair's query gradient tile, at an index. -/
theorem wrDq_at (p : Fin 12) (t : Fin 2) (x) (r : Fin 128) (h : Fin 24) : ((wrDq (F := Ideal) W p t x).run σ).2 .dq (ix4 (0 : Fin 1) r h d)
    = if h.val = 2 * p.val + t.val then x (ix2 r d) else σ .dq (ix4 (0 : Fin 1) r h d) := by
  have e : ((wrDq (F := Ideal) W p t x).run σ).2 = Function.update σ Nm.dq ((rPair p).overlay (σ .dq)
      (updateSlice (s := Th2) (u := Th) (fun i => σ .dq ((rPair p).idx i)) (shapeCast Th (s := T) x castThR)
        ![0, 0, t.val, 0] (slTh2 t))) := rfl
  rw [e, Function.update_self]
  exact overlay_head p t (σ .dq) x r h d
/-- The buffer after the write of a key gradient tile, at an index. -/
theorem wrDk_at (j : Fin 8) (x) : ((wrDk (F := Ideal) W j g x).run σ).2 .dk (ix4 (0 : Fin 1) (row (m := 7) J a) g' d)
    = if J = j ∧ g' = g then x (ix2 a d) else σ .dk (ix4 (0 : Fin 1) (row (m := 7) J a) g' d) := by
  have e : ((wrDk (F := Ideal) W j g x).run σ).2 = Function.update σ Nm.dk ((rOut2 j ⟨g.val / 2, by omega⟩).overlay (σ .dk)
      (updateSlice (s := Th2) (u := Th) (fun i => σ .dk ((rOut2 j ⟨g.val / 2, by omega⟩).idx i))
        (shapeCast Th (s := T) x castThR) ![0, 0, g.val % 2, 0] (slTh2 ⟨g.val % 2, by omega⟩))) := rfl
  rw [e, Function.update_self]
  exact overlay_out j g (σ .dk) x J a g' d
/-- The buffer after the write of a value gradient tile, at an index. -/
theorem wrDv_at (j : Fin 8) (x) : ((wrDv (F := Ideal) W j g x).run σ).2 .dv (ix4 (0 : Fin 1) (row (m := 7) J a) g' d)
    = if J = j ∧ g' = g then x (ix2 a d) else σ .dv (ix4 (0 : Fin 1) (row (m := 7) J a) g' d) := by
  have e : ((wrDv (F := Ideal) W j g x).run σ).2 = Function.update σ Nm.dv ((rOut2 j ⟨g.val / 2, by omega⟩).overlay (σ .dv)
      (updateSlice (s := Th2) (u := Th) (fun i => σ .dv ((rOut2 j ⟨g.val / 2, by omega⟩).idx i))
        (shapeCast Th (s := T) x castThR) ![0, 0, g.val % 2, 0] (slTh2 ⟨g.val % 2, by omega⟩))) := rfl
  rw [e, Function.update_self]
  exact overlay_out j g (σ .dv) x J a g' d

end Run

/-! ### Loops -/

section Loops
variable {sig : RefSig} {N : Type} [DecidableEq N] {M : Fam sig N} {α : Type}

/-- A loop whose body only reads collects its values and leaves the state. -/
theorem run_loop (σ : M.St (Elt Ideal)) : ∀ (n : Nat) (f : Fin n → NProg M (Elt Ideal) α), (∀ j, ((f j).run σ).2 = σ) →
    (∀ j, ((loop n f).run σ).1 j = ((f j).run σ).1) ∧ ((loop n f).run σ).2 = σ
  | 0, f, _ => ⟨fun j => j.elim0, rfl⟩
  | n + 1, f, h => by
    have ih := run_loop σ n (fun j => f j.succ) fun j => h j.succ
    have e : (loop (n + 1) f).run σ = (vcons ((f 0).run σ).1 ((loop n fun j => f j.succ).run ((f 0).run σ).2).1,
        ((loop n fun j => f j.succ).run ((f 0).run σ).2).2) := by
      simp only [loop, NProg.run_bind', NProg.run_ret]
    rw [h 0] at e
    rw [e]
    refine ⟨fun j => ?_, ih.2⟩
    match j with
    | ⟨0, _⟩ => rfl
    | ⟨j + 1, hj⟩ => exact ih.1 ⟨j, Nat.lt_of_succ_lt_succ hj⟩

/-- A loop keeps an invariant that its body steps. -/
theorem run_each (I : Nat → M.St (Elt Ideal) → Prop) : ∀ (n k : Nat) (f : Fin n → NProg M (Elt Ideal) PUnit) (σ : M.St (Elt Ideal)),
    I k σ → (∀ (j : Fin n) τ, I (k + j.val) τ → I (k + j.val + 1) ((f j).run τ).2) → I (k + n) ((each n f).run σ).2
  | 0, k, f, σ, h0, _ => h0
  | n + 1, k, f, σ, h0, h => by
    have e : ((each (n + 1) f).run σ).2 = ((each n fun j => f j.succ).run ((f 0).run σ).2).2 := by
      simp only [each, NProg.run_bind']
    rw [e]
    have := run_each I n (k + 1) (fun j => f j.succ) ((f 0).run σ).2 (h 0 σ h0) fun j τ hτ => by
      have := h j.succ τ (by rw [Fin.val_succ, show k + (j.val + 1) = k + 1 + j.val by omega]; exact hτ)
      rw [Fin.val_succ] at this
      rw [show k + 1 + j.val + 1 = k + (j.val + 1) + 1 by omega]; exact this
    rw [show k + (n + 1) = k + 1 + n by omega]; exact this

end Loops

end Cert.Str

end
-- ==== Proof.Spec.lean ====
/-
  The gradients of one batch as sums over its queries and keys, in the form the kernel computes them in: probabilities
  weighed by the output gradient's scale, score gradients in units of the query scale, summed key tile by key tile.
-/
module

public import proofs.«01_k».proof.Proof.Acc

@[expose] public section

noncomputable section

namespace Cert.Str

open Idealize.ShloMosaic Idealize.ShloMosaic.ValueIdx
open Cert.Named
open scoped BigOperators

/-- A position of a batch. -/
abbrev Pos : Type := Fin (128 * (7 + 1))

/-- One batch's inputs: codes, scales, outputs, log-sum-exp and document boundaries. -/
structure Data where
  q : Pos → Fin 24 → Fin 128 → EReal
  k : Pos → Fin 4 → Fin 128 → EReal
  v : Pos → Fin 4 → Fin 128 → EReal
  o : Pos → Fin 24 → Fin 128 → EReal
  dO : Pos → Fin 24 → Fin 128 → EReal
  lse : Fin 24 → Pos → EReal
  qs : Fin 24 → EReal
  ks : Fin 4 → EReal
  vs : Fin 4 → EReal
  dos : Fin 24 → EReal
  cu : Fin 18 → BitVec 32

/-- The key group of a head. -/
def kv (h : Fin 24) : Fin 4 := ⟨h.val / 6, by omega⟩
/-- Head `t` of pair `p` of a key group. -/
def hdx (g : Fin 4) (p : Fin 3) (t : Fin 2) : Fin 24 := ⟨2 * (3 * g.val + p.val) + t.val, by omega⟩

/-- The greatest boundary not after a position. -/
def startAt (cu : Fin 18 → BitVec 32) (p : BitVec 32) : BitVec 32 :=
  foldF (fun (acc : BitVec 32) (w : BitVec 32) => Scalar.maxsi acc (Scalar.select (Scalar.cmpi .sle w p) w 0#32)) 18 0#32 cu

/-- Head `t` of pair `p`. -/
def hd2 (p : Fin 12) (t : Fin 2) : Fin 24 := ⟨2 * p.val + t.val, by omega⟩

variable (C : Cst Ideal) (D : Data)

/-- Whether query `i` sees key `j`: the key is in the query's document and not after it. -/
def seen (i j : Pos) : Prop := (startAt D.cu (BitVec.ofNat 32 i.val)).toNat ≤ j.val ∧ j.val ≤ i.val

instance (i j : Pos) : Decidable (seen D i j) := by unfold seen; infer_instance

/-- The score of key `j` for head `h` of query `i`. -/
def score (h : Fin 24) (i j : Pos) : EReal := ∑ d : Fin 128, D.k j (kv h) d * D.q i h d
/-- The product of value `j` with the output gradient. -/
def dpv (h : Fin 24) (i j : Pos) : EReal := ∑ d : Fin 128, D.v j (kv h) d * D.dO i h d
/-- A query scale with zero read as one. -/
def qz (h : Fin 24) : EReal := nz (F := Ideal) (D.qs h : Ideal .f32)
/-- The base-two log-sum-exp, less the logarithm of the output gradient's scale. -/
def lse2 (h : Fin 24) (i : Pos) : EReal := D.lse h i * (C.log2e : EReal) - Ideal.log (D.dos h) * (C.log2e : EReal)
/-- The factor of a score. -/
def c2 (h : Fin 24) : EReal := (qz D h * D.ks (kv h)) * (C.scaleLog2e : EReal)
/-- The weighed probability. -/
def prob (h : Fin 24) (i j : Pos) : EReal := if seen D i j then Ideal.exp2 (score D h i j * c2 C D h - lse2 C D h i) else 0
/-- The score gradient in units of the query scale. -/
def dsc (h : Fin 24) (i j : Pos) : EReal :=
  prob C D h i j * (dpv D h i j * (D.vs (kv h) * qz D h) - (∑ d : Fin 128, D.dO i h d * D.o i h d) * qz D h)
/-- A head's query gradient from the key tiles `jt`. -/
def dqOf {m : Nat} (jt : Fin (m + 1) → Fin 8) (h : Fin 24) (i : Pos) (d : Fin 128) : EReal :=
  (∑ j : Fin (m + 1), ∑ a : Fin 128, D.k (row (m := 7) (jt j) a) (kv h) d * dsc C D h i (row (m := 7) (jt j) a))
    * Ideal.div (D.ks (kv h) * (C.scale : EReal)) (qz D h)
/-- A query block's part of a key's gradient. -/
def dkOf (g : Fin 4) (y : Fin 8) (j : Pos) (d : Fin 128) : EReal :=
  ∑ p : Fin 3, ∑ t : Fin 2, ∑ r : Fin 128, D.q (row (m := 7) y r) (hdx g p t) d * dsc C D (hdx g p t) (row (m := 7) y r) j
/-- A query block's part of a value's gradient. -/
def dvOf (g : Fin 4) (y : Fin 8) (j : Pos) (d : Fin 128) : EReal :=
  ∑ p : Fin 3, ∑ t : Fin 2, ∑ r : Fin 128, D.dO (row (m := 7) y r) (hdx g p t) d * prob C D (hdx g p t) (row (m := 7) y r) j

/-- An unseen key has no probability. -/
theorem prob_unseen (h : Fin 24) (i j : Pos) (hs : ¬ seen D i j) : prob C D h i j = 0 := if_neg hs
/-- An unseen key has no score gradient. -/
theorem dsc_unseen (h : Fin 24) (i j : Pos) (hs : ¬ seen D i j) : dsc C D h i j = 0 := by
  unfold dsc; rw [prob_unseen C D h i j hs, zero_mul]

/-- A later key tile takes nothing from a query block. -/
theorem dkOf_late (g : Fin 4) (y J : Fin 8) (a d : Fin 128) (hJ : y.val < J.val) : dkOf C D g y (row (m := 7) J a) d = 0 := by
  refine Finset.sum_eq_zero fun p _ => Finset.sum_eq_zero fun t _ => Finset.sum_eq_zero fun r _ => ?_
  rw [dsc_unseen, mul_zero]
  rintro ⟨-, h⟩
  have h : 128 * J.val + a.val ≤ 128 * y.val + r.val := h
  omega
/-- A later block's keys get no value gradient. -/
theorem dvOf_late (g : Fin 4) (y J : Fin 8) (a d : Fin 128) (hJ : y.val < J.val) : dvOf C D g y (row (m := 7) J a) d = 0 := by
  refine Finset.sum_eq_zero fun p _ => Finset.sum_eq_zero fun t _ => Finset.sum_eq_zero fun r _ => ?_
  rw [prob_unseen, mul_zero]
  rintro ⟨-, h⟩
  have h : 128 * J.val + a.val ≤ 128 * y.val + r.val := h
  omega

/-- What the buffers hold when a query block meets a span of key tiles `jt`. -/
structure Good (y : Fin 8) {m : Nat} (hm : m < 5) (jt : Fin (m + 1) → Fin 8) (σ : St0) : Prop where
  qs : ∀ h, σ .qs (ix1 h) = D.qs h
  ks : ∀ g, σ .ks (ix1 g) = D.ks g
  vs : ∀ g, σ .vs (ix1 g) = D.vs g
  dos : ∀ h, σ .dos (ix1 h) = D.dos h
  o : ∀ r h d, σ .o (ix4 (0 : Fin 1) r h d) = D.o (row (m := 7) y r) h d
  lse : ∀ h r, σ .lse (ix3 (0 : Fin 1) h r) = D.lse h (row (m := 7) y r)
  kn : ∀ g j a d, σ .kn (ix4 g (jt j) a d) = D.k (row (m := 7) (jt j) a) g d
  kt : ∀ g j d a, σ .kt (ix4 g (jt j) d a) = D.k (row (m := 7) (jt j) a) g d
  vn : ∀ g j a d, σ .vn (ix4 g (jt j) a d) = D.v (row (m := 7) (jt j) a) g d
  bias : ∀ (j : Fin (m + 1)) (a r : Fin 128), σ .bias (ix3 (⟨j.val, by omega⟩ : Fin 5) a r)
    = if seen D (row (m := 7) y r) (row (m := 7) (jt j) a) then (0 : EReal) else ⊥

/-- It holds as well of buffers that differ in the gradients only. -/
theorem Good.congr {y : Fin 8} {m : Nat} {hm : m < 5} {jt : Fin (m + 1) → Fin 8} {σ τ : St0} (h : Good D y hm jt σ)
    (e : ∀ b, ¬ (b = .dq ∨ b = .dkt ∨ b = .dvt) → τ b = σ b) : Good D y hm jt τ where
  qs := by rw [e .qs (by decide)]; exact h.qs
  ks := by rw [e .ks (by decide)]; exact h.ks
  vs := by rw [e .vs (by decide)]; exact h.vs
  dos := by rw [e .dos (by decide)]; exact h.dos
  o := by rw [e .o (by decide)]; exact h.o
  lse := by rw [e .lse (by decide)]; exact h.lse
  kn := by rw [e .kn (by decide)]; exact h.kn
  kt := by rw [e .kt (by decide)]; exact h.kt
  vn := by rw [e .vn (by decide)]; exact h.vn
  bias := by rw [e .bias (by decide)]; exact h.bias

/-- The bias masks the probability. -/
theorem exp2_bias (x : EReal) (p : Prop) [Decidable p] : Ideal.exp2 (x + (if p then (0 : EReal) else ⊥)) = if p then Ideal.exp2 x else 0 := by
  by_cases h : p
  · rw [if_pos h, if_pos h, add_zero]
  · rw [if_neg h, if_neg h, EReal.add_bot]; rfl

end Cert.Str

end
-- ==== Proof.Head.lean ====
/-
  What one head, and one pair of heads, compute against a span of key tiles, at an index.
-/
module

public import proofs.«01_k».proof.Proof.Spec

@[expose] public section

noncomputable section

namespace Cert.Str

open Idealize.ShloMosaic Idealize.ShloMosaic.ValueIdx
open Cert.Named
open scoped BigOperators

variable {sig : RefSig} {mem : (b : Nm) → Memref sig .tc b.cs b.sh b.el} (W : Whole mem)

section States
variable (σ : St0)
/-- Reading a query scale changes no buffer. -/
theorem rdQs_st (h : Fin 24) : ((rdQs (F := Ideal) (mem := mem) h).run σ).2 = σ := rfl
/-- Reading an output gradient scale changes no buffer. -/
theorem rdDos_st (h : Fin 24) : ((rdDos (F := Ideal) (mem := mem) h).run σ).2 = σ := rfl
/-- Reading a key scale changes no buffer. -/
theorem rdKs_st (h : Fin 4) : ((rdKs (F := Ideal) (mem := mem) h).run σ).2 = σ := rfl
/-- Reading a value scale changes no buffer. -/
theorem rdVs_st (h : Fin 4) : ((rdVs (F := Ideal) (mem := mem) h).run σ).2 = σ := rfl
/-- Reading a head's query tile, transposed changes no buffer. -/
theorem rdQ_st (h : Fin 24) : ((rdQ (F := Ideal) (mem := mem) h).run σ).2 = σ := rfl
/-- Reading a head's output gradient tile, transposed changes no buffer. -/
theorem rdDo_st (h : Fin 24) : ((rdDo (F := Ideal) (mem := mem) h).run σ).2 = σ := rfl
/-- Reading a head's output tile, transposed changes no buffer. -/
theorem rdO_st (h : Fin 24) : ((rdO (F := Ideal) (mem := mem) h).run σ).2 = σ := rfl
/-- Reading a head's row of log sums changes no buffer. -/
theorem rdLse_st (h : Fin 24) : ((rdLse (F := Ideal) (mem := mem) h).run σ).2 = σ := rfl
/-- Reading a mask tile changes no buffer. -/
theorem rdBias_st (h : Fin 5) : ((rdBias (F := Ideal) (mem := mem) h).run σ).2 = σ := rfl
/-- Reading a document boundary changes no buffer. -/
theorem rdCu_st (x : Fin 2) (c : Fin 18) : ((rdCu (F := Ideal) (mem := mem) x c).run σ).2 = σ := rfl
end States

variable (K : Cst Ideal) (D : Data) {y : Fin 8} {m : Nat} (hm : m < 5) (H : SpanOk m) {jt : Fin (m + 1) → Fin 8}

/-- The row of products of the output with its gradient. -/
theorem delta_row (t : Fin 2) (dob : FVec Ideal T2 .bf16) (oT : FVec Ideal T .f32) (x : Ideal .f32) (r : Fin 128) :
    mulf (F := Ideal) (shapeCast L (multiReduction .add [0] V128
      (mulf (extf .f32 (extractStridedSlice T ![0, 128 * t.val] dob (slT2 t)) lt16) oT) 0x00000000#32 redT (.inl rfl) rfl) castV)
      (broadcast L x) (ix2 0 r) = (∑ d : Fin 128, dob (ix2 d (lane t r)) * oT (ix2 d r)) * x := by
  rw [mulf_apply, colSum_apply, broadcast_apply]
  refine congrArg (fun z : EReal => z * x) (Finset.sum_congr rfl fun d _ => ?_)
  rw [mulf_apply, extf_apply, slT2_apply]

/-- One head: its probabilities, its score gradients and its factor. -/
theorem head_run {σ : St0} (hg : Good D y hm jt σ) (h : Fin 24) (t : Fin 2) (ks vs : Ideal .f32)
    (hks : ks = D.ks (kv h)) (hvs : vs = D.vs (kv h)) (st dpt : FVec Ideal (R2 m) .f32) (dob : FVec Ideal T2 .bf16) (oT : FVec Ideal T .f32)
    (hst : ∀ j a r, st (ix2 (row j a) (lane t r)) = score D h (row (m := 7) y r) (row (m := 7) (jt j) a))
    (hdp : ∀ j a r, dpt (ix2 (row j a) (lane t r)) = dpv D h (row (m := 7) y r) (row (m := 7) (jt j) a))
    (hdo : ∀ d r, dob (ix2 d (lane t r)) = D.dO (row (m := 7) y r) h d)
    (ho : ∀ d r, oT (ix2 d r) = D.o (row (m := 7) y r) h d) :
    ((headBody (mem := mem) K m hm H ks vs h t st dpt dob oT).run σ).2 = σ
      ∧ (∀ j a r, ((headBody (mem := mem) K m hm H ks vs h t st dpt dob oT).run σ).1.1 (ix2 (row j a) r)
          = prob K D h (row (m := 7) y r) (row (m := 7) (jt j) a))
      ∧ (∀ j a r, ((headBody (mem := mem) K m hm H ks vs h t st dpt dob oT).run σ).1.2.1 (ix2 (row j a) r)
          = dsc K D h (row (m := 7) y r) (row (m := 7) (jt j) a))
      ∧ (∀ r, ((headBody (mem := mem) K m hm H ks vs h t st dpt dob oT).run σ).1.2.2 (ix2 0 r)
          = Ideal.div (D.ks (kv h) * (K.scale : EReal)) (qz D h)) := by
  subst hks hvs
  unfold headBody
  simp only [NProg.run_bind', NProg.run_ret, rdQs_st, rdDos_st, rdLse_st, rdQs_val, rdDos_val]
  generalize hf : (fun j : Fin (m + 1) => (rdBias (F := Ideal) (mem := mem) (⟨j.val, by omega⟩ : Fin 5) >>= _)) = f
  have hst2 : ∀ j, ((f j).run σ).2 = σ := by
    intro j; subst hf; rfl
  obtain ⟨hl1, hl2⟩ := run_loop (M := fam mem) σ (m + 1) f hst2
  rw [hl2]
  have hq : nz (F := Ideal) (σ .qs (ix1 h)) = qz D h := by rw [hg.qs]; rfl
  have hl : ∀ r, ((rdLse (F := Ideal) (mem := mem) h).run σ).1 (ix2 0 r) = D.lse h (row (m := 7) y r) := fun r => by
    rw [rdLse_val]; exact hg.lse h r
  have hP : ∀ j a r, ((f j).run σ).1.1 (ix2 a r) = prob K D h (row (m := 7) y r) (row (m := 7) (jt j) a) := by
    intro j a r
    subst hf
    show Ideal.exp2 ((extractStridedSlice T ![128 * j.val, 128 * t.val] st (H.sl j t) (ix2 a r)
        * ((nz (F := Ideal) (σ .qs (ix1 h)) * D.ks (kv h)) * (K.scaleLog2e : EReal))
        - broadcastTo T _ bcL (ix2 a r)) + ((rdBias (F := Ideal) (mem := mem) (⟨j.val, by omega⟩ : Fin 5)).run σ).1 (ix2 a r)) = _
    rw [slR2_apply, bcL_apply, rdBias_val, hg.bias, exp2_bias, hst, hq]
    show (if _ then Ideal.exp2 (_ - (((rdLse (F := Ideal) (mem := mem) h).run σ).1 (ix2 0 r) * (K.log2e : EReal)
      - Ideal.log (σ .dos (ix1 h)) * (K.log2e : EReal))) else 0) = _
    rw [hl, hg.dos]
    rfl
  have hD : ∀ j a r, ((f j).run σ).1.2 (ix2 a r) = dsc K D h (row (m := 7) y r) (row (m := 7) (jt j) a) := by
    intro j a r
    have hp := hP j a r
    subst hf
    refine Eq.trans (congrArg (fun z : EReal => z * (extractStridedSlice T ![128 * j.val, 128 * t.val] dpt (H.sl j t) (ix2 a r)
        * (D.vs (kv h) * nz (F := Ideal) (σ .qs (ix1 h))) - broadcastTo T _ bcL (ix2 a r))) hp) ?_
    rw [slR2_apply, bcL_apply, hdp, delta_row, hq]
    unfold dsc
    simp only [hdo, ho]
  refine ⟨rfl, fun j a r => ?_, fun j a r => ?_, fun r => ?_⟩
  · rw [catRows_apply, hl1]; exact hP j a r
  · rw [catRows_apply, hl1]; exact hD j a r
  · rw [hq]; rfl

/-- A choice between two, read after a function. -/
theorem two_apply {α β : Type} (t : Fin 2) (a b : α) (f : α → β) (c : Fin 2 → β) (h0 : f a = c 0) (h1 : f b = c 1) :
    f (two t a b) = c t := by
  fin_cases t
  · exact h0
  · exact h1

/-- One pair: its query gradients, written, and its parts of the key and value gradients. -/
theorem pair_run {σ : St0} (hg : Good D y hm jt σ) (p : Fin 12) (g : Fin 4) (hp : p.val / 3 = g.val) (ks vs : Ideal .f32)
    (hks : ks = D.ks g) (hvs : vs = D.vs g) (kn : FVec Ideal (R m) .fp8e4m3) (vn : FVec Ideal (R m) .bf16)
    (kt : FVec Ideal (C m) .bf16) (qT : Fin 24 → FVec Ideal T .fp8e4m3) (doT : Fin 24 → FVec Ideal T .fp8e5m2)
    (hkn : ∀ j a d, kn (ix2 (row j a) d) = D.k (row (m := 7) (jt j) a) g d)
    (hvn : ∀ j a d, vn (ix2 (row j a) d) = D.v (row (m := 7) (jt j) a) g d)
    (hkt : ∀ j a d, kt (ix2 d (row j a)) = D.k (row (m := 7) (jt j) a) g d)
    (hq : ∀ h d r, qT h (ix2 d r) = D.q (row (m := 7) y r) h d)
    (hdo : ∀ h d r, doT h (ix2 d r) = D.dO (row (m := 7) y r) h d) :
    (∀ h r d, ((pairBody W K m hm H ks vs kn vn kt qT doT p).run σ).2 .dq (ix4 (0 : Fin 1) r h d)
        = if h.val / 2 = p.val then dqOf K D jt h (row (m := 7) y r) d else σ .dq (ix4 (0 : Fin 1) r h d))
      ∧ (∀ d j a, ((pairBody W K m hm H ks vs kn vn kt qT doT p).run σ).1.1 (ix2 d (row j a))
        = ∑ t : Fin 2, ∑ r : Fin 128, D.q (row (m := 7) y r) (hd2 p t) d * dsc K D (hd2 p t) (row (m := 7) y r) (row (m := 7) (jt j) a))
      ∧ (∀ d j a, ((pairBody W K m hm H ks vs kn vn kt qT doT p).run σ).1.2 (ix2 d (row j a))
        = ∑ t : Fin 2, ∑ r : Fin 128, D.dO (row (m := 7) y r) (hd2 p t) d * prob K D (hd2 p t) (row (m := 7) y r) (row (m := 7) (jt j) a)) := by
  subst hks hvs
  have hkv : ∀ t, kv (hd2 p t) = g := fun t => Fin.ext (by have := t.isLt; show (2 * p.val + t.val) / 6 = g.val; omega)
  unfold pairBody
  simp only [NProg.run_bind', NProg.run_ret, rdO_st]
  have e0 : (⟨2 * p.val, by omega⟩ : Fin 24) = hd2 p 0 := rfl
  have e1 : (⟨2 * p.val + 1, by omega⟩ : Fin 24) = hd2 p 1 := rfl
  simp only [e0, e1]
  generalize hq8 : pairT (qT (hd2 p 0)) (qT (hd2 p 1)) = q8
  generalize hdob : extf FTy.bf16 (pairT (doT (hd2 p 0)) (doT (hd2 p 1))) lt8' = dob
  have q8_at : ∀ d t r, q8 (ix2 d (lane t r)) = D.q (row (m := 7) y r) (hd2 p t) d := by
    intro d t r
    rw [← hq8, pairT_apply]
    exact two_apply t _ _ (fun z : FVec Ideal T .fp8e4m3 => z (ix2 d r)) (fun t => D.q (row (m := 7) y r) (hd2 p t) d) (hq _ _ _) (hq _ _ _)
  have dob_at : ∀ d t r, dob (ix2 d (lane t r)) = D.dO (row (m := 7) y r) (hd2 p t) d := by
    intro d t r
    rw [← hdob, extf_apply, pairT_apply]
    exact two_apply t _ _ (fun z : FVec Ideal T .fp8e5m2 => z (ix2 d r)) (fun t => D.dO (row (m := 7) y r) (hd2 p t) d) (hdo _ _ _) (hdo _ _ _)
  generalize hst : matmul (dS H) none kn q8 (constant (R2 m) .f32 0x00000000#32) = st
  generalize hdp : matmul (dS H) none vn dob (constant (R2 m) .f32 0x00000000#32) = dpt
  have st_at : ∀ t j a r, st (ix2 (row j a) (lane t r)) = score D (hd2 p t) (row (m := 7) y r) (row (m := 7) (jt j) a) := by
    intro t j a r
    rw [← hst, dS_apply]
    unfold score
    rw [hkv]
    exact Finset.sum_congr rfl fun d _ => by rw [hkn, q8_at]
  have dpt_at : ∀ t j a r, dpt (ix2 (row j a) (lane t r)) = dpv D (hd2 p t) (row (m := 7) y r) (row (m := 7) (jt j) a) := by
    intro t j a r
    rw [← hdp, dS_apply]
    unfold dpv
    rw [hkv]
    exact Finset.sum_congr rfl fun d _ => by rw [hvn, dob_at]
  have o_at : ∀ t d r, ((rdO (F := Ideal) (mem := mem) (hd2 p t)).run σ).1 (ix2 d r) = D.o (row (m := 7) y r) (hd2 p t) d := by
    intro t d r; rw [rdO_val]; exact hg.o r _ d
  have hA := head_run (mem := mem) K D hm H hg (hd2 p 0) 0 (D.ks g) (D.vs g) (by rw [hkv]) (by rw [hkv]) st dpt dob _
    (st_at 0) (dpt_at 0) (fun d r => dob_at d 0 r) (o_at 0)
  have hB := head_run (mem := mem) K D hm H hg (hd2 p 1) 1 (D.ks g) (D.vs g) (by rw [hkv]) (by rw [hkv]) st dpt dob _
    (st_at 1) (dpt_at 1) (fun d r => dob_at d 1 r) (o_at 1)
  generalize (headBody (mem := mem) K m hm H (D.ks g) (D.vs g) (hd2 p 0) 0 st dpt dob ((rdO (F := Ideal) (mem := mem) (hd2 p 0)).run σ).1).run σ = A at hA ⊢
  obtain ⟨hA0, hA1, hA2, hA3⟩ := hA
  rw [hA0]
  generalize (headBody (mem := mem) K m hm H (D.ks g) (D.vs g) (hd2 p 1) 1 st dpt dob ((rdO (F := Ideal) (mem := mem) (hd2 p 1)).run σ).1).run σ = B at hB ⊢
  obtain ⟨hB0, hB1, hB2, hB3⟩ := hB
  rw [hB0]
  have pt_at : ∀ j a t r, pairR H A.1.1 B.1.1 (ix2 (row j a) (lane t r)) = prob K D (hd2 p t) (row (m := 7) y r) (row (m := 7) (jt j) a) := by
    intro j a t r
    rw [pairR_apply]
    exact two_apply t _ _ (fun z : FVec Ideal (R m) .bf16 => z (ix2 (row j a) r)) (fun t => prob K D (hd2 p t) (row (m := 7) y r) (row (m := 7) (jt j) a))
      (hA1 _ _ _) (hB1 _ _ _)
  have dst_at : ∀ j a t r, pairR H A.1.2.1 B.1.2.1 (ix2 (row j a) (lane t r)) = dsc K D (hd2 p t) (row (m := 7) y r) (row (m := 7) (jt j) a) := by
    intro j a t r
    rw [pairR_apply]
    exact two_apply t _ _ (fun z : FVec Ideal (R m) .bf16 => z (ix2 (row j a) r)) (fun t => dsc K D (hd2 p t) (row (m := 7) y r) (row (m := 7) (jt j) a))
      (hA2 _ _ _) (hB2 _ _ _)
  generalize pairR H A.1.1 B.1.1 = pt at pt_at ⊢
  generalize pairR H A.1.2.1 B.1.2.1 = dst at dst_at ⊢
  have dq_at : ∀ d t r, matmul (dQ H) none kt dst (constant T2 .f32 0x00000000#32) (ix2 d (lane t r))
      = ∑ j : Fin (m + 1), ∑ a : Fin 128, D.k (row (m := 7) (jt j) a) (kv (hd2 p t)) d * dsc K D (hd2 p t) (row (m := 7) y r) (row (m := 7) (jt j) a) := by
    intro d t r
    rw [dQ_apply, sum_row, hkv]
    exact Finset.sum_congr rfl fun j _ => Finset.sum_congr rfl fun a _ => by rw [hkt, dst_at]
  refine ⟨fun h r d => ?_, fun d j a => ?_, fun d j a => ?_⟩
  · rw [wrDq_at, wrDq_at, trT_apply, trT_apply]
    by_cases h1 : h.val = 2 * p.val + (1 : Fin 2).val
    · have eh : h = hd2 p 1 := Fin.ext h1
      rw [if_pos h1, if_pos (by rw [h1]; show (2 * p.val + 1) / 2 = p.val; omega), eh]
      rw [truncf_apply, mulf_apply, slT2_apply, bcL_apply, dq_at, hB3]
      rfl
    · rw [if_neg h1]
      by_cases h0 : h.val = 2 * p.val + (0 : Fin 2).val
      · have eh : h = hd2 p 0 := Fin.ext h0
        rw [if_pos h0, if_pos (by rw [h0]; show (2 * p.val + 0) / 2 = p.val; omega), eh]
        rw [truncf_apply, mulf_apply, slT2_apply, bcL_apply, dq_at, hA3]
        rfl
      · have h1 : ¬ h.val = 2 * p.val + 1 := h1
        have h0 : ¬ h.val = 2 * p.val := h0
        rw [if_neg (show ¬ h.val = 2 * p.val + (0 : Fin 2).val from h0), if_neg (by omega)]
  · rw [dK_apply, sum_lane]
    exact Finset.sum_congr rfl fun t _ => Finset.sum_congr rfl fun r _ => by rw [extf_apply, q8_at, dst_at]
  · rw [dK_apply, sum_lane]
    exact Finset.sum_congr rfl fun t _ => Finset.sum_congr rfl fun r _ => by rw [dob_at, pt_at]

end Cert.Str

end
-- ==== Proof.Group.lean ====
/-
  What one key group leaves of a span of key tiles: its six heads' query gradients, and its accumulators with the block's
  part added on the span's tiles.
-/
module

public import proofs.«01_k».proof.Proof.Head

@[expose] public section

noncomputable section

namespace Cert.Str

open Idealize.ShloMosaic Idealize.ShloMosaic.ValueIdx
open Cert.Named
open scoped BigOperators

/-- The three pairs of a key group. -/
def pr (g : Fin 4) (k : Fin 3) : Fin 12 := ⟨3 * g.val + k.val, by omega⟩

variable {sig : RefSig} {mem : (b : Nm) → Memref sig .tc b.cs b.sh b.el} (W : Whole mem)
variable (K : Cst Ideal) (D : Data) {y : Fin 8} {m : Nat} (hm : m < 5) (H : SpanOk m) (hj : ∀ j, (jw m y j).toNat < 8)

/-- The span's key tiles. -/
abbrev tiles : Fin (m + 1) → Fin 8 := fun j => ⟨(jw m y j).toNat, hj j⟩

/-- Adding a group's parts to the accumulators, tile by tile. -/
theorem addTiles_run (hmy : m ≤ y.val) (g : Fin 4) (dk dv : FVec Ideal (Str.C m) .f32) (σ : St0) :
    (∀ g' J d a, ((each (m + 1) fun j => do
        let x ← rdDkt (F := Ideal) (mem := mem) g (jw m y j) (hj j)
        wrDkt g (jw m y j) (hj j) (addf x (colTile m H j dk))
        let x' ← rdDvt g (jw m y j) (hj j)
        wrDvt g (jw m y j) (hj j) (addf x' (colTile m H j dv))).run σ).2 .dkt (ix4 g' J d a)
      = if h : g' = g ∧ y.val - m ≤ J.val ∧ J.val < y.val - m + (m + 1)
        then σ .dkt (ix4 g' J d a) + dk (ix2 d (row ⟨J.val - (y.val - m), by omega⟩ a)) else σ .dkt (ix4 g' J d a))
    ∧ (∀ g' J d a, ((each (m + 1) fun j => do
        let x ← rdDkt (F := Ideal) (mem := mem) g (jw m y j) (hj j)
        wrDkt g (jw m y j) (hj j) (addf x (colTile m H j dk))
        let x' ← rdDvt g (jw m y j) (hj j)
        wrDvt g (jw m y j) (hj j) (addf x' (colTile m H j dv))).run σ).2 .dvt (ix4 g' J d a)
      = if h : g' = g ∧ y.val - m ≤ J.val ∧ J.val < y.val - m + (m + 1)
        then σ .dvt (ix4 g' J d a) + dv (ix2 d (row ⟨J.val - (y.val - m), by omega⟩ a)) else σ .dvt (ix4 g' J d a)) := by
  have key := run_each (M := fam mem) (fun k τ =>
      (∀ g' J d a, τ .dkt (ix4 g' J d a) = if h : (g' = g ∧ y.val - m ≤ J.val ∧ J.val < y.val - m + k) ∧ k ≤ m + 1
        then σ .dkt (ix4 g' J d a) + dk (ix2 d (row ⟨J.val - (y.val - m), by omega⟩ a)) else σ .dkt (ix4 g' J d a))
      ∧ (∀ g' J d a, τ .dvt (ix4 g' J d a) = if h : (g' = g ∧ y.val - m ≤ J.val ∧ J.val < y.val - m + k) ∧ k ≤ m + 1
        then σ .dvt (ix4 g' J d a) + dv (ix2 d (row ⟨J.val - (y.val - m), by omega⟩ a)) else σ .dvt (ix4 g' J d a)))
    (m + 1) 0 (fun j => do
        let x ← rdDkt (F := Ideal) (mem := mem) g (jw m y j) (hj j)
        wrDkt g (jw m y j) (hj j) (addf x (colTile m H j dk))
        let x' ← rdDvt g (jw m y j) (hj j)
        wrDvt g (jw m y j) (hj j) (addf x' (colTile m H j dv))) σ
    ⟨fun g' J d a => by rw [dif_neg (by omega)], fun g' J d a => by rw [dif_neg (by omega)]⟩ ?_
  · rw [Nat.zero_add] at key
    refine ⟨fun g' J d a => (key.1 g' J d a).trans ?_, fun g' J d a => (key.2 g' J d a).trans ?_⟩
    · by_cases h : g' = g ∧ y.val - m ≤ J.val ∧ J.val < y.val - m + (m + 1)
      · rw [dif_pos h, dif_pos ⟨h, le_refl _⟩]
      · rw [dif_neg h, dif_neg fun hh => h hh.1]
    · by_cases h : g' = g ∧ y.val - m ≤ J.val ∧ J.val < y.val - m + (m + 1)
      · rw [dif_pos h, dif_pos ⟨h, le_refl _⟩]
      · rw [dif_neg h, dif_neg fun hh => h hh.1]
  · intro j τ ⟨h1, h2⟩
    rw [Nat.zero_add] at h1 h2
    rw [Nat.zero_add]
    have hw := jw_toNat m y hmy j
    have hjl := j.isLt
    simp only [NProg.run_bind']
    have s1 : ((rdDkt (F := Ideal) (mem := mem) g (jw m y j) (hj j)).run τ).2 = τ := rfl
    rw [s1]
    generalize hx : ((wrDkt (F := Ideal) (mem := mem) g (jw m y j) (hj j)
      (addf ((rdDkt (F := Ideal) (mem := mem) g (jw m y j) (hj j)).run τ).1 (colTile m H j dk))).run τ).2 = ρ
    have s2 : ((rdDvt (F := Ideal) (mem := mem) g (jw m y j) (hj j)).run ρ).2 = ρ := rfl
    rw [s2]
    have ρv : ρ .dvt = τ .dvt := by
      rw [← hx]; exact NProg.run_only (only_wrDkt (S := fun b => b = .dkt) rfl _ _ _ _) τ .dvt (by decide)
    have hk : ∀ b, ((wrDvt (F := Ideal) (mem := mem) g (jw m y j) (hj j)
        (addf ((rdDvt (F := Ideal) (mem := mem) g (jw m y j) (hj j)).run ρ).1 (colTile m H j dv))).run ρ).2 .dkt b = ρ .dkt b := fun b =>
      congrFun (NProg.run_only (only_wrDvt (S := fun b => b = .dvt) rfl _ _ _ _) ρ .dkt (by decide)) b
    refine ⟨fun g' J d a => (hk _).trans ?_, fun g' J d a => ?_⟩
    · rw [← hx, wrDkt_at]
      by_cases h : g' = g ∧ J.val = (jw m y j).toNat
      · obtain ⟨rfl, hJ⟩ := h
        rw [if_pos ⟨rfl, hJ⟩, dif_pos ⟨⟨rfl, by omega, by omega⟩, by omega⟩, addf_apply, rdDkt_val, colTile_apply]
        have eJ : (⟨(jw m y j).toNat, hj j⟩ : Fin 8) = J := Fin.ext hJ.symm
        rw [eJ, h1, dif_neg (by omega)]
        have ej : (⟨J.val - (y.val - m), by omega⟩ : Fin (m + 1)) = j := Fin.ext (by show J.val - (y.val - m) = j.val; omega)
        rw [ej]
      · rw [if_neg h, h1]
        by_cases h3 : (g' = g ∧ y.val - m ≤ J.val ∧ J.val < y.val - m + j.val) ∧ j.val ≤ m + 1
        · rw [dif_pos h3, dif_pos ⟨⟨h3.1.1, by omega, by omega⟩, by omega⟩]
        · rw [dif_neg h3, dif_neg fun hh => h3 ⟨⟨hh.1.1, hh.1.2.1, ?_⟩, by omega⟩]
          have : J.val ≠ (jw m y j).toNat := fun e => h ⟨hh.1.1, e⟩
          omega
    · rw [wrDvt_at]
      by_cases h : g' = g ∧ J.val = (jw m y j).toNat
      · obtain ⟨rfl, hJ⟩ := h
        rw [if_pos ⟨rfl, hJ⟩, dif_pos ⟨⟨rfl, by omega, by omega⟩, by omega⟩, addf_apply, rdDvt_val, colTile_apply, ρv]
        have eJ : (⟨(jw m y j).toNat, hj j⟩ : Fin 8) = J := Fin.ext hJ.symm
        rw [eJ, h2, dif_neg (by omega)]
        have ej : (⟨J.val - (y.val - m), by omega⟩ : Fin (m + 1)) = j := Fin.ext (by show J.val - (y.val - m) = j.val; omega)
        rw [ej]
      · rw [if_neg h, ρv, h2]
        by_cases h3 : (g' = g ∧ y.val - m ≤ J.val ∧ J.val < y.val - m + j.val) ∧ j.val ≤ m + 1
        · rw [dif_pos h3, dif_pos ⟨⟨h3.1.1, by omega, by omega⟩, by omega⟩]
        · rw [dif_neg h3, dif_neg fun hh => h3 ⟨⟨hh.1.1, hh.1.2.1, ?_⟩, by omega⟩]
          have : J.val ≠ (jw m y j).toNat := fun e => h ⟨hh.1.1, e⟩
          omega

/-- One key group against the span. -/
theorem group_run (hmy : m ≤ y.val) {σ : St0} (hg : Good D y hm (tiles hj) σ) (qT : Fin 24 → FVec Ideal T .fp8e4m3)
    (doT : Fin 24 → FVec Ideal T .fp8e5m2) (hq : ∀ h d r, qT h (ix2 d r) = D.q (row (m := 7) y r) h d)
    (hdo : ∀ h d r, doT h (ix2 d r) = D.dO (row (m := 7) y r) h d) (g : Fin 4) :
    (∀ h r d, ((groupBody W K m hm H y hj qT doT g).run σ).2 .dq (ix4 (0 : Fin 1) r h d)
        = if h.val / 6 = g.val then dqOf K D (tiles hj) h (row (m := 7) y r) d else σ .dq (ix4 (0 : Fin 1) r h d))
      ∧ (∀ g' J d a, ((groupBody W K m hm H y hj qT doT g).run σ).2 .dkt (ix4 g' J d a)
        = if g' = g ∧ y.val - m ≤ J.val ∧ J.val ≤ y.val then σ .dkt (ix4 g' J d a) + dkOf K D g y (row (m := 7) J a) d
          else σ .dkt (ix4 g' J d a))
      ∧ (∀ g' J d a, ((groupBody W K m hm H y hj qT doT g).run σ).2 .dvt (ix4 g' J d a)
        = if g' = g ∧ y.val - m ≤ J.val ∧ J.val ≤ y.val then σ .dvt (ix4 g' J d a) + dvOf K D g y (row (m := 7) J a) d
          else σ .dvt (ix4 g' J d a)) := by
  unfold groupBody
  simp only [NProg.run_bind', rdKs_st, rdVs_st, rdKs_val, rdVs_val]
  obtain ⟨n1, n2⟩ := run_loop (M := fam mem) σ (m + 1) (fun j => rdKn (F := Ideal) (mem := mem) g (jw m y j) (hj j)) fun _ => rfl
  rw [n2]
  obtain ⟨v1, v2⟩ := run_loop (M := fam mem) σ (m + 1) (fun j => rdVn (F := Ideal) (mem := mem) g (jw m y j) (hj j)) fun _ => rfl
  rw [v2]
  obtain ⟨k1, k2⟩ := run_loop (M := fam mem) σ (m + 1) (fun j => rdKt (F := Ideal) (mem := mem) g (jw m y j) (hj j)) fun _ => rfl
  rw [k2]
  generalize hkn : catRows m H ((loop (m + 1) fun j => rdKn (F := Ideal) (mem := mem) g (jw m y j) (hj j)).run σ).1 = kn
  generalize hvn : catRows m H ((loop (m + 1) fun j => rdVn (F := Ideal) (mem := mem) g (jw m y j) (hj j)).run σ).1 = vn
  generalize hkt : catCols m H ((loop (m + 1) fun j => rdKt (F := Ideal) (mem := mem) g (jw m y j) (hj j)).run σ).1 = kt
  have kn_at : ∀ j a d, kn (ix2 (row j a) d) = D.k (row (m := 7) (tiles hj j) a) g d := fun j a d => by
    rw [← hkn, catRows_apply, n1, rdKn_val]; exact hg.kn g j a d
  have vn_at : ∀ j a d, vn (ix2 (row j a) d) = D.v (row (m := 7) (tiles hj j) a) g d := fun j a d => by
    rw [← hvn, catRows_apply, v1, rdVn_val]; exact hg.vn g j a d
  have kt_at : ∀ j a d, kt (ix2 d (row j a)) = D.k (row (m := 7) (tiles hj j) a) g d := fun j a d => by
    rw [← hkt, catCols_apply, k1, rdKt_val]; exact hg.kt g j d a
  have hks : σ .ks (ix1 g) = D.ks g := hg.ks g
  have hvs : σ .vs (ix1 g) = D.vs g := hg.vs g
  rw [hks, hvs]
  have pk : ∀ k : Fin 3, (pr g k).val / 3 = g.val := fun k => by show (3 * g.val + k.val) / 3 = g.val; omega
  have step : ∀ (k : Fin 3) (τ : St0), Good D y hm (tiles hj) τ → _ := fun k τ ht =>
    pair_run W K D hm H ht (pr g k) g (pk k) (D.ks g) (D.vs g) rfl rfl kn vn kt qT doT kn_at vn_at kt_at hq hdo
  have keep : ∀ (k : Fin 3) (τ : St0) (b : Nm), b ≠ .dq →
      ((pairBody W K m hm H (D.ks g) (D.vs g) kn vn kt qT doT (pr g k)).run τ).2 b = τ b := fun k τ b hb =>
    NProg.run_only (only_pairBody (S := fun b => b = .dq) W rfl K m hm H _ _ _ _ _ _ _ _) τ b hb
  have e0 : (⟨3 * g.val, by omega⟩ : Fin 12) = pr g 0 := rfl
  have e1 : (⟨3 * g.val + 1, by omega⟩ : Fin 12) = pr g 1 := rfl
  have e2 : (⟨3 * g.val + 2, by omega⟩ : Fin 12) = pr g 2 := rfl
  simp only [e0, e1, e2]
  have a0 := step 0 σ hg
  have ak := keep 0 σ
  generalize (pairBody W K m hm H (D.ks g) (D.vs g) kn vn kt qT doT (pr g 0)).run σ = A at a0 ak ⊢
  have gA : Good D y hm (tiles hj) A.2 := hg.congr D fun b hb => ak b fun e => hb (.inl e)
  have b0 := step 1 A.2 gA
  have bk := keep 1 A.2
  generalize (pairBody W K m hm H (D.ks g) (D.vs g) kn vn kt qT doT (pr g 1)).run A.2 = B at b0 bk ⊢
  have gB : Good D y hm (tiles hj) B.2 := gA.congr D fun b hb => bk b fun e => hb (.inl e)
  have c0 := step 2 B.2 gB
  have ck := keep 2 B.2
  generalize (pairBody W K m hm H (D.ks g) (D.vs g) kn vn kt qT doT (pr g 2)).run B.2 = E at c0 ck ⊢
  clear step keep
  obtain ⟨aq, adk, adv⟩ := a0
  obtain ⟨bq, bdk, bdv⟩ := b0
  obtain ⟨cq, cdk, cdv⟩ := c0
  have dkE : E.2 .dkt = σ .dkt := by rw [ck _ (by decide), bk _ (by decide), ak _ (by decide)]
  have dvE : E.2 .dvt = σ .dvt := by rw [ck _ (by decide), bk _ (by decide), ak _ (by decide)]
  obtain ⟨t1, t2⟩ := addTiles_run (mem := mem) H hj hmy g (addf (addf A.1.1 B.1.1) E.1.1) (addf (addf A.1.2 B.1.2) E.1.2) E.2
  refine ⟨fun h r d => ?_, fun g' J d a => (t1 g' J d a).trans ?_, fun g' J d a => (t2 g' J d a).trans ?_⟩
  · refine (congrFun (NProg.run_only (S := fun b => b = .dkt ∨ b = .dvt) (only_each _ _ fun _ => NProg.only_bind' (only_rdT _ _ _ _) fun _ =>
      NProg.only_bind' (only_wrDkt (.inl rfl) _ _ _ _) fun _ => NProg.only_bind' (only_rdT _ _ _ _) fun _ => only_wrDvt (.inr rfl) _ _ _ _) E.2 .dq
      (by decide)) _).trans ?_
    rw [cq, bq, aq]
    have p0 : (pr g 0).val = 3 * g.val := rfl
    have p1 : (pr g 1).val = 3 * g.val + 1 := rfl
    have p2 : (pr g 2).val = 3 * g.val + 2 := rfl
    rw [p0, p1, p2]
    by_cases h2 : h.val / 2 = 3 * g.val + 2
    · rw [if_pos h2, if_pos (by omega)]
    · rw [if_neg h2]
      by_cases h1 : h.val / 2 = 3 * g.val + 1
      · rw [if_pos h1, if_pos (by omega)]
      · rw [if_neg h1]
        by_cases h0 : h.val / 2 = 3 * g.val
        · rw [if_pos h0, if_pos (by omega)]
        · rw [if_neg h0, if_neg (by omega)]
  · rw [dkE]
    by_cases h : g' = g ∧ y.val - m ≤ J.val ∧ J.val ≤ y.val
    · rw [dif_pos ⟨h.1, h.2.1, by omega⟩, if_pos h]
      have eJ : tiles hj ⟨J.val - (y.val - m), by omega⟩ = J := Fin.ext (by
        show (jw m y _).toNat = J.val
        rw [jw_toNat m y hmy]; show y.val - m + (J.val - (y.val - m)) = J.val; omega)
      rw [addf_apply, addf_apply, adk, bdk, cdk, eJ]
      refine congrArg (fun z : EReal => _ + z) ?_
      unfold dkOf
      rw [Fin.sum_univ_three]
      rfl
    · rw [dif_neg (fun hh => h ⟨hh.1, hh.2.1, by omega⟩), if_neg h]
  · rw [dvE]
    by_cases h : g' = g ∧ y.val - m ≤ J.val ∧ J.val ≤ y.val
    · rw [dif_pos ⟨h.1, h.2.1, by omega⟩, if_pos h]
      have eJ : tiles hj ⟨J.val - (y.val - m), by omega⟩ = J := Fin.ext (by
        show (jw m y _).toNat = J.val
        rw [jw_toNat m y hmy]; show y.val - m + (J.val - (y.val - m)) = J.val; omega)
      rw [addf_apply, addf_apply, adv, bdv, cdv, eJ]
      refine congrArg (fun z : EReal => _ + z) ?_
      unfold dvOf
      rw [Fin.sum_univ_three]
      rfl
    · rw [dif_neg (fun hh => h ⟨hh.1, hh.2.1, by omega⟩), if_neg h]

end Cert.Str

end
-- ==== Proof.Mask.lean ====
/-
  The mask of a key tile against a query block: zero where the query sees the key, minus infinity elsewhere.
-/
module

public import proofs.«01_k».proof.Proof.Spec

@[expose] public section

noncomputable section

namespace Cert.Str

open Idealize.ShloMosaic Idealize.ShloMosaic.ValueIdx
open Cert.Named
open scoped BigOperators

/-- The positions of a query block. -/
theorem qPos_at (y : Fin 8) (r : Fin 128) : qPos y (ix2 0 r) = BitVec.ofNat 32 (128 * y.val + r.val) := by
  have e : qPos y (ix2 0 r) = Scalar.muli (BitVec.ofNat 32 y.val) 128#32 + BitVec.ofNat 32 r.val := by
    show _ + iota .tc L 32 [1] iotaL (ix2 0 r) = _
    rw [iota_single_apply .tc L 32 1 iotaL (ix2 0 r)]
    rfl
  rw [e]
  refine BitVec.eq_of_toNat_eq ?_
  have := y.isLt; have := r.isLt
  rw [BitVec.toNat_add, pos0, BitVec.toNat_ofNat, BitVec.toNat_ofNat]
  omega

/-- The document start's fold over the boundaries, at a row. -/
theorem docFold (y : Fin 8) (r : Fin 128) : ∀ (n : Nat) (acc : IVec L 32) (cu : Fin n → BitVec 32),
    foldF (fun (acc : IVec L 32) (w : BitVec 32) =>
      maxsi acc (select (cmpi .sle (broadcast L w) (qPos y)) (broadcast L w) (broadcast L 0#32))) n acc cu (ix2 0 r)
    = foldF (fun (acc : BitVec 32) (w : BitVec 32) =>
      Scalar.maxsi acc (Scalar.select (Scalar.cmpi .sle w (BitVec.ofNat 32 (128 * y.val + r.val))) w 0#32)) n (acc (ix2 0 r)) cu
  | 0, _, _ => rfl
  | n + 1, acc, cu => by
    refine (docFold y r n _ _).trans ?_
    rw [← qPos_at y r]
    rfl

/-- The starts of the documents of a query block. -/
theorem docStart_at (y : Fin 8) (cu : Fin 18 → BitVec 32) (r : Fin 128) :
    docStart y cu (ix2 0 r) = startAt cu (BitVec.ofNat 32 (128 * y.val + r.val)) := docFold y r 18 _ cu

/-- A document starts no later than its positions. -/
theorem startAt_le (cu : Fin 18 → BitVec 32) (p : Nat) (hp : p < 2 ^ 31) : (startAt cu (BitVec.ofNat 32 p)).toNat ≤ p := by
  have e : (BitVec.ofNat 32 p).toNat = p := by rw [BitVec.toNat_ofNat]; omega
  have := foldF_keep (fun (acc : BitVec 32) (w : BitVec 32) => Scalar.maxsi acc (Scalar.select (Scalar.cmpi .sle w (BitVec.ofNat 32 p)) w 0#32))
    (fun b => b.toNat ≤ (BitVec.ofNat 32 p).toNat) (fun b a h => step_le _ b a (by rw [e]; exact hp) h) 18 0#32 cu (Nat.zero_le _)
  rw [e] at this
  exact this

/-- Signed comparison of small words. -/
theorem sle_iff (a b : BitVec 32) (ha : a.toNat < 2 ^ 31) (hb : b.toNat < 2 ^ 31) : a.sle b = true ↔ a.toNat ≤ b.toNat := by
  rw [BitVec.sle_iff_toInt_le, BitVec.toInt_eq_toNat_cond, BitVec.toInt_eq_toNat_cond]
  split <;> split <;> omega

/-- The conjunction of two truth bits. -/
theorem ofBool_and (a b : Bool) : (BitVec.ofBool a &&& BitVec.ofBool b : BitVec 1) = 1#1 ↔ a = true ∧ b = true := by
  cases a <;> cases b <;> decide

/-- The mask of a key tile. -/
theorem biasTile_at (D : Data) {m : Nat} {y : Fin 8} (hmy : m ≤ y.val) (j : Fin (m + 1)) (hj : (jw m y j).toNat < 8) (a r : Fin 128) :
    biasTile (F := Ideal) m y D.cu j (ix2 a r)
      = if seen D (row (m := 7) y r) (row (m := 7) ⟨(jw m y j).toNat, hj⟩ a) then (0 : EReal) else ⊥ := by
  have ha := a.isLt; have hr := r.isLt; have hy := y.isLt
  have hk : ((addi (broadcast T (Scalar.muli (jw m y j) 128#32)) (iota .tc T 32 [0] iotaT) : IVec T 32) (ix2 a r)).toNat
      = 128 * (jw m y j).toNat + a.val := by
    show (_ + iota .tc T 32 [0] iotaT (ix2 a r) : BitVec 32).toNat = _
    rw [iota_single_apply .tc T 32 0 iotaT (ix2 a r)]
    show (jw m y j * 128#32 + BitVec.ofNat 32 a.val : BitVec 32).toNat = _
    rw [BitVec.toNat_add, BitVec.toNat_mul, BitVec.toNat_ofNat, BitVec.toNat_ofNat]
    omega
  have hs : (startAt D.cu (BitVec.ofNat 32 (128 * y.val + r.val))).toNat ≤ 128 * y.val + r.val := startAt_le _ _ (by omega)
  have hq : (qPos y (ix2 0 r)).toNat = 128 * y.val + r.val := by
    rw [qPos_at, BitVec.toNat_ofNat]; omega
  unfold biasTile
  rw [select_apply]
  have hc : (andi (cmpi .sge (addi (broadcast T (Scalar.muli (jw m y j) 128#32)) (iota .tc T 32 [0] iotaT) : IVec T 32) (broadcastTo T (docStart y D.cu) bcL))
      (cmpi .sle (addi (broadcast T (Scalar.muli (jw m y j) 128#32)) (iota .tc T 32 [0] iotaT)) (broadcastTo T (qPos y) bcL)) (ix2 a r) = 1#1)
      ↔ seen D (row (m := 7) y r) (row (m := 7) ⟨(jw m y j).toNat, hj⟩ a) := by
    refine (ofBool_and ((broadcastTo T (docStart y D.cu) bcL (ix2 a r)).sle _) (BitVec.sle _ (broadcastTo T (qPos y) bcL (ix2 a r)))).trans ?_
    rw [bcL_apply, bcL_apply, docStart_at, sle_iff _ _ (by omega) (by rw [hk]; omega), sle_iff _ _ (by rw [hk]; omega) (by rw [hq]; omega), hk, hq]
    rfl
  by_cases h : seen D (row (m := 7) y r) (row (m := 7) ⟨(jw m y j).toNat, hj⟩ a)
  · rw [if_pos h]
    refine (if_pos (hc.mpr h)).trans ?_
    exact Ideal.ofBits_zero_f32
  · rw [if_neg h]
    refine (if_neg (fun e => h (hc.mp e))).trans ?_
    show Ideal.ofBits .f32 0xFF800000#32 = ⊥
    simp [Ideal.ofBits, Ideal.ieee]

end Cert.Str

end
-- ==== Proof.Span.lean ====
/-
  What a query block leaves of a span of key tiles: all its query gradients, and the accumulators of the span's tiles with
  the block's parts added.
-/
module

public import proofs.«01_k».proof.Proof.Group
public import proofs.«01_k».proof.Proof.Mask

@[expose] public section

noncomputable section

namespace Cert.Str

open Idealize.ShloMosaic Idealize.ShloMosaic.ValueIdx
open Cert.Named
open scoped BigOperators

variable {sig : RefSig} {mem : (b : Nm) → Memref sig .tc b.cs b.sh b.el} (W : Whole mem)
variable (K : Cst Ideal) (D : Data) {x : Fin 2} {y : Fin 8}

/-- What the buffers hold at a point once its tiles are staged. -/
structure Base (x : Fin 2) (y : Fin 8) (σ : St0) : Prop where
  cu : ∀ c : Fin 18, σ .cu (ix2 x c.succ) = D.cu c
  qs : ∀ h, σ .qs (ix1 h) = D.qs h
  ks : ∀ g, σ .ks (ix1 g) = D.ks g
  vs : ∀ g, σ .vs (ix1 g) = D.vs g
  dos : ∀ h, σ .dos (ix1 h) = D.dos h
  q : ∀ r h d, σ .q (ix4 (0 : Fin 1) r h d) = D.q (row (m := 7) y r) h d
  dO : ∀ r h d, σ .dO (ix4 (0 : Fin 1) r h d) = D.dO (row (m := 7) y r) h d
  o : ∀ r h d, σ .o (ix4 (0 : Fin 1) r h d) = D.o (row (m := 7) y r) h d
  lse : ∀ h r, σ .lse (ix3 (0 : Fin 1) h r) = D.lse h (row (m := 7) y r)
  kn : ∀ g (J : Fin 8) a d, J.val ≤ y.val → σ .kn (ix4 g J a d) = D.k (row (m := 7) J a) g d
  kt : ∀ g (J : Fin 8) d a, J.val ≤ y.val → σ .kt (ix4 g J d a) = D.k (row (m := 7) J a) g d
  vn : ∀ g (J : Fin 8) a d, J.val ≤ y.val → σ .vn (ix4 g J a d) = D.v (row (m := 7) J a) g d

variable {m : Nat} (hm : m < 5) (H : SpanOk m) (hj : ∀ j, (jw m y j).toNat < 8)

/-- The masks of the span's tiles. -/
theorem bias_run (cu : Fin 18 → BitVec 32) (σ : St0) (j : Fin (m + 1)) (a r : Fin 128) :
    ((each (m + 1) fun j => wrBias (F := Ideal) (mem := mem) ⟨j.val, by omega⟩ (biasTile m y cu j)).run σ).2 .bias
        (ix3 (⟨j.val, by omega⟩ : Fin 5) a r) = biasTile (F := Ideal) m y cu j (ix2 a r) := by
  have key := run_each (M := fam mem) (fun k τ => ∀ j : Fin (m + 1), j.val < k → ∀ a r,
      τ .bias (ix3 (⟨j.val, by omega⟩ : Fin 5) a r) = biasTile (F := Ideal) m y cu j (ix2 a r)) (m + 1) 0
    (fun j => wrBias (F := Ideal) (mem := mem) ⟨j.val, by omega⟩ (biasTile m y cu j)) σ (fun j hj => absurd hj (by omega)) ?_
  · exact key j (by omega) a r
  · intro j τ h j' hj' a r
    rw [wrBias_at]
    by_cases e : j' = j
    · subst e; rw [if_pos rfl]
    · rw [if_neg (fun h => e (Fin.ext (congrArg (fun z : Fin 5 => z.val) h)))]
      have : j'.val ≠ j.val := fun h => e (Fin.ext h)
      exact h j' (by omega) a r

/-- A query block against a span. -/
theorem span_run (hmy : m ≤ y.val) {σ : St0} (hb : Base D x y σ) :
    (∀ h r d, ((spanBody W K m hm H x y hj).run σ).2 .dq (ix4 (0 : Fin 1) r h d) = dqOf K D (tiles hj) h (row (m := 7) y r) d)
      ∧ (∀ g J d a, ((spanBody W K m hm H x y hj).run σ).2 .dkt (ix4 g J d a)
        = if y.val - m ≤ J.val ∧ J.val ≤ y.val then σ .dkt (ix4 g J d a) + dkOf K D g y (row (m := 7) J a) d
          else σ .dkt (ix4 g J d a))
      ∧ (∀ g J d a, ((spanBody W K m hm H x y hj).run σ).2 .dvt (ix4 g J d a)
        = if y.val - m ≤ J.val ∧ J.val ≤ y.val then σ .dvt (ix4 g J d a) + dvOf K D g y (row (m := 7) J a) d
          else σ .dvt (ix4 g J d a)) := by
  unfold spanBody
  simp only [NProg.run_bind']
  obtain ⟨c1, c2⟩ := run_loop (M := fam mem) σ 18 (fun c => rdCu (F := Ideal) (mem := mem) x c) fun _ => rfl
  rw [c2]
  have hcu : ((loop 18 fun c => rdCu (F := Ideal) (mem := mem) x c).run σ).1 = D.cu := funext fun c => by
    rw [c1, rdCu_val]; exact hb.cu c
  rw [hcu]
  have hbias := bias_run (mem := mem) (y := y) hm D.cu σ
  have hkeep : ∀ b, b ≠ .bias → ((each (m + 1) fun j => wrBias (F := Ideal) (mem := mem) ⟨j.val, by omega⟩ (biasTile m y D.cu j)).run σ).2 b = σ b :=
    fun b h => NProg.run_only (M := fam mem) (p := each (m + 1) fun j => wrBias (F := Ideal) (mem := mem) ⟨j.val, by omega⟩ (biasTile m y D.cu j))
      (S := fun b => b = .bias) (only_each _ _ fun _ => only_wrBias (S := fun b => b = .bias) rfl _ _) σ b h
  generalize ((each (m + 1) fun j => wrBias (F := Ideal) (mem := mem) ⟨j.val, by omega⟩ (biasTile m y D.cu j)).run σ).2 = τ at hbias hkeep ⊢
  have hg : Good D y hm (tiles hj) τ := by
    have tl : ∀ j, (tiles hj j).val ≤ y.val := fun j => by
      show (jw m y j).toNat ≤ _
      rw [jw_toNat m y hmy]; have := j.isLt; omega
    constructor
    · rw [hkeep _ (by decide)]; exact hb.qs
    · rw [hkeep _ (by decide)]; exact hb.ks
    · rw [hkeep _ (by decide)]; exact hb.vs
    · rw [hkeep _ (by decide)]; exact hb.dos
    · rw [hkeep _ (by decide)]; exact hb.o
    · rw [hkeep _ (by decide)]; exact hb.lse
    · rw [hkeep _ (by decide)]; exact fun g j a d => hb.kn g _ a d (tl j)
    · rw [hkeep _ (by decide)]; exact fun g j a d => hb.kt g _ a d (tl j)
    · rw [hkeep _ (by decide)]; exact fun g j a d => hb.vn g _ a d (tl j)
    · intro j a r
      rw [hbias, biasTile_at D hmy j (hj j)]
  generalize hf : (fun h : Fin 24 => (rdQ (F := Ideal) (mem := mem) h >>= fun a => rdDo h >>= fun b => NProg.ret (a, b))) = f
  obtain ⟨q1, q2⟩ := run_loop (M := fam mem) τ 24 f fun h => by subst hf; rfl
  rw [q2]
  have q_at : ∀ h d r, (((loop 24 f).run τ).1 h).1 (ix2 d r) = D.q (row (m := 7) y r) h d := fun h d r => by
    rw [q1]; subst hf
    refine (rdQ_val τ h d r).trans ?_
    rw [hkeep _ (by decide)]; exact hb.q r h d
  have do_at : ∀ h d r, (((loop 24 f).run τ).1 h).2 (ix2 d r) = D.dO (row (m := 7) y r) h d := fun h d r => by
    rw [q1]; subst hf
    refine (rdDo_val τ h d r).trans ?_
    rw [hkeep _ (by decide)]; exact hb.dO r h d
  generalize ((loop 24 f).run τ).1 = qd at q_at do_at ⊢
  have hk0 : τ .dkt = σ .dkt := hkeep _ (by decide)
  have hv0 : τ .dvt = σ .dvt := hkeep _ (by decide)
  have key := run_each (M := fam mem) (fun k ρ => Good D y hm (tiles hj) ρ
      ∧ (∀ h r d, h.val / 6 < k → ρ .dq (ix4 (0 : Fin 1) r h d) = dqOf K D (tiles hj) h (row (m := 7) y r) d)
      ∧ (∀ g J d a, ρ .dkt (ix4 g J d a) = if g.val < k ∧ y.val - m ≤ J.val ∧ J.val ≤ y.val then σ .dkt (ix4 g J d a) + dkOf K D g y (row (m := 7) J a) d
          else σ .dkt (ix4 g J d a))
      ∧ (∀ g J d a, ρ .dvt (ix4 g J d a) = if g.val < k ∧ y.val - m ≤ J.val ∧ J.val ≤ y.val then σ .dvt (ix4 g J d a) + dvOf K D g y (row (m := 7) J a) d
          else σ .dvt (ix4 g J d a))) 4 0
    (fun g => groupBody W K m hm H y hj (fun h => (qd h).1) (fun h => (qd h).2) g) τ
    ⟨hg, fun h r d hh => absurd hh (by omega), fun g J d a => by rw [if_neg (by omega), hk0], fun g J d a => by rw [if_neg (by omega), hv0]⟩ ?_
  · obtain ⟨-, k1, k2, k3⟩ := key
    refine ⟨fun h r d => k1 h r d (by omega), fun g J d a => (k2 g J d a).trans ?_, fun g J d a => (k3 g J d a).trans ?_⟩
    · by_cases h : y.val - m ≤ J.val ∧ J.val ≤ y.val
      · rw [if_pos h, if_pos ⟨by omega, h⟩]
      · rw [if_neg h, if_neg fun hh => h hh.2]
    · by_cases h : y.val - m ≤ J.val ∧ J.val ≤ y.val
      · rw [if_pos h, if_pos ⟨by omega, h⟩]
      · rw [if_neg h, if_neg fun hh => h hh.2]
  · intro g ρ ⟨h0, h1, h2, h3⟩
    rw [Nat.zero_add] at h1 h2 h3
    rw [Nat.zero_add]
    obtain ⟨r1, r2, r3⟩ := group_run W K D hm H hj hmy h0 (fun h => (qd h).1) (fun h => (qd h).2) q_at do_at g
    refine ⟨h0.congr D fun b hb => NProg.run_only (S := fun b => b = .dq ∨ b = .dkt ∨ b = .dvt)
      (only_groupBody W (.inl rfl) (.inr (.inl rfl)) (.inr (.inr rfl)) K m hm H y hj _ _ g) ρ b hb, fun h r d hh => ?_, fun g' J d a => ?_, fun g' J d a => ?_⟩
    · rw [r1]
      by_cases e : h.val / 6 = g.val
      · rw [if_pos e]
      · rw [if_neg e]; exact h1 h r d (by omega)
    · rw [r2, h2]
      by_cases e : g' = g
      · subst e
        by_cases h : y.val - m ≤ J.val ∧ J.val ≤ y.val
        · rw [if_pos ⟨rfl, h⟩, if_neg (by omega), if_pos ⟨by omega, h⟩]
        · rw [if_neg fun hh => h hh.2, if_neg fun hh => h hh.2, if_neg fun hh => h hh.2]
      · have e' : g'.val ≠ g.val := fun z => e (Fin.ext z)
        rw [if_neg fun hh => e hh.1]
        by_cases h : g'.val < g.val ∧ y.val - m ≤ J.val ∧ J.val ≤ y.val
        · rw [if_pos h, if_pos ⟨by omega, h.2⟩]
        · rw [if_neg h, if_neg fun hh => h ⟨by omega, hh.2⟩]
    · rw [r3, h3]
      by_cases e : g' = g
      · subst e
        by_cases h : y.val - m ≤ J.val ∧ J.val ≤ y.val
        · rw [if_pos ⟨rfl, h⟩, if_neg (by omega), if_pos ⟨by omega, h⟩]
        · rw [if_neg fun hh => h hh.2, if_neg fun hh => h hh.2, if_neg fun hh => h hh.2]
      · have e' : g'.val ≠ g.val := fun z => e (Fin.ext z)
        rw [if_neg fun hh => e hh.1]
        by_cases h : g'.val < g.val ∧ y.val - m ≤ J.val ∧ J.val ≤ y.val
        · rw [if_pos h, if_pos ⟨by omega, h.2⟩]
        · rw [if_neg h, if_neg fun hh => h ⟨by omega, hh.2⟩]

end Cert.Str

end
-- ==== Proof.Start.lean ====
/-
  The start of a position's document in integers: the greatest boundary not after the position, or zero.
-/
module

public import proofs.«01_k».proof.Proof.Mask

@[expose] public section

noncomputable section

namespace Cert.Str

open Idealize.ShloMosaic Idealize.ShloMosaic.ValueIdx

/-- The start in integers. -/
def startZ {n : Nat} (b : ℤ) (z : Fin n → ℤ) (p : ℤ) : ℤ := foldF (fun (acc : ℤ) (w : ℤ) => max acc (if w ≤ p then w else 0)) n b z

/-- The start is at least what the fold begins with. -/
theorem startZ_base (p : ℤ) : ∀ (n : Nat) (b : ℤ) (z : Fin n → ℤ), b ≤ startZ b z p
  | 0, b, _ => le_refl b
  | n + 1, b, z => le_trans (le_max_left _ _) (startZ_base p n (max b (if z 0 ≤ p then z 0 else 0)) fun j => z j.succ)

/-- No boundary up to the position is after the start. -/
theorem startZ_ge (p : ℤ) : ∀ (n : Nat) (b : ℤ) (z : Fin n → ℤ) (c : Fin n), z c ≤ p → z c ≤ startZ b z p
  | 0, _, _, c, _ => c.elim0
  | n + 1, b, z, ⟨0, _⟩, h => by
    refine le_trans ?_ (startZ_base p n (max b (if z 0 ≤ p then z 0 else 0)) fun j => z j.succ)
    have h : z 0 ≤ p := h
    rw [if_pos h]; exact le_max_right _ _
  | n + 1, b, z, ⟨c + 1, hc⟩, h => startZ_ge p n _ (fun j => z j.succ) ⟨c, Nat.lt_of_succ_lt_succ hc⟩ h

/-- The start is the base or zero or a boundary up to the position. -/
theorem startZ_mem (p : ℤ) : ∀ (n : Nat) (b : ℤ) (z : Fin n → ℤ), startZ b z p = b ∨ startZ b z p = 0 ∨ ∃ c, z c ≤ p ∧ startZ b z p = z c
  | 0, b, _ => .inl rfl
  | n + 1, b, z => by
    have e : startZ b z p = startZ (max b (if z 0 ≤ p then z 0 else 0)) (fun j : Fin n => z j.succ) p := rfl
    rw [e]
    rcases startZ_mem p n (max b (if z 0 ≤ p then z 0 else 0)) (fun j : Fin n => z j.succ) with h | h | ⟨c, hc, h⟩
    · rw [h]
      by_cases h0 : z 0 ≤ p
      · rw [if_pos h0]
        rcases max_choice b (z 0) with hm | hm
        · exact .inl hm
        · exact .inr (.inr ⟨0, h0, hm⟩)
      · rw [if_neg h0]
        rcases max_choice b 0 with hm | hm
        · exact .inl hm
        · exact .inr (.inl hm)
    · exact .inr (.inl h)
    · exact .inr (.inr ⟨c.succ, hc, h⟩)

/-- The step of the start's search in integers. -/
theorem step_toInt (acc w p : BitVec 32) :
    (Scalar.maxsi acc (Scalar.select (Scalar.cmpi .sle w p) w 0#32)).toInt = max acc.toInt (if w.toInt ≤ p.toInt then w.toInt else 0) := by
  have hs : Scalar.select (Scalar.cmpi .sle w p) w 0#32 = if w.sle p then w else 0#32 := by
    show (if (BitVec.ofBool (w.sle p)) = 1#1 then w else 0#32) = _
    cases w.sle p <;> rfl
  rw [hs]
  have hw : (if w.sle p then w else 0#32).toInt = if w.toInt ≤ p.toInt then w.toInt else 0 := by
    by_cases h : w.toInt ≤ p.toInt
    · rw [if_pos (BitVec.sle_iff_toInt_le.mpr h), if_pos h]
    · rw [if_neg (fun e => h (BitVec.sle_iff_toInt_le.mp e)), if_neg h]; rfl
  rw [← hw]
  show (if (if w.sle p then w else 0#32).slt acc then acc else (if w.sle p then w else 0#32)).toInt = _
  generalize (if w.sle p then w else 0#32) = u
  by_cases h : u.slt acc
  · rw [if_pos h]; rw [BitVec.slt_iff_toInt_lt] at h; exact (max_eq_left h.le).symm
  · rw [if_neg h]; rw [BitVec.slt_iff_toInt_lt] at h; exact (max_eq_right (not_lt.mp h)).symm

/-- The fold over words is the fold over their integers. -/
theorem startFold_toInt (p : BitVec 32) : ∀ (n : Nat) (b : BitVec 32) (cu : Fin n → BitVec 32),
    (foldF (fun (acc : BitVec 32) (w : BitVec 32) => Scalar.maxsi acc (Scalar.select (Scalar.cmpi .sle w p) w 0#32)) n b cu).toInt
      = startZ b.toInt (fun c => (cu c).toInt) p.toInt
  | 0, _, _ => rfl
  | n + 1, b, cu => by
    refine (startFold_toInt p n _ _).trans ?_
    rw [step_toInt]
    rfl

/-- The start of a position, in integers. -/
theorem startAt_int (cu : Fin 18 → BitVec 32) (p : Nat) (hp : p < 2 ^ 31) :
    ((startAt cu (BitVec.ofNat 32 p)).toNat : ℤ) = startZ 0 (fun c => (cu c).toInt) (p : ℤ) := by
  have h := startFold_toInt (BitVec.ofNat 32 p) 18 0#32 cu
  have e : (BitVec.ofNat 32 p).toInt = (p : ℤ) := by
    rw [BitVec.toInt_eq_toNat_cond, BitVec.toNat_ofNat]
    split <;> omega
  rw [e] at h
  have hle := startAt_le cu p hp
  refine Eq.trans ?_ h
  show _ = (startAt cu (BitVec.ofNat 32 p)).toInt
  rw [BitVec.toInt_eq_toNat_cond]
  split <;> omega

/-- A later position's document starts no earlier. -/
theorem startAt_mono (cu : Fin 18 → BitVec 32) (p p' : Nat) (h : p ≤ p') (hp : p' < 2 ^ 31) :
    (startAt cu (BitVec.ofNat 32 p)).toNat ≤ (startAt cu (BitVec.ofNat 32 p')).toNat := by
  have e := startAt_int cu p (by omega)
  have e' := startAt_int cu p' hp
  have hb := startZ_base (p' : ℤ) 18 0 fun c => (cu c).toInt
  rcases startZ_mem (p : ℤ) 18 0 fun c => (cu c).toInt with h0 | h0 | ⟨c, hc, h0⟩
  · omega
  · omega
  · have := startZ_ge (p' : ℤ) 18 0 (fun c => (cu c).toInt) c (by omega)
    omega

/-- Queries see each other's documents: the key's document starts where the query's does exactly when no boundary lies
    between them. -/
theorem seen_iff (D : Data) (i j : Pos) :
    seen D i j ↔ j.val ≤ i.val ∧ ∀ c, ((D.cu c).toInt ≤ (i.val : ℤ) ↔ (D.cu c).toInt ≤ (j.val : ℤ)) := by
  have hi := i.isLt
  have hj := j.isLt
  have e := startAt_int D.cu i.val (by omega)
  have hb := startZ_base (i.val : ℤ) 18 0 fun c => (D.cu c).toInt
  constructor
  · rintro ⟨h1, h2⟩
    refine ⟨h2, fun c => ⟨fun hc => ?_, fun hc => by omega⟩⟩
    have := startZ_ge (i.val : ℤ) 18 0 (fun c => (D.cu c).toInt) c hc
    omega
  · rintro ⟨h2, h⟩
    refine ⟨?_, h2⟩
    rcases startZ_mem (i.val : ℤ) 18 0 fun c => (D.cu c).toInt with h0 | h0 | ⟨c, hc, h0⟩
    · omega
    · omega
    · have := (h c).mp hc
      omega

/-- With documents of at most 512 positions a block sees at most five key tiles. -/
theorem span_bound (cu : Fin 18 → BitVec 32) (y : Fin 8) (h0 : (cu 0).toInt ≤ 512)
    (hs : ∀ c : Fin 17, (cu c.succ).toInt - (cu c.castSucc).toInt ≤ 512) (hl : 1024 ≤ (cu 17).toInt) :
    y.val - (start y cu).toNat / 128 < 5 := by
  have hy := y.isLt
  have e := startAt_int cu (128 * y.val) (by omega)
  have es : startAt cu (BitVec.ofNat 32 (128 * y.val)) = start y cu := by
    have aux : ∀ y : Fin 8, BitVec.ofNat 32 (128 * y.val) = Scalar.muli (BitVec.ofNat 32 y.val) 128#32 := by decide
    have := aux y
    rw [this]; rfl
  rw [es] at e
  by_contra hc
  have hlt : ((start y cu).toNat : ℤ) + 513 ≤ 128 * (y.val : ℤ) := by omega
  have ge := fun c => startZ_ge ((128 * y.val : ℕ) : ℤ) 18 0 (fun c => (cu c).toInt) c
  have all : ∀ n (hn : n < 18), (cu ⟨n, hn⟩).toInt ≤ ((128 * y.val : ℕ) : ℤ) := by
    intro n
    induction n with
    | zero => intro hn; have : (cu ⟨0, hn⟩).toInt ≤ 512 := h0; omega
    | succ n ih =>
      intro hn
      have a := ih (by omega)
      have b := ge ⟨n, by omega⟩ a
      have d : (cu ⟨n + 1, hn⟩).toInt - (cu ⟨n, by omega⟩).toInt ≤ 512 := hs ⟨n, by omega⟩
      have b : (cu ⟨n, by omega⟩).toInt ≤ startZ 0 (fun c => (cu c).toInt) ((128 * y.val : ℕ) : ℤ) := b
      omega
  have := all 17 (by omega)
  have : 1024 ≤ (cu ⟨17, by omega⟩).toInt := hl
  omega

end Cert.Str

end
-- ==== Proof.Stage.lean ====
/-
  Staging a block's key and value tiles and clearing its accumulators.
-/
module

public import proofs.«01_k».proof.Proof.Head

@[expose] public section

noncomputable section

namespace Cert.Str

open Idealize.ShloMosaic Idealize.ShloMosaic.ValueIdx
open Cert.Named
open scoped BigOperators

variable {sig : RefSig} {mem : (b : Nm) → Memref sig .tc b.cs b.sh b.el}

/-- A loop over the key groups that writes one tile of a buffer at each, from a buffer it does not write. -/
theorem each_tile (b c : Nm) (hbc : b ≠ c) (f : Fin 4 → P (F := Ideal) mem PUnit) (hf : ∀ g, NProg.Only (fun z => z = b) (f g))
    (σ : St0) (y : Fin 8) (e : Fin 4 → Fin 8 → Fin 128 → Fin 128 → b.sh.Idx) (X : Fin 4 → Fin 128 → Fin 128 → Elt Ideal b.el)
    (hs : ∀ g (τ : St0), τ c = σ c → ∀ g' J a d, ((f g).run τ).2 b (e g' J a d) = if g' = g ∧ J = y then X g a d else τ b (e g' J a d)) :
    (∀ g J a d, ((each 4 f).run σ).2 b (e g J a d) = if J = y then X g a d else σ b (e g J a d))
      ∧ ∀ b', b' ≠ b → ((each 4 f).run σ).2 b' = σ b' := by
  refine ⟨?_, fun b' hb' => NProg.run_only (M := fam mem) (p := each 4 f) (S := fun z => z = b) (only_each _ _ hf) σ b' hb'⟩
  have A := run_each (M := fam mem) (fun k τ => τ c = σ c ∧ ∀ g J a d, τ b (e g J a d)
      = if g.val < k ∧ J = y then X g a d else σ b (e g J a d)) 4 0 f σ
    ⟨rfl, fun g J a d => by rw [if_neg (by omega)]⟩ (by
      intro g τ ⟨h0, h1⟩
      rw [Nat.zero_add] at h1 ⊢
      refine ⟨(NProg.run_only (hf g) τ c fun z => hbc z.symm).trans h0, fun g' J a d => ?_⟩
      rw [hs g τ h0, h1]
      by_cases eg : g' = g
      · subst eg
        by_cases eJ : J = y
        · rw [if_pos ⟨rfl, eJ⟩, if_pos ⟨by omega, eJ⟩]
        · rw [if_neg fun hh => eJ hh.2, if_neg fun hh => eJ hh.2, if_neg fun hh => eJ hh.2]
      · have e' : g'.val ≠ g.val := fun z => eg (Fin.ext z)
        rw [if_neg fun hh => eg hh.1]
        by_cases h : g'.val < g.val ∧ J = y
        · rw [if_pos h, if_pos ⟨by omega, h.2⟩]
        · rw [if_neg h, if_neg fun hh => h ⟨by omega, hh.2⟩])
  intro g J a d
  rw [A.2 g J a d]
  by_cases h : J = y
  · rw [if_pos h, if_pos ⟨by omega, h⟩]
  · rw [if_neg h, if_neg fun hh => h hh.2]

/-- A block is its number as a word. -/
theorem fin_iff (y J : Fin 8) : J.val = (BitVec.ofNat 32 y.val).toNat ↔ J = y := by
  rw [BitVec.toNat_ofNat, Nat.mod_eq_of_lt (by omega), Fin.ext_iff]

variable (W : Whole mem)

/-- The three staging loops. -/
def stKn (y : Fin 8) (g : Fin 4) : P (F := Ideal) mem PUnit := do
  let x ← rdK y g
  wrKn W g (BitVec.ofNat 32 y.val) (tile_lt y) x
/-- Stages a group's transposed key tile. -/
def stKt (y : Fin 8) (g : Fin 4) : P (F := Ideal) mem PUnit := do
  let x ← rdK y g
  wrKt W g (BitVec.ofNat 32 y.val) (tile_lt y) (extf .bf16 (transpose T [1, 0] x transT) lt8)
/-- Stages a group's value tile. -/
def stVn (y : Fin 8) (g : Fin 4) : P (F := Ideal) mem PUnit := do
  let x ← rdV y g
  wrVn W g (BitVec.ofNat 32 y.val) (tile_lt y) (extf .bf16 x lt8)
/-- Clearing one key group's tiles. -/
def clr (y : Fin 8) (g : Fin 4) : P (F := Ideal) mem PUnit := do
  wrDkt g (BitVec.ofNat 32 y.val) (tile_lt y) (broadcast T (Scalar.ofBits .f32 0x00000000#32))
  wrDvt g (BitVec.ofNat 32 y.val) (tile_lt y) (broadcast T (Scalar.ofBits .f32 0x00000000#32))

/-- Reading the block's key rows changes no buffer. -/
theorem rdK_st (y : Fin 8) (g : Fin 4) (σ : St0) : ((rdK (F := Ideal) (mem := mem) y g).run σ).2 = σ := rfl
/-- Reading the block's value rows changes no buffer. -/
theorem rdV_st (y : Fin 8) (g : Fin 4) (σ : St0) : ((rdV (F := Ideal) (mem := mem) y g).run σ).2 = σ := rfl

/-- The staged keys after a group, at an index. -/
theorem stKn_at (y : Fin 8) (g : Fin 4) (τ : St0) (g' : Fin 4) (J : Fin 8) (a d : Fin 128) :
    ((stKn W y g).run τ).2 .kn (ix4 g' J a d) = if g' = g ∧ J = y then τ .k (ix4 (0 : Fin 1) (row (m := 7) y a) g d) else τ .kn (ix4 g' J a d) := by
  unfold stKn
  rw [NProg.run_bind', wrKn_at, rdK_val, rdK_st]
  simp only [fin_iff]
/-- The staged transposed keys after a group, at an index. -/
theorem stKt_at (y : Fin 8) (g : Fin 4) (τ : St0) (g' : Fin 4) (J : Fin 8) (d a : Fin 128) :
    ((stKt W y g).run τ).2 .kt (ix4 g' J d a) = if g' = g ∧ J = y then τ .k (ix4 (0 : Fin 1) (row (m := 7) y a) g d) else τ .kt (ix4 g' J d a) := by
  unfold stKt
  rw [NProg.run_bind', wrKt_at, extf_apply, trT_apply, rdK_val, rdK_st]
  simp only [fin_iff]
/-- The staged values after a group, at an index. -/
theorem stVn_at (y : Fin 8) (g : Fin 4) (τ : St0) (g' : Fin 4) (J : Fin 8) (a d : Fin 128) :
    ((stVn W y g).run τ).2 .vn (ix4 g' J a d) = if g' = g ∧ J = y then τ .v (ix4 (0 : Fin 1) (row (m := 7) y a) g d) else τ .vn (ix4 g' J a d) := by
  unfold stVn
  rw [NProg.run_bind', wrVn_at, extf_apply, rdV_val, rdV_st]
  simp only [fin_iff]

/-- The zero tile, at an index. -/
theorem zeroT (i : T.Idx) : (broadcast T (Scalar.ofBits .f32 0x00000000#32) : FVec Ideal T .f32) i = (0 : EReal) := Ideal.ofBits_zero_f32

/-- The accumulators after a group is cleared, at an index. -/
theorem clr_at (y : Fin 8) (g : Fin 4) (τ : St0) (g' : Fin 4) (J : Fin 8) (d a : Fin 128) :
    ((clr (mem := mem) y g).run τ).2 .dkt (ix4 g' J d a) = (if g' = g ∧ J = y then (0 : EReal) else τ .dkt (ix4 g' J d a))
      ∧ ((clr (mem := mem) y g).run τ).2 .dvt (ix4 g' J d a) = (if g' = g ∧ J = y then (0 : EReal) else τ .dvt (ix4 g' J d a)) := by
  unfold clr
  rw [NProg.run_bind']
  constructor
  · rw [NProg.run_only (only_wrDvt (S := fun b => b = .dvt) rfl _ _ _ _) _ .dkt (by decide), wrDkt_at, zeroT]
    simp only [fin_iff]
  · rw [wrDvt_at, zeroT, NProg.run_only (only_wrDkt (S := fun b => b = .dkt) rfl _ _ _ _) _ .dvt (by decide)]
    simp only [fin_iff]

/-- Staging keys changes the staged keys only. -/
theorem only_stKn (y : Fin 8) (g : Fin 4) : NProg.Only (fun z => z = .kn) (stKn W y g) :=
  NProg.only_bind' (only_rdT _ _ _ _) fun _ => only_wrKn W (S := fun b => b = .kn) rfl _ _ _ _
/-- Staging transposed keys changes them only. -/
theorem only_stKt (y : Fin 8) (g : Fin 4) : NProg.Only (fun z => z = .kt) (stKt W y g) :=
  NProg.only_bind' (only_rdT _ _ _ _) fun _ => only_wrKt W (S := fun b => b = .kt) rfl _ _ _ _
/-- Staging values changes the staged values only. -/
theorem only_stVn (y : Fin 8) (g : Fin 4) : NProg.Only (fun z => z = .vn) (stVn W y g) :=
  NProg.only_bind' (only_rdT _ _ _ _) fun _ => only_wrVn W (S := fun b => b = .vn) rfl _ _ _ _

/-- Staging writes the point's tiles. -/
theorem stage_run (y : Fin 8) (σ : St0) :
    (∀ g J a d, ((stageBody (F := Ideal) W y).run σ).2 .kn (ix4 g J a d)
        = if J = y then σ .k (ix4 (0 : Fin 1) (row (m := 7) y a) g d) else σ .kn (ix4 g J a d))
      ∧ (∀ g J d a, ((stageBody (F := Ideal) W y).run σ).2 .kt (ix4 g J d a)
        = if J = y then σ .k (ix4 (0 : Fin 1) (row (m := 7) y a) g d) else σ .kt (ix4 g J d a))
      ∧ (∀ g J a d, ((stageBody (F := Ideal) W y).run σ).2 .vn (ix4 g J a d)
        = if J = y then σ .v (ix4 (0 : Fin 1) (row (m := 7) y a) g d) else σ .vn (ix4 g J a d)) := by
  have hb : stageBody (F := Ideal) W y
      = (each 4 (stKn W y)).bind fun (_ : PUnit) => (each 4 (stKt W y)).bind fun (_ : PUnit) => each 4 (stVn W y) := rfl
  rw [hb, NProg.run_bind, NProg.run_bind]
  obtain ⟨A, A'⟩ := each_tile (mem := mem) .kn .k (by decide) (stKn W y) (only_stKn W y) σ y (fun g J a d => ix4 g J a d)
    (fun g a d => σ .k (ix4 (0 : Fin 1) (row (m := 7) y a) g d)) (fun g τ h g' J a d => by rw [stKn_at, h])
  generalize ((each 4 (stKn W y)).run σ).2 = σ₁ at A A' ⊢
  obtain ⟨B, B'⟩ := each_tile (mem := mem) .kt .k (by decide) (stKt W y) (only_stKt W y) σ₁ y (fun g J d a => ix4 g J d a)
    (fun g d a => σ₁ .k (ix4 (0 : Fin 1) (row (m := 7) y a) g d)) (fun g τ h g' J d a => by rw [stKt_at, h])
  generalize ((each 4 (stKt W y)).run σ₁).2 = σ₂ at B B' ⊢
  obtain ⟨E, E'⟩ := each_tile (mem := mem) .vn .v (by decide) (stVn W y) (only_stVn W y) σ₂ y (fun g J a d => ix4 g J a d)
    (fun g a d => σ₂ .v (ix4 (0 : Fin 1) (row (m := 7) y a) g d)) (fun g τ h g' J a d => by rw [stVn_at, h])
  generalize ((each 4 (stVn W y)).run σ₂).2 = σ₃ at E E' ⊢
  refine ⟨fun g J a d => ?_, fun g J d a => ?_, fun g J a d => ?_⟩
  · rw [E' .kn (by decide), B' .kn (by decide), A]
  · rw [E' .kt (by decide), B, A' .k (by decide), A' .kt (by decide)]
  · rw [E, B' .v (by decide), A' .v (by decide), B' .vn (by decide), A' .vn (by decide)]

/-- Clearing zeroes the point's accumulator tiles. -/
theorem clear_run (y : Fin 8) (σ : St0) :
    (∀ g J d a, ((clearBody (F := Ideal) (mem := mem) y).run σ).2 .dkt (ix4 g J d a) = if J = y then (0 : EReal) else σ .dkt (ix4 g J d a))
      ∧ (∀ g J d a, ((clearBody (F := Ideal) (mem := mem) y).run σ).2 .dvt (ix4 g J d a) = if J = y then (0 : EReal) else σ .dvt (ix4 g J d a)) := by
  have hb : clearBody (F := Ideal) (mem := mem) y = each 4 (clr y) := rfl
  rw [hb]
  have A := run_each (M := fam mem) (fun k τ => ∀ g J d a,
      τ .dkt (ix4 g J d a) = (if g.val < k ∧ J = y then (0 : EReal) else σ .dkt (ix4 g J d a))
      ∧ τ .dvt (ix4 g J d a) = (if g.val < k ∧ J = y then (0 : EReal) else σ .dvt (ix4 g J d a))) 4 0 (clr y) σ
    (fun g J a d => by rw [if_neg (by omega), if_neg (by omega)]; exact ⟨rfl, rfl⟩) (by
      intro g τ h1 g' J d a
      rw [Nat.zero_add] at h1 ⊢
      obtain ⟨c1, c2⟩ := clr_at (mem := mem) y g τ g' J d a
      rw [c1, c2, (h1 g' J d a).1, (h1 g' J d a).2]
      by_cases eg : g' = g
      · subst eg
        by_cases eJ : J = y
        · simp [eJ]
        · simp [eJ]
      · have e' : g'.val ≠ g.val := fun z => eg (Fin.ext z)
        have e2 : g'.val < g.val + 1 ↔ g'.val < g.val := by omega
        simp only [eg, e2, false_and, if_false, and_self])
  refine ⟨fun g J d a => ((A g J d a).1).trans ?_, fun g J d a => ((A g J d a).2).trans ?_⟩ <;>
  · by_cases h : J = y
    · rw [if_pos h, if_pos ⟨by omega, h⟩]
    · rw [if_neg h, if_neg fun hh => h hh.2]

end Cert.Str

end
-- ==== Proof.Write.lean ====
/-
  Writing a batch's accumulated key and value gradients out.
-/
module

public import proofs.«01_k».proof.Proof.Head

@[expose] public section

noncomputable section

namespace Cert.Str

open Idealize.ShloMosaic Idealize.ShloMosaic.ValueIdx
open Cert.Named
open scoped BigOperators

variable {sig : RefSig} {mem : (b : Nm) → Memref sig .tc b.cs b.sh b.el}

/-- A nest of two loops that writes each cell once. -/
theorem each2_run {n k : Nat} (b c : Nm) (hbc : b ≠ c) (f : Fin n → Fin k → P (F := Ideal) mem PUnit)
    (hf : ∀ j g, NProg.Only (fun z => z = b) (f j g)) (σ : St0) (Q : Fin n → Fin k → (b.sh.Idx → Elt Ideal b.el) → Prop)
    (hw : ∀ j g (τ : St0), τ c = σ c → Q j g (((f j g).run τ).2 b))
    (hk : ∀ j g j' g' (τ : St0), τ c = σ c → (j', g') ≠ (j, g) → Q j' g' (τ b) → Q j' g' (((f j g).run τ).2 b)) :
    (∀ j g, Q j g (((each n fun j => each k fun g => f j g).run σ).2 b))
      ∧ ∀ b', b' ≠ b → ((each n fun j => each k fun g => f j g).run σ).2 b' = σ b' := by
  refine ⟨?_, fun b' hb' => NProg.run_only (M := fam mem) (p := each n fun j => each k fun g => f j g) (S := fun z => z = b)
    (only_each _ _ fun j => only_each _ _ fun g => hf j g) σ b' hb'⟩
  have A := run_each (M := fam mem) (fun i τ => τ c = σ c ∧ ∀ j g, j.val < i → Q j g (τ b)) n 0 (fun j => each k fun g => f j g) σ
    ⟨rfl, fun j g h => absurd h (by omega)⟩ (by
      intro j τ ⟨h0, h1⟩
      rw [Nat.zero_add] at h1 ⊢
      have B := run_each (M := fam mem) (fun i ρ => ρ c = σ c ∧ (∀ j' g, j'.val < j.val → Q j' g (ρ b)) ∧ ∀ g, g.val < i → Q j g (ρ b)) k 0 (fun g => f j g) τ
        ⟨h0, h1, fun g h => absurd h (by omega)⟩ (by
          intro g ρ ⟨r0, r1, r2⟩
          rw [Nat.zero_add] at r2 ⊢
          refine ⟨(NProg.run_only (hf j g) ρ c (fun e => hbc e.symm)).trans r0, fun j' g' hj' => hk j g j' g' ρ r0 (fun e => ?_) (r1 j' g' hj'), fun g' hg' => ?_⟩
          · have := congrArg (fun z : Fin n × Fin k => z.1.val) e
            simp only at this; omega
          · by_cases e : g' = g
            · subst e; exact hw j g' ρ r0
            · have e' : g'.val ≠ g.val := fun z => e (Fin.ext z)
              exact hk j g j g' ρ r0 (fun z => e (congrArg Prod.snd z)) (r2 g' (by omega)))
      refine ⟨B.1, fun j' g hj' => ?_⟩
      by_cases e : j' = j
      · subst e; exact B.2.2 g (by omega)
      · have e' : j'.val ≠ j.val := fun z => e (Fin.ext z)
        exact B.2.1 j' g (by omega))
  exact fun j g => A.2 j g (by omega)

variable (W : Whole mem) (K : Cst Ideal)

/-- Writing out one tile. -/
def outK (j : Fin 8) (g : Fin 4) : P (F := Ideal) mem PUnit := do
  let x ← rdAk j g
  wrDk W j g (transpose T [1, 0] (truncf .bf16 (mulf x (broadcast T K.scale)) lt16) transT)
/-- Writes a group's value gradient tile. -/
def outV (j : Fin 8) (g : Fin 4) : P (F := Ideal) mem PUnit := do
  let x ← rdAv j g
  wrDv W j g (transpose T [1, 0] (truncf .bf16 (mulf x (broadcast T (Scalar.ofBits .f32 0x3F800000#32))) lt16) transT)

/-- A key gradient's write changes that result only. -/
theorem only_outK (j : Fin 8) (g : Fin 4) : NProg.Only (fun z => z = .dk) (outK W K j g) :=
  NProg.only_bind' (only_rdT _ _ _ _) fun _ => only_wrDk W (S := fun z => z = .dk) rfl _ _ _
/-- A value gradient's write changes that result only. -/
theorem only_outV (j : Fin 8) (g : Fin 4) : NProg.Only (fun z => z = .dv) (outV W j g) :=
  NProg.only_bind' (only_rdT _ _ _ _) fun _ => only_wrDv W (S := fun z => z = .dv) rfl _ _ _

/-- Reading a key gradient accumulator at the end changes no buffer. -/
theorem rdAk_st (j : Fin 8) (g : Fin 4) (σ : St0) : ((rdAk (F := Ideal) (mem := mem) j g).run σ).2 = σ := rfl
/-- Reading a value gradient accumulator at the end changes no buffer. -/
theorem rdAv_st (j : Fin 8) (g : Fin 4) (σ : St0) : ((rdAv (F := Ideal) (mem := mem) j g).run σ).2 = σ := rfl

/-- The key gradients after a write, at an index. -/
theorem outK_at (j : Fin 8) (g : Fin 4) (τ : St0) (J : Fin 8) (g' : Fin 4) (a d : Fin 128) :
    ((outK W K j g).run τ).2 .dk (ix4 (0 : Fin 1) (row (m := 7) J a) g' d)
      = if J = j ∧ g' = g then (τ .dkt (ix4 g j d a) * (K.scale : EReal) : EReal) else τ .dk (ix4 (0 : Fin 1) (row (m := 7) J a) g' d) := by
  unfold outK
  rw [NProg.run_bind', wrDk_at, trT_apply, truncf_apply, mulf_apply, rdAk_val, rdAk_st]
  rfl
/-- The value gradients after a write, at an index. -/
theorem outV_at (j : Fin 8) (g : Fin 4) (τ : St0) (J : Fin 8) (g' : Fin 4) (a d : Fin 128) :
    ((outV W j g).run τ).2 .dv (ix4 (0 : Fin 1) (row (m := 7) J a) g' d)
      = if J = j ∧ g' = g then (τ .dvt (ix4 g j d a) * Ideal.ofBits .f32 0x3F800000#32 : EReal) else τ .dv (ix4 (0 : Fin 1) (row (m := 7) J a) g' d) := by
  unfold outV
  rw [NProg.run_bind', wrDv_at, trT_apply, truncf_apply, mulf_apply, rdAv_val, rdAv_st]
  rfl

/-- Writing out scales and transposes the accumulators. -/
theorem write_run (σ : St0) :
    (∀ J a g d, ((writeBody (F := Ideal) W K).run σ).2 .dk (ix4 (0 : Fin 1) (row (m := 7) J a) g d) = (σ .dkt (ix4 g J d a) * (K.scale : EReal) : EReal))
      ∧ (∀ J a g d, ((writeBody (F := Ideal) W K).run σ).2 .dv (ix4 (0 : Fin 1) (row (m := 7) J a) g d)
        = (σ .dvt (ix4 g J d a) * Ideal.ofBits .f32 0x3F800000#32 : EReal)) := by
  have hb : writeBody (F := Ideal) W K
      = (each 8 fun j => each 4 fun g => outK W K j g).bind fun (_ : PUnit) => each 8 fun j => each 4 fun g => outV W j g := rfl
  rw [hb, NProg.run_bind]
  obtain ⟨A, A'⟩ := each2_run (mem := mem) .dk .dkt (by decide) (outK W K) (only_outK W K) σ
    (fun J g X => ∀ a d, X (ix4 (0 : Fin 1) (row (m := 7) J a) g d) = (σ .dkt (ix4 g J d a) * (K.scale : EReal) : EReal))
    (by
      intro j g τ h a d
      rw [outK_at, if_pos ⟨rfl, rfl⟩, h])
    (by
      intro j g j' g' τ h hne hq a d
      rw [outK_at, if_neg (fun e => hne (by rw [e.1, e.2]))]
      exact hq a d)
  generalize ((each 8 fun j => each 4 fun g => outK W K j g).run σ).2 = ρ at A A' ⊢
  obtain ⟨B, B'⟩ := each2_run (mem := mem) .dv .dvt (by decide) (outV W) (only_outV W) ρ
    (fun J g X => ∀ a d, X (ix4 (0 : Fin 1) (row (m := 7) J a) g d) = (ρ .dvt (ix4 g J d a) * Ideal.ofBits .f32 0x3F800000#32 : EReal))
    (by
      intro j g τ h a d
      rw [outV_at, if_pos ⟨rfl, rfl⟩, h])
    (by
      intro j g j' g' τ h hne hq a d
      rw [outV_at, if_neg (fun e => hne (by rw [e.1, e.2]))]
      exact hq a d)
  generalize ((each 8 fun j => each 4 fun g => outV W j g).run ρ).2 = ρ' at B B' ⊢
  refine ⟨fun J a g d => ?_, fun J a g d => ?_⟩
  · rw [B' .dk (by decide)]; exact A J g a d
  · rw [← A' .dvt (by decide)]; exact B J g a d

end Cert.Str

end
-- ==== Proof.Point.lean ====
/-
  What the whole body leaves at a point of the grid: its block's query gradients, the staged tiles and the accumulators
  brought up to the block, and at a batch's last block the key and value gradients.
-/
module

public import proofs.«01_k».proof.Proof.Span
public import proofs.«01_k».proof.Proof.Start
public import proofs.«01_k».proof.Proof.Stage
public import proofs.«01_k».proof.Proof.Write

@[expose] public section

noncomputable section

namespace Cert.Str

open Idealize.ShloMosaic Idealize.ShloMosaic.ValueIdx
open Cert.Named
open scoped BigOperators

/-- A key's gradient from the query blocks before `n`. -/
def dkAcc (K : Cst Ideal) (D : Data) (n : Nat) (g : Fin 4) (j : Pos) (d : Fin 128) : EReal :=
  ∑ i ∈ Finset.range n, if h : i < 8 then dkOf K D g ⟨i, h⟩ j d else 0
/-- A value's gradient from the query blocks before `n`. -/
def dvAcc (K : Cst Ideal) (D : Data) (n : Nat) (g : Fin 4) (j : Pos) (d : Fin 128) : EReal :=
  ∑ i ∈ Finset.range n, if h : i < 8 then dvOf K D g ⟨i, h⟩ j d else 0
/-- A query's gradient. -/
def dqAll (K : Cst Ideal) (D : Data) (h : Fin 24) (i : Pos) (d : Fin 128) : EReal :=
  (∑ J : Fin 8, ∑ a : Fin 128, D.k (row (m := 7) J a) (kv h) d * dsc K D h i (row (m := 7) J a))
    * Ideal.div (D.ks (kv h) * (K.scale : EReal)) (qz D h)

variable (K : Cst Ideal) (D : Data)

/-- One more block of the key gradient's sum. -/
theorem dkAcc_succ (y : Fin 8) (g : Fin 4) (j : Pos) (d : Fin 128) :
    dkAcc K D (y.val + 1) g j d = dkAcc K D y.val g j d + dkOf K D g y j d := by
  rw [dkAcc, Finset.sum_range_succ, dif_pos y.isLt]; rfl
/-- One more block of the value gradient's sum. -/
theorem dvAcc_succ (y : Fin 8) (g : Fin 4) (j : Pos) (d : Fin 128) :
    dvAcc K D (y.val + 1) g j d = dvAcc K D y.val g j d + dvOf K D g y j d := by
  rw [dvAcc, Finset.sum_range_succ, dif_pos y.isLt]; rfl

/-- Earlier blocks see nothing of a key block. -/
theorem dkAcc_self (y : Fin 8) (g : Fin 4) (a d : Fin 128) : dkAcc K D y.val g (row (m := 7) y a) d = 0 :=
  Finset.sum_eq_zero fun i hi => by
    have hi := Finset.mem_range.mp hi
    rw [dif_pos (by omega)]; exact dkOf_late K D g _ y a d hi
/-- Before its own block a key has no value gradient. -/
theorem dvAcc_self (y : Fin 8) (g : Fin 4) (a d : Fin 128) : dvAcc K D y.val g (row (m := 7) y a) d = 0 :=
  Finset.sum_eq_zero fun i hi => by
    have hi := Finset.mem_range.mp hi
    rw [dif_pos (by omega)]; exact dvOf_late K D g _ y a d hi

/-- Keys before the block's first document are unseen. -/
theorem unseen_before (y J : Fin 8) (r a : Fin 128) (h : J.val < (start y D.cu).toNat / 128) :
    ¬ seen D (row (m := 7) y r) (row (m := 7) J a) := by
  rintro ⟨h1, -⟩
  have hy := y.isLt
  have mono := startAt_mono D.cu (128 * y.val) (128 * y.val + r.val) (by omega) (by omega)
  have es : startAt D.cu (BitVec.ofNat 32 (128 * y.val)) = start y D.cu := by
    have aux : ∀ y : Fin 8, BitVec.ofNat 32 (128 * y.val) = Scalar.muli (BitVec.ofNat 32 y.val) 128#32 := by decide
    have := aux y
    rw [this]; rfl
  rw [es] at mono
  have h1 : (startAt D.cu (BitVec.ofNat 32 (128 * y.val + r.val))).toNat ≤ 128 * J.val + a.val := h1
  have := a.isLt
  omega
/-- A later block's keys are not seen. -/
theorem unseen_after (y J : Fin 8) (r a : Fin 128) (h : y.val < J.val) : ¬ seen D (row (m := 7) y r) (row (m := 7) J a) := by
  rintro ⟨-, h1⟩
  have h1 : 128 * J.val + a.val ≤ 128 * y.val + r.val := h1
  omega

/-- Blocks before the document's start add nothing to a key gradient. -/
theorem dkOf_before (g : Fin 4) (y J : Fin 8) (a d : Fin 128) (h : J.val < (start y D.cu).toNat / 128) :
    dkOf K D g y (row (m := 7) J a) d = 0 :=
  Finset.sum_eq_zero fun p _ => Finset.sum_eq_zero fun t _ => Finset.sum_eq_zero fun r _ => by
    rw [dsc_unseen K D _ _ _ (unseen_before D y J r a h), mul_zero]
/-- Blocks before the document's start add nothing to a value gradient. -/
theorem dvOf_before (g : Fin 4) (y J : Fin 8) (a d : Fin 128) (h : J.val < (start y D.cu).toNat / 128) :
    dvOf K D g y (row (m := 7) J a) d = 0 :=
  Finset.sum_eq_zero fun p _ => Finset.sum_eq_zero fun t _ => Finset.sum_eq_zero fun r _ => by
    rw [prob_unseen K D _ _ _ (unseen_before D y J r a h), mul_zero]

/-- The span the block takes covers every key tile it sees. -/
theorem dqOf_all {m : Nat} (y : Fin 8) (hm : y.val - (start y D.cu).toNat / 128 = m) (hj : ∀ j, (jw m y j).toNat < 8)
    (h : Fin 24) (r d : Fin 128) : dqOf K D (tiles hj) h (row (m := 7) y r) d = dqAll K D h (row (m := 7) y r) d := by
  have hle := start_le y D.cu
  have hmy : m ≤ y.val := by omega
  unfold dqOf dqAll
  congr 1
  have tv : ∀ j, (tiles hj j).val = y.val - m + j.val := fun j => jw_toNat m y hmy j
  refine Finset.sum_of_injOn (fun j => tiles hj j) (fun j _ j' _ e => ?_) (fun _ _ => Finset.mem_coe.mpr (Finset.mem_univ _)) (fun J _ hJ => ?_) fun j _ => rfl
  · have := (tv j).symm.trans ((congrArg Fin.val e).trans (tv j'))
    exact Fin.ext (by omega)
  · refine Finset.sum_eq_zero fun a _ => ?_
    have : ¬ seen D (row (m := 7) y r) (row (m := 7) J a) := by
      by_cases h1 : y.val < J.val
      · exact unseen_after D y J r a h1
      · by_cases h2 : J.val < (start y D.cu).toNat / 128
        · exact unseen_before D y J r a h2
        · refine absurd ⟨⟨J.val - (y.val - m), by omega⟩, by simp, Fin.ext ((tv _).trans ?_)⟩ hJ
          show y.val - m + (J.val - (y.val - m)) = J.val
          omega
    rw [dsc_unseen K D _ _ _ this, mul_zero]

variable {sig : RefSig} {mem : (b : Nm) → Memref sig .tc b.cs b.sh b.el} (W : Whole mem)

/-- The inputs at a point. -/
structure Inp (x : Fin 2) (y : Fin 8) (σ : St0) : Prop where
  cu : ∀ c : Fin 18, σ .cu (ix2 x c.succ) = D.cu c
  qs : ∀ h, σ .qs (ix1 h) = D.qs h
  ks : ∀ g, σ .ks (ix1 g) = D.ks g
  vs : ∀ g, σ .vs (ix1 g) = D.vs g
  dos : ∀ h, σ .dos (ix1 h) = D.dos h
  q : ∀ r h d, σ .q (ix4 (0 : Fin 1) r h d) = D.q (row (m := 7) y r) h d
  dO : ∀ r h d, σ .dO (ix4 (0 : Fin 1) r h d) = D.dO (row (m := 7) y r) h d
  o : ∀ r h d, σ .o (ix4 (0 : Fin 1) r h d) = D.o (row (m := 7) y r) h d
  lse : ∀ h r, σ .lse (ix3 (0 : Fin 1) h r) = D.lse h (row (m := 7) y r)
  k : ∀ (J : Fin 8) a g d, σ .k (ix4 (0 : Fin 1) (row (m := 7) J a) g d) = D.k (row (m := 7) J a) g d
  v : ∀ (J : Fin 8) a g d, σ .v (ix4 (0 : Fin 1) (row (m := 7) J a) g d) = D.v (row (m := 7) J a) g d

/-- The staged tiles before tile `n` and the accumulators from the query blocks before `l`. -/
structure Acc (n l : Nat) (σ : St0) : Prop where
  kn : ∀ g (J : Fin 8) a d, J.val < n → σ .kn (ix4 g J a d) = D.k (row (m := 7) J a) g d
  kt : ∀ g (J : Fin 8) d a, J.val < n → σ .kt (ix4 g J d a) = D.k (row (m := 7) J a) g d
  vn : ∀ g (J : Fin 8) a d, J.val < n → σ .vn (ix4 g J a d) = D.v (row (m := 7) J a) g d
  dkt : ∀ g (J : Fin 8) d a, J.val < n → σ .dkt (ix4 g J d a) = dkAcc K D l g (row (m := 7) J a) d
  dvt : ∀ g (J : Fin 8) d a, J.val < n → σ .dvt (ix4 g J d a) = dvAcc K D l g (row (m := 7) J a) d

/-- What a span needs. -/
structure Ready (x : Fin 2) (y : Fin 8) (σ : St0) : Prop where
  inp : Inp D x y σ
  acc : Acc K D (y.val + 1) y.val σ

/-- A ready state has the inputs a span's body reads. -/
theorem Ready.base {x : Fin 2} {y : Fin 8} {σ : St0} (h : Ready K D x y σ) : Base D x y σ where
  cu := h.inp.cu
  qs := h.inp.qs
  ks := h.inp.ks
  vs := h.inp.vs
  dos := h.inp.dos
  q := h.inp.q
  dO := h.inp.dO
  o := h.inp.o
  lse := h.inp.lse
  kn g J a d hJ := h.acc.kn g J a d (by omega)
  kt g J a d hJ := h.acc.kt g J a d (by omega)
  vn g J a d hJ := h.acc.vn g J a d (by omega)

/-- What a point leaves. -/
structure Done (y : Fin 8) (σ : St0) : Prop where
  dq : ∀ h r d, σ .dq (ix4 (0 : Fin 1) r h d) = dqAll K D h (row (m := 7) y r) d
  acc : Acc K D (y.val + 1) (y.val + 1) σ

/-- Staged and cleared buffers are ready. -/
theorem ready_of {x : Fin 2} {y : Fin 8} {σ σ₂ : St0} (hI : Inp D x y σ) (hA : Acc K D y.val y.val σ)
    (same : ∀ b, ¬ (b = .kn ∨ b = .kt ∨ b = .vn ∨ b = .dkt ∨ b = .dvt) → σ₂ b = σ b)
    (s1 : ∀ g J a d, σ₂ .kn (ix4 g J a d) = if J = y then σ .k (ix4 (0 : Fin 1) (row (m := 7) y a) g d) else σ .kn (ix4 g J a d))
    (s2 : ∀ g J d a, σ₂ .kt (ix4 g J d a) = if J = y then σ .k (ix4 (0 : Fin 1) (row (m := 7) y a) g d) else σ .kt (ix4 g J d a))
    (s3 : ∀ g J a d, σ₂ .vn (ix4 g J a d) = if J = y then σ .v (ix4 (0 : Fin 1) (row (m := 7) y a) g d) else σ .vn (ix4 g J a d))
    (t1 : ∀ g J d a, σ₂ .dkt (ix4 g J d a) = if J = y then (0 : EReal) else σ .dkt (ix4 g J d a))
    (t2 : ∀ g J d a, σ₂ .dvt (ix4 g J d a) = if J = y then (0 : EReal) else σ .dvt (ix4 g J d a)) : Ready K D x y σ₂ := by
  have lt : ∀ J : Fin 8, J.val < y.val + 1 → J ≠ y → J.val < y.val := fun J h h' => by
    have : J.val ≠ y.val := fun z => h' (Fin.ext z)
    omega
  refine ⟨⟨?_, ?_, ?_, ?_, ?_, ?_, ?_, ?_, ?_, ?_, ?_⟩, ⟨?_, ?_, ?_, ?_, ?_⟩⟩
  · rw [same .cu (by decide)]; exact hI.cu
  · rw [same .qs (by decide)]; exact hI.qs
  · rw [same .ks (by decide)]; exact hI.ks
  · rw [same .vs (by decide)]; exact hI.vs
  · rw [same .dos (by decide)]; exact hI.dos
  · rw [same .q (by decide)]; exact hI.q
  · rw [same .dO (by decide)]; exact hI.dO
  · rw [same .o (by decide)]; exact hI.o
  · rw [same .lse (by decide)]; exact hI.lse
  · rw [same .k (by decide)]; exact hI.k
  · rw [same .v (by decide)]; exact hI.v
  · intro g J a d hJ
    rw [s1]
    by_cases h : J = y
    · rw [if_pos h, h]; exact hI.k y a g d
    · rw [if_neg h]; exact hA.kn g J a d (lt J hJ h)
  · intro g J d a hJ
    rw [s2]
    by_cases h : J = y
    · rw [if_pos h, h]; exact hI.k y a g d
    · rw [if_neg h]; exact hA.kt g J d a (lt J hJ h)
  · intro g J a d hJ
    rw [s3]
    by_cases h : J = y
    · rw [if_pos h, h]; exact hI.v y a g d
    · rw [if_neg h]; exact hA.vn g J a d (lt J hJ h)
  · intro g J d a hJ
    rw [t1]
    by_cases h : J = y
    · rw [if_pos h, h, dkAcc_self]
    · rw [if_neg h]; exact hA.dkt g J d a (lt J hJ h)
  · intro g J d a hJ
    rw [t2]
    by_cases h : J = y
    · rw [if_pos h, h, dvAcc_self]
    · rw [if_neg h]; exact hA.dvt g J d a (lt J hJ h)

/-- Reading the boundaries and checking the tiles. -/
def readCu (Chk : (Fin 18 → BitVec 32) → Prop) (dec : ∀ cu, Decidable (Chk cu)) (hC : ∀ cu, Chk cu) (x : Fin 2) :
    P (F := Ideal) mem (Fin 18 → BitVec 32) := do
  let cu ← loop 18 fun c => rdCu x c
  .chk (Chk cu) (dec cu) (hC cu) (.ret cu)

/-- Reading the boundaries gives them and changes nothing. -/
theorem readCu_run (Chk : (Fin 18 → BitVec 32) → Prop) (dec : ∀ cu, Decidable (Chk cu)) (hC : ∀ cu, Chk cu) (x : Fin 2) (σ : St0)
    (h : ∀ c : Fin 18, σ .cu (ix2 x c.succ) = D.cu c) : (readCu (mem := mem) Chk dec hC x).run σ = (D.cu, σ) := by
  obtain ⟨c1, c2⟩ := run_loop (M := fam mem) σ 18 (fun c => rdCu (F := Ideal) (mem := mem) x c) fun _ => rfl
  have hcu : ((loop 18 fun c => rdCu (F := Ideal) (mem := mem) x c).run σ).1 = D.cu := funext fun c => by
    rw [c1, rdCu_val]; exact h c
  have e : (loop 18 fun c => rdCu (F := Ideal) (mem := mem) x c).run σ = (D.cu, σ) := Prod.ext hcu c2
  unfold readCu
  rw [NProg.run_bind', e]
  rfl

/-- Staging and clearing make a point ready. -/
theorem pre_ready (Chk : (Fin 18 → BitVec 32) → Prop) (dec : ∀ cu, Decidable (Chk cu)) (hC : ∀ cu, Chk cu) (x : Fin 2) (y : Fin 8)
    (σ : St0) (hI : Inp D x y σ) (hA : Acc K D y.val y.val σ) :
    ∃ τ, (preBody W Chk dec hC x y).run σ = (D.cu, τ) ∧ Ready K D x y τ := by
  have e : preBody (F := Ideal) W Chk dec hC x y = (stageBody W y).bind fun (_ : PUnit) => (clearBody y).bind fun (_ : PUnit) =>
      readCu Chk dec hC x := rfl
  rw [e, NProg.run_bind, NProg.run_bind]
  obtain ⟨s1, s2, s3⟩ := stage_run (mem := mem) W y σ
  have s0 := fun b hb => NProg.run_only (M := fam mem) (p := stageBody (F := Ideal) W y) (S := fun z => z = .kn ∨ z = .kt ∨ z = .vn)
    (only_stageBody W (Or.inl rfl) (Or.inr (Or.inl rfl)) (Or.inr (Or.inr rfl)) y) σ b hb
  generalize ((stageBody (F := Ideal) W y).run σ).2 = σ₁ at s0 s1 s2 s3 ⊢
  obtain ⟨t1, t2⟩ := clear_run (mem := mem) y σ₁
  have t0 := fun b hb => NProg.run_only (M := fam mem) (p := clearBody (F := Ideal) (mem := mem) y) (S := fun z => z = .dkt ∨ z = .dvt)
    (only_clearBody (Or.inl rfl) (Or.inr rfl) y) σ₁ b hb
  generalize ((clearBody (F := Ideal) (mem := mem) y).run σ₁).2 = σ₂ at t0 t1 t2 ⊢
  have hR : Ready K D x y σ₂ := by
    refine ready_of K D hI hA (fun b hb => (t0 b fun z => hb ?_).trans (s0 b fun z => hb ?_)) ?_ ?_ ?_ ?_ ?_
    · rcases z with z | z
      · exact Or.inr (Or.inr (Or.inr (Or.inl z)))
      · exact Or.inr (Or.inr (Or.inr (Or.inr z)))
    · rcases z with z | z | z
      · exact Or.inl z
      · exact Or.inr (Or.inl z)
      · exact Or.inr (Or.inr (Or.inl z))
    · intro g J a d; rw [t0 .kn (by decide)]; exact s1 g J a d
    · intro g J d a; rw [t0 .kt (by decide)]; exact s2 g J d a
    · intro g J a d; rw [t0 .vn (by decide)]; exact s3 g J a d
    · intro g J d a; rw [t1, s0 .dkt (by decide)]
    · intro g J d a; rw [t2, s0 .dvt (by decide)]
  exact ⟨σ₂, readCu_run D Chk dec hC x σ₂ hR.inp.cu, hR⟩

/-- The span that fits finishes the point's gradients. -/
theorem span_done {m : Nat} (hm : m < 5) (H : SpanOk m) (x : Fin 2) (y : Fin 8) (hj : ∀ j, (jw m y j).toNat < 8)
    (hs : y.val - (start y D.cu).toNat / 128 = m) (σ : St0) (h : Ready K D x y σ) :
    Done K D y ((spanBody W K m hm H x y hj).run σ).2 := by
  have hle := start_le y D.cu
  obtain ⟨r1, r2, r3⟩ := span_run W K D hm H hj (by omega) h.base
  have s0 := fun b hb => NProg.run_only (M := fam mem) (p := spanBody (F := Ideal) W K m hm H x y hj)
    (S := fun z => z = .bias ∨ z = .dq ∨ z = .dkt ∨ z = .dvt)
    (only_spanBody W (Or.inl rfl) (Or.inr (Or.inl rfl)) (Or.inr (Or.inr (Or.inl rfl))) (Or.inr (Or.inr (Or.inr rfl))) K m hm H x y hj) σ b hb
  generalize ((spanBody (F := Ideal) W K m hm H x y hj).run σ).2 = τ at r1 r2 r3 s0 ⊢
  refine ⟨fun h r d => (r1 h r d).trans (dqOf_all K D y hs hj h r d), ⟨?_, ?_, ?_, ?_, ?_⟩⟩
  · rw [s0 .kn (by decide)]; exact h.acc.kn
  · rw [s0 .kt (by decide)]; exact h.acc.kt
  · rw [s0 .vn (by decide)]; exact h.acc.vn
  · intro g J d a hJ
    rw [r2, h.acc.dkt g J d a hJ, dkAcc_succ]
    by_cases hh : y.val - m ≤ J.val ∧ J.val ≤ y.val
    · rw [if_pos hh]
    · rw [if_neg hh, dkOf_before K D g y J a d (by omega), add_zero]
  · intro g J d a hJ
    rw [r3, h.acc.dvt g J d a hJ, dvAcc_succ]
    by_cases hh : y.val - m ≤ J.val ∧ J.val ≤ y.val
    · rw [if_pos hh]
    · rw [if_neg hh, dvOf_before K D g y J a d (by omega), add_zero]

/-- Before the span that fits a point is ready, after it it is done. -/
def Stg (x : Fin 2) (y : Fin 8) (n : Nat) (σ : St0) : Prop :=
  (y.val - (start y D.cu).toNat / 128 < n ∧ Done K D y σ) ∨ (n ≤ y.val - (start y D.cu).toNat / 128 ∧ Ready K D x y σ)

/-- A conditional span, then the rest. -/
theorem spanThen_stg {α : Type} {m : Nat} (hm : m < 5) (H : SpanOk m) (x : Fin 2) (y : Fin 8) (k : P (F := Ideal) mem α) (σ : St0)
    (h : Stg K D x y m σ) : ∃ τ, Stg K D x y (m + 1) τ ∧ (spanThen W K x y D.cu m hm H k).run σ = k.run τ := by
  unfold spanThen
  rw [NProg.run_brThen]
  refine ⟨_, ?_, rfl⟩
  by_cases c : spanCond m y D.cu = 1#1
  · rw [dif_pos c]
    have c' := (spanCond_iff m hm y D.cu).mp c
    rcases h with ⟨h1, -⟩ | ⟨-, h2⟩
    · omega
    · exact Or.inl ⟨by omega, span_done K D W hm H x y _ c' σ h2⟩
  · rw [dif_neg c]
    have c' : ¬ y.val - (start y D.cu).toNat / 128 = m := fun z => c ((spanCond_iff m hm y D.cu).mpr z)
    rcases h with ⟨h1, h2⟩ | ⟨h1, h2⟩
    · exact Or.inl ⟨by omega, h2⟩
    · exact Or.inr ⟨by omega, h2⟩

/-- The last block's condition. -/
theorem lastCond_iff (y : Fin 8) : lastCond y = 1#1 ↔ y = 7 := by
  rw [lastCond, cond_iff]
  revert y; decide

/-- The whole body at a point. -/
theorem body_run (Chk : (Fin 18 → BitVec 32) → Prop) (dec : ∀ cu, Decidable (Chk cu)) (hC : ∀ cu, Chk cu) (x : Fin 2) (y : Fin 8)
    (σ : St0) (hI : Inp D x y σ) (hA : Acc K D y.val y.val σ) (hs : y.val - (start y D.cu).toNat / 128 < 5) :
    Done K D y ((body W K Chk dec hC x y).run σ).2
      ∧ (y = 7 → (∀ j g d, ((body W K Chk dec hC x y).run σ).2 .dk (ix4 (0 : Fin 1) j g d) = (dkAcc K D 8 g j d * (K.scale : EReal) : EReal))
        ∧ ∀ j g d, ((body W K Chk dec hC x y).run σ).2 .dv (ix4 (0 : Fin 1) j g d)
            = (dvAcc K D 8 g j d * Ideal.ofBits .f32 0x3F800000#32 : EReal)) := by
  obtain ⟨σ₀, p1, p2⟩ := pre_ready K D W Chk dec hC x y σ hI hA
  unfold body
  rw [NProg.run_bind, p1, NProg.run_bind]
  have h0 : Stg K D x y 0 σ₀ := Or.inr ⟨Nat.zero_le _, p2⟩
  unfold midBody postBody
  obtain ⟨σ₁, h1, e1⟩ := spanThen_stg K D W (m := 0) (by omega) (spanOk 0) x y (spanThen W K x y D.cu 1 (by omega) (spanOk 1) <|
    spanThen W K x y D.cu 2 (by omega) (spanOk 2) <| .ret (⟨⟩ : PUnit)) σ₀ h0
  obtain ⟨σ₂, h2, e2⟩ := spanThen_stg K D W (m := 1) (by omega) (spanOk 1) x y (
    spanThen W K x y D.cu 2 (by omega) (spanOk 2) <| .ret (⟨⟩ : PUnit)) σ₁ h1
  obtain ⟨σ₃, h3, e3⟩ := spanThen_stg K D W (m := 2) (by omega) (spanOk 2) x y (.ret (⟨⟩ : PUnit)) σ₂ h2
  rw [e1, e2, e3, NProg.run_ret]
  obtain ⟨σ₄, h4, e4⟩ := spanThen_stg K D W (m := 3) (by omega) (spanOk 3) x y (spanThen W K x y D.cu 4 (by omega) (spanOk 4) <|
    NProg.brThen (lastCond y = 1#1) inferInstance (fun _ => writeBody W K) <| .ret (⟨⟩ : PUnit)) σ₃ h3
  obtain ⟨σ₅, h5, e5⟩ := spanThen_stg K D W (m := 4) (by omega) (spanOk 4) x y (
    NProg.brThen (lastCond y = 1#1) inferInstance (fun _ => writeBody W K) <| .ret (⟨⟩ : PUnit)) σ₄ h4
  rw [e4, e5, NProg.run_brThen, NProg.run_ret]
  have hd : Done K D y σ₅ := by
    rcases h5 with ⟨-, h⟩ | ⟨h, -⟩
    · exact h
    · omega
  by_cases c : lastCond y = 1#1
  · rw [dif_pos c]
    have hy := (lastCond_iff y).mp c
    obtain ⟨w1, w2⟩ := write_run W K σ₅
    have w0 := fun b hb => NProg.run_only (M := fam mem) (p := writeBody (F := Ideal) W K) (S := fun z => z = .dk ∨ z = .dv)
      (only_writeBody W (Or.inl rfl) (Or.inr rfl) K) σ₅ b hb
    generalize ((writeBody (F := Ideal) W K).run σ₅).2 = τ at w0 w1 w2 ⊢
    subst hy
    have split : ∀ j : Pos, ∃ (J : Fin 8) (a : Fin 128), j = row (m := 7) J a := fun j =>
      ⟨⟨j.val / 128, by omega⟩, ⟨j.val % 128, Nat.mod_lt _ (by omega)⟩, Fin.ext (Nat.div_add_mod _ _).symm⟩
    refine ⟨⟨?_, ?_, ?_, ?_, ?_, ?_⟩, fun _ => ⟨fun j g d => ?_, fun j g d => ?_⟩⟩
    · rw [w0 .dq (by decide)]; exact hd.dq
    · rw [w0 .kn (by decide)]; exact hd.acc.kn
    · rw [w0 .kt (by decide)]; exact hd.acc.kt
    · rw [w0 .vn (by decide)]; exact hd.acc.vn
    · rw [w0 .dkt (by decide)]; exact hd.acc.dkt
    · rw [w0 .dvt (by decide)]; exact hd.acc.dvt
    · obtain ⟨J, a, rfl⟩ := split j
      rw [w1, hd.acc.dkt g J d a (by show J.val < 8; omega)]; rfl
    · obtain ⟨J, a, rfl⟩ := split j
      rw [w2, hd.acc.dvt g J d a (by show J.val < 8; omega)]; rfl
  · rw [dif_neg c]
    exact ⟨hd, fun hy => absurd ((lastCond_iff y).mpr hy) c⟩

end Cert.Str

end
-- ==== Proof.Blocks.lean ====
/-
  The blocks that the body finds in its input windows, read from the argument arrays.
-/
module

public import proofs.«01_k».proof.Proof.RunI
public import proofs.«01_k».proof.Proof.Point
public import proofs.«01_k».proof.Proof.Gen.KernelIdeal.Points
public import Idealize.ShloMosaic.Lib.Pipeline.ValueKit.Geometry
public import Idealize.ShloMosaic.Lib.Pipeline.ArrRel

@[expose] public section

noncomputable section

namespace Cert.KernelIdeal

open Cert.KernelIdeal.Gen
open Idealize.ShloMosaic Idealize.ShloMosaic.TcCoe Idealize.ShloMosaic.ValueIdx Idealize.ShloMosaic.Tactic
open Idealize.SL Idealize.SL.RA Idealize.SL.Sem
open Cert.Str Cert.Named

/-- A point's batch and query block. -/
abbrev xt (t : Fin cfg0.N) : Fin 2 := grid0.coords t 0
/-- The query block of a grid point. -/
abbrev yt (t : Fin cfg0.N) : Fin 8 := grid0.coords t 1

/-- The batch of a grid point as a number. -/
theorem xt_val (t : Fin cfg0.N) : (xt t).val = t.val / 8 :=
  (by decide +kernel : ∀ t : Fin grid0.N, (grid0.coords t 0).val = t.val / 8) t
/-- The query block of a grid point as a number. -/
theorem yt_val (t : Fin cfg0.N) : (yt t).val = t.val % 8 :=
  (by decide +kernel : ∀ t : Fin grid0.N, (grid0.coords t 1).val = t.val % 8) t

variable (m : (ℓ : Loc nD τ sig) → Buf (Elt Ideal) ℓ) (c : Dev nD)

/-- One batch's inputs, read from the arguments. -/
def dat (x : Fin 2) : Data where
  q p h d := m ((c.tc : Thread nD τ).loc main_arg0) (ix4 x p h d)
  k p g d := m ((c.tc : Thread nD τ).loc main_arg2) (ix4 x p g d)
  v p g d := m ((c.tc : Thread nD τ).loc main_arg4) (ix4 x p g d)
  o p h d := m ((c.tc : Thread nD τ).loc main_arg6) (ix4 x p h d)
  dO p h d := m ((c.tc : Thread nD τ).loc main_arg7) (ix4 x p h d)
  lse h p := m ((c.tc : Thread nD τ).loc main_arg9) (ix3 x h p)
  qs h := m ((c.tc : Thread nD τ).loc main_arg1) (ix1 h)
  ks g := m ((c.tc : Thread nD τ).loc main_arg3) (ix1 g)
  vs g := m ((c.tc : Thread nD τ).loc main_arg5) (ix1 g)
  dos h := m ((c.tc : Thread nD τ).loc main_arg8) (ix1 h)
  cu b := m ((c.tc : Thread nD τ).loc main_arg10) (ix2 x b.succ)

/-- What the body finds and leaves in each window: an input's block; the block's query gradients; at a batch's last point the
    batch's key and value gradients. -/
def Blk (w : Fin cfg0.W) (t : Fin cfg0.N) (X : (cfg0.win w).block.Idx → Elt Ideal (cfg0.win w).elt) : Prop :=
  match w, X with
  | 0, X => ∀ x b, X (ix2 x b) = m ((c.tc : Thread nD τ).loc main_arg10) (ix2 x b)
  | 1, X => ∀ h, X (ix1 h) = m ((c.tc : Thread nD τ).loc main_arg1) (ix1 h)
  | 2, X => ∀ g, X (ix1 g) = m ((c.tc : Thread nD τ).loc main_arg3) (ix1 g)
  | 3, X => ∀ g, X (ix1 g) = m ((c.tc : Thread nD τ).loc main_arg5) (ix1 g)
  | 4, X => ∀ h, X (ix1 h) = m ((c.tc : Thread nD τ).loc main_arg8) (ix1 h)
  | 5, X => ∀ r h e, X (ix4 (0 : Fin 1) r h e) = (dat m c (xt t)).q (row (m := 7) (yt t) r) h e
  | 6, X => ∀ p g e, X (ix4 (0 : Fin 1) p g e) = (dat m c (xt t)).k p g e
  | 7, X => ∀ p g e, X (ix4 (0 : Fin 1) p g e) = (dat m c (xt t)).v p g e
  | 8, X => ∀ r h e, X (ix4 (0 : Fin 1) r h e) = (dat m c (xt t)).o (row (m := 7) (yt t) r) h e
  | 9, X => ∀ r h e, X (ix4 (0 : Fin 1) r h e) = (dat m c (xt t)).dO (row (m := 7) (yt t) r) h e
  | 10, X => ∀ h r, X (ix3 (0 : Fin 1) h r) = (dat m c (xt t)).lse h (row (m := 7) (yt t) r)
  | 11, X => ∀ h r d, X (ix4 (0 : Fin 1) r h d) = dqAll K (dat m c (xt t)) h (row (m := 7) (yt t) r) d
  | 12, X => t.val % 8 = 7 → ∀ j g d, X (ix4 (0 : Fin 1) j g d) = (dkAcc K (dat m c (xt t)) 8 g j d * (K (F := Ideal)).scale : EReal)
  | 13, X => t.val % 8 = 7 → ∀ j g d, X (ix4 (0 : Fin 1) j g d) = (dvAcc K (dat m c (xt t)) 8 g j d * Ideal.ofBits .f32 0x3F800000#32 : EReal)
  | ⟨_ + 14, h⟩, _ => absurd h (Nat.not_lt.2 (Nat.le_add_left _ _))

variable (Inv : Fin (cfg0.N + 1) → St Ideal → Prop)
  (Aft : (w : Fin cfg0.W) → Fin cfg0.N → ((cfg0.win w).block.Idx → Elt Ideal (cfg0.win w).elt) → Prop)

/-- What is fetched for window 0 is the block of its argument. -/
theorem fetched_0 (t : Fin cfg0.N) (d) : Blk m c 0 t ((rdat m Inv Aft c).fetched 0 t d) := by
  intro x b
  show V m c main_arg10 ((win0_0.blk t).view.emb (ix2 x b)) = _
  rw [V_main_arg10]
  refine congrArg _ (funext fun a => Fin.ext ?_)
  have ex := xt_val t
  have ey := yt_val t
  have e : ∀ t : Fin cfg0.N, win0_0.index t = ![0, 0] := (by decide +kernel : ∀ t : Fin grid0.N, _)
  fin_cases a
  · blk_simp [e]
  · blk_simp [e]
/-- What is fetched for window 1 is the block of its argument. -/
theorem fetched_1 (t : Fin cfg0.N) (d) : Blk m c 1 t ((rdat m Inv Aft c).fetched 1 t d) := by
  intro h
  show V m c main_arg1 ((win0_1.blk t).view.emb (ix1 h)) = _
  rw [V_main_arg1]
  refine congrArg _ (funext fun a => Fin.ext ?_)
  have ex := xt_val t
  have ey := yt_val t
  have e : ∀ t : Fin cfg0.N, win0_1.index t = ![0] := (by decide +kernel : ∀ t : Fin grid0.N, _)
  fin_cases a
  · blk_simp [e]
/-- What is fetched for window 2 is the block of its argument. -/
theorem fetched_2 (t : Fin cfg0.N) (d) : Blk m c 2 t ((rdat m Inv Aft c).fetched 2 t d) := by
  intro h
  show V m c main_arg3 ((win0_2.blk t).view.emb (ix1 h)) = _
  rw [V_main_arg3]
  refine congrArg _ (funext fun a => Fin.ext ?_)
  have ex := xt_val t
  have ey := yt_val t
  have e : ∀ t : Fin cfg0.N, win0_2.index t = ![0] := (by decide +kernel : ∀ t : Fin grid0.N, _)
  fin_cases a
  · blk_simp [e]
/-- What is fetched for window 3 is the block of its argument. -/
theorem fetched_3 (t : Fin cfg0.N) (d) : Blk m c 3 t ((rdat m Inv Aft c).fetched 3 t d) := by
  intro h
  show V m c main_arg5 ((win0_3.blk t).view.emb (ix1 h)) = _
  rw [V_main_arg5]
  refine congrArg _ (funext fun a => Fin.ext ?_)
  have ex := xt_val t
  have ey := yt_val t
  have e : ∀ t : Fin cfg0.N, win0_3.index t = ![0] := (by decide +kernel : ∀ t : Fin grid0.N, _)
  fin_cases a
  · blk_simp [e]
/-- What is fetched for window 4 is the block of its argument. -/
theorem fetched_4 (t : Fin cfg0.N) (d) : Blk m c 4 t ((rdat m Inv Aft c).fetched 4 t d) := by
  intro h
  show V m c main_arg8 ((win0_4.blk t).view.emb (ix1 h)) = _
  rw [V_main_arg8]
  refine congrArg _ (funext fun a => Fin.ext ?_)
  have ex := xt_val t
  have ey := yt_val t
  have e : ∀ t : Fin cfg0.N, win0_4.index t = ![0] := (by decide +kernel : ∀ t : Fin grid0.N, _)
  fin_cases a
  · blk_simp [e]
/-- What is fetched for window 5 is the block of its argument. -/
theorem fetched_5 (t : Fin cfg0.N) (d) : Blk m c 5 t ((rdat m Inv Aft c).fetched 5 t d) := by
  intro r h e
  show V m c main_arg0 ((win0_5.blk t).view.emb (ix4 (0 : Fin 1) r h e)) = _
  rw [V_main_arg0]
  refine congrArg _ (funext fun a => Fin.ext ?_)
  have ex := xt_val t
  have ey := yt_val t
  have e' : ∀ t : Fin cfg0.N, win0_5.index t = ![t.val / 8, t.val % 8, 0, 0] := (by decide +kernel : ∀ t : Fin grid0.N, _)
  fin_cases a
  · blk_simp [e']
    show t.val / 8 = (xt t).val
    omega
  · blk_simp [e']
    show t.val % 8 * 128 + r.val = 128 * (yt t).val + r.val
    omega
  · blk_simp [e']
  · blk_simp [e']
/-- What is fetched for window 8 is the block of its argument. -/
theorem fetched_8 (t : Fin cfg0.N) (d) : Blk m c 8 t ((rdat m Inv Aft c).fetched 8 t d) := by
  intro r h e
  show V m c main_arg6 ((win0_8.blk t).view.emb (ix4 (0 : Fin 1) r h e)) = _
  rw [V_main_arg6]
  refine congrArg _ (funext fun a => Fin.ext ?_)
  have ex := xt_val t
  have ey := yt_val t
  have e' : ∀ t : Fin cfg0.N, win0_8.index t = ![t.val / 8, t.val % 8, 0, 0] := (by decide +kernel : ∀ t : Fin grid0.N, _)
  fin_cases a
  · blk_simp [e']
    show t.val / 8 = (xt t).val
    omega
  · blk_simp [e']
    show t.val % 8 * 128 + r.val = 128 * (yt t).val + r.val
    omega
  · blk_simp [e']
  · blk_simp [e']
/-- What is fetched for window 9 is the block of its argument. -/
theorem fetched_9 (t : Fin cfg0.N) (d) : Blk m c 9 t ((rdat m Inv Aft c).fetched 9 t d) := by
  intro r h e
  show V m c main_arg7 ((win0_9.blk t).view.emb (ix4 (0 : Fin 1) r h e)) = _
  rw [V_main_arg7]
  refine congrArg _ (funext fun a => Fin.ext ?_)
  have ex := xt_val t
  have ey := yt_val t
  have e' : ∀ t : Fin cfg0.N, win0_9.index t = ![t.val / 8, t.val % 8, 0, 0] := (by decide +kernel : ∀ t : Fin grid0.N, _)
  fin_cases a
  · blk_simp [e']
    show t.val / 8 = (xt t).val
    omega
  · blk_simp [e']
    show t.val % 8 * 128 + r.val = 128 * (yt t).val + r.val
    omega
  · blk_simp [e']
  · blk_simp [e']
/-- What is fetched for window 6 is the block of its argument. -/
theorem fetched_6 (t : Fin cfg0.N) (d) : Blk m c 6 t ((rdat m Inv Aft c).fetched 6 t d) := by
  intro p g e
  show V m c main_arg2 ((win0_6.blk t).view.emb (ix4 (0 : Fin 1) p g e)) = _
  rw [V_main_arg2]
  refine congrArg _ (funext fun a => Fin.ext ?_)
  have ex := xt_val t
  have ey := yt_val t
  have e' : ∀ t : Fin cfg0.N, win0_6.index t = ![t.val / 8, 0, 0, 0] := (by decide +kernel : ∀ t : Fin grid0.N, _)
  fin_cases a
  · blk_simp [e']
    show t.val / 8 = (xt t).val
    omega
  · blk_simp [e']
  · blk_simp [e']
  · blk_simp [e']
/-- What is fetched for window 7 is the block of its argument. -/
theorem fetched_7 (t : Fin cfg0.N) (d) : Blk m c 7 t ((rdat m Inv Aft c).fetched 7 t d) := by
  intro p g e
  show V m c main_arg4 ((win0_7.blk t).view.emb (ix4 (0 : Fin 1) p g e)) = _
  rw [V_main_arg4]
  refine congrArg _ (funext fun a => Fin.ext ?_)
  have ex := xt_val t
  have ey := yt_val t
  have e' : ∀ t : Fin cfg0.N, win0_7.index t = ![t.val / 8, 0, 0, 0] := (by decide +kernel : ∀ t : Fin grid0.N, _)
  fin_cases a
  · blk_simp [e']
    show t.val / 8 = (xt t).val
    omega
  · blk_simp [e']
  · blk_simp [e']
  · blk_simp [e']
/-- What is fetched for window 10 is the block of its argument. -/
theorem fetched_10 (t : Fin cfg0.N) (d) : Blk m c 10 t ((rdat m Inv Aft c).fetched 10 t d) := by
  intro h r
  show V m c main_arg9 ((win0_10.blk t).view.emb (ix3 (0 : Fin 1) h r)) = _
  rw [V_main_arg9]
  refine congrArg _ (funext fun a => Fin.ext ?_)
  have ex := xt_val t
  have ey := yt_val t
  have e : ∀ t : Fin cfg0.N, win0_10.index t = ![t.val / 8, 0, t.val % 8] := (by decide +kernel : ∀ t : Fin grid0.N, _)
  fin_cases a
  · blk_simp [e]
    show t.val / 8 = (xt t).val
    omega
  · blk_simp [e]
  · blk_simp [e]
    show t.val % 8 * 128 + r.val = 128 * (yt t).val + r.val
    omega

/-- What the body finds in an input window is its block. -/
theorem finds_blk (w : Fin cfg0.W) (t : Fin cfg0.N) (hw : (cfg0.win w).isOut = false)
    (X : (cfg0.win w).block.Idx → Elt Ideal (cfg0.win w).elt) (h : (rdat m Inv (Blk m c) c).Finds w t X) : Blk m c w t X := by
  by_cases hf : (cfg0.win w).fetch t = true
  · obtain ⟨d, rfl⟩ := ((rdat m Inv (Blk m c) c).finds_of_fetch hf X).mp h
    fin_cases w
    · exact fetched_0 m c Inv (Blk m c) t d
    · exact fetched_1 m c Inv (Blk m c) t d
    · exact fetched_2 m c Inv (Blk m c) t d
    · exact fetched_3 m c Inv (Blk m c) t d
    · exact fetched_4 m c Inv (Blk m c) t d
    · exact fetched_5 m c Inv (Blk m c) t d
    · exact fetched_6 m c Inv (Blk m c) t d
    · exact fetched_7 m c Inv (Blk m c) t d
    · exact fetched_8 m c Inv (Blk m c) t d
    · exact fetched_9 m c Inv (Blk m c) t d
    · exact fetched_10 m c Inv (Blk m c) t d
    all_goals exact absurd hw (by decide)
  · have hf' : (cfg0.win w).fetch t = false := by simpa using hf
    by_cases ht : t.val = 0
    · exfalso
      fin_cases w
      · exact hf ((fetch0_0 t).mpr (by omega))
      · exact hf ((fetch0_1 t).mpr (by omega))
      · exact hf ((fetch0_2 t).mpr (by omega))
      · exact hf ((fetch0_3 t).mpr (by omega))
      · exact hf ((fetch0_4 t).mpr (by omega))
      · exact hf (fetch0_5 t)
      · exact hf ((fetch0_6 t).mpr (by omega))
      · exact hf ((fetch0_7 t).mpr (by omega))
      · exact hf (fetch0_8 t)
      · exact hf (fetch0_9 t)
      · exact hf (fetch0_10 t)
      all_goals exact absurd hw (by decide)
    · rcases ((rdat m Inv (Blk m c) c).finds_of_pos hf' ht X).mp h with hfl | hl
      · exfalso
        unfold Pipeline.Window.flush at hfl
        rw [hw] at hfl
        simp at hfl
      · obtain ⟨Y, -, -, hA⟩ := hl
        have same : t.val % 8 ≠ 0 → xt ⟨t.val - 1, Nat.lt_of_le_of_lt (Nat.sub_le _ _) t.isLt⟩ = xt t := fun h8 =>
          Fin.ext (by rw [xt_val, xt_val]; show (t.val - 1) / 8 = t.val / 8; omega)
        fin_cases w
        · exact hA
        · exact hA
        · exact hA
        · exact hA
        · exact hA
        · exact absurd (fetch0_5 t) hf
        · intro p g e
          have := hA p g e
          rw [same fun h8 => hf ((fetch0_6 t).mpr h8)] at this
          exact this
        · intro p g e
          have := hA p g e
          rw [same fun h8 => hf ((fetch0_7 t).mpr h8)] at this
          exact this
        · exact absurd (fetch0_8 t) hf
        · exact absurd (fetch0_9 t) hf
        · exact absurd (fetch0_10 t) hf
        all_goals exact absurd hw (by decide)

end Cert.KernelIdeal

end
-- ==== Proof.Keep.lean ====
/-
  Every point of the grid keeps the accumulators, and what the launch leaves in the three result arrays.
-/
module

public import proofs.«01_k».proof.Proof.Blocks

@[expose] public section

noncomputable section

namespace Cert.KernelIdeal

open Cert.KernelIdeal.Gen
open Idealize.ShloMosaic Idealize.ShloMosaic.TcCoe Idealize.ShloMosaic.ValueIdx Idealize.ShloMosaic.Tactic
open Idealize.SL Idealize.SL.RA Idealize.SL.Sem
open Cert.Str Cert.Named

variable (m : (ℓ : Loc nD τ sig) → Buf (Elt Ideal) ℓ) (c : Dev nD)

/-- Before a point the scratch holds its batch's earlier key and value tiles and their gradients so far. -/
def Kept₀ (t : Fin (cfg0.N + 1)) (σ : St Ideal) : Prop :=
  ∀ x : Fin 2, x.val = t.val / 8 → Acc K (dat m c x) (t.val % 8) (t.val % 8) σ

/-- Every query block sees at most five key tiles. -/
def Short : Prop := ∀ (x : Fin 2) (y : Fin 8), y.val - (start y (dat m c x).cu).toNat / 128 < 5

/-- Before the first block nothing is accumulated. -/
theorem acc_zero (D : Data) (σ : St Ideal) : Acc K D 0 0 σ where
  kn _ _ _ _ h := absurd h (by omega)
  kt _ _ _ _ h := absurd h (by omega)
  vn _ _ _ _ h := absurd h (by omega)
  dkt _ _ _ _ h := absurd h (by omega)
  dvt _ _ _ _ h := absurd h (by omega)

/-- Before the first point nothing need be kept. -/
theorem kept_zero (σ : St Ideal) : Kept₀ m c 0 σ := fun x _ => acc_zero (dat m c x) σ

/-- What the windows hold is the point's inputs. -/
theorem inp_of (t : Fin cfg0.N) (Y : (w : Fin cfg0.W) → (cfg0.win w).block.Idx → Elt Ideal (cfg0.win w).elt) (σ : St Ideal)
    (h : ∀ w, (cfg0.win w).isOut = false → Blk m c w t (Y w)) : Inp (dat m c (xt t)) (xt t) (yt t) (comb Y σ) where
  cu b := h 0 rfl (xt t) b.succ
  qs := h 1 rfl
  ks := h 2 rfl
  vs := h 3 rfl
  dos := h 4 rfl
  q := h 5 rfl
  dO := h 9 rfl
  o := h 8 rfl
  lse := h 10 rfl
  k J a g d := h 6 rfl (row (m := 7) J a) g d
  v J a g d := h 7 rfl (row (m := 7) J a) g d

/-- What is accumulated does not depend on the windows. -/
theorem acc_comb (D : Data) (n l : Nat) (Y : (w : Fin cfg0.W) → (cfg0.win w).block.Idx → Elt Ideal (cfg0.win w).elt) (σ : St Ideal)
    (h : Acc K D n l σ) : Acc K D n l (comb Y σ) where
  kn := h.kn
  kt := h.kt
  vn := h.vn
  dkt := h.dkt
  dvt := h.dvt

/-- What a state that is done holds in each window. -/
theorem blk_of (t : Fin cfg0.N) (τ : St Ideal) (hb : ∀ w, (cfg0.win w).isOut = false → Blk m c w t (wins τ w))
    (hd : Done K (dat m c (xt t)) (yt t) τ)
    (hk : t.val % 8 = 7 → ∀ j g d, τ .dk (ix4 (0 : Fin 1) j g d) = (dkAcc K (dat m c (xt t)) 8 g j d * (K (F := Ideal)).scale : EReal))
    (hv : t.val % 8 = 7 → ∀ j g d, τ .dv (ix4 (0 : Fin 1) j g d) = (dvAcc K (dat m c (xt t)) 8 g j d * Ideal.ofBits .f32 0x3F800000#32 : EReal)) :
    ∀ w, Blk m c w t (wins τ w)
  | 0 => hb 0 rfl
  | 1 => hb 1 rfl
  | 2 => hb 2 rfl
  | 3 => hb 3 rfl
  | 4 => hb 4 rfl
  | 5 => hb 5 rfl
  | 6 => hb 6 rfl
  | 7 => hb 7 rfl
  | 8 => hb 8 rfl
  | 9 => hb 9 rfl
  | 10 => hb 10 rfl
  | 11 => hd.dq
  | 12 => hk
  | 13 => hv
  | ⟨_ + 14, h⟩ => absurd h (Nat.not_lt.2 (Nat.le_add_left _ _))

/-- The body at a point. -/
theorem point_run (hs : Short m c) (t : Fin cfg0.N) (σ τ : St Ideal) (hI : Inp (dat m c (xt t)) (xt t) (yt t) σ)
    (hA : Acc K (dat m c (xt t)) (yt t).val (yt t).val σ) (hτ : after t σ = τ) :
    Done K (dat m c (xt t)) (yt t) τ
      ∧ (yt t = 7 → (∀ j g d, τ .dk (ix4 (0 : Fin 1) j g d) = (dkAcc K (dat m c (xt t)) 8 g j d * (K (F := Ideal)).scale : EReal))
        ∧ ∀ j g d, τ .dv (ix4 (0 : Fin 1) j g d) = (dvAcc K (dat m c (xt t)) 8 g j d * Ideal.ofBits .f32 0x3F800000#32 : EReal)) := by
  have h := body_run K (dat m c (xt t)) (wholeAt t) (Chk (grid0.coords t))
    (fun cu => k0_chk1.dec (grid0.coords t) (cu 0) (cu 1) (cu 2) (cu 3) (cu 4) (cu 5) (cu 6) (cu 7) (cu 8) (cu 9) (cu 10) (cu 11) (cu 12) (cu 13) (cu 14) (cu 15) (cu 16) (cu 17))
    (chk_all (grid0.coords t)) (xt t) (yt t) σ hI hA (hs (xt t) (yt t))
  have e : ((body (wholeAt t) K (Chk (grid0.coords t))
    (fun cu => k0_chk1.dec (grid0.coords t) (cu 0) (cu 1) (cu 2) (cu 3) (cu 4) (cu 5) (cu 6) (cu 7) (cu 8) (cu 9) (cu 10) (cu 11) (cu 12) (cu 13) (cu 14) (cu 15) (cu 16) (cu 17))
    (chk_all (grid0.coords t)) (xt t) (yt t)).run σ).2 = τ := hτ
  rw [e] at h
  exact h

/-- The accumulators of the next point. -/
theorem kept_succ (t : Fin cfg0.N) (τ : St Ideal) (hd : Done K (dat m c (xt t)) (yt t) τ) : Kept₀ m c t.succ τ := by
  intro x hx
  have hx' : x.val = (t.val + 1) / 8 := hx
  have hx1 := xt_val t
  have hy1 := yt_val t
  show Acc K (dat m c x) ((t.val + 1) % 8) ((t.val + 1) % 8) τ
  by_cases h8 : t.val % 8 = 7
  · rw [show (t.val + 1) % 8 = 0 by omega]; exact acc_zero _ τ
  · have ex : x = xt t := Fin.ext (by omega)
    rw [ex, show (t.val + 1) % 8 = (yt t).val + 1 by omega]
    exact hd.acc

/-- A point keeps the accumulators and leaves its gradients. -/
theorem keeps (hs : Short m c) : Keeps m (Kept₀ m c) (Blk m c) c := by
  intro t Y σ hI hY
  have hin : ∀ w, (cfg0.win w).isOut = false → Blk m c w t (Y w) := fun w hw => finds_blk m c (Kept₀ m c) w t hw (Y w) (hY w)
  have hinp := inp_of m c t Y σ hin
  have hacc : Acc K (dat m c (xt t)) (yt t).val (yt t).val (comb Y σ) := by
    rw [yt_val t]
    exact acc_comb _ _ _ Y σ (hI (xt t) (xt_val t))
  have hp := point_run m c hs t (comb Y σ) _ hinp hacc rfl
  have hk : ∀ w, (cfg0.win w).isOut = false → wins (after t (comb Y σ)) w = Y w := fun w hw => inputs_kept t Y σ w hw
  generalize after t (comb Y σ) = τ at hp hk ⊢
  have h7' : t.val % 8 = 7 → yt t = 7 := fun h => Fin.ext (by rw [yt_val t, h]; rfl)
  exact ⟨kept_succ m c t τ hp.1, hk, blk_of m c t τ (fun w hw => (hk w hw).symm ▸ hin w hw) hp.1 (fun h => (hp.2 (h7' h)).1) (fun h => (hp.2 (h7' h)).2)⟩

end Cert.KernelIdeal

end
-- ==== Proof.Result.lean ====
/-
  The three result arrays of the kernel, element by element.
-/
module

public import proofs.«01_k».proof.Proof.Keep

@[expose] public section

noncomputable section

namespace Cert.KernelIdeal

open Cert.KernelIdeal.Gen
open Idealize.ShloMosaic Idealize.ShloMosaic.TcCoe Idealize.ShloMosaic.ValueIdx Idealize.ShloMosaic.Tactic
open Idealize.SL Idealize.SL.RA Idealize.SL.Sem
open Cert.Str Cert.Named

variable (m : (ℓ : Loc nD τ sig) → Buf (Elt Ideal) ℓ) (c : Dev nD)

/-- The query gradients. -/
def dqArr : Buf (Elt Ideal) ((c.tc : Thread nD τ).loc main_v0_0) := fun i => dqAll K (dat m c (i 0)) (i 2) (i 1) (i 3)
/-- The key gradients. -/
def dkArr : Buf (Elt Ideal) ((c.tc : Thread nD τ).loc main_v0_1) := fun i =>
  (dkAcc K (dat m c (i 0)) 8 (i 2) (i 1) (i 3) * (K (F := Ideal)).scale : EReal)
/-- The value gradients. -/
def dvArr : Buf (Elt Ideal) ((c.tc : Thread nD τ).loc main_v0_2) := fun i =>
  (dvAcc K (dat m c (i 0)) 8 (i 2) (i 1) (i 3) * Ideal.ofBits .f32 0x3F800000#32 : EReal)

variable (after' : (w' : Fin cfg0.W) → Fin cfg0.N → (cfg0.win w').block.Idx → Elt Ideal (cfg0.win w').elt)

/-- After the grid the query gradient's array is as stated. -/
theorem arr_11 (h : ∀ t, (cfg0.win 11).flush t = true → Blk m c 11 t (after' 11 t)) :
    ((rdat m (Kept₀ m c) (Blk m c) c).withAfter after').arrAt 11 cfg0.N = dqArr m c := by
  refine ((rdat m (Kept₀ m c) (Blk m c) c).withAfter after').arrAt_eq_of_covers 11 _ (by decide +kernel) fun t hf y => ?_
  have ex := xt_val t
  have ey := yt_val t
  have e' : ∀ t : Fin cfg0.N, win0_11.index t = ![t.val / 8, t.val % 8, 0, 0] := (by decide +kernel : ∀ t : Fin grid0.N, _)
  obtain ⟨a, r, hh, d, rfl⟩ : ∃ (a : Fin 1) (r : Fin 128) (hh : Fin 24) (d : Fin 128), y = ix4 a r hh d :=
    ⟨y 0, y 1, y 2, y 3, funext fun i => by fin_cases i <;> rfl⟩
  have e0 : a = 0 := Subsingleton.elim _ _
  subst e0
  have hi : ((cfg0.win 11).blk t).view.emb (ix4 (0 : Fin 1) r hh d) = ix4 (xt t) (row (m := 7) (yt t) r) hh d := by
    refine funext fun i => Fin.ext ?_
    fin_cases i
    · blk_simp [e']
      show t.val / 8 = (xt t).val
      omega
    · blk_simp [e']
      show t.val % 8 * 128 + r.val = 128 * (yt t).val + r.val
      omega
    · blk_simp [e']
    · blk_simp [e']
  rw [hi]
  exact h t hf hh r d

/-- After the grid the key gradient's array is as stated. -/
theorem arr_12 (h : ∀ t, (cfg0.win 12).flush t = true → Blk m c 12 t (after' 12 t)) :
    ((rdat m (Kept₀ m c) (Blk m c) c).withAfter after').arrAt 12 cfg0.N = dkArr m c := by
  refine ((rdat m (Kept₀ m c) (Blk m c) c).withAfter after').arrAt_eq_of_covers 12 _ (by decide +kernel) fun t hf y => ?_
  have ex := xt_val t
  have e' : ∀ t : Fin cfg0.N, win0_12.index t = ![t.val / 8, 0, 0, 0] := (by decide +kernel : ∀ t : Fin grid0.N, _)
  obtain ⟨a, r, hh, d, rfl⟩ : ∃ (a : Fin 1) (r : Fin 1024) (hh : Fin 4) (d : Fin 128), y = ix4 a r hh d :=
    ⟨y 0, y 1, y 2, y 3, funext fun i => by fin_cases i <;> rfl⟩
  have e0 : a = 0 := Subsingleton.elim _ _
  subst e0
  have hi : ((cfg0.win 12).blk t).view.emb (ix4 (0 : Fin 1) r hh d) = ix4 (xt t) r hh d := by
    refine funext fun i => Fin.ext ?_
    fin_cases i
    · blk_simp [e']
      show t.val / 8 = (xt t).val
      omega
    all_goals blk_simp [e']
  rw [hi]
  exact h t hf ((flush0_12 t).mp hf) r hh d

/-- After the grid the value gradient's array is as stated. -/
theorem arr_13 (h : ∀ t, (cfg0.win 13).flush t = true → Blk m c 13 t (after' 13 t)) :
    ((rdat m (Kept₀ m c) (Blk m c) c).withAfter after').arrAt 13 cfg0.N = dvArr m c := by
  refine ((rdat m (Kept₀ m c) (Blk m c) c).withAfter after').arrAt_eq_of_covers 13 _ (by decide +kernel) fun t hf y => ?_
  have ex := xt_val t
  have e' : ∀ t : Fin cfg0.N, win0_13.index t = ![t.val / 8, 0, 0, 0] := (by decide +kernel : ∀ t : Fin grid0.N, _)
  obtain ⟨a, r, hh, d, rfl⟩ : ∃ (a : Fin 1) (r : Fin 1024) (hh : Fin 4) (d : Fin 128), y = ix4 a r hh d :=
    ⟨y 0, y 1, y 2, y 3, funext fun i => by fin_cases i <;> rfl⟩
  have e0 : a = 0 := Subsingleton.elim _ _
  subst e0
  have hi : ((cfg0.win 13).blk t).view.emb (ix4 (0 : Fin 1) r hh d) = ix4 (xt t) r hh d := by
    refine funext fun i => Fin.ext ?_
    fin_cases i
    · blk_simp [e']
      show t.val / 8 = (xt t).val
      omega
    all_goals blk_simp [e']
  rw [hi]
  exact h t hf ((flush0_13 t).mp hf) r hh d

/-- The kernel's run: the three gradients, and the arguments as they were. -/
theorem kernel_run (hs : ∀ c : Dev nD, Short m c) (g : Dev nD → PrngReg) :
    θ_run defs (onTc (τ := τ) (main (F := Ideal))) ⟨m, fun _ => 0, g⟩ (fun r => ∀ c : Dev nD,
      r.2.mem ((c.tc : Thread nD τ).loc main_v0_0) = dqArr m c
        ∧ r.2.mem ((c.tc : Thread nD τ).loc main_v0_1) = dkArr m c
        ∧ r.2.mem ((c.tc : Thread nD τ).loc main_v0_2) = dvArr m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) := by
  have c₀ : Dev nD := ⟨0, by decide⟩
  refine launch m (Kept₀ m c₀) (Blk m c₀) g (fun σ => kept_zero m c₀ σ)
    (fun c => by rw [Subsingleton.elim c c₀]; exact keeps m c₀ (hs c₀)) _ fun r hr c => ?_
  have ec : c₀ = c := Subsingleton.elim _ _
  subst ec
  obtain ⟨after', hL, hA⟩ := hr.1.exists_exact c₀
  have hB : ∀ w t, (cfg0.win w).isOut = true → (cfg0.win w).flush t = true → Blk m c₀ w t (after' w t) := fun w t ho hf => by
    obtain ⟨Y, -, -, h⟩ := hL w t hf
    exact h
  exact ⟨(hA 11).trans (arr_11 m c₀ after' fun t hf => hB 11 t rfl hf), (hA 12).trans (arr_12 m c₀ after' fun t hf => hB 12 t rfl hf),
    (hA 13).trans (arr_13 m c₀ after' fun t hf => hB 13 t rfl hf), args_kept m (Kept₀ m c₀) (Blk m c₀) r hr.1 c₀⟩

end Cert.KernelIdeal

end
-- ==== Proof.Exact.lean ====
/-
  Arithmetic of the extended reals that the two programs' formulas differ by: a positive real factor distributes over
  differences and sums, and a power of two of a scaled exponent is an exponential.
-/
module

public import Idealize.ShloMosaic.PureOps.Ideal.Laws

@[expose] public section

noncomputable section

namespace Cert.Str

open Idealize.ShloMosaic
open scoped BigOperators

/-- A positive real factor distributes over a difference. -/
theorem pos_mul_sub (r : ℝ) (hr : 0 < r) (x y : EReal) : (r : EReal) * (x - y) = r * x - r * y := by
  rw [sub_eq_add_neg, sub_eq_add_neg, EReal.left_distrib_of_nonneg_of_ne_top (EReal.coe_nonneg.mpr hr.le) (EReal.coe_ne_top r), mul_neg]

/-- A positive real factor distributes over a sum. -/
theorem pos_mul_sum {ι : Type} (r : ℝ) (hr : 0 < r) (s : Finset ι) (f : ι → EReal) :
    ∑ i ∈ s, (r : EReal) * f i = (r : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.mpr hr.le) (EReal.coe_ne_top r)]

/-- A positive finite value is a real. -/
theorem exists_pos {x : EReal} (h0 : 0 < x) (ht : x < ⊤) : ∃ r : ℝ, 0 < r ∧ x = (r : EReal) := by
  induction x with
  | bot => exact absurd h0 (by simp)
  | top => exact absurd ht (lt_irrefl _)
  | coe r => exact ⟨r, EReal.coe_pos.mp h0, rfl⟩

/-- A positive real times a quotient by it. -/
theorem mul_div_self (r : ℝ) (hr : 0 < r) (x : EReal) : (r : EReal) * Ideal.div x r = x := by
  rw [Ideal.div_coe hr.ne', mul_comm, mul_assoc, ← EReal.coe_mul, one_div, inv_mul_cancel₀ hr.ne', EReal.coe_one, mul_one]

/-- A power of two of an exponent times the base-two logarithm of e is the exponential. -/
theorem exp2_log2e (x : EReal) : Ideal.exp2 (x * (((Real.log 2)⁻¹ : ℝ) : EReal)) = Ideal.exp x := by
  have hl : 0 < Real.log 2 := Real.log_pos one_lt_two
  induction x with
  | bot => rw [EReal.bot_mul_coe_of_pos (inv_pos.mpr hl)]; rfl
  | top => rw [EReal.top_mul_coe_of_pos (inv_pos.mpr hl)]; rfl
  | coe r =>
    rw [← EReal.coe_mul, Ideal.exp2_coe, Ideal.exp_coe]
    congr 1
    show (2 : ℝ) ^ (r * (Real.log 2)⁻¹) = Real.exp r
    rw [Real.rpow_def_of_pos two_pos]
    congr 1
    rw [mul_comm r, ← mul_assoc, mul_inv_cancel₀ hl.ne', one_mul]

/-- Adding a logarithm to an exponent multiplies the exponential. -/
theorem exp_add_log (x : EReal) (r : ℝ) (hr : 0 < r) : Ideal.exp (x + ((Real.log r : ℝ) : EReal)) = Ideal.exp x * (r : EReal) := by
  induction x with
  | bot => rw [EReal.bot_add]; show (0 : EReal) = 0 * _; rw [zero_mul]
  | top => rw [EReal.top_add_coe]; show (⊤ : EReal) = ⊤ * _; rw [EReal.top_mul_coe_of_pos hr]
  | coe s => rw [← EReal.coe_add, Ideal.exp_coe, Ideal.exp_coe, Real.exp_add, Real.exp_log hr, EReal.coe_mul]

/-- The kernel's weighed exponential is the exponential times the weight. -/
theorem exp2_weighed (s l : EReal) (r : ℝ) (hr : 0 < r) :
    Ideal.exp2 (s * (((Real.log 2)⁻¹ : ℝ) : EReal) - (l * (((Real.log 2)⁻¹ : ℝ) : EReal) - Ideal.log (r : EReal) * (((Real.log 2)⁻¹ : ℝ) : EReal)))
      = Ideal.exp (s - l) * (r : EReal) := by
  have hl : 0 < (Real.log 2)⁻¹ := inv_pos.mpr (Real.log_pos one_lt_two)
  have e : s * (((Real.log 2)⁻¹ : ℝ) : EReal) - (l * (((Real.log 2)⁻¹ : ℝ) : EReal) - Ideal.log (r : EReal) * (((Real.log 2)⁻¹ : ℝ) : EReal))
      = (s - l + ((Real.log r : ℝ) : EReal)) * (((Real.log 2)⁻¹ : ℝ) : EReal) := by
    rw [Ideal.log_coe, if_neg (not_le.mpr hr), mul_comm s, mul_comm l, mul_comm (((Real.log r : ℝ) : EReal)), ← pos_mul_sub _ hl,
      ← pos_mul_sub _ hl, mul_comm]
    congr 1
    generalize Real.log r = t
    rw [sub_eq_add_neg, EReal.neg_sub (Or.inr (EReal.coe_ne_bot t)) (Or.inr (EReal.coe_ne_top t)), sub_eq_add_neg, add_assoc]
  rw [e, exp2_log2e, exp_add_log _ _ hr]

end Cert.Str

end
-- ==== Proof.Algebra.lean ====
/-
  The gradients of one batch as the reference writes them, and that the kernel's sums are equal to them where the query
  and output gradient scales are positive and finite.
-/
module

public import proofs.«01_k».proof.Proof.Point
public import proofs.«01_k».proof.Proof.Exact
public import Idealize.ShloMosaic.Lib.IdealHost

@[expose] public section

noncomputable section

namespace Cert.Str

open Idealize.ShloMosaic Idealize.ShloMosaic.ValueIdx
open Cert.Named
open scoped BigOperators

/-- Head `r` of a key group. -/
def hd (g : Fin 4) (r : Fin 6) : Fin 24 := ⟨6 * g.val + r.val, by omega⟩
/-- A head of a key group has that group. -/
theorem kv_hd (g : Fin 4) (r : Fin 6) : kv (hd g r) = g := Fin.ext (show (6 * g.val + r.val) / 6 = g.val by omega)

variable (s : ℝ) (D : Data)

/-- The probability of key `j` for head `h` of query `i`. -/
def pRef (h : Fin 24) (i j : Pos) : EReal :=
  if seen D i j then Ideal.exp (score D h i j * ((D.qs h * D.ks (kv h)) * (s : EReal)) - D.lse h i) else 0
/-- The score gradient. -/
def dsRef (h : Fin 24) (i j : Pos) : EReal :=
  pRef s D h i j * (dpv D h i j * (D.dos h * D.vs (kv h)) - ∑ d : Fin 128, (D.dO i h d * D.dos h) * D.o i h d)
/-- The query gradient. -/
def dqRef (h : Fin 24) (i : Pos) (d : Fin 128) : EReal :=
  (∑ j : Pos, D.k j (kv h) d * dsRef s D h i j) * (D.ks (kv h) * (s : EReal))
/-- The key gradient. -/
def dkRef (g : Fin 4) (j : Pos) (d : Fin 128) : EReal :=
  (∑ i : Pos, ∑ r : Fin 6, D.q i (hd g r) d * (dsRef s D (hd g r) i j * D.qs (hd g r))) * (s : EReal)
/-- The value gradient. -/
def dvRef (g : Fin 4) (j : Pos) (d : Fin 128) : EReal :=
  ∑ i : Pos, ∑ r : Fin 6, D.dO i (hd g r) d * (pRef s D (hd g r) i j * D.dos (hd g r))

/-- A sum over the positions, tile by tile. -/
theorem sum_rows (f : Pos → EReal) : ∑ J : Fin 8, ∑ a : Fin 128, f (row (m := 7) J a) = ∑ j : Pos, f j := by
  rw [← Fintype.sum_prod_type' (f := fun J a => f (row (m := 7) J a))]
  refine Fintype.sum_equiv ⟨fun p => row (m := 7) p.1 p.2, fun j => (⟨j.val / 128, by have := j.isLt; omega⟩, ⟨j.val % 128, by omega⟩),
    fun p => ?_, fun j => ?_⟩ _ _ fun p => rfl
  · refine Prod.ext (Fin.ext ?_) (Fin.ext ?_)
    · show (128 * p.1.val + p.2.val) / 128 = p.1.val
      have := p.2.isLt
      omega
    · show (128 * p.1.val + p.2.val) % 128 = p.2.val
      have := p.2.isLt
      omega
  · refine Fin.ext ?_
    show 128 * (j.val / 128) + j.val % 128 = j.val
    omega

/-- A sum over the pairs of a key group's heads. -/
theorem sum_pairs (f : Fin 24 → EReal) (g : Fin 4) : ∑ p : Fin 3, ∑ t : Fin 2, f (hdx g p t) = ∑ r : Fin 6, f (hd g r) := by
  rw [← Fintype.sum_prod_type' (f := fun p t => f (hdx g p t))]
  refine Fintype.sum_equiv ⟨fun p => (⟨2 * p.1.val + p.2.val, by omega⟩ : Fin 6),
    fun r => ((⟨r.val / 2, by omega⟩ : Fin 3), (⟨r.val % 2, by omega⟩ : Fin 2)), fun p => ?_, fun j => ?_⟩ _ _ fun p => ?_
  · refine Prod.ext (Fin.ext ?_) (Fin.ext ?_)
    · show (2 * p.1.val + p.2.val) / 2 = p.1.val
      omega
    · show (2 * p.1.val + p.2.val) % 2 = p.2.val
      omega
  · refine Fin.ext ?_
    show 2 * (j.val / 2) + j.val % 2 = j.val
    omega
  · refine congrArg f (Fin.ext ?_)
    show 2 * (3 * g.val + p.1.val) + p.2.val = 6 * g.val + (2 * p.1.val + p.2.val)
    omega

/-- The sums of a key's or a value's gradient in the two orders. -/
theorem sum_blocks (f : Fin 24 → Pos → EReal) (g : Fin 4) :
    ∑ y : Fin 8, ∑ p : Fin 3, ∑ t : Fin 2, ∑ r : Fin 128, f (hdx g p t) (row (m := 7) y r) = ∑ i : Pos, ∑ r : Fin 6, f (hd g r) i := by
  rw [← sum_rows]
  refine Finset.sum_congr rfl fun y _ => ?_
  rw [sum_pairs (fun h => ∑ r : Fin 128, f h (row (m := 7) y r)) g, Finset.sum_comm]

/-- The accumulated key gradient is one sum over queries and heads. -/
theorem dkAcc_all (K : Cst Ideal) (g : Fin 4) (j : Pos) (d : Fin 128) :
    dkAcc K D 8 g j d = ∑ i : Pos, ∑ r : Fin 6, D.q i (hd g r) d * dsc K D (hd g r) i j := by
  rw [← sum_blocks (fun h i => D.q i h d * dsc K D h i j) g, dkAcc, Finset.sum_range]
  exact Finset.sum_congr rfl fun y _ => dif_pos y.isLt
/-- The accumulated value gradient is one sum over queries and heads. -/
theorem dvAcc_all (K : Cst Ideal) (g : Fin 4) (j : Pos) (d : Fin 128) :
    dvAcc K D 8 g j d = ∑ i : Pos, ∑ r : Fin 6, D.dO i (hd g r) d * prob K D (hd g r) i j := by
  rw [← sum_blocks (fun h i => D.dO i h d * prob K D h i j) g, dvAcc, Finset.sum_range]
  exact Finset.sum_congr rfl fun y _ => dif_pos y.isLt

/-- The scales are positive and finite. -/
structure Fine : Prop where
  qs : ∀ h, 0 < D.qs h ∧ D.qs h < ⊤
  dos : ∀ h, 0 < D.dos h ∧ D.dos h < ⊤

/-- The constants are the reals they stand for. -/
structure Real' (K : Cst Ideal) : Prop where
  log2e : (K.log2e : EReal) = (((Real.log 2)⁻¹ : ℝ) : EReal)
  scale : (K.scale : EReal) = (s : EReal)
  scaleLog2e : (K.scaleLog2e : EReal) = ((s * (Real.log 2)⁻¹ : ℝ) : EReal)

variable {s D} {K : Cst Ideal} (hK : Real' s K) (hD : Fine D)

include hD in
/-- A positive query scale is not replaced by one. -/
theorem qz_eq (h : Fin 24) : qz D h = D.qs h := by
  have h0 : D.qs h ≠ 0 := (hD.qs h).1.ne'
  show Scalar.select (FloatOps.cmpf (F := Ideal) (φ := .f32) .oeq (D.qs h) (Ideal.ofBits .f32 0x00000000#32)) _ (D.qs h) = D.qs h
  have e : FloatOps.cmpf (F := Ideal) (φ := .f32) .oeq (D.qs h) (Ideal.ofBits .f32 0x00000000#32) = 0#1 := by
    rw [Ideal.ofBits_zero_f32]
    show BitVec.ofBool (decide (D.qs h = 0)) = 0#1
    rw [decide_eq_false h0]
    rfl
  rw [e]
  rfl

include hK hD in
/-- The kernel's weighed probability is the reference's times the weight. -/
theorem prob_eq (h : Fin 24) (i j : Pos) : prob K D h i j = pRef s D h i j * D.dos h := by
  unfold prob pRef
  by_cases hs : seen D i j
  · rw [if_pos hs, if_pos hs]
    obtain ⟨r, hr, er⟩ := exists_pos (hD.dos h).1 (hD.dos h).2
    unfold lse2 c2
    rw [qz_eq hD h, hK.log2e, hK.scaleLog2e, er, ← exp2_weighed _ _ r hr, EReal.coe_mul]
    simp only [mul_assoc]
  · rw [if_neg hs, if_neg hs, zero_mul]

include hK hD in
/-- The kernel's score gradient is the reference's times the query scale. -/
theorem dsc_eq (h : Fin 24) (i j : Pos) : dsc K D h i j = dsRef s D h i j * D.qs h := by
  obtain ⟨r, hr, er⟩ := exists_pos (hD.dos h).1 (hD.dos h).2
  obtain ⟨t, ht, et⟩ := exists_pos (hD.qs h).1 (hD.qs h).2
  unfold dsc dsRef
  rw [prob_eq hK hD, qz_eq hD h, er, et]
  have e1 : (∑ d : Fin 128, (D.dO i h d * (r : EReal)) * D.o i h d) = (r : EReal) * ∑ d : Fin 128, D.dO i h d * D.o i h d := by
    rw [← pos_mul_sum r hr]
    exact Finset.sum_congr rfl fun d _ => by rw [mul_comm (D.dO i h d), mul_assoc]
  rw [e1]
  generalize (∑ d : Fin 128, D.dO i h d * D.o i h d) = S
  generalize dpv D h i j = X
  generalize D.vs (kv h) = v
  generalize pRef s D h i j = p
  have e2 : X * (v * (t : EReal)) - S * (t : EReal) = (t : EReal) * (X * v - S) := by
    rw [pos_mul_sub t ht]; congr 1 <;> ac_rfl
  have e3 : X * ((r : EReal) * v) - (r : EReal) * S = (r : EReal) * (X * v - S) := by
    rw [pos_mul_sub r hr]; congr 1; ac_rfl
  rw [e2, e3]
  ac_rfl

include hK hD in
/-- The kernel's query gradient is the reference's. -/
theorem dq_eq (h : Fin 24) (i : Pos) (d : Fin 128) : dqAll K D h i d = dqRef s D h i d := by
  obtain ⟨t, ht, et⟩ := exists_pos (hD.qs h).1 (hD.qs h).2
  unfold dqAll dqRef
  rw [sum_rows (fun j => D.k j (kv h) d * dsc K D h i j), qz_eq hD h, et, hK.scale]
  have e : (∑ j : Pos, D.k j (kv h) d * dsc K D h i j) = (t : EReal) * ∑ j : Pos, D.k j (kv h) d * dsRef s D h i j := by
    rw [← pos_mul_sum t ht]
    exact Finset.sum_congr rfl fun j _ => by rw [dsc_eq hK hD, et, mul_comm (dsRef s D h i j), mul_left_comm]
  rw [e, mul_comm (t : EReal), mul_assoc, mul_div_self t ht]

include hK hD in
/-- The kernel's key gradient is the reference's. -/
theorem dk_eq (g : Fin 4) (j : Pos) (d : Fin 128) : dkAcc K D 8 g j d * (K.scale : EReal) = dkRef s D g j d := by
  unfold dkRef
  rw [dkAcc_all, hK.scale]
  simp only [dsc_eq hK hD]

include hK hD in
/-- The kernel's value gradient is the reference's. -/
theorem dv_eq (g : Fin 4) (j : Pos) (d : Fin 128) : dvAcc K D 8 g j d * Ideal.ofBits .f32 0x3F800000#32 = dvRef s D g j d := by
  unfold dvRef
  have e1 : Ideal.ofBits .f32 0x3F800000#32 = (1 : EReal) := by
    exact Ideal.ofBits_one_f32
  rw [dvAcc_all, e1, mul_one]
  simp only [prob_eq hK hD]

end Cert.Str

end
-- ==== Proof.RefMask.lean ====
/-
  The reference's mask: a key is in the query's document when as many boundaries lie at or before the one as at or before
  the other, and it is not after the query. This is what the kernel's start of a document says.
-/
module

public import proofs.«01_k».proof.Proof.Algebra
public import proofs.«01_k».proof.Proof.Gen.ReferenceIdeal.Read
public import Idealize.ShloMosaic.Lib.Affine

@[expose] public section

noncomputable section

namespace Cert.ReferenceIdeal.Read

open Cert.ReferenceIdeal Cert.ReferenceIdeal.Gen Idealize.ShloMosaic Idealize.ShloMosaic.ValueIdx
open Cert.Str
open scoped BigOperators

/-- A sum of words that are zero or one, few enough not to wrap, counts the ones. -/
theorem fold_count {ι : Type} (s : Finset ι) (f : ι → BitVec 32) (hf : ∀ k, (f k).toNat ≤ 1) (hs : s.card < 2 ^ 32) :
    (s.fold IntOp.addi 0#32 f).toNat = ∑ k ∈ s, (f k).toNat ∧ ∑ k ∈ s, (f k).toNat ≤ s.card := by
  induction s using Finset.cons_induction with
  | empty => exact ⟨rfl, le_refl _⟩
  | cons a s ha ih =>
    rw [Finset.card_cons] at hs
    obtain ⟨h1, h2⟩ := ih (by omega)
    have h3 := hf a
    rw [Finset.fold_cons, Finset.sum_cons, Finset.card_cons]
    refine ⟨?_, by omega⟩
    show (f a + s.fold IntOp.addi 0#32 f).toNat = _
    rw [BitVec.toNat_add, h1, Nat.mod_eq_of_lt (by omega)]

/-- A bit that is not one is zero. -/
theorem bit_zero : ∀ {x : BitVec 1}, x ≠ 1#1 → x = 0#1 := by decide

/-- A small position is the word of it. -/
theorem pos_toInt (p : Nat) (hp : p < 1024) : (BitVec.ofNat 32 p).toInt = (p : ℤ) := by
  rw [BitVec.toInt_eq_toNat_cond, BitVec.toNat_ofNat, Nat.mod_eq_of_lt (by omega), if_pos (by omega)]

variable (x10 : (⟨S2x19, .i32⟩ : BufTy).Contents (Elt Ideal))

/-- Whether a boundary lies at or before a position, as a word. -/
theorem v25_at (b : Fin 2) (k : Fin 18) (p : Fin 1024) :
    (val_main_v25 (F := Ideal) x10 (ix3 b k p)).toNat = if (x10 (ix2 b k.succ)).toInt ≤ (p.val : ℤ) then 1 else 0 := by
  rw [val_main_v25_apply, val_main_v24_apply, val_main_v22_apply, val_main_v20_apply, val_main_v19_apply, val_main_v23_apply,
    val_main_v21_apply, val_main_v18_apply]
  have e : idx_main_v19 (idx_main_v20 (idx_main_v22 (ix3 b k p))) = ix2 b k.succ := by
    refine funext fun a => ?_
    match a with
    | ⟨0, _⟩ => rfl
    | ⟨1, _⟩ => exact Fin.ext (show 1 + k.val = k.val + 1 by omega)
  rw [e]
  show ((IntOp.cmpi .sle (x10 (ix2 b k.succ)) (BitVec.ofNat 32 p.val)).setWidth 32).toNat = _
  have h := IntOp.cmpi_sle (x := x10 (ix2 b k.succ)) (y := BitVec.ofNat 32 p.val)
  rw [pos_toInt p.val p.isLt] at h
  by_cases hc : (x10 (ix2 b k.succ)).toInt ≤ (p.val : ℤ)
  · rw [if_pos hc, h.mpr hc]; rfl
  · rw [if_neg hc, bit_zero fun e => hc (h.mp e)]; rfl

/-- The number of boundaries at or before a position. -/
theorem v26_at (b : Fin 2) (p : Fin 1024) :
    (val_main_v26 (F := Ideal) x10 (ix2 b p)).toNat = ∑ k : Fin 18, if (x10 (ix2 b k.succ)).toInt ≤ (p.val : ℤ) then 1 else 0 := by
  have hR : S2x18x1024.Reduces [1] S2x1024 := by decide
  have el : ∀ k : Fin 18, hR.lift (ix2 b p) k = ix3 b k p := fun k => funext fun a => by
    match a with
    | ⟨0, _⟩ => rfl
    | ⟨1, _⟩ => rfl
    | ⟨2, _⟩ => rfl
  unfold val_main_v26
  rw [Host.reduce_eq_fold_single IntOp.addi _ _ _ hR]
  have hf : ∀ k : Fin 18, (((val_main_v25 (F := Ideal) x10) ∘ hR.lift (ix2 b p)) k).toNat
      = if (x10 (ix2 b k.succ)).toInt ≤ (p.val : ℤ) then 1 else 0 := fun k => by
    show (val_main_v25 (F := Ideal) x10 (hR.lift (ix2 b p) k)).toNat = _
    rw [el k, v25_at]
  refine (fold_count (ι := Fin 18) Finset.univ _ (fun k => ?_) (by decide)).1.trans (Finset.sum_congr rfl fun k _ => hf k)
  rw [hf k]
  split <;> omega

/-- Two positions have as many boundaries at or before them exactly when no boundary lies between them. -/
theorem v26_eq_iff (b : Fin 2) (i j : Fin 1024) (hji : j.val ≤ i.val) :
    val_main_v26 (F := Ideal) x10 (ix2 b i) = val_main_v26 (F := Ideal) x10 (ix2 b j)
      ↔ ∀ k : Fin 18, ((x10 (ix2 b k.succ)).toInt ≤ (i.val : ℤ) ↔ (x10 (ix2 b k.succ)).toInt ≤ (j.val : ℤ)) := by
  rw [← BitVec.toNat_inj, v26_at, v26_at, eq_comm, Finset.sum_eq_sum_iff_of_le fun k _ => ?_]
  · refine ⟨fun h k => ?_, fun h k _ => ?_⟩
    · have := h k (Finset.mem_univ k)
      by_cases h1 : (x10 (ix2 b k.succ)).toInt ≤ (i.val : ℤ) <;> by_cases h2 : (x10 (ix2 b k.succ)).toInt ≤ (j.val : ℤ)
      · exact iff_of_true h1 h2
      · rw [if_pos h1, if_neg h2] at this; omega
      · rw [if_neg h1, if_pos h2] at this; omega
      · exact iff_of_false h1 h2
    · have := h k
      simp only [this]
  · by_cases h2 : (x10 (ix2 b k.succ)).toInt ≤ (j.val : ℤ)
    · rw [if_pos h2, if_pos (by omega)]
    · rw [if_neg h2]; omega

/-- The mask at a query and a key. -/
theorem mask_at (D : Data) (b : Fin 2) (hcu : ∀ k, D.cu k = x10 (ix2 b k.succ)) (i j : Fin 1024) (g : Fin 4) (r : Fin 6) :
    val_main_call0_v1 (F := Ideal) x10 (ix5 b g r i j) = 1#1 ↔ seen D i j := by
  rw [val_main_call0_v1_apply, val_main_v39_apply, val_main_v38_apply, val_main_v31_apply, val_main_v29_apply, val_main_v27_apply,
    val_main_v30_apply, val_main_v28_apply, val_main_v37_apply, val_main_v36_apply, val_main_v34_apply, val_main_v32_apply,
    val_main_v35_apply, val_main_v33_apply, val_main_v18_apply, val_main_v18_apply, seen_iff]
  have ei : idx_main_v27 (idx_main_v29 (idx_main_v39 (idx_main_call0_v1 (ix5 b g r i j)))) = ix2 b i := by
    refine funext fun a => ?_
    match a with
    | ⟨0, _⟩ => rfl
    | ⟨1, _⟩ => rfl
  have ej : idx_main_v28 (idx_main_v30 (idx_main_v39 (idx_main_call0_v1 (ix5 b g r i j)))) = ix2 b j := by
    refine funext fun a => ?_
    match a with
    | ⟨0, _⟩ => rfl
    | ⟨1, _⟩ => rfl
  rw [ei, ej]
  simp only [hcu]
  have h := IntOp.cmpi_sle (x := BitVec.ofNat 32 j.val) (y := BitVec.ofNat 32 i.val)
  rw [pos_toInt i.val i.isLt, pos_toInt j.val j.isLt] at h
  show IntOp.andi (IntOp.cmpi .eq (val_main_v26 (F := Ideal) x10 (ix2 b i)) (val_main_v26 (F := Ideal) x10 (ix2 b j)))
    (IntOp.cmpi .sle (BitVec.ofNat 32 j.val) (BitVec.ofNat 32 i.val)) = 1#1 ↔ _
  by_cases hji : j.val ≤ i.val
  · rw [h.mpr (by omega), ← v26_eq_iff x10 b i j hji]
    by_cases he : val_main_v26 (F := Ideal) x10 (ix2 b i) = val_main_v26 (F := Ideal) x10 (ix2 b j)
    · rw [he]
      refine ⟨fun _ => ⟨hji, rfl⟩, fun _ => ?_⟩
      simp [IntOp.cmpi, IntOp.andi]
    · refine ⟨fun e => absurd e ?_, fun e => absurd e.2 he⟩
      show ¬ (BitVec.ofBool (val_main_v26 (F := Ideal) x10 (ix2 b i) == val_main_v26 (F := Ideal) x10 (ix2 b j)) &&& 1#1 = 1#1)
      rw [beq_eq_false_iff_ne.mpr he]
      decide
  · refine ⟨fun e => absurd e ?_, fun e => absurd e.1 hji⟩
    rw [bit_zero (x := IntOp.cmpi .sle (BitVec.ofNat 32 j.val) (BitVec.ofNat 32 i.val)) fun e => hji (by exact_mod_cast h.mp e)]
    simp [IntOp.andi]

end Cert.ReferenceIdeal.Read

end
-- ==== Proof.RefRead.lean ====
/-
  The reference's results at an index: the query, key and value gradients of one batch.
-/
module

public import proofs.«01_k».proof.Proof.RefMask
public import Idealize.ShloMosaic.Lib.TwoAxisContraction

@[expose] public section

noncomputable section

namespace Cert.ReferenceIdeal.Read

open Cert.ReferenceIdeal Cert.ReferenceIdeal.Gen Idealize.ShloMosaic Idealize.ShloMosaic.ValueIdx
open Cert.Str
open scoped BigOperators

/-! ### Indices: heads in their groups -/

/-- Heads of the queries, in their groups. -/
theorem at_v3 (b : Fin 2) (i : Fin 1024) (g : Fin 4) (r : Fin 6) (d : Fin 128) :
    idx_main_v3 (ix5 b i g r d) = ix4 b i (hd g r) d := by
  refine funext fun a => Fin.ext ?_
  match a with
  | ⟨0, _⟩ => show ((((b.val * 1024 + i.val) * 4 + g.val) * 6 + r.val) * 128 + d.val) / 3145728 = b.val; omega
  | ⟨1, _⟩ => show ((((b.val * 1024 + i.val) * 4 + g.val) * 6 + r.val) * 128 + d.val) / 3072 % 1024 = i.val; omega
  | ⟨2, _⟩ => show ((((b.val * 1024 + i.val) * 4 + g.val) * 6 + r.val) * 128 + d.val) / 128 % 24 = 6 * g.val + r.val; omega
  | ⟨3, _⟩ => show ((((b.val * 1024 + i.val) * 4 + g.val) * 6 + r.val) * 128 + d.val) % 128 = d.val; omega
/-- Heads of the output gradients, in their groups. -/
theorem at_v4 (b : Fin 2) (i : Fin 1024) (g : Fin 4) (r : Fin 6) (d : Fin 128) :
    idx_main_v4 (ix5 b i g r d) = ix4 b i (hd g r) d := at_v3 b i g r d
/-- Heads of the outputs, in their groups. -/
theorem at_v45 (b : Fin 2) (i : Fin 1024) (g : Fin 4) (r : Fin 6) (d : Fin 128) :
    idx_main_v45 (ix5 b i g r d) = ix4 b i (hd g r) d := at_v3 b i g r d
/-- Heads of the query scales, in their groups. -/
theorem at_v5 (g : Fin 4) (r : Fin 6) : idx_main_v5 (ix2 g r) = ix1 (hd g r) := by
  refine funext fun a => Fin.ext ?_
  match a with
  | ⟨0, _⟩ => show g.val * 6 + r.val = 6 * g.val + r.val; omega
/-- Heads of the output gradient scales, in their groups. -/
theorem at_v6 (g : Fin 4) (r : Fin 6) : idx_main_v6 (ix2 g r) = ix1 (hd g r) := at_v5 g r
/-- Heads of the log sums, in their groups. -/
theorem at_v17 (b : Fin 2) (g : Fin 4) (r : Fin 6) (i : Fin 1024) : idx_main_v17 (ix4 b g r i) = ix3 b (hd g r) i := by
  refine funext fun a => Fin.ext ?_
  match a with
  | ⟨0, _⟩ => show (((b.val * 4 + g.val) * 6 + r.val) * 1024 + i.val) / 24576 = b.val; omega
  | ⟨1, _⟩ => show (((b.val * 4 + g.val) * 6 + r.val) * 1024 + i.val) / 1024 % 24 = 6 * g.val + r.val; omega
  | ⟨2, _⟩ => show (((b.val * 4 + g.val) * 6 + r.val) * 1024 + i.val) % 1024 = i.val; omega
/-- Heads of the query gradients, out of their groups. -/
theorem at_v92 (b : Fin 2) (i : Fin 1024) (g : Fin 4) (r : Fin 6) (d : Fin 128) :
    idx_main_v92 (ix4 b i (hd g r) d) = ix5 b i g r d := by
  refine funext fun a => Fin.ext ?_
  match a with
  | ⟨0, _⟩ => show (((b.val * 1024 + i.val) * 24 + (6 * g.val + r.val)) * 128 + d.val) / 3145728 = b.val; omega
  | ⟨1, _⟩ => show (((b.val * 1024 + i.val) * 24 + (6 * g.val + r.val)) * 128 + d.val) / 3072 % 1024 = i.val; omega
  | ⟨2, _⟩ => show (((b.val * 1024 + i.val) * 24 + (6 * g.val + r.val)) * 128 + d.val) / 768 % 4 = g.val; omega
  | ⟨3, _⟩ => show (((b.val * 1024 + i.val) * 24 + (6 * g.val + r.val)) * 128 + d.val) / 128 % 6 = r.val; omega
  | ⟨4, _⟩ => show (((b.val * 1024 + i.val) * 24 + (6 * g.val + r.val)) * 128 + d.val) % 128 = d.val; omega

variable (x1 : (⟨S24, .f32⟩ : BufTy).Contents (Elt Ideal)) (x3 x5 : (⟨S4, .f32⟩ : BufTy).Contents (Elt Ideal))
  (x6 : (⟨S2x1024x24x128, .bf16⟩ : BufTy).Contents (Elt Ideal)) (x8 : (⟨S24, .f32⟩ : BufTy).Contents (Elt Ideal))
  (x9 : (⟨S2x24x1024, .f32⟩ : BufTy).Contents (Elt Ideal)) (x10 : (⟨S2x19, .i32⟩ : BufTy).Contents (Elt Ideal))
  (r0 : (⟨S2x1024x24x128, .bf16⟩ : BufTy).Contents (Elt Ideal)) (r1 r2 : (⟨S2x1024x4x128, .bf16⟩ : BufTy).Contents (Elt Ideal))
  (r3 : (⟨S2x1024x24x128, .bf16⟩ : BufTy).Contents (Elt Ideal)) (e0 : (⟨S_, .f32⟩ : BufTy).Contents (Elt Ideal))

/-- One batch's inputs. -/
def rd (b : Fin 2) : Data where
  q p h d := r0 (ix4 b p h d)
  k p g d := r1 (ix4 b p g d)
  v p g d := r2 (ix4 b p g d)
  o p h d := x6 (ix4 b p h d)
  dO p h d := r3 (ix4 b p h d)
  lse h p := x9 (ix3 b h p)
  qs h := x1 (ix1 h)
  ks g := x3 (ix1 g)
  vs g := x5 (ix1 g)
  dos h := x8 (ix1 h)
  cu k := x10 (ix2 b k.succ)

/-! ### The factors -/

/-- The factor of a score. -/
theorem v51_at (b : Fin 2) (g : Fin 4) (r : Fin 6) (i j : Fin 1024) :
    val_main_v51 (F := Ideal) x1 x3 e0 (ix5 b g r i j) = (x1 (ix1 (hd g r)) * x3 (ix1 g) * e0 (fun a => a.elim0) : EReal) := by
  rw [val_main_v51_apply, val_main_v50_apply, val_main_v12_apply, val_main_v11_apply, val_main_v9_apply, val_main_v5_apply,
    val_main_v8_apply, val_main_v7_apply, val_main_v10_apply]
  have e1 : idx_main_v12 (idx_main_v50 (idx_main_v51 (ix5 b g r i j))) = ix2 g r := by
    refine funext fun a => ?_
    match a with
    | ⟨0, _⟩ => rfl
    | ⟨1, _⟩ => rfl
  have e2 : idx_main_v7 (idx_main_v8 (ix2 g r)) = ix1 g := by
    refine funext fun a => ?_
    match a with
    | ⟨0, _⟩ => rfl
  rw [e1, e2, at_v5]
  rfl

/-- The factor of a value product. -/
theorem v61_at (b : Fin 2) (g : Fin 4) (r : Fin 6) (i j : Fin 1024) :
    val_main_v61 (F := Ideal) x5 x8 (ix5 b g r i j) = (x8 (ix1 (hd g r)) * x5 (ix1 g) : EReal) := by
  rw [val_main_v61_apply, val_main_v60_apply, val_main_v16_apply, val_main_v15_apply, val_main_v6_apply,
    val_main_v14_apply, val_main_v13_apply]
  have e1 : idx_main_v16 (idx_main_v60 (idx_main_v61 (ix5 b g r i j))) = ix2 g r := by
    refine funext fun a => ?_
    match a with
    | ⟨0, _⟩ => rfl
    | ⟨1, _⟩ => rfl
  have e2 : idx_main_v13 (idx_main_v14 (ix2 g r)) = ix1 g := by
    refine funext fun a => ?_
    match a with
    | ⟨0, _⟩ => rfl
  rw [e1, e2, at_v6]
  rfl

/-- The log sum of a row. -/
theorem v54_at (b : Fin 2) (g : Fin 4) (r : Fin 6) (i j : Fin 1024) :
    val_main_v54 (F := Ideal) x9 (ix5 b g r i j) = x9 (ix3 b (hd g r) i) := by
  rw [val_main_v54_apply, val_main_v53_apply, val_main_v17_apply]
  have e1 : idx_main_v53 (idx_main_v54 (ix5 b g r i j)) = ix4 b g r i := by
    refine funext fun a => ?_
    match a with
    | ⟨0, _⟩ => rfl
    | ⟨1, _⟩ => rfl
    | ⟨2, _⟩ => rfl
    | ⟨3, _⟩ => rfl
  rw [e1, at_v17]

/-- The product of a query with a key. -/
theorem v49_at (b : Fin 2) (g : Fin 4) (r : Fin 6) (i j : Fin 1024) :
    val_main_v49 (F := Ideal) r0 r1 (ix5 b g r i j)
      = (∑ d : Fin 128, r1 (ix4 b j g d) * r0 (ix4 b i (hd g r) d) : EReal) := by
  rw [val_main_v49_apply, val_main_v48_apply]
  refine Finset.sum_congr rfl fun d _ => ?_
  have e1 : lidx_main_v48 (idx_main_v49 (ix5 b g r i j)) d = ix4 b j g d := by
    refine funext fun a => ?_
    match a with
    | ⟨0, _⟩ => rfl
    | ⟨1, _⟩ => rfl
    | ⟨2, _⟩ => rfl
    | ⟨3, _⟩ => rfl
  have e2 : ridx_main_v48 (idx_main_v49 (ix5 b g r i j)) d = ix5 b i g r d := by
    refine funext fun a => ?_
    match a with
    | ⟨0, _⟩ => rfl
    | ⟨1, _⟩ => rfl
    | ⟨2, _⟩ => rfl
    | ⟨3, _⟩ => rfl
    | ⟨4, _⟩ => rfl
  rw [e1, e2, val_main_v3_apply, at_v3]

/-- The product of an output gradient with a value. -/
theorem v59_at (b : Fin 2) (g : Fin 4) (r : Fin 6) (i j : Fin 1024) :
    val_main_v59 (F := Ideal) r2 r3 (ix5 b g r i j)
      = (∑ d : Fin 128, r2 (ix4 b j g d) * r3 (ix4 b i (hd g r) d) : EReal) := by
  rw [val_main_v59_apply, val_main_v58_apply]
  refine Finset.sum_congr rfl fun d _ => ?_
  have e1 : lidx_main_v58 (idx_main_v59 (ix5 b g r i j)) d = ix4 b j g d := by
    refine funext fun a => ?_
    match a with
    | ⟨0, _⟩ => rfl
    | ⟨1, _⟩ => rfl
    | ⟨2, _⟩ => rfl
    | ⟨3, _⟩ => rfl
  have e2 : ridx_main_v58 (idx_main_v59 (ix5 b g r i j)) d = ix5 b i g r d := by
    refine funext fun a => ?_
    match a with
    | ⟨0, _⟩ => rfl
    | ⟨1, _⟩ => rfl
    | ⟨2, _⟩ => rfl
    | ⟨3, _⟩ => rfl
    | ⟨4, _⟩ => rfl
  rw [e1, e2, val_main_v4_apply, at_v4]

/-- The product of an output gradient with its output. -/
theorem v64_at (b : Fin 2) (g : Fin 4) (r : Fin 6) (i j : Fin 1024) :
    val_main_v64 (F := Ideal) x6 x8 r3 (ix5 b g r i j)
      = (∑ d : Fin 128, (r3 (ix4 b i (hd g r) d) * x8 (ix1 (hd g r))) * x6 (ix4 b i (hd g r) d) : EReal) := by
  rw [val_main_v64_apply, val_main_v63_apply, val_main_v47_apply]
  refine Finset.sum_congr rfl fun d _ => ?_
  have e1 : lidx_main_v47 (idx_main_v63 (idx_main_v64 (ix5 b g r i j))) d = ix5 b i g r d := by
    refine funext fun a => ?_
    match a with
    | ⟨0, _⟩ => rfl
    | ⟨1, _⟩ => rfl
    | ⟨2, _⟩ => rfl
    | ⟨3, _⟩ => rfl
    | ⟨4, _⟩ => rfl
  have e2 : ridx_main_v47 (idx_main_v63 (idx_main_v64 (ix5 b g r i j))) d = ix5 b i g r d := by
    refine funext fun a => ?_
    match a with
    | ⟨0, _⟩ => rfl
    | ⟨1, _⟩ => rfl
    | ⟨2, _⟩ => rfl
    | ⟨3, _⟩ => rfl
    | ⟨4, _⟩ => rfl
  have e3 : idx_main_v41 (idx_main_v42 (idx_main_v43 (ix5 b i g r d))) = ix2 g r := by
    refine funext fun a => ?_
    match a with
    | ⟨0, _⟩ => rfl
    | ⟨1, _⟩ => rfl
  rw [e1, e2, val_main_v44_apply, val_main_v40_apply, val_main_v4_apply, val_main_v43_apply, val_main_v42_apply, val_main_v41_apply,
    val_main_v6_apply, val_main_v46_apply, val_main_v45_apply, e3, at_v4, at_v45, at_v6]
  rfl

/-! ### Probabilities and score gradients -/

variable (s : ℝ) (he : (e0 (fun a => a.elim0) : EReal) = (s : EReal))

include he in
/-- The probability of a key. -/
theorem v57_at (b : Fin 2) (g : Fin 4) (r : Fin 6) (i j : Fin 1024) :
    val_main_v57 (F := Ideal) x1 x3 x9 x10 r0 r1 e0 (ix5 b g r i j) = pRef s (rd x1 x3 x5 x6 x8 x9 x10 r0 r1 r2 r3 b) (hd g r) i j := by
  rw [val_main_v57_apply, val_main_v56_apply, val_main_v55_apply, val_main_v52_apply, v49_at, v51_at, v54_at,
    val_main_call0_v2_apply]
  have hz : (val_main_call0_v0 (F := Ideal) (idx_main_call0_v2 (ix5 b g r i j)) : EReal) = 0 := Ideal.ofBits_zero_f32
  rw [hz]
  have hm := mask_at x10 (rd x1 x3 x5 x6 x8 x9 x10 r0 r1 r2 r3 b) b (fun _ => rfl) i j g r
  unfold pRef
  by_cases hs : seen (rd x1 x3 x5 x6 x8 x9 x10 r0 r1 r2 r3 b) i j
  · rw [if_pos hs, hm.mpr hs, he]
    unfold score
    rw [kv_hd]
    rfl
  · rw [if_neg hs, bit_zero fun e => hs (hm.mp e)]
    rfl

include he in
/-- The score gradient of a key. -/
theorem v66_at (b : Fin 2) (g : Fin 4) (r : Fin 6) (i j : Fin 1024) :
    val_main_v66 (F := Ideal) x1 x3 x5 x6 x8 x9 x10 r0 r1 r2 r3 e0 (ix5 b g r i j) = dsRef s (rd x1 x3 x5 x6 x8 x9 x10 r0 r1 r2 r3 b) (hd g r) i j := by
  rw [val_main_v66_apply, v57_at x1 x3 x5 x6 x8 x9 x10 r0 r1 r2 r3 e0 s he, val_main_v65_apply, val_main_v62_apply, v59_at, v61_at, v64_at]
  unfold dsRef dpv
  rw [kv_hd]
  rfl

/-! ### The results -/

include he in
/-- The reference's query gradient at an index. -/
theorem v92_at (b : Fin 2) (i : Fin 1024) (g : Fin 4) (r : Fin 6) (d : Fin 128) :
    val_main_v92 (F := Ideal) x1 x3 x5 x6 x8 x9 x10 r0 r1 r2 r3 e0 (ix4 b i (hd g r) d) = dqRef s (rd x1 x3 x5 x6 x8 x9 x10 r0 r1 r2 r3 b) (hd g r) i d := by
  rw [val_main_v92_apply, at_v92, val_main_v91_apply, val_main_v74_apply, val_main_v69_apply, val_main_v68_apply, val_main_v73_apply,
    val_main_v72_apply, val_main_v71_apply, val_main_v70_apply]
  have e1 : ∀ k, lidx_main_v68 (idx_main_v69 (ix5 b i g r d)) k = ix4 b k g d := fun k => by
    refine funext fun a => ?_
    match a with
    | ⟨0, _⟩ => rfl
    | ⟨1, _⟩ => rfl
    | ⟨2, _⟩ => rfl
    | ⟨3, _⟩ => rfl
  have e2 : ∀ k, ridx_main_v68 (idx_main_v69 (ix5 b i g r d)) k = ix5 b g r i k := fun k => by
    refine funext fun a => ?_
    match a with
    | ⟨0, _⟩ => rfl
    | ⟨1, _⟩ => rfl
    | ⟨2, _⟩ => rfl
    | ⟨3, _⟩ => rfl
    | ⟨4, _⟩ => rfl
  have e3 : idx_main_v72 (idx_main_v73 (ix5 b i g r d)) = ix1 g := by
    refine funext fun a => ?_
    match a with
    | ⟨0, _⟩ => rfl
  have e4 : ∀ k, val_main_v67 (F := Ideal) x1 x3 x5 x6 x8 x9 x10 r0 r1 r2 r3 e0 (ix5 b g r i k) = dsRef s (rd x1 x3 x5 x6 x8 x9 x10 r0 r1 r2 r3 b) (hd g r) i k := fun k =>
    (val_main_v67_apply (F := Ideal) x1 x3 x5 x6 x8 x9 x10 r0 r1 r2 r3 e0 _).trans (v66_at x1 x3 x5 x6 x8 x9 x10 r0 r1 r2 r3 e0 s he b g r i k)
  have e5 : (∑ k : Fin 1024, r1 (lidx_main_v68 (idx_main_v69 (ix5 b i g r d)) k)
      * val_main_v67 (F := Ideal) x1 x3 x5 x6 x8 x9 x10 r0 r1 r2 r3 e0 (ridx_main_v68 (idx_main_v69 (ix5 b i g r d)) k) : EReal)
      = ∑ j : Pos, (rd x1 x3 x5 x6 x8 x9 x10 r0 r1 r2 r3 b).k j g d * dsRef s (rd x1 x3 x5 x6 x8 x9 x10 r0 r1 r2 r3 b) (hd g r) i j :=
    Finset.sum_congr rfl fun k _ => by rw [e1, e2, e4]; rfl
  rw [e3]
  refine (congrArg (fun z : EReal => z * (x3 (ix1 g) * e0 (fun a => a.elim0))) e5).trans ?_
  rw [he]
  unfold dqRef
  rw [kv_hd]
  rfl

/-- A product that sums over queries and heads. -/
theorem dot_at (X : FVec Ideal S2x1024x4x6x128 .bf16) (Y : FVec Ideal S2x4x6x1024x1024 .bf16)
    (b : Fin 2) (g : Fin 4) (d : Fin 128) (j : Fin 1024) :
    (Host.dotGeneral dot_S2x1024x4x6x128_S2x4x6x1024x1024_S2x4x128x1024_13_32_4_4_02_01 none X Y : FVec Ideal S2x4x128x1024 .f32) (ix4 b g d j)
      = (∑ i : Fin 1024, ∑ r : Fin 6, X (ix5 b i g r d) * Y (ix5 b g r i j) : EReal) := by
  simp only [Host.dotGeneral]
  rw [Ideal.dotGeneral_apply, sum_contr2 dot_S2x1024x4x6x128_S2x4x6x1024x1024_S2x4x128x1024_13_32_4_4_02_01 1024 6 rfl rfl rfl]
  refine Finset.sum_congr rfl fun i _ => Finset.sum_congr rfl fun r _ => ?_
  have h0 := contrEquiv2_symm_val0 dot_S2x1024x4x6x128_S2x4x6x1024x1024_S2x4x128x1024_13_32_4_4_02_01 1024 6 rfl rfl rfl (i, r)
  have h1 := contrEquiv2_symm_val1 dot_S2x1024x4x6x128_S2x4x6x1024x1024_S2x4x128x1024_13_32_4_4_02_01 1024 6 rfl rfl rfl (i, r)
  generalize (contrEquiv2 dot_S2x1024x4x6x128_S2x4x6x1024x1024_S2x4x128x1024_13_32_4_4_02_01 1024 6 rfl rfl rfl).symm (i, r) = q at h0 h1
  refine congrArg₂ (fun x y : EReal => x * y) (congrArg X (funext fun a => Fin.ext ?_)) (congrArg Y (funext fun a => Fin.ext ?_))
  · match a with
    | ⟨0, _⟩ => rfl
    | ⟨1, _⟩ => exact h0
    | ⟨2, _⟩ => rfl
    | ⟨3, _⟩ => exact h1
    | ⟨4, _⟩ => rfl
  · match a with
    | ⟨0, _⟩ => rfl
    | ⟨1, _⟩ => rfl
    | ⟨2, _⟩ => exact h1
    | ⟨3, _⟩ => exact h0
    | ⟨4, _⟩ => rfl

/-- The output gradient scale of a head. -/
theorem v77_at (b : Fin 2) (g : Fin 4) (r : Fin 6) (i j : Fin 1024) :
    val_main_v77 (F := Ideal) x8 (ix5 b g r i j) = x8 (ix1 (hd g r)) := by
  rw [val_main_v77_apply, val_main_v76_apply, val_main_v75_apply, val_main_v6_apply]
  have e1 : idx_main_v75 (idx_main_v76 (idx_main_v77 (ix5 b g r i j))) = ix2 g r := by
    refine funext fun a => ?_
    match a with
    | ⟨0, _⟩ => rfl
    | ⟨1, _⟩ => rfl
  rw [e1, at_v6]

/-- The query scale of a head. -/
theorem v84_at (b : Fin 2) (g : Fin 4) (r : Fin 6) (i j : Fin 1024) :
    val_main_v84 (F := Ideal) x1 (ix5 b g r i j) = x1 (ix1 (hd g r)) := by
  rw [val_main_v84_apply, val_main_v83_apply, val_main_v82_apply, val_main_v5_apply]
  have e1 : idx_main_v82 (idx_main_v83 (idx_main_v84 (ix5 b g r i j))) = ix2 g r := by
    refine funext fun a => ?_
    match a with
    | ⟨0, _⟩ => rfl
    | ⟨1, _⟩ => rfl
  rw [e1, at_v5]

include he in
/-- The reference's value gradient at an index. -/
theorem v94_at (b : Fin 2) (j : Fin 1024) (g : Fin 4) (d : Fin 128) :
    val_main_v94 (F := Ideal) x1 x3 x8 x9 x10 r0 r1 r3 e0 (ix4 b j g d) = dvRef s (rd x1 x3 x5 x6 x8 x9 x10 r0 r1 r2 r3 b) g j d := by
  rw [val_main_v94_apply, val_main_v81_apply]
  have e1 : idx_main_v81 (ix4 b j g d) = ix4 b g d j := by
    refine funext fun a => ?_
    match a with
    | ⟨0, _⟩ => rfl
    | ⟨1, _⟩ => rfl
    | ⟨2, _⟩ => rfl
    | ⟨3, _⟩ => rfl
  rw [e1]
  refine (dot_at (val_main_v4 (F := Ideal) r3) (val_main_v79 (F := Ideal) x1 x3 x8 x9 x10 r0 r1 e0) b g d j).trans ?_
  unfold dvRef
  refine Finset.sum_congr rfl fun i _ => Finset.sum_congr rfl fun r _ => ?_
  rw [val_main_v4_apply, at_v4, val_main_v79_apply, val_main_v78_apply,
    v57_at x1 x3 x5 x6 x8 x9 x10 r0 r1 r2 r3 e0 s he, v77_at]
  rfl

include he in
/-- The reference's key gradient at an index. -/
theorem v93_at (b : Fin 2) (j : Fin 1024) (g : Fin 4) (d : Fin 128) :
    val_main_v93 (F := Ideal) x1 x3 x5 x6 x8 x9 x10 r0 r1 r2 r3 e0 (ix4 b j g d) = dkRef s (rd x1 x3 x5 x6 x8 x9 x10 r0 r1 r2 r3 b) g j d := by
  rw [val_main_v93_apply, val_main_v90_apply, val_main_v88_apply, val_main_v89_apply]
  have e1 : idx_main_v88 (ix4 b j g d) = ix4 b g d j := by
    refine funext fun a => ?_
    match a with
    | ⟨0, _⟩ => rfl
    | ⟨1, _⟩ => rfl
    | ⟨2, _⟩ => rfl
    | ⟨3, _⟩ => rfl
  rw [e1]
  have e2 : (val_main_v87 (F := Ideal) x1 x3 x5 x6 x8 x9 x10 r0 r1 r2 r3 e0 (ix4 b g d j) : EReal)
      = ∑ i : Pos, ∑ r : Fin 6, (rd x1 x3 x5 x6 x8 x9 x10 r0 r1 r2 r3 b).q i (hd g r) d * (dsRef s (rd x1 x3 x5 x6 x8 x9 x10 r0 r1 r2 r3 b) (hd g r) i j * (rd x1 x3 x5 x6 x8 x9 x10 r0 r1 r2 r3 b).qs (hd g r)) := by
    refine (dot_at (val_main_v3 (F := Ideal) r0) (val_main_v86 (F := Ideal) x1 x3 x5 x6 x8 x9 x10 r0 r1 r2 r3 e0) b g d j).trans ?_
    refine Finset.sum_congr rfl fun i _ => Finset.sum_congr rfl fun r _ => ?_
    rw [val_main_v3_apply, at_v3, val_main_v86_apply, val_main_v85_apply,
      v66_at x1 x3 x5 x6 x8 x9 x10 r0 r1 r2 r3 e0 s he, v84_at]
    rfl
  refine (congrArg (fun z : EReal => z * e0 (fun a => a.elim0)) e2).trans ?_
  rw [he]
  rfl

end Cert.ReferenceIdeal.Read

end
-- ==== Proof.RefRun.lean ====
/-
  The reference's run: its codes are its arguments, and its three results are the gradients of one batch after another.
-/
module

public import proofs.«01_k».proof.Proof.RefRead
public import proofs.«01_k».proof.Proof.Gen.ReferenceIdeal.Run
public import Idealize.ShloMosaic.Lib.Pipeline.ValueKit.Geometry

@[expose] public section

noncomputable section

namespace Cert.ReferenceIdeal

open Cert.ReferenceIdeal.Gen Cert.ReferenceIdeal.Read Idealize.ShloMosaic Idealize.ShloMosaic.TcCoe Idealize.ShloMosaic.ValueIdx
open Idealize.SL Idealize.SL.RA Idealize.SL.Sem Idealize.ShloMosaic.Tactic
open Cert.Str

/-- The zero offset. -/
theorem zero4 : (![0, 0, 0, 0] : Fin 4 → ℕ) = fun _ => 0 := by decide

/-- The query codes cast by the reference are the argument's codes. -/
theorem code_4 (m : (ℓ : Loc nD τ sig) → Buf (Elt Ideal) ℓ) (c : Dev nD) (j : S2x1024x24x128.Idx) :
    (Value.reg_main_v2_0 m c j : EReal) = m ((c.tc : Thread nD τ).loc main_arg0) j := by
  have h : Value.reg_main_v2_0 m c = (fun j => m ((c.tc : Thread nD τ).loc main_arg0) j :) := by
    unfold Value.reg_main_v2_0
    refine (Gen.dats m 0 c).arrAt_eq_of_covers 4 _ (by decide +kernel) fun t hf y => ?_
    rw [after0_4]
    unfold out0_4
    rw [View.canon_unit_zero (S := S2x1024x24x128) zero4, View.ld_unit_zero (S := S2x1024x24x128) zero4]
    show (iblk m c 0 t y : EReal) = _
    unfold iblk
    have hV : V m c (Pipeline.arrRef spec0 0) = m ((c.tc : Thread nD τ).loc main_arg0) := V_main_arg0 m c
    rw [hV]
    rfl
  exact congrFun h j

/-- The key codes cast by the reference are the argument's codes. -/
theorem code_5 (m : (ℓ : Loc nD τ sig) → Buf (Elt Ideal) ℓ) (c : Dev nD) (j : S2x1024x4x128.Idx) :
    (Value.reg_main_v2_1 m c j : EReal) = m ((c.tc : Thread nD τ).loc main_arg2) j := by
  have h : Value.reg_main_v2_1 m c = (fun j => m ((c.tc : Thread nD τ).loc main_arg2) j :) := by
    unfold Value.reg_main_v2_1
    refine (Gen.dats m 0 c).arrAt_eq_of_covers 5 _ (by decide +kernel) fun t hf y => ?_
    rw [after0_5]
    unfold out0_5
    rw [View.canon_unit_zero (S := S2x1024x4x128) zero4, View.ld_unit_zero (S := S2x1024x4x128) zero4]
    show (iblk m c 1 t y : EReal) = _
    unfold iblk
    have hV : V m c (Pipeline.arrRef spec0 1) = m ((c.tc : Thread nD τ).loc main_arg2) := V_main_arg2 m c
    rw [hV]
    rfl
  exact congrFun h j

/-- The value codes cast by the reference are the argument's codes. -/
theorem code_6 (m : (ℓ : Loc nD τ sig) → Buf (Elt Ideal) ℓ) (c : Dev nD) (j : S2x1024x4x128.Idx) :
    (Value.reg_main_v2_2 m c j : EReal) = m ((c.tc : Thread nD τ).loc main_arg4) j := by
  have h : Value.reg_main_v2_2 m c = (fun j => m ((c.tc : Thread nD τ).loc main_arg4) j :) := by
    unfold Value.reg_main_v2_2
    refine (Gen.dats m 0 c).arrAt_eq_of_covers 6 _ (by decide +kernel) fun t hf y => ?_
    rw [after0_6]
    unfold out0_6
    rw [View.canon_unit_zero (S := S2x1024x4x128) zero4, View.ld_unit_zero (S := S2x1024x4x128) zero4]
    show (iblk m c 2 t y : EReal) = _
    unfold iblk
    have hV : V m c (Pipeline.arrRef spec0 2) = m ((c.tc : Thread nD τ).loc main_arg4) := V_main_arg4 m c
    rw [hV]
    rfl
  exact congrFun h j

/-- The output gradient codes cast by the reference are the argument's codes. -/
theorem code_7 (m : (ℓ : Loc nD τ sig) → Buf (Elt Ideal) ℓ) (c : Dev nD) (j : S2x1024x24x128.Idx) :
    (Value.reg_main_v2_3 m c j : EReal) = m ((c.tc : Thread nD τ).loc main_arg7) j := by
  have h : Value.reg_main_v2_3 m c = (fun j => m ((c.tc : Thread nD τ).loc main_arg7) j :) := by
    unfold Value.reg_main_v2_3
    refine (Gen.dats m 0 c).arrAt_eq_of_covers 7 _ (by decide +kernel) fun t hf y => ?_
    rw [after0_7]
    unfold out0_7
    rw [View.canon_unit_zero (S := S2x1024x24x128) zero4, View.ld_unit_zero (S := S2x1024x24x128) zero4]
    show (iblk m c 3 t y : EReal) = _
    unfold iblk
    have hV : V m c (Pipeline.arrRef spec0 3) = m ((c.tc : Thread nD τ).loc main_arg7) := V_main_arg7 m c
    rw [hV]
    rfl
  exact congrFun h j

variable (m : (ℓ : Loc nD τ sig) → Buf (Elt Ideal) ℓ) (c : Dev nD)

/-- The inputs of batch `x`, off the arguments. -/
def dat (x : Fin 2) : Data where
  q p h d := m ((c.tc : Thread nD τ).loc main_arg0) (ix4 x p h d)
  k p g d := m ((c.tc : Thread nD τ).loc main_arg2) (ix4 x p g d)
  v p g d := m ((c.tc : Thread nD τ).loc main_arg4) (ix4 x p g d)
  o p h d := m ((c.tc : Thread nD τ).loc main_arg6) (ix4 x p h d)
  dO p h d := m ((c.tc : Thread nD τ).loc main_arg7) (ix4 x p h d)
  lse h p := m ((c.tc : Thread nD τ).loc main_arg9) (ix3 x h p)
  qs h := m ((c.tc : Thread nD τ).loc main_arg1) (ix1 h)
  ks g := m ((c.tc : Thread nD τ).loc main_arg3) (ix1 g)
  vs g := m ((c.tc : Thread nD τ).loc main_arg5) (ix1 g)
  dos h := m ((c.tc : Thread nD τ).loc main_arg8) (ix1 h)
  cu k := m ((c.tc : Thread nD τ).loc main_arg10) (ix2 x k.succ)

/-- The inputs read through the codes are those of the arguments. -/
theorem rd_eq (x : Fin 2)  : Read.rd (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (Value.reg_main_v2_0 m c) (Value.reg_main_v2_1 m c) (Value.reg_main_v2_2 m c) (Value.reg_main_v2_3 m c) x = dat m c x := by
  have e0 := code_4 m c
  have e1 := code_5 m c
  have e2 := code_6 m c
  have e3 := code_7 m c
  unfold Read.rd dat
  congr 1
  · funext p h d; exact e0 _
  · funext p h d; exact e1 _
  · funext p h d; exact e2 _
  · funext p h d; exact e3 _

/-- The scale's value. -/
def sc : ℝ := (Real.sqrt 128)⁻¹

/-- The reference's scale, one over the root of the head dimension. -/
theorem scale_eq : ((Host.divf (constant (F := Ideal) S_ .f32 0x3F800000#32) (Host.sqrt (constant (F := Ideal) S_ .f32 0x43000000#32)) :
    FVec Ideal S_ .f32) (fun a => a.elim0) : EReal) = ((sc : ℝ) : EReal) := by
  have h1 : Ideal.ofBits .f32 0x3F800000#32 = ((1 : ℝ) : EReal) := Ideal.ofBits_one_f32
  have h2 : Ideal.ofBits .f32 0x43000000#32 = ((128 : ℝ) : EReal) := by
    simp [Ideal.ofBits, Ideal.ieee, -EReal.coe_mul]; norm_num
  show (FloatOps.hostDivf (F := Ideal) (φ := .f32) (Ideal.ofBits .f32 0x3F800000#32) (FloatOps.hostUnary (F := Ideal) (φ := .f32) .sqrt (Ideal.ofBits .f32 0x43000000#32)) : EReal) = _
  rw [h1, h2]
  simp only [Ideal.hostUnary_sqrt_def, Ideal.hostDivf_def]
  rw [Ideal.sqrt_coe, if_neg (by norm_num), Ideal.div_coe (by positivity)]
  simp [sc]

/-- Every head is a head of some group. -/
theorem exists_hd (h : Fin 24) : ∃ (g : Fin 4) (r : Fin 6), h = hd g r :=
  ⟨⟨h.val / 6, by omega⟩, ⟨h.val % 6, by omega⟩, Fin.ext (by show h.val = 6 * (h.val / 6) + h.val % 6; omega)⟩

/-- The reference's query gradients. -/
def dqArr : Buf (Elt Ideal) ((c.tc : Thread nD τ).loc main_v92) := fun i => dqRef sc (dat m c (i 0)) (i 2) (i 1) (i 3)
/-- The reference's key gradients. -/
def dkArr : Buf (Elt Ideal) ((c.tc : Thread nD τ).loc main_v93) := fun i => dkRef sc (dat m c (i 0)) (i 2) (i 1) (i 3)
/-- The reference's value gradients. -/
def dvArr : Buf (Elt Ideal) ((c.tc : Thread nD τ).loc main_v94) := fun i => dvRef sc (dat m c (i 0)) (i 2) (i 1) (i 3)

/-- The reference's run: the three gradients, and the arguments as they were. -/
theorem reference_run (g : Dev nD → PrngReg) :
    θ_run defs (onTc (τ := τ) (main (F := Ideal))) ⟨m, fun _ => 0, g⟩ (fun r => ∀ c : Dev nD,
      r.2.mem ((c.tc : Thread nD τ).loc main_v92) = dqArr m c
        ∧ r.2.mem ((c.tc : Thread nD τ).loc main_v93) = dkArr m c
        ∧ r.2.mem ((c.tc : Thread nD τ).loc main_v94) = dvArr m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) := by
  refine θ_run_mono (Value.run m g) fun r hr c => ?_
  obtain ⟨a, b, d, rest⟩ := hr c
  refine ⟨a.trans ?_, b.trans ?_, d.trans ?_, rest⟩
  · refine (val_main_v92_eq (Value.exitV m c)).trans ?_
    rw [Value.exit_main_arg1, Value.exit_main_arg3, Value.exit_main_arg5, Value.exit_main_arg6, Value.exit_main_arg8,
      Value.exit_main_arg9, Value.exit_main_arg10, Value.exit_main_v2_0, Value.exit_main_v2_1, Value.exit_main_v2_2,
      Value.exit_main_v2_3, Value.exit_main_v1]
    funext i
    obtain ⟨x, p, h, e, rfl⟩ : ∃ (x : Fin 2) (p : Fin 1024) (h : Fin 24) (e : Fin 128), i = ix4 x p h e :=
      ⟨i 0, i 1, i 2, i 3, funext fun a => by fin_cases a <;> rfl⟩
    obtain ⟨gg, rr, rfl⟩ := exists_hd h
    refine (v92_at _ _ _ _ _ _ _ _ _ _ _ _ sc scale_eq x p gg rr e).trans ?_
    rw [rd_eq]
    rfl
  · refine (val_main_v93_eq (Value.exitV m c)).trans ?_
    rw [Value.exit_main_arg1, Value.exit_main_arg3, Value.exit_main_arg5, Value.exit_main_arg6, Value.exit_main_arg8,
      Value.exit_main_arg9, Value.exit_main_arg10, Value.exit_main_v2_0, Value.exit_main_v2_1, Value.exit_main_v2_2,
      Value.exit_main_v2_3, Value.exit_main_v1]
    funext i
    obtain ⟨x, p, h, e, rfl⟩ : ∃ (x : Fin 2) (p : Fin 1024) (h : Fin 4) (e : Fin 128), i = ix4 x p h e :=
      ⟨i 0, i 1, i 2, i 3, funext fun a => by fin_cases a <;> rfl⟩
    refine (v93_at _ _ _ _ _ _ _ _ _ _ _ _ sc scale_eq x p h e).trans ?_
    rw [rd_eq]
    rfl
  · refine (val_main_v94_eq (Value.exitV m c)).trans ?_
    rw [Value.exit_main_arg1, Value.exit_main_arg3, Value.exit_main_arg8,
      Value.exit_main_arg9, Value.exit_main_arg10, Value.exit_main_v2_0, Value.exit_main_v2_1,
      Value.exit_main_v2_3, Value.exit_main_v1]
    funext i
    obtain ⟨x, p, h, e, rfl⟩ : ∃ (x : Fin 2) (p : Fin 1024) (h : Fin 4) (e : Fin 128), i = ix4 x p h e :=
      ⟨i 0, i 1, i 2, i 3, funext fun a => by fin_cases a <;> rfl⟩
    refine (v94_at _ _ (m ((c.tc : Thread nD τ).loc main_arg5)) (m ((c.tc : Thread nD τ).loc main_arg6)) _ _ _ _ _ (Value.reg_main_v2_2 m c) _ _ sc scale_eq x p h e).trans ?_
    rw [rd_eq]
    rfl

end Cert.ReferenceIdeal

end
-- ==== Proof.PreRead.lean ====
/-
  The precondition read back: positive finite scales, and documents that start at zero, end at or past the last
  position and have at most 512 positions each.
-/
module

public import proofs.«01_k».proof.Pre_pre
public import proofs.«01_k».proof.Proof.Start
public import Idealize.ShloMosaic.Lib.ReduceAll
public import Idealize.ShloMosaic.Lib.WordCmp
public import Idealize.ShloMosaic.Lib.ValueIdx
public import Idealize.ShloMosaic.Lib.Pipeline.Value
public import Idealize.ShloMosaic.Lib.IdealHost

@[expose] public section

noncomputable section

namespace Cert.Pre_pre

open Idealize.ShloMosaic Idealize.ShloMosaic.ValueIdx

instance : Subsingleton S_.Idx := ⟨fun _ _ => funext fun i => i.elim0⟩

/-- The pattern of positive infinity. -/
theorem inf_bits : (Ideal.ofBits .f32 0x7F800000#32 : EReal) = ⊤ := by
  simp [Ideal.ofBits, Ideal.ieee]

/-- A truth bit that is set. -/
theorem of_bool {p : Prop} [Decidable p] (h : BitVec.ofBool (decide p) = 1#1) : p := by
  by_contra hp
  rw [decide_eq_false hp] at h
  exact absurd h (by decide)

/-- A positive finite scale, from its two comparisons. -/
theorem scale_fine (x : EReal) (h : IntOp.andi (FloatOps.cmpf (F := Ideal) (φ := .f32) .ogt x (Ideal.ofBits .f32 0x00000000#32))
    (FloatOps.cmpf (F := Ideal) (φ := .f32) .olt x (Ideal.ofBits .f32 0x7F800000#32)) = 1#1) : 0 < x ∧ x < ⊤ := by
  obtain ⟨h1, h2⟩ := IntOp.andi_eq_one.1 h
  rw [Ideal.ofBits_zero_f32] at h1
  rw [inf_bits] at h2
  exact ⟨of_bool h1, of_bool h2⟩

variable [Facts]

/-- What the precondition says of its arguments. -/
theorem read (x0 : FVec Ideal S2x1024x24x128 .fp8e4m3) (x1 : FVec Ideal S24 .f32) (x2 : FVec Ideal S2x1024x4x128 .fp8e4m3)
    (x3 : FVec Ideal S4 .f32) (x4 : FVec Ideal S2x1024x4x128 .fp8e4m3) (x5 : FVec Ideal S4 .f32)
    (x6 : FVec Ideal S2x1024x24x128 .bf16) (x7 : FVec Ideal S2x1024x24x128 .fp8e5m2) (x8 : FVec Ideal S24 .f32)
    (x9 : FVec Ideal S2x24x1024 .f32) (x10 : IVec S2x19 32)
    (h : fn (F := Ideal) x0 x1 x2 x3 x4 x5 x6 x7 x8 x9 x10 = fun _ => 1#1) :
    (∀ i : Fin 24, (0 : EReal) < x1 (ix1 i) ∧ (x1 (ix1 i) : EReal) < ⊤) ∧ (∀ i : Fin 24, (0 : EReal) < x8 (ix1 i) ∧ (x8 (ix1 i) : EReal) < ⊤)
      ∧ ∀ b : Fin 2, x10 (ix2 b (0 : Fin 19)) = 0#32 ∧ 1024 ≤ (x10 (ix2 b (18 : Fin 19))).toInt
        ∧ ∀ k : Fin 18, 0 ≤ (x10 (ix2 b k.succ) - x10 (ix2 b k.castSucc)).toInt ∧ (x10 (ix2 b k.succ) - x10 (ix2 b k.castSucc)).toInt ≤ 512 := by
  have h' := congrFun h (fun a => a.elim0)
  unfold fn fn_part1 at h'
  obtain ⟨h27, h33⟩ := IntOp.andi_eq_one.1 h'
  obtain ⟨h12, h23⟩ := IntOp.andi_eq_one.1 h27
  obtain ⟨h5, h11⟩ := IntOp.andi_eq_one.1 h12
  obtain ⟨h17, h22⟩ := IntOp.andi_eq_one.1 h23
  refine ⟨fun i => scale_fine _ (Host.reduce_andi_all _ _ _ _ _ h5 (ix1 i)), fun i => scale_fine _ (Host.reduce_andi_all _ _ _ _ _ h11 (ix1 i)),
    fun b => ⟨?_, ?_, fun k => ?_⟩⟩
  · have e := Host.reduce_andi_all _ _ _ _ _ h17 (ix1 b)
    have e2 : IntOp.cmpi .eq (shapeCast S2 (extractStridedSlice S2x1 ![0, 0] x10 Facts.slices_S2x19_S2x1_0_0) Facts.shapeCasts_S2x1_S2 (ix1 b)) 0#32 = 1#1 := e
    rw [shapeCast_apply _ _ (ix1 b) (ix2 b (0 : Fin 1)) (by rewrite [Shape.rowMajor_val_two, Shape.rowMajor_val_one]; show b.val * 1 + 0 = b.val; omega),
      extractStridedSlice_apply ![0, 0] x10 _ (ix2 b (0 : Fin 1)) (ix2 b (0 : Fin 19)) (fun a => match a with
        | ⟨0, _⟩ => by show b.val = 0 + b.val; omega
        | ⟨1, _⟩ => rfl), Idealize.ShloMosaic.WordCmp.cmpi_eq_eq] at e2
    exact of_bool e2
  · have e := Host.reduce_andi_all _ _ _ _ _ h22 (ix1 b)
    have e2 : IntOp.cmpi .sge (shapeCast S2 (extractStridedSlice S2x1 ![0, 18] x10 Facts.slices_S2x19_S2x1_0_18) Facts.shapeCasts_S2x1_S2 (ix1 b)) 1024#32 = 1#1 := e
    rw [shapeCast_apply _ _ (ix1 b) (ix2 b (0 : Fin 1)) (by rewrite [Shape.rowMajor_val_two, Shape.rowMajor_val_one]; show b.val * 1 + 0 = b.val; omega),
      extractStridedSlice_apply ![0, 18] x10 _ (ix2 b (0 : Fin 1)) (ix2 b (18 : Fin 19)) (fun a => match a with
        | ⟨0, _⟩ => by show b.val = 0 + b.val; omega
        | ⟨1, _⟩ => rfl), Idealize.ShloMosaic.WordCmp.cmpi_sge_eq] at e2
    exact of_bool e2
  · have e := Host.reduce_andi_all _ _ _ _ _ h33 (ix2 b k)
    obtain ⟨e1, e2⟩ := IntOp.andi_eq_one.1 e
    have f1 : IntOp.cmpi .sge (extractStridedSlice S2x18 ![0, 1] x10 Facts.slices_S2x19_S2x18_0_1 (ix2 b k)
      - extractStridedSlice S2x18 ![0, 0] x10 Facts.slices_S2x19_S2x18_0_0 (ix2 b k)) 0#32 = 1#1 := e1
    have f2 : IntOp.cmpi .sle (extractStridedSlice S2x18 ![0, 1] x10 Facts.slices_S2x19_S2x18_0_1 (ix2 b k)
      - extractStridedSlice S2x18 ![0, 0] x10 Facts.slices_S2x19_S2x18_0_0 (ix2 b k)) 512#32 = 1#1 := e2
    have g1 := extractStridedSlice_apply ![0, 1] x10 Facts.slices_S2x19_S2x18_0_1 (ix2 b k) (ix2 b k.succ) (fun a => match a with
        | ⟨0, _⟩ => by show b.val = 0 + b.val; omega
        | ⟨1, _⟩ => by show k.val + 1 = 1 + k.val; omega)
    have g2 := extractStridedSlice_apply ![0, 0] x10 Facts.slices_S2x19_S2x18_0_0 (ix2 b k) (ix2 b k.castSucc) (fun a => match a with
        | ⟨0, _⟩ => by show b.val = 0 + b.val; omega
        | ⟨1, _⟩ => by show k.val = 0 + k.val; omega)
    rw [g1, g2, Idealize.ShloMosaic.WordCmp.cmpi_sge_eq] at f1
    rw [g1, g2, Idealize.ShloMosaic.WordCmp.cmpi_sle_eq] at f2
    exact ⟨of_bool f1, of_bool f2⟩

/-- Boundaries that start at zero and step by at most 512: the steps are the differences as integers. -/
theorem steps (f : Fin 19 → BitVec 32) (h0 : f 0 = 0#32)
    (h : ∀ k : Fin 18, 0 ≤ (f k.succ - f k.castSucc).toInt ∧ (f k.succ - f k.castSucc).toInt ≤ 512) (k : Fin 18) :
    (f k.succ).toInt - (f k.castSucc).toInt ≤ 512 := by
  have hb : ∀ n : ℕ, ∀ hn : n < 19, 0 ≤ (f ⟨n, hn⟩).toInt ∧ (f ⟨n, hn⟩).toInt ≤ 512 * n := by
    intro n
    induction n with
    | zero => intro hn; rw [show (⟨0, hn⟩ : Fin 19) = 0 from rfl, h0]; decide
    | succ n ih =>
      intro hn
      have hi := ih (by omega)
      have hk := h ⟨n, by omega⟩
      rw [show (⟨n, by omega⟩ : Fin 18).succ = ⟨n + 1, hn⟩ from rfl, show (⟨n, by omega⟩ : Fin 18).castSucc = ⟨n, by omega⟩ from rfl] at hk
      generalize f ⟨n + 1, hn⟩ = a at hk ⊢
      generalize f ⟨n, by omega⟩ = c at hk hi
      rw [BitVec.toInt_sub, Int.bmod_def] at hk
      have := BitVec.toInt_lt (x := a)
      have := BitVec.le_toInt (x := a)
      omega
  have h1 := hb k.val (by omega)
  have h2 := hb (k.val + 1) (by omega)
  have hk := h k
  rw [show k.succ = ⟨k.val + 1, by omega⟩ from rfl, show k.castSucc = ⟨k.val, by omega⟩ from rfl] at hk ⊢
  generalize f ⟨k.val + 1, by omega⟩ = a at *
  generalize f ⟨k.val, by omega⟩ = c at *
  rw [BitVec.toInt_sub, Int.bmod_def] at hk
  have := k.isLt
  omega

end Cert.Pre_pre

end
-- ==== Proof.Agree.lean ====
/-
  The kernel's three results are the reference's, over the reals: the value claim.
-/
module

public import proofs.«01_k».proof.Defs
public import proofs.«01_k».proof.Proof.Result
public import proofs.«01_k».proof.Proof.Algebra
public import proofs.«01_k».proof.Proof.RefRun
public import proofs.«01_k».proof.Proof.PreRead
public import proofs.«01_k».proof.Proof.Gen.KernelIdeal
public import proofs.«01_k».proof.Proof.Gen.ReferenceIdeal
public import proofs.«01_k».proof.Proof.Gen.Pre_pre

@[expose] public section

noncomputable section

namespace Cert.Agree

open Idealize.ShloMosaic Idealize.ShloMosaic.TcCoe Idealize.ShloMosaic.ValueIdx Idealize.SL.Sem Cert.Str

/-- The kernel's named constants are the reals they stand for. -/
theorem consts : Real' Cert.ReferenceIdeal.sc (Cert.KernelIdeal.K (F := Ideal)) where
  log2e := IdealRules.named_const.ideal_named_scalar _ _ _ _ rfl
  scale := IdealRules.named_const.ideal_named_scalar _ _ _ _ rfl
  scaleLog2e := IdealRules.named_const.ideal_named_scalar _ _ _ _ rfl

variable (m : (ℓ : Loc Cert.KernelIdeal.nD Cert.KernelIdeal.τ Cert.KernelIdeal.sig) → Buf (Elt Ideal) ℓ)

section
variable (hp : Cert.Pre_KernelIdeal_pre m) (c : Dev Cert.KernelIdeal.nD)
include hp

/-- The precondition makes the scales positive and finite. -/
theorem fine (x : Fin 2) : Fine (Cert.KernelIdeal.dat m c x) := by
  have h := Cert.Pre_pre.read _ _ _ _ _ _ _ _ _ _ _ (hp c)
  exact ⟨fun i => h.1 i, fun i => h.2.1 i⟩

/-- The precondition keeps each block's span within five key tiles. -/
theorem short : Cert.KernelIdeal.Short m c := by
  intro x y
  obtain ⟨h0, hl, hs⟩ := (Cert.Pre_pre.read _ _ _ _ _ _ _ _ _ _ _ (hp c)).2.2 x
  have hst := Cert.Pre_pre.steps (fun k => m ((c.tc : Thread Cert.KernelIdeal.nD Cert.KernelIdeal.τ).loc Cert.KernelIdeal.main_arg10) (ix2 x k)) h0 hs
  refine span_bound _ y ?_ (fun k => ?_) ?_
  · have h := hst 0
    have e0 : (m ((c.tc : Thread Cert.KernelIdeal.nD Cert.KernelIdeal.τ).loc Cert.KernelIdeal.main_arg10) (ix2 x (0 : Fin 18).castSucc) : BitVec 32).toInt = 0 := by
      rw [show (0 : Fin 18).castSucc = (0 : Fin 19) from rfl, h0]; rfl
    have h' : (m ((c.tc : Thread Cert.KernelIdeal.nD Cert.KernelIdeal.τ).loc Cert.KernelIdeal.main_arg10) (ix2 x (0 : Fin 18).succ) : BitVec 32).toInt
      - (m ((c.tc : Thread Cert.KernelIdeal.nD Cert.KernelIdeal.τ).loc Cert.KernelIdeal.main_arg10) (ix2 x (0 : Fin 18).castSucc) : BitVec 32).toInt ≤ 512 := h
    rw [e0, sub_zero] at h'
    exact h'
  · exact hst k.succ
  · exact hl

end

variable (m' : (ℓ : Loc Cert.ReferenceIdeal.nD Cert.ReferenceIdeal.τ Cert.ReferenceIdeal.sig) → Buf (Elt Ideal) ℓ)

/-- The kernel's and the reference's results are equal on every input the precondition allows. -/
theorem algebraic : Cert.algebraic_KernelIdeal_ReferenceIdeal_pre_pre := by
  intro m g m' g' hp hm
  have hdat : ∀ (c : Dev Cert.KernelIdeal.nD) (x : Fin 2), Cert.ReferenceIdeal.dat m' c x = Cert.KernelIdeal.dat m c x := by
    intro c x
    obtain ⟨h0, h1, h2, h3, h4, h5, h6, h7, h8, h9, h10⟩ := hm c
    unfold Cert.ReferenceIdeal.dat Cert.KernelIdeal.dat
    rw [h0, h1, h2, h3, h4, h5, h6, h7, h8, h9, h10]
  refine ⟨Cert.KernelIdeal.dqArr m, Cert.KernelIdeal.dkArr m, Cert.KernelIdeal.dvArr m,
    Cert.KernelIdeal.kernel_run m (short m hp) g, θ_run_mono (Cert.ReferenceIdeal.reference_run m' g') fun r hr c => ?_⟩
  obtain ⟨a, b, d, rest⟩ := hr c
  refine ⟨a.trans ?_, b.trans ?_, d.trans ?_, rest⟩
  · funext i
    refine (congrArg (fun D => dqRef Cert.ReferenceIdeal.sc D (i 2) (i 1) (i 3)) (hdat c (i 0))).trans ?_
    exact (dq_eq consts (fine m hp c (i 0)) (i 2) (i 1) (i 3)).symm
  · funext i
    refine (congrArg (fun D => dkRef Cert.ReferenceIdeal.sc D (i 2) (i 1) (i 3)) (hdat c (i 0))).trans ?_
    exact (dk_eq consts (fine m hp c (i 0)) (i 2) (i 1) (i 3)).symm
  · funext i
    refine (congrArg (fun D => dvRef Cert.ReferenceIdeal.sc D (i 2) (i 1) (i 3)) (hdat c (i 0))).trans ?_
    exact (dv_eq consts (fine m hp c (i 0)) (i 2) (i 1) (i 3)).symm

end Cert.Agree

end
-- ==== Proof.lean ====
/- The certificate of the attention-backward kernel: its claims, assembled from the modules under Proof/. -/
module

public import proofs.«01_k».proof.Defs
public import proofs.«01_k».proof.Proof.Preserves
public import proofs.«01_k».proof.Proof.Run
public import proofs.«01_k».proof.Proof.RunI
public import proofs.«01_k».proof.Proof.Agree
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pre
public import proofs.«01_k».proof.Proof.Gen.ReferenceIdeal.Frame
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_pre.Gen.facts,
   fun m g _ => Cert.Kernel.framed m g, fun m g _ => Cert.KernelIdeal.framed m g, fun m g _ => Cert.KernelIdeal.framed m g,
   fun m g _ => Cert.ReferenceIdeal.Gen.frame m g, fun m g _ => Cert.ReferenceIdeal.Gen.frame m g, preserves,
   Cert.Agree.algebraic⟩

end Cert.Proof

end
